-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights [hPre_finite_weights : Cert.Pre_finite_weights.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights [hPre_finite_weights : Cert.Pre_finite_weights.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_heads [hPre_finite_heads : Cert.Pre_finite_heads.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_heads [hPre_finite_heads : Cert.Pre_finite_heads.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_heads [hPre_finite_heads : Cert.Pre_finite_heads.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_heads.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_heads [hPre_finite_heads : Cert.Pre_finite_heads.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_heads.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_heads [hPre_finite_heads : Cert.Pre_finite_heads.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_heads.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_heads [hPre_finite_heads : Cert.Pre_finite_heads.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_heads.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_finite_weights [hKernel5Ideal : Cert.Kernel5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite_weights [hReference5Ideal : Cert.Reference5Ideal.Facts] [hPre_finite_weights : Cert.Pre_finite_weights.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_heads [hKernel6Ideal : Cert.Kernel6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_heads m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_heads [hReference6Ideal : Cert.Reference6Ideal.Facts] [hPre_finite_heads : Cert.Pre_finite_heads.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_heads m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_heads [hKernel8Ideal : Cert.Kernel8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_heads m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_heads [hReference8Ideal : Cert.Reference8Ideal.Facts] [hPre_finite_heads : Cert.Pre_finite_heads.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_heads m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite_heads [hKernel9Ideal : Cert.Kernel9Ideal.Facts] [hPre_finite_heads : Cert.Pre_finite_heads.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_heads m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite_heads [hReference9Ideal : Cert.Reference9Ideal.Facts] [hPre_finite_heads : Cert.Pre_finite_heads.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_heads m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite_weights [hKernel5Ideal : Cert.Kernel5Ideal.Facts] [hReference5Ideal : Cert.Reference5Ideal.Facts] [hPre_finite_weights : Cert.Pre_finite_weights.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v35)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_heads [hKernel6Ideal : Cert.Kernel6Ideal.Facts] [hReference6Ideal : Cert.Reference6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_heads m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v47_0)) (v1 : (c : Dev Cert.Kernel6Ideal.nD) → Buf (Elt Ideal) ((c.tc : Thread Cert.Kernel6Ideal.nD Cert.Kernel6Ideal.τ).loc Cert.Kernel6Ideal.main_v47_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47_0) = v0 c
          ∧ r.2.mem ((c.tc : Thread Cert.Kernel6Ideal.nD Cert.Kernel6Ideal.τ).loc Cert.Kernel6Ideal.main_v47_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v41_0)) (v1 : (c : Dev Cert.Kernel7Ideal.nD) → Buf (Elt Ideal) ((c.tc : Thread Cert.Kernel7Ideal.nD Cert.Kernel7Ideal.τ).loc Cert.Kernel7Ideal.main_v41_1)) (v2 : (c : Dev Cert.Kernel7Ideal.nD) → Buf (Elt Ideal) ((c.tc : Thread Cert.Kernel7Ideal.nD Cert.Kernel7Ideal.τ).loc Cert.Kernel7Ideal.main_v41_2)) (v3 : (c : Dev Cert.Kernel7Ideal.nD) → Buf (Elt Ideal) ((c.tc : Thread Cert.Kernel7Ideal.nD Cert.Kernel7Ideal.τ).loc Cert.Kernel7Ideal.main_v41_3)) (v4 : (c : Dev Cert.Kernel7Ideal.nD) → Buf (Elt Ideal) ((c.tc : Thread Cert.Kernel7Ideal.nD Cert.Kernel7Ideal.τ).loc Cert.Kernel7Ideal.main_v41_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v41_0) = v0 c
          ∧ r.2.mem ((c.tc : Thread Cert.Kernel7Ideal.nD Cert.Kernel7Ideal.τ).loc Cert.Kernel7Ideal.main_v41_1) = v1 c
          ∧ r.2.mem ((c.tc : Thread Cert.Kernel7Ideal.nD Cert.Kernel7Ideal.τ).loc Cert.Kernel7Ideal.main_v41_2) = v2 c
          ∧ r.2.mem ((c.tc : Thread Cert.Kernel7Ideal.nD Cert.Kernel7Ideal.τ).loc Cert.Kernel7Ideal.main_v41_3) = v3 c
          ∧ r.2.mem ((c.tc : Thread Cert.Kernel7Ideal.nD Cert.Kernel7Ideal.τ).loc Cert.Kernel7Ideal.main_v41_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v108) = v0 c
          ∧ r.2.mem ((c.tc : Thread Cert.Reference7Ideal.nD Cert.Reference7Ideal.τ).loc Cert.Reference7Ideal.main_v111) = v1 c
          ∧ r.2.mem ((c.tc : Thread Cert.Reference7Ideal.nD Cert.Reference7Ideal.τ).loc Cert.Reference7Ideal.main_v114) = v2 c
          ∧ r.2.mem ((c.tc : Thread Cert.Reference7Ideal.nD Cert.Reference7Ideal.τ).loc Cert.Reference7Ideal.main_v117) = v3 c
          ∧ r.2.mem ((c.tc : Thread Cert.Reference7Ideal.nD Cert.Reference7Ideal.τ).loc Cert.Reference7Ideal.main_v118) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_finite_heads [hKernel8Ideal : Cert.Kernel8Ideal.Facts] [hReference8Ideal : Cert.Reference8Ideal.Facts] [hPre_finite_heads : Cert.Pre_finite_heads.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_heads m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v50_0)) (v1 : (c : Dev Cert.Kernel8Ideal.nD) → Buf (Elt Ideal) ((c.tc : Thread Cert.Kernel8Ideal.nD Cert.Kernel8Ideal.τ).loc Cert.Kernel8Ideal.main_v50_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v50_0) = v0 c
          ∧ r.2.mem ((c.tc : Thread Cert.Kernel8Ideal.nD Cert.Kernel8Ideal.τ).loc Cert.Kernel8Ideal.main_v50_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_heads [hKernel9Ideal : Cert.Kernel9Ideal.Facts] [hReference9Ideal : Cert.Reference9Ideal.Facts] [hPre_finite_heads : Cert.Pre_finite_heads.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_heads m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v50_0)) (v1 : (c : Dev Cert.Kernel9Ideal.nD) → Buf (Elt Ideal) ((c.tc : Thread Cert.Kernel9Ideal.nD Cert.Kernel9Ideal.τ).loc Cert.Kernel9Ideal.main_v50_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v50_0) = v0 c
          ∧ r.2.mem ((c.tc : Thread Cert.Kernel9Ideal.nD Cert.Kernel9Ideal.τ).loc Cert.Kernel9Ideal.main_v50_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_weights : Cert.Pre_finite_weights.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights (hKernel5Ideal := hKernel5Ideal) (hPre_finite_weights := hPre_finite_weights)
    ∧ quiescent_Reference5Ideal (hReference5Ideal := hReference5Ideal)
    ∧ quiescent_Reference5Ideal_pre_finite_weights (hReference5Ideal := hReference5Ideal) (hPre_finite_weights := hPre_finite_weights)
    ∧ quiescent_Kernel6 (hKernel6 := hKernel6)
    ∧ quiescent_Kernel6Ideal (hKernel6Ideal := hKernel6Ideal)
    ∧ quiescent_Kernel6Ideal_pre_finite_heads (hKernel6Ideal := hKernel6Ideal) (hPre_finite_heads := hPre_finite_heads)
    ∧ quiescent_Reference6Ideal (hReference6Ideal := hReference6Ideal)
    ∧ quiescent_Reference6Ideal_pre_finite_heads (hReference6Ideal := hReference6Ideal) (hPre_finite_heads := hPre_finite_heads)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_heads (hKernel8Ideal := hKernel8Ideal) (hPre_finite_heads := hPre_finite_heads)
    ∧ quiescent_Reference8Ideal (hReference8Ideal := hReference8Ideal)
    ∧ quiescent_Reference8Ideal_pre_finite_heads (hReference8Ideal := hReference8Ideal) (hPre_finite_heads := hPre_finite_heads)
    ∧ quiescent_Kernel9 (hKernel9 := hKernel9)
    ∧ quiescent_Kernel9Ideal (hKernel9Ideal := hKernel9Ideal)
    ∧ quiescent_Kernel9Ideal_pre_finite_heads (hKernel9Ideal := hKernel9Ideal) (hPre_finite_heads := hPre_finite_heads)
    ∧ quiescent_Reference9Ideal (hReference9Ideal := hReference9Ideal)
    ∧ quiescent_Reference9Ideal_pre_finite_heads (hReference9Ideal := hReference9Ideal) (hPre_finite_heads := hPre_finite_heads)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights (hKernel5Ideal := hKernel5Ideal) (hReference5Ideal := hReference5Ideal) (hPre_finite_weights := hPre_finite_weights)
    ∧ preserves_Kernel6_Kernel6Ideal
    ∧ algebraic_Kernel6Ideal_Reference6Ideal_pre_finite_heads (hKernel6Ideal := hKernel6Ideal) (hReference6Ideal := hReference6Ideal) (hPre_finite_heads := hPre_finite_heads)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_heads (hKernel8Ideal := hKernel8Ideal) (hReference8Ideal := hReference8Ideal) (hPre_finite_heads := hPre_finite_heads)
    ∧ preserves_Kernel9_Kernel9Ideal
    ∧ algebraic_Kernel9Ideal_Reference9Ideal_pre_finite_heads (hKernel9Ideal := hKernel9Ideal) (hReference9Ideal := hReference9Ideal) (hPre_finite_heads := hPre_finite_heads)
-- ==== Pre_finite.lean ====
abbrev S8x8192x256 : Shape := ⟨3, ![8, 8192, 256]⟩
abbrev S_ : Shape := ⟨0, ![]⟩

class Facts : Prop where
  bcast_S_S8x8192x256 : S_.BroadcastsInDim S8x8192x256 (![] : Fin 0 → Fin S8x8192x256.rank)

variable [Facts]

def fn {F : FTy → Type} [FloatOps F] (main_arg0 : FVec F S8x8192x256 .f32) (main_arg1 : FVec F S8x8192x256 .f32) : IVec S8x8192x256 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_v3 : FVec F S8x8192x256 .f32 := Host.absf main_arg1
  let main_cst_0 : FVec F S_ .f32 := constant S_ .f32 0x7F800000#32
  let main_v4 : FVec F S8x8192x256 .f32 := broadcastInDim S8x8192x256 ![] bcast_S_S8x8192x256 main_cst_0
  let main_v5 : IVec S8x8192x256 1 := cmpf .olt main_v3 main_v4
  let main_v6 : IVec S8x8192x256 1 := andi main_v2 main_v5
  main_v6
-- ==== Pre_finite_heads.lean ====
abbrev S8x8192x12x64 : Shape := ⟨4, ![8, 8192, 12, 64]⟩
abbrev S_ : Shape := ⟨0, ![]⟩

class Facts : Prop where
  bcast_S_S8x8192x12x64 : S_.BroadcastsInDim S8x8192x12x64 (![] : Fin 0 → Fin S8x8192x12x64.rank)
  reducesTo_S8x8192x12x64_S_d0_1_2_3 : S8x8192x12x64.ReducesTo [0, 1, 2, 3] S_
  h_S_ : 0 < S_.numel

variable [Facts]

def fn {F : FTy → Type} [FloatOps F] (main_arg0 : FVec F S8x8192x12x64 .f32) (main_arg1 : FVec F S8x8192x12x64 .f32) (main_arg2 : FVec F S8x8192x12x64 .f32) : IVec S_ 1 :=
  let main_v0 : FVec F S8x8192x12x64 .f32 := Host.absf main_arg0
  let main_cst : FVec F S_ .f32 := constant S_ .f32 0x7F800000#32
  let main_v1 : FVec F S8x8192x12x64 .f32 := broadcastInDim S8x8192x12x64 ![] bcast_S_S8x8192x12x64 main_cst
  let main_v2 : IVec S8x8192x12x64 1 := cmpf .olt main_v0 main_v1
  let main_c : IVec S_ 1 := constantI S_ 1 1#1
  let main_v3 : IVec S_ 1 := (fun x v => Host.reduce IntOp.andi x v reducesTo_S8x8192x12x64_S_d0_1_2_3 h_S_) main_v2 main_c
  let main_v4 : FVec F S8x8192x12x64 .f32 := Host.absf main_arg1
  let main_cst_0 : FVec F S_ .f32 := constant S_ .f32 0x7F800000#32
  let main_v5 : FVec F S8x8192x12x64 .f32 := broadcastInDim S8x8192x12x64 ![] bcast_S_S8x8192x12x64 main_cst_0
  let main_v6 : IVec S8x8192x12x64 1 := cmpf .olt main_v4 main_v5
  let main_c_1 : IVec S_ 1 := constantI S_ 1 1#1
  let main_v7 : IVec S_ 1 := (fun x v => Host.reduce IntOp.andi x v reducesTo_S8x8192x12x64_S_d0_1_2_3 h_S_) main_v6 main_c_1
  let main_v8 : IVec S_ 1 := andi main_v3 main_v7
  let main_v9 : FVec F S8x8192x12x64 .f32 := Host.absf main_arg2
  let main_cst_2 : FVec F S_ .f32 := constant S_ .f32 0x7F800000#32
  let main_v10 : FVec F S8x8192x12x64 .f32 := broadcastInDim S8x8192x12x64 ![] bcast_S_S8x8192x12x64 main_cst_2
  let main_v11 : IVec S8x8192x12x64 1 := cmpf .olt main_v9 main_v10
  let main_c_3 : IVec S_ 1 := constantI S_ 1 1#1
  let main_v12 : IVec S_ 1 := (fun x v => Host.reduce IntOp.andi x v reducesTo_S8x8192x12x64_S_d0_1_2_3 h_S_) main_v11 main_c_3
  let main_v13 : IVec S_ 1 := andi main_v8 main_v12
  main_v13
-- ==== Pre_finite_weights.lean ====
abbrev S1024x256 : Shape := ⟨2, ![1024, 256]⟩
abbrev S4x64x64 : Shape := ⟨3, ![4, 64, 64]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_

variable [Facts]

def fn {F : FTy → Type} [FloatOps F] (main_arg0 : FVec F S1024x256 .f32) (main_arg1 : FVec F S4x64x64 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  main_v8
-- ==== Kernel.lean ====
abbrev S8x8192x256 : Shape := ⟨3, ![8, 8192, 256]⟩
abbrev S8x4096x2x256 : Shape := ⟨4, ![8, 4096, 2, 256]⟩
abbrev S2x4096x8x256 : Shape := ⟨4, ![2, 4096, 8, 256]⟩
abbrev S2x4096x2048 : Shape := ⟨3, ![2, 4096, 2048]⟩
abbrev S2x1x4096x2048 : Shape := ⟨4, ![2, 1, 4096, 2048]⟩
abbrev S2x2x4096x2048 : Shape := ⟨4, ![2, 2, 4096, 2048]⟩
abbrev S4096 : Shape := ⟨1, ![4096]⟩
abbrev S1x1x4096 : Shape := ⟨3, ![1, 1, 4096]⟩
abbrev S_ : Shape := ⟨0, ![]⟩
abbrev S2 : Shape := ⟨1, ![2]⟩
abbrev S2x1x1 : Shape := ⟨3, ![2, 1, 1]⟩
abbrev S2x1x4096 : Shape := ⟨3, ![2, 1, 4096]⟩
abbrev S8 : Shape := ⟨1, ![8]⟩
abbrev S1x8x1 : Shape := ⟨3, ![1, 8, 1]⟩
abbrev S2x8x4096 : Shape := ⟨3, ![2, 8, 4096]⟩
abbrev S16 : Shape := ⟨1, ![16]⟩
abbrev S1x16x1 : Shape := ⟨3, ![1, 16, 1]⟩
abbrev S2x16x4096 : Shape := ⟨3, ![2, 16, 4096]⟩
abbrev S32 : Shape := ⟨1, ![32]⟩
abbrev S1x32x1 : Shape := ⟨3, ![1, 32, 1]⟩
abbrev S2x32x4096 : Shape := ⟨3, ![2, 32, 4096]⟩
abbrev S2x16x1x4096 : Shape := ⟨4, ![2, 16, 1, 4096]⟩
abbrev S2x1x32x4096 : Shape := ⟨4, ![2, 1, 32, 4096]⟩
abbrev S2x16x32x4096 : Shape := ⟨4, ![2, 16, 32, 4096]⟩
abbrev S2x512x4096 : Shape := ⟨3, ![2, 512, 4096]⟩
abbrev S2x8x1x4096 : Shape := ⟨4, ![2, 8, 1, 4096]⟩
abbrev S2x512x512 : Shape := ⟨3, ![2, 512, 512]⟩
abbrev S2x1x1x512 : Shape := ⟨4, ![2, 1, 1, 512]⟩
abbrev S2x2x512x2048 : Shape := ⟨4, ![2, 2, 512, 2048]⟩
abbrev S2x512x2048 : Shape := ⟨3, ![2, 512, 2048]⟩
abbrev S1x512x512 : Shape := ⟨3, ![1, 512, 512]⟩
abbrev S512x512 : Shape := ⟨2, ![512, 512]⟩
abbrev S1x1x1x512 : Shape := ⟨4, ![1, 1, 1, 512]⟩
abbrev S1x512 : Shape := ⟨2, ![1, 512]⟩
abbrev S1x512x2048 : Shape := ⟨3, ![1, 512, 2048]⟩
abbrev S512x2048 : Shape := ⟨2, ![512, 2048]⟩
abbrev S1x1x512x2048 : Shape := ⟨4, ![1, 1, 512, 2048]⟩

abbrev nBuf : Space → Nat
  | .hbm => 164
  | .vmem => 12
  | .smem => 0
  | _ => 0

abbrev hbmTy0_0 (i : Nat) : BufTy := match i % 128 with
  | 0 => ⟨S8x8192x256, .f32⟩
  | 1 => ⟨S8x8192x256, .f32⟩
  | 2 => ⟨S8x4096x2x256, .f32⟩
  | 3 => ⟨S2x4096x8x256, .f32⟩
  | 4 => ⟨S2x4096x2048, .f32⟩
  | 5 => ⟨S8x4096x2x256, .f32⟩
  | 6 => ⟨S2x4096x8x256, .f32⟩
  | 7 => ⟨S2x4096x2048, .f32⟩
  | 8 => ⟨S2x1x4096x2048, .f32⟩
  | 9 => ⟨S2x1x4096x2048, .f32⟩
  | 10 => ⟨S2x2x4096x2048, .f32⟩
  | 11 => ⟨S2x2x4096x2048, .bf16⟩
  | 12 => ⟨S4096, .i32⟩
  | 13 => ⟨S1x1x4096, .i32⟩
  | 14 => ⟨S_, .i32⟩
  | 15 => ⟨S1x1x4096, .i32⟩
  | 16 => ⟨S1x1x4096, .i32⟩
  | 17 => ⟨S2, .i32⟩
  | 18 => ⟨S2x1x1, .i32⟩
  | 19 => ⟨S2x1x4096, .i32⟩
  | 20 => ⟨S2x1x4096, .i32⟩
  | 21 => ⟨S2x1x4096, .i32⟩
  | 22 => ⟨S_, .f32⟩
  | 23 => ⟨S_, .f32⟩
  | 24 => ⟨S_, .f32⟩
  | 25 => ⟨S_, .f32⟩
  | 26 => ⟨S8, .i32⟩
  | 27 => ⟨S_, .i32⟩
  | 28 => ⟨S8, .i32⟩
  | 29 => ⟨S8, .i32⟩
  | 30 => ⟨S_, .i32⟩
  | 31 => ⟨S8, .i32⟩
  | 32 => ⟨S8, .i32⟩
  | 33 => ⟨S1x8x1, .i32⟩
  | 34 => ⟨S2x8x4096, .i32⟩
  | 35 => ⟨S2x8x4096, .i32⟩
  | 36 => ⟨S2x8x4096, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2x8x4096, .i32⟩
  | 44 => ⟨S2x8x4096, .i32⟩
  | 45 => ⟨S_, .i32⟩
  | 46 => ⟨S2x8x4096, .i32⟩
  | 47 => ⟨S2x8x4096, .i1⟩
  | 48 => ⟨S_, .i32⟩
  | 49 => ⟨S2x8x4096, .i32⟩
  | 50 => ⟨S2x8x4096, .i1⟩
  | 51 => ⟨S_, .i32⟩
  | 52 => ⟨S_, .i1⟩
  | 53 => ⟨S2x8x4096, .i1⟩
  | 54 => ⟨S2x8x4096, .i1⟩
  | 55 => ⟨S2x8x4096, .i1⟩
  | 56 => ⟨S2x8x4096, .i32⟩
  | 57 => ⟨S2x8x4096, .i32⟩
  | 58 => ⟨S2x8x4096, .i32⟩
  | 59 => ⟨S2x8x4096, .f32⟩
  | 60 => ⟨S2x8x4096, .f32⟩
  | 61 => ⟨S2x8x4096, .f32⟩
  | 62 => ⟨S16, .i32⟩
  | 63 => ⟨S_, .i32⟩
  | 64 => ⟨S16, .i32⟩
  | 65 => ⟨S16, .i32⟩
  | 66 => ⟨S_, .i32⟩
  | 67 => ⟨S16, .i32⟩
  | 68 => ⟨S16, .i32⟩
  | 69 => ⟨S1x16x1, .i32⟩
  | 70 => ⟨S2x16x4096, .i32⟩
  | 71 => ⟨S2x16x4096, .i32⟩
  | 72 => ⟨S2x16x4096, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S2x16x4096, .i32⟩
  | 80 => ⟨S2x16x4096, .i32⟩
  | 81 => ⟨S_, .i32⟩
  | 82 => ⟨S2x16x4096, .i32⟩
  | 83 => ⟨S2x16x4096, .i1⟩
  | 84 => ⟨S_, .i32⟩
  | 85 => ⟨S2x16x4096, .i32⟩
  | 86 => ⟨S2x16x4096, .i1⟩
  | 87 => ⟨S_, .i32⟩
  | 88 => ⟨S_, .i1⟩
  | 89 => ⟨S2x16x4096, .i1⟩
  | 90 => ⟨S2x16x4096, .i1⟩
  | 91 => ⟨S2x16x4096, .i1⟩
  | 92 => ⟨S2x16x4096, .i32⟩
  | 93 => ⟨S2x16x4096, .i32⟩
  | 94 => ⟨S2x16x4096, .i32⟩
  | 95 => ⟨S2x16x4096, .f32⟩
  | 96 => ⟨S2x16x4096, .f32⟩
  | 97 => ⟨S2x16x4096, .f32⟩
  | 98 => ⟨S32, .i32⟩
  | 99 => ⟨S1x32x1, .i32⟩
  | 100 => ⟨S2x32x4096, .i32⟩
  | 101 => ⟨S2x32x4096, .i32⟩
  | 102 => ⟨S2x32x4096, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S2x32x4096, .i32⟩
  | 110 => ⟨S2x32x4096, .i32⟩
  | 111 => ⟨S_, .i32⟩
  | 112 => ⟨S2x32x4096, .i32⟩
  | 113 => ⟨S2x32x4096, .i1⟩
  | 114 => ⟨S_, .i32⟩
  | 115 => ⟨S2x32x4096, .i32⟩
  | 116 => ⟨S2x32x4096, .i1⟩
  | 117 => ⟨S_, .i32⟩
  | 118 => ⟨S_, .i1⟩
  | 119 => ⟨S2x32x4096, .i1⟩
  | 120 => ⟨S2x32x4096, .i1⟩
  | 121 => ⟨S2x32x4096, .i1⟩
  | 122 => ⟨S2x32x4096, .i32⟩
  | 123 => ⟨S2x32x4096, .i32⟩
  | 124 => ⟨S2x32x4096, .i32⟩
  | 125 => ⟨S2x32x4096, .f32⟩
  | 126 => ⟨S2x32x4096, .f32⟩
  | 127 => ⟨S2x32x4096, .f32⟩
  | _ => ⟨S8x8192x256, .f32⟩

abbrev hbmTy0_1 (i : Nat) : BufTy := match i % 128 with
  | 0 => ⟨S2x16x4096, .f32⟩
  | 1 => ⟨S2x16x1x4096, .f32⟩
  | 2 => ⟨S2x16x4096, .f32⟩
  | 3 => ⟨S2x16x1x4096, .f32⟩
  | 4 => ⟨S2x32x4096, .f32⟩
  | 5 => ⟨S2x1x32x4096, .f32⟩
  | 6 => ⟨S2x32x4096, .f32⟩
  | 7 => ⟨S2x1x32x4096, .f32⟩
  | 8 => ⟨S2x16x32x4096, .f32⟩
  | 9 => ⟨S2x16x32x4096, .f32⟩
  | 10 => ⟨S2x16x32x4096, .f32⟩
  | 11 => ⟨S2x16x32x4096, .f32⟩
  | 12 => ⟨S2x16x32x4096, .f32⟩
  | 13 => ⟨S2x16x32x4096, .f32⟩
  | 14 => ⟨S2x16x32x4096, .f32⟩
  | 15 => ⟨S2x512x4096, .f32⟩
  | 16 => ⟨S2x16x32x4096, .f32⟩
  | 17 => ⟨S2x16x32x4096, .f32⟩
  | 18 => ⟨S2x16x32x4096, .f32⟩
  | 19 => ⟨S2x16x32x4096, .f32⟩
  | 20 => ⟨S2x16x32x4096, .f32⟩
  | 21 => ⟨S2x16x32x4096, .f32⟩
  | 22 => ⟨S2x16x32x4096, .f32⟩
  | 23 => ⟨S2x512x4096, .f32⟩
  | 24 => ⟨S2x512x4096, .f32⟩
  | 25 => ⟨S2x8x4096, .f32⟩
  | 26 => ⟨S_, .f32⟩
  | 27 => ⟨S2x8x4096, .f32⟩
  | 28 => ⟨S2x8x4096, .f32⟩
  | 29 => ⟨S2x8x1x4096, .f32⟩
  | 30 => ⟨S2x8x4096, .f32⟩
  | 31 => ⟨S_, .f32⟩
  | 32 => ⟨S2x8x4096, .f32⟩
  | 33 => ⟨S2x8x4096, .f32⟩
  | 34 => ⟨S2x8x1x4096, .f32⟩
  | 35 => ⟨S2x4096x2048, .f32⟩
  | _ => ⟨S8x8192x256, .f32⟩

abbrev hbmTy (i : Nat) : BufTy := match i / 128 with
  | 0 => hbmTy0_0 i
  | 1 => hbmTy0_1 i
  | _ => ⟨S8x8192x256, .f32⟩

abbrev bufTy : (tb : Table) → Fin (tcTables nBuf tb) → BufTy
  | .hbm, ⟨i, _⟩ => hbmTy i
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S2x1x1x512, .f32⟩
  | .local _ .vmem, ⟨5, _⟩ => ⟨S2x1x1x512, .f32⟩
  | .local _ .vmem, ⟨6, _⟩ => ⟨S2x1x1x512, .f32⟩
  | .local _ .vmem, ⟨7, _⟩ => ⟨S2x1x1x512, .f32⟩
  | .local _ .vmem, ⟨8, _⟩ => ⟨S2x2x512x2048, .bf16⟩
  | .local _ .vmem, ⟨9, _⟩ => ⟨S2x2x512x2048, .bf16⟩
  | .local _ .vmem, ⟨10, _⟩ => ⟨S2x512x2048, .f32⟩
  | .local _ .vmem, ⟨11, _⟩ => ⟨S2x512x2048, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_3 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_4 : Ref sig .tc := ⟨.hbm, 63, rfl⟩
abbrev main_v35 : Ref sig .tc := ⟨.hbm, 64, rfl⟩
abbrev main_v36 : Ref sig .tc := ⟨.hbm, 65, rfl⟩
abbrev main_c_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_7 : Ref sig .tc := ⟨.hbm, 103, rfl⟩
abbrev main_call2_v0 : Ref sig .tc := ⟨.hbm, 104, rfl⟩
abbrev main_call2_c : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_c_1 : Ref sig .tc := ⟨.hbm, 111, rfl⟩
abbrev main_call2_v5 : Ref sig .tc := ⟨.hbm, 112, rfl⟩
abbrev main_call2_v6 : Ref sig .tc := ⟨.hbm, 113, rfl⟩
abbrev main_call2_c_2 : Ref sig .tc := ⟨.hbm, 114, rfl⟩
abbrev main_call2_v7 : Ref sig .tc := ⟨.hbm, 115, rfl⟩
abbrev main_call2_v8 : Ref sig .tc := ⟨.hbm, 116, rfl⟩
abbrev main_call2_c_3 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_8 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_9 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x2x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S8x8192x256 : Shape := ⟨3, ![8, 8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8x256 : Shape := ⟨3, ![8192, 8, 256]⟩
abbrev S2x4096x2048 : Shape := ⟨3, ![2, 4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8x256, .f32⟩
  | .hbm, ⟨17, _⟩ => ⟨S8192x8192, .f32⟩
  | .hbm, ⟨18, _⟩ => ⟨S8192x8x256, .f32⟩
  | .hbm, ⟨19, _⟩ => ⟨S8192x8x256, .f32⟩
  | .hbm, ⟨20, _⟩ => ⟨S_, .f32⟩
  | .hbm, ⟨21, _⟩ => ⟨S8192x8x256, .f32⟩
  | .hbm, ⟨22, _⟩ => ⟨S8192x8x256, .f32⟩
  | .hbm, ⟨23, _⟩ => ⟨S2x4096x2048, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x256 : Shape := ⟨3, ![8, 8192, 256]⟩
abbrev S8x8192x768 : Shape := ⟨3, ![8, 8192, 768]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8192x8x256 : Shape := ⟨3, ![8192, 8, 256]⟩
abbrev S8192x2048 : Shape := ⟨2, ![8192, 2048]⟩
abbrev S8x8192x6x128 : Shape := ⟨4, ![8, 8192, 6, 128]⟩
abbrev S8x6x8192x128 : Shape := ⟨4, ![8, 6, 8192, 128]⟩
abbrev S65536x1024 : Shape := ⟨2, ![65536, 1024]⟩
abbrev S1x256 : Shape := ⟨2, ![1, 256]⟩
abbrev S1x768 : Shape := ⟨2, ![1, 768]⟩
abbrev S1x1024 : Shape := ⟨2, ![1, 1024]⟩
abbrev S1024x256 : Shape := ⟨2, ![1024, 256]⟩
abbrev S1x6x1024x128 : Shape := ⟨4, ![1, 6, 1024, 128]⟩
abbrev S1x1x512x128 : Shape := ⟨4, ![1, 1, 512, 128]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩
abbrev S256x1024 : Shape := ⟨2, ![256, 1024]⟩
abbrev S768x1024 : Shape := ⟨2, ![768, 1024]⟩

abbrev nBuf : Space → Nat
  | .hbm => 25
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x768, .f32⟩
  | .hbm, ⟨3, _⟩ => ⟨S256, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S8192x8x256, .f32⟩
  | .hbm, ⟨12, _⟩ => ⟨S8192x2048, .f32⟩
  | .hbm, ⟨13, _⟩ => ⟨S8x8192x6x128, .f32⟩
  | .hbm, ⟨14, _⟩ => ⟨S8x6x8192x128, .f32⟩
  | .hbm, ⟨15, _⟩ => ⟨S65536x1024, .f32⟩
  | .hbm, ⟨16, _⟩ => ⟨S1x256, .f32⟩
  | .hbm, ⟨17, _⟩ => ⟨S1x768, .f32⟩
  | .hbm, ⟨18, _⟩ => ⟨S1024x1024, .bf16⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x6x1024x128, .f32⟩
  | .local _ .vmem, ⟨5, _⟩ => ⟨S1x6x1024x128, .f32⟩
  | .local _ .vmem, ⟨6, _⟩ => ⟨S1x256, .f32⟩
  | .local _ .vmem, ⟨7, _⟩ => ⟨S1x768, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S8x8192x1024 : Shape := ⟨3, ![8, 8192, 1024]⟩
abbrev S8x8192x256 : Shape := ⟨3, ![8, 8192, 256]⟩
abbrev S8x8192x768 : Shape := ⟨3, ![8, 8192, 768]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8192x8x256 : Shape := ⟨3, ![8192, 8, 256]⟩
abbrev S8192x2048 : Shape := ⟨2, ![8192, 2048]⟩
abbrev S8x8192x6x128 : Shape := ⟨4, ![8, 8192, 6, 128]⟩
abbrev S8x6x8192x128 : Shape := ⟨4, ![8, 6, 8192, 128]⟩
abbrev S65536x1024 : Shape := ⟨2, ![65536, 1024]⟩
abbrev S1x256 : Shape := ⟨2, ![1, 256]⟩
abbrev S1x768 : Shape := ⟨2, ![1, 768]⟩
abbrev S1x1024 : Shape := ⟨2, ![1, 1024]⟩
abbrev S1024x256 : Shape := ⟨2, ![1024, 256]⟩
abbrev S1x6x1024x128 : Shape := ⟨4, ![1, 6, 1024, 128]⟩
abbrev S1x1x512x128 : Shape := ⟨4, ![1, 1, 512, 128]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩
abbrev S256x1024 : Shape := ⟨2, ![256, 1024]⟩
abbrev S768x1024 : Shape := ⟨2, ![768, 1024]⟩

abbrev nBuf : Space → Nat
  | .hbm => 25
  | .vmem => 16
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x768, .f32⟩
  | .hbm, ⟨3, _⟩ => ⟨S256, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S8192x8x256, .f32⟩
  | .hbm, ⟨12, _⟩ => ⟨S8192x2048, .f32⟩
  | .hbm, ⟨13, _⟩ => ⟨S8x8192x6x128, .f32⟩
  | .hbm, ⟨14, _⟩ => ⟨S8x6x8192x128, .f32⟩
  | .hbm, ⟨15, _⟩ => ⟨S65536x1024, .f32⟩
  | .hbm, ⟨16, _⟩ => ⟨S1x256, .f32⟩
  | .hbm, ⟨17, _⟩ => ⟨S1x768, .f32⟩
  | .hbm, ⟨18, _⟩ => ⟨S1024x1024, .bf16⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x6x1024x128, .f32⟩
  | .local _ .vmem, ⟨5, _⟩ => ⟨S1x6x1024x128, .f32⟩
  | .local _ .vmem, ⟨6, _⟩ => ⟨S1x256, .f32⟩
  | .local _ .vmem, ⟨7, _⟩ => ⟨S1x768, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x8192x1024 : Shape := ⟨3, ![8, 8192, 1024]⟩
abbrev S8x8192x256 : Shape := ⟨3, ![8, 8192, 256]⟩
abbrev S8x8192x768 : Shape := ⟨3, ![8, 8192, 768]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x256 : Shape := ⟨3, ![1, 1, 256]⟩
abbrev S1x1x768 : Shape := ⟨3, ![1, 1, 768]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S8x8192x768, .f32⟩
  | .hbm, ⟨3, _⟩ => ⟨S256, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S8x8192x256, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S8x8192x256, .f32⟩
  | .hbm, ⟨23, _⟩ => ⟨S8x8192x256, .f32⟩
  | .hbm, ⟨24, _⟩ => ⟨S1x1x256, .f32⟩
  | .hbm, ⟨25, _⟩ => ⟨S8x8192x256, .f32⟩
  | .hbm, ⟨26, _⟩ => ⟨S8x8192x256, .f32⟩
  | .hbm, ⟨27, _⟩ => ⟨S8x8192x768, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S8x8192x768, .f32⟩
  | .hbm, ⟨39, _⟩ => ⟨S8x8192x768, .f32⟩
  | .hbm, ⟨40, _⟩ => ⟨S1x1x768, .f32⟩
  | .hbm, ⟨41, _⟩ => ⟨S8x8192x768, .f32⟩
  | .hbm, ⟨42, _⟩ => ⟨S8x8192x768, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S_, .f32⟩
  | .hbm, ⟨48, _⟩ => ⟨S8x8192, .f32⟩
  | .hbm, ⟨49, _⟩ => ⟨S8x8192x1, .f32⟩
  | .hbm, ⟨50, _⟩ => ⟨S_, .f32⟩
  | .hbm, ⟨51, _⟩ => ⟨S8x8192x1, .f32⟩
  | .hbm, ⟨52, _⟩ => ⟨S8x8192x1, .f32⟩
  | .hbm, ⟨53, _⟩ => ⟨S_, .f32⟩
  | .hbm, ⟨54, _⟩ => ⟨S8x8192x1, .f32⟩
  | .hbm, ⟨55, _⟩ => ⟨S8x8192x1, .f32⟩
  | .hbm, ⟨56, _⟩ => ⟨S8x8192x1, .f32⟩
  | .hbm, ⟨57, _⟩ => ⟨S8x8192x1024, .f32⟩
  | .hbm, ⟨58, _⟩ => ⟨S8x8192x1024, .f32⟩
  | .hbm, ⟨59, _⟩ => ⟨S1x1x1024, .f32⟩
  | .hbm, ⟨60, _⟩ => ⟨S8x8192x1024, .f32⟩
  | .hbm, ⟨61, _⟩ => ⟨S8x8192x1024, .f32⟩
  | .hbm, ⟨62, _⟩ => ⟨S8x8192x2816, .f32⟩
  | .hbm, ⟨63, _⟩ => ⟨S8x8192x2816, .f32⟩
  | .hbm, ⟨64, _⟩ => ⟨S8x8192x2816, .f32⟩
  | .hbm, ⟨65, _⟩ => ⟨S_, .f32⟩
  | .hbm, ⟨66, _⟩ => ⟨S8x8192x2816, .f32⟩
  | .hbm, ⟨67, _⟩ => ⟨S8x8192x2816, .f32⟩
  | .hbm, ⟨68, _⟩ => ⟨S_, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x2816, .f32⟩
  | .hbm, ⟨73, _⟩ => ⟨S8x8192x2816, .f32⟩
  | .hbm, ⟨74, _⟩ => ⟨S8x8192x1024, .f32⟩
  | .hbm, ⟨75, _⟩ => ⟨S_, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S_, .f32⟩
  | .hbm, ⟨81, _⟩ => ⟨S8x8192, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S_, .f32⟩
  | .hbm, ⟨87, _⟩ => ⟨S8x8192x1, .f32⟩
  | .hbm, ⟨88, _⟩ => ⟨S8x8192x1, .f32⟩
  | .hbm, ⟨89, _⟩ => ⟨S8x8192x1, .f32⟩
  | .hbm, ⟨90, _⟩ => ⟨S8x8192x1024, .f32⟩
  | .hbm, ⟨91, _⟩ => ⟨S8x8192x1024, .f32⟩
  | .hbm, ⟨92, _⟩ => ⟨S1x1x1024, .f32⟩
  | .hbm, ⟨93, _⟩ => ⟨S8x8192x1024, .f32⟩
  | .hbm, ⟨94, _⟩ => ⟨S8x8192x1024, .f32⟩
  | .hbm, ⟨95, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S_, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S8x8192x2816, .f32⟩
  | .hbm, ⟨31, _⟩ => ⟨S8x8192x2816, .f32⟩
  | .hbm, ⟨32, _⟩ => ⟨S8x8192x2816, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x2048x256 : Shape := ⟨3, ![32, 2048, 256]⟩
abbrev S32x2048x768 : Shape := ⟨3, ![32, 2048, 768]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2048x32x256 : Shape := ⟨3, ![2048, 32, 256]⟩
abbrev S2048x8192 : Shape := ⟨2, ![2048, 8192]⟩
abbrev S32x2048x6x128 : Shape := ⟨4, ![32, 2048, 6, 128]⟩
abbrev S32x6x2048x128 : Shape := ⟨4, ![32, 6, 2048, 128]⟩
abbrev S65536x1024 : Shape := ⟨2, ![65536, 1024]⟩
abbrev S1x256 : Shape := ⟨2, ![1, 256]⟩
abbrev S1x768 : Shape := ⟨2, ![1, 768]⟩
abbrev S1x1024 : Shape := ⟨2, ![1, 1024]⟩
abbrev S1024x256 : Shape := ⟨2, ![1024, 256]⟩
abbrev S1x6x1024x128 : Shape := ⟨4, ![1, 6, 1024, 128]⟩
abbrev S1x1x512x128 : Shape := ⟨4, ![1, 1, 512, 128]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S512x256 : Shape := ⟨2, ![512, 256]⟩
abbrev S512x1024 : Shape := ⟨2, ![512, 1024]⟩
abbrev S256x1024 : Shape := ⟨2, ![256, 1024]⟩
abbrev S768x1024 : Shape := ⟨2, ![768, 1024]⟩

abbrev nBuf : Space → Nat
  | .hbm => 25
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x768, .f32⟩
  | .hbm, ⟨3, _⟩ => ⟨S256, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S2048x32x256, .f32⟩
  | .hbm, ⟨12, _⟩ => ⟨S2048x8192, .f32⟩
  | .hbm, ⟨13, _⟩ => ⟨S32x2048x6x128, .f32⟩
  | .hbm, ⟨14, _⟩ => ⟨S32x6x2048x128, .f32⟩
  | .hbm, ⟨15, _⟩ => ⟨S65536x1024, .f32⟩
  | .hbm, ⟨16, _⟩ => ⟨S1x256, .f32⟩
  | .hbm, ⟨17, _⟩ => ⟨S1x768, .f32⟩
  | .hbm, ⟨18, _⟩ => ⟨S1024x1024, .bf16⟩
  | .hbm, ⟨19, _⟩ => ⟨S1x1024, .f32⟩
  | .hbm, ⟨20, _⟩ => ⟨S1024x2816, .bf16⟩
  | .hbm, ⟨21, _⟩ => ⟨S1024x2816, .bf16⟩
  | .hbm, ⟨22, _⟩ => ⟨S2816x1024, .bf16⟩
  | .hbm, ⟨23, _⟩ => ⟨S1x1024, .f32⟩
  | .hbm, ⟨24, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x6x1024x128, .f32⟩
  | .local _ .vmem, ⟨5, _⟩ => ⟨S1x6x1024x128, .f32⟩
  | .local _ .vmem, ⟨6, _⟩ => ⟨S1x256, .f32⟩
  | .local _ .vmem, ⟨7, _⟩ => ⟨S1x768, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S32x2048x1024 : Shape := ⟨3, ![32, 2048, 1024]⟩
abbrev S32x2048x256 : Shape := ⟨3, ![32, 2048, 256]⟩
abbrev S32x2048x768 : Shape := ⟨3, ![32, 2048, 768]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x256 : Shape := ⟨3, ![1, 1, 256]⟩
abbrev S1x1x768 : Shape := ⟨3, ![1, 1, 768]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x768, .f32⟩
  | .hbm, ⟨3, _⟩ => ⟨S256, .f32⟩
  | .hbm, ⟨4, _⟩ => ⟨S768, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S32x2048x256, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x256, .f32⟩
  | .hbm, ⟨23, _⟩ => ⟨S32x2048x256, .f32⟩
  | .hbm, ⟨24, _⟩ => ⟨S1x1x256, .f32⟩
  | .hbm, ⟨25, _⟩ => ⟨S32x2048x256, .f32⟩
  | .hbm, ⟨26, _⟩ => ⟨S32x2048x256, .f32⟩
  | .hbm, ⟨27, _⟩ => ⟨S32x2048x768, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S_, .f32⟩
  | .hbm, ⟨35, _⟩ => ⟨S32x2048x1, .f32⟩
  | .hbm, ⟨36, _⟩ => ⟨S32x2048x1, .f32⟩
  | .hbm, ⟨37, _⟩ => ⟨S32x2048x1, .f32⟩
  | .hbm, ⟨38, _⟩ => ⟨S32x2048x768, .f32⟩
  | .hbm, ⟨39, _⟩ => ⟨S32x2048x768, .f32⟩
  | .hbm, ⟨40, _⟩ => ⟨S1x1x768, .f32⟩
  | .hbm, ⟨41, _⟩ => ⟨S32x2048x768, .f32⟩
  | .hbm, ⟨42, _⟩ => ⟨S32x2048x768, .f32⟩
  | .hbm, ⟨43, _⟩ => ⟨S32x2048x1024, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S_, .f32⟩
  | .hbm, ⟨48, _⟩ => ⟨S32x2048, .f32⟩
  | .hbm, ⟨49, _⟩ => ⟨S32x2048x1, .f32⟩
  | .hbm, ⟨50, _⟩ => ⟨S_, .f32⟩
  | .hbm, ⟨51, _⟩ => ⟨S32x2048x1, .f32⟩
  | .hbm, ⟨52, _⟩ => ⟨S32x2048x1, .f32⟩
  | .hbm, ⟨53, _⟩ => ⟨S_, .f32⟩
  | .hbm, ⟨54, _⟩ => ⟨S32x2048x1, .f32⟩
  | .hbm, ⟨55, _⟩ => ⟨S32x2048x1, .f32⟩
  | .hbm, ⟨56, _⟩ => ⟨S32x2048x1, .f32⟩
  | .hbm, ⟨57, _⟩ => ⟨S32x2048x1024, .f32⟩
  | .hbm, ⟨58, _⟩ => ⟨S32x2048x1024, .f32⟩
  | .hbm, ⟨59, _⟩ => ⟨S1x1x1024, .f32⟩
  | .hbm, ⟨60, _⟩ => ⟨S32x2048x1024, .f32⟩
  | .hbm, ⟨61, _⟩ => ⟨S32x2048x1024, .f32⟩
  | .hbm, ⟨62, _⟩ => ⟨S32x2048x2816, .f32⟩
  | .hbm, ⟨63, _⟩ => ⟨S32x2048x2816, .f32⟩
  | .hbm, ⟨64, _⟩ => ⟨S32x2048x2816, .f32⟩
  | .hbm, ⟨65, _⟩ => ⟨S_, .f32⟩
  | .hbm, ⟨66, _⟩ => ⟨S32x2048x2816, .f32⟩
  | .hbm, ⟨67, _⟩ => ⟨S32x2048x2816, .f32⟩
  | .hbm, ⟨68, _⟩ => ⟨S_, .f32⟩
  | .hbm, ⟨69, _⟩ => ⟨S32x2048x2816, .f32⟩
  | .hbm, ⟨70, _⟩ => ⟨S32x2048x2816, .f32⟩
  | .hbm, ⟨71, _⟩ => ⟨S32x2048x2816, .f32⟩
  | .hbm, ⟨72, _⟩ => ⟨S32x2048x2816, .f32⟩
  | .hbm, ⟨73, _⟩ => ⟨S32x2048x2816, .f32⟩
  | .hbm, ⟨74, _⟩ => ⟨S32x2048x1024, .f32⟩
  | .hbm, ⟨75, _⟩ => ⟨S_, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S32x2048x1024, .f32⟩
  | .hbm, ⟨80, _⟩ => ⟨S_, .f32⟩
  | .hbm, ⟨81, _⟩ => ⟨S32x2048, .f32⟩
  | .hbm, ⟨82, _⟩ => ⟨S32x2048x1, .f32⟩
  | .hbm, ⟨83, _⟩ => ⟨S_, .f32⟩
  | .hbm, ⟨84, _⟩ => ⟨S32x2048x1, .f32⟩
  | .hbm, ⟨85, _⟩ => ⟨S32x2048x1, .f32⟩
  | .hbm, ⟨86, _⟩ => ⟨S_, .f32⟩
  | .hbm, ⟨87, _⟩ => ⟨S32x2048x1, .f32⟩
  | .hbm, ⟨88, _⟩ => ⟨S32x2048x1, .f32⟩
  | .hbm, ⟨89, _⟩ => ⟨S32x2048x1, .f32⟩
  | .hbm, ⟨90, _⟩ => ⟨S32x2048x1024, .f32⟩
  | .hbm, ⟨91, _⟩ => ⟨S32x2048x1024, .f32⟩
  | .hbm, ⟨92, _⟩ => ⟨S1x1x1024, .f32⟩
  | .hbm, ⟨93, _⟩ => ⟨S32x2048x1024, .f32⟩
  | .hbm, ⟨94, _⟩ => ⟨S32x2048x1024, .f32⟩
  | .hbm, ⟨95, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Kernel5.lean ====
abbrev S1024x256 : Shape := ⟨2, ![1024, 256]⟩
abbrev S4x64x64 : Shape := ⟨3, ![4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64x64 : Shape := ⟨3, ![1, 64, 64]⟩
abbrev S1024x512 : Shape := ⟨2, ![1024, 512]⟩

abbrev nBuf : Space → Nat
  | .hbm => 81
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S4x64x64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S_, .i1⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S4x4, .i32⟩
  | .hbm, ⟨38, _⟩ => ⟨S4x4, .i32⟩
  | .hbm, ⟨39, _⟩ => ⟨S_, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S64x64, .f32⟩
  | .hbm, ⟨45, _⟩ => ⟨S4x1x4x1, .f32⟩
  | .hbm, ⟨46, _⟩ => ⟨S1x64x1x64, .f32⟩
  | .hbm, ⟨47, _⟩ => ⟨S4x64x4x64, .f32⟩
  | .hbm, ⟨48, _⟩ => ⟨S4x64x4x64, .f32⟩
  | .hbm, ⟨49, _⟩ => ⟨S4x64x4x64, .f32⟩
  | .hbm, ⟨50, _⟩ => ⟨S256x256, .f32⟩
  | .hbm, ⟨51, _⟩ => ⟨S64x64, .f32⟩
  | .hbm, ⟨52, _⟩ => ⟨S4x1x4x1, .f32⟩
  | .hbm, ⟨53, _⟩ => ⟨S1x64x1x64, .f32⟩
  | .hbm, ⟨54, _⟩ => ⟨S4x64x4x64, .f32⟩
  | .hbm, ⟨55, _⟩ => ⟨S4x64x4x64, .f32⟩
  | .hbm, ⟨56, _⟩ => ⟨S4x64x4x64, .f32⟩
  | .hbm, ⟨57, _⟩ => ⟨S256x256, .f32⟩
  | .hbm, ⟨58, _⟩ => ⟨S_, .f32⟩
  | .hbm, ⟨59, _⟩ => ⟨S256x256, .f32⟩
  | .hbm, ⟨60, _⟩ => ⟨S1x64x64, .f32⟩
  | .hbm, ⟨61, _⟩ => ⟨S64x64, .f32⟩
  | .hbm, ⟨62, _⟩ => ⟨S_, .i32⟩
  | .hbm, ⟨63, _⟩ => ⟨S_, .i32⟩
  | .hbm, ⟨64, _⟩ => ⟨S256x256, .f32⟩
  | .hbm, ⟨65, _⟩ => ⟨S1x64x64, .f32⟩
  | .hbm, ⟨66, _⟩ => ⟨S64x64, .f32⟩
  | .hbm, ⟨67, _⟩ => ⟨S_, .i32⟩
  | .hbm, ⟨68, _⟩ => ⟨S_, .i32⟩
  | .hbm, ⟨69, _⟩ => ⟨S256x256, .f32⟩
  | .hbm, ⟨70, _⟩ => ⟨S1x64x64, .f32⟩
  | .hbm, ⟨71, _⟩ => ⟨S64x64, .f32⟩
  | .hbm, ⟨72, _⟩ => ⟨S_, .i32⟩
  | .hbm, ⟨73, _⟩ => ⟨S_, .i32⟩
  | .hbm, ⟨74, _⟩ => ⟨S256x256, .f32⟩
  | .hbm, ⟨75, _⟩ => ⟨S1x64x64, .f32⟩
  | .hbm, ⟨76, _⟩ => ⟨S64x64, .f32⟩
  | .hbm, ⟨77, _⟩ => ⟨S_, .i32⟩
  | .hbm, ⟨78, _⟩ => ⟨S_, .i32⟩
  | .hbm, ⟨79, _⟩ => ⟨S256x256, .f32⟩
  | .hbm, ⟨80, _⟩ => ⟨S1024x512, .bf16⟩
  | .local _ .vmem, ⟨0, _⟩ => ⟨S1024x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S1024x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v19 : Ref sig .tc := ⟨.hbm, 50, rfl⟩
abbrev main_v20 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_c_3 : Ref sig .tc := ⟨.hbm, 62, rfl⟩
abbrev main_c_4 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_c_6 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_7 : Ref sig .tc := ⟨.hbm, 72, rfl⟩
abbrev main_c_8 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_9 : Ref sig .tc := ⟨.hbm, 77, rfl⟩
abbrev main_c_10 : Ref sig .tc := ⟨.hbm, 78, rfl⟩
abbrev main_v34 : Ref sig .tc := ⟨.hbm, 79, rfl⟩
abbrev main_v35 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference5Ideal.lean ====
abbrev S1024x256 : Shape := ⟨2, ![1024, 256]⟩
abbrev S4x64x64 : Shape := ⟨3, ![4, 64, 64]⟩
abbrev S1024x4x64 : Shape := ⟨3, ![1024, 4, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x64x1024 : Shape := ⟨3, ![4, 64, 1024]⟩
abbrev S1024x512 : Shape := ⟨2, ![1024, 512]⟩

abbrev nBuf : Space → Nat
  | .hbm => 34
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x64x64, .f32⟩
  | .hbm, ⟨2, _⟩ => ⟨S1024x4x64, .f32⟩
  | .hbm, ⟨3, _⟩ => ⟨S64, .i32⟩
  | .hbm, ⟨4, _⟩ => ⟨S64x1, .i32⟩
  | .hbm, ⟨5, _⟩ => ⟨S1x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S64x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S1024x4x64, .f32⟩
  | .hbm, ⟨18, _⟩ => ⟨S_, .f32⟩
  | .hbm, ⟨19, _⟩ => ⟨S1024x4x64, .f32⟩
  | .hbm, ⟨20, _⟩ => ⟨S1024x4x64, .f32⟩
  | .hbm, ⟨21, _⟩ => ⟨S64x64, .f32⟩
  | .hbm, ⟨22, _⟩ => ⟨S1024x4x64, .f32⟩
  | .hbm, ⟨23, _⟩ => ⟨S_, .f32⟩
  | .hbm, ⟨24, _⟩ => ⟨S1024x4x64, .f32⟩
  | .hbm, ⟨25, _⟩ => ⟨S1024x4x64, .f32⟩
  | .hbm, ⟨26, _⟩ => ⟨S4x64x1024, .f32⟩
  | .hbm, ⟨27, _⟩ => ⟨S1024x4x64, .f32⟩
  | .hbm, ⟨28, _⟩ => ⟨S1024x256, .f32⟩
  | .hbm, ⟨29, _⟩ => ⟨S4x64x1024, .f32⟩
  | .hbm, ⟨30, _⟩ => ⟨S1024x4x64, .f32⟩
  | .hbm, ⟨31, _⟩ => ⟨S1024x256, .f32⟩
  | .hbm, ⟨32, _⟩ => ⟨S1024x512, .f32⟩
  | .hbm, ⟨33, _⟩ => ⟨S1024x512, .bf16⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel6.lean ====
abbrev S8x8192x12x64 : Shape := ⟨4, ![8, 8192, 12, 64]⟩
abbrev S8x8192x6x128 : Shape := ⟨4, ![8, 8192, 6, 128]⟩
abbrev S8x6x8192x128 : Shape := ⟨4, ![8, 6, 8192, 128]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S1x1x8192x128 : Shape := ⟨4, ![1, 1, 8192, 128]⟩
abbrev S1x128 : Shape := ⟨2, ![1, 128]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩

abbrev nBuf : Space → Nat
  | .hbm => 71
  | .vmem => 11
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8x8192x6x128, .f32⟩
  | .hbm, ⟨4, _⟩ => ⟨S8x6x8192x128, .f32⟩
  | .hbm, ⟨5, _⟩ => ⟨S_, .f32⟩
  | .hbm, ⟨6, _⟩ => ⟨S8x6x8192x128, .f32⟩
  | .hbm, ⟨7, _⟩ => ⟨S8x6x8192x128, .f32⟩
  | .hbm, ⟨8, _⟩ => ⟨S8x6x8192x128, .bf16⟩
  | .hbm, ⟨9, _⟩ => ⟨S8x8192x6x128, .f32⟩
  | .hbm, ⟨10, _⟩ => ⟨S8x6x8192x128, .f32⟩
  | .hbm, ⟨11, _⟩ => ⟨S8x6x8192x128, .bf16⟩
  | .hbm, ⟨12, _⟩ => ⟨S8x8192x6x128, .f32⟩
  | .hbm, ⟨13, _⟩ => ⟨S8x6x8192x128, .f32⟩
  | .hbm, ⟨14, _⟩ => ⟨S8x6x8192x128, .bf16⟩
  | .hbm, ⟨15, _⟩ => ⟨S128, .i32⟩
  | .hbm, ⟨16, _⟩ => ⟨S128x1, .i32⟩
  | .hbm, ⟨17, _⟩ => ⟨S256, .i32⟩
  | .hbm, ⟨18, _⟩ => ⟨S1x256, .i32⟩
  | .hbm, ⟨19, _⟩ => ⟨S_, .i32⟩
  | .hbm, ⟨20, _⟩ => ⟨S1x256, .i32⟩
  | .hbm, ⟨21, _⟩ => ⟨S1x256, .i32⟩
  | .hbm, ⟨22, _⟩ => ⟨S128x256, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S_, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .f32⟩
  | .hbm, ⟨45, _⟩ => ⟨S_, .f32⟩
  | .hbm, ⟨46, _⟩ => ⟨S128x256, .f32⟩
  | .hbm, ⟨47, _⟩ => ⟨S128x256, .f32⟩
  | .hbm, ⟨48, _⟩ => ⟨S128x256, .f32⟩
  | .hbm, ⟨49, _⟩ => ⟨S_, .i32⟩
  | .hbm, ⟨50, _⟩ => ⟨S1x256, .i32⟩
  | .hbm, ⟨51, _⟩ => ⟨S1x256, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S_, .f32⟩
  | .hbm, ⟨60, _⟩ => ⟨S_, .f32⟩
  | .hbm, ⟨61, _⟩ => ⟨S128x256, .f32⟩
  | .hbm, ⟨62, _⟩ => ⟨S128x256, .f32⟩
  | .hbm, ⟨63, _⟩ => ⟨S128x256, .f32⟩
  | .hbm, ⟨64, _⟩ => ⟨S1x128x256, .f32⟩
  | .hbm, ⟨65, _⟩ => ⟨S1x128x256, .f32⟩
  | .hbm, ⟨66, _⟩ => ⟨S1x128x256, .f32⟩
  | .hbm, ⟨67, _⟩ => ⟨S3x128x256, .f32⟩
  | .hbm, ⟨68, _⟩ => ⟨S3x128x256, .f32⟩
  | .hbm, ⟨69, _⟩ => ⟨S8x6x8192x128, .f32⟩
  | .hbm, ⟨70, _⟩ => ⟨S8x6x8192x128, .f32⟩
  | .local _ .vmem, ⟨0, _⟩ => ⟨S1x1x8192x128, .bf16⟩
  | .local _ .vmem, ⟨1, _⟩ => ⟨S1x1x8192x128, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S3x128x256, .f32⟩
  | .local _ .vmem, ⟨7, _⟩ => ⟨S1x1x8192x128, .f32⟩
  | .local _ .vmem, ⟨8, _⟩ => ⟨S1x1x8192x128, .f32⟩
  | .local _ .vmem, ⟨9, _⟩ => ⟨S1x1x8192x128, .f32⟩
  | .local _ .vmem, ⟨10, _⟩ => ⟨S1x1x8192x128, .f32⟩
  | _, _ => ⟨S8x8192x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_cst_10 : Ref sig .tc := ⟨.hbm, 60, rfl⟩
abbrev main_call2_v0 : Ref sig .tc := ⟨.hbm, 61, rfl⟩
abbrev main_call2_v1 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47_0 : Ref sig .tc := ⟨.hbm, 69, rfl⟩
abbrev main_v47_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

@[reducible] def k0_t1_loop : Scf.Loop 32 :=
  let c0_i32 : BitVec 32 := 0#32
  let c64_i32_0 : BitVec 32 := 64#32
  let v3 : BitVec 32 := Scalar.addi c0_i32 c64_i32_0
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v4 : BitVec 32 := Scalar.muli arg8 c128_i32
  v4
def k0_mult2 (k0_t1 : Fin k0_t1_loop.trips) : BitVec 32 :=
  let c7936_i32 : BitVec 32 := 7936#32
  let c0_i32_3 : BitVec 32 := 0#32
  let c0_i32 : BitVec 32 := 0#32
  let c1_i32 : BitVec 32 := 1#32
  let arg8 : BitVec 32 := Scf.iv c0_i32 c1_i32 k0_t1
  let c128_i32 : BitVec 32 := 128#32
  let v4 : BitVec 32 := Scalar.muli arg8 c128_i32
  let v5 : BitVec 32 := v4
  let c64_i32_2 : BitVec 32 := 64#32
  let v6 : BitVec 32 := Scalar.subi v5 c64_i32_2
  let v7 : BitVec 32 := Scalar.maxsi c0_i32_3 v6
  let v8 : BitVec 32 := Scalar.minsi c7936_i32 v7
  v8
def k0_off1 (k0_t1 : Fin k0_t1_loop.trips) : Fin 4 → Nat :=
  let c0 : Index := 0#32
  let c0_7 : Index := 0#32
  let c0_i32 : BitVec 32 := 0#32
  let c1_i32 : BitVec 32 := 1#32
  let arg8 : BitVec 32 := Scf.iv c0_i32 c1_i32 k0_t1
  let c128_i32 : BitVec 32 := 128#32
  let v4 : BitVec 32 := Scalar.muli arg8 c128_i32
  let v5 : BitVec 32 := v4
  let v14 : Index := Scalar.indexCast v5
  let c0_8 : Index := 0#32
  ![0, 0, v14.toNat, 0]
def k0_off2 (k0_t1 : Fin k0_t1_loop.trips) : Fin 4 → Nat :=
  let c0_9 : Index := 0#32
  let c0_10 : Index := 0#32
  let c7936_i32 : BitVec 32 := 7936#32
  let c0_i32_3 : BitVec 32 := 0#32
  let c0_i32 : BitVec 32 := 0#32
  let c1_i32 : BitVec 32 := 1#32
  let arg8 : BitVec 32 := Scf.iv c0_i32 c1_i32 k0_t1
  let c128_i32 : BitVec 32 := 128#32
  let v4 : BitVec 32 := Scalar.muli arg8 c128_i32
  let v5 : BitVec 32 := v4
  let c64_i32_2 : BitVec 32 := 64#32
  let v6 : BitVec 32 := Scalar.subi v5 c64_i32_2
  let v7 : BitVec 32 := Scalar.maxsi c0_i32_3 v6
  let v8 : BitVec 32 := Scalar.minsi c7936_i32 v7
  let v9 : BitVec 32 := v8
  let v17 : Index := Scalar.indexCast v9
  let c0_11 : Index := 0#32
  ![0, 0, v17.toNat, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_4 : BitVec 32 := 0#32
  let v10 : BitVec 1 := Scalar.cmpi .eq arg8 c0_i32_4
  let c0_i32_6 : BitVec 32 := 0#32
  let c63_i32 : BitVec 32 := 63#32
  let v11 : BitVec 1 := Scalar.cmpi .eq arg8 c63_i32
  let c2_i32 : BitVec 32 := 2#32
  let c1_i32_5 : BitVec 32 := 1#32
  let v12 : BitVec 32 := Scalar.select v11 c2_i32 c1_i32_5
  let v13 : BitVec 32 := Scalar.select v10 c0_i32_6 v12
  let v23 : Index := Scalar.indexCast v13
  let c0_15 : Index := 0#32
  let c0_16 : Index := 0#32
  ![v23.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8x8192x12x64 : Shape := ⟨4, ![8, 8192, 12, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8x12x8192x8192 : Shape := ⟨4, ![8, 12, 8192, 8192]⟩
abbrev S1x1x8192x8192 : Shape := ⟨4, ![1, 1, 8192, 8192]⟩
abbrev S8x12x8192 : Shape := ⟨3, ![8, 12, 8192]⟩
abbrev S8x12x8192x1 : Shape := ⟨4, ![8, 12, 8192, 1]⟩
abbrev S8x12x64x8192 : Shape := ⟨4, ![8, 12, 64, 8192]⟩
abbrev S8x8192x12 : Shape := ⟨3, ![8, 8192, 12]⟩
abbrev S8x8192x12x1 : Shape := ⟨4, ![8, 8192, 12, 1]⟩
abbrev S8x8192x6x128 : Shape := ⟨4, ![8, 8192, 6, 128]⟩
abbrev S8x6x8192x128 : Shape := ⟨4, ![8, 6, 8192, 128]⟩

abbrev nBuf : Space → Nat
  | .hbm => 46
  | .vmem => 0
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8192, .i32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i1⟩
  | .hbm, ⟨13, _⟩ => ⟨S8x12x8192x8192, .f32⟩
  | .hbm, ⟨14, _⟩ => ⟨S_, .f32⟩
  | .hbm, ⟨15, _⟩ => ⟨S8x12x8192x8192, .f32⟩
  | .hbm, ⟨16, _⟩ => ⟨S8x12x8192x8192, .f32⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S8x12x8192x8192, .i1⟩
  | .hbm, ⟨21, _⟩ => ⟨S8x12x8192x8192, .f32⟩
  | .hbm, ⟨22, _⟩ => ⟨S8x12x8192x8192, .f32⟩
  | .hbm, ⟨23, _⟩ => ⟨S_, .f32⟩
  | .hbm, ⟨24, _⟩ => ⟨S8x12x8192, .f32⟩
  | .hbm, ⟨25, _⟩ => ⟨S8x12x8192x1, .f32⟩
  | .hbm, ⟨26, _⟩ => ⟨S8x12x8192x8192, .f32⟩
  | .hbm, ⟨27, _⟩ => ⟨S8x12x8192x8192, .f32⟩
  | .hbm, ⟨28, _⟩ => ⟨S8x12x8192x8192, .f32⟩
  | .hbm, ⟨29, _⟩ => ⟨S_, .f32⟩
  | .hbm, ⟨30, _⟩ => ⟨S8x12x8192, .f32⟩
  | .hbm, ⟨31, _⟩ => ⟨S8x12x8192, .f32⟩
  | .hbm, ⟨32, _⟩ => ⟨S8x12x8192, .f32⟩
  | .hbm, ⟨33, _⟩ => ⟨S8x12x8192x1, .f32⟩
  | .hbm, ⟨34, _⟩ => ⟨S8x12x8192x8192, .f32⟩
  | .hbm, ⟨35, _⟩ => ⟨S8x12x8192x8192, .f32⟩
  | .hbm, ⟨36, _⟩ => ⟨S8x12x8192x8192, .f32⟩
  | .hbm, ⟨37, _⟩ => ⟨S8x12x64x8192, .f32⟩
  | .hbm, ⟨38, _⟩ => ⟨S8x8192x12x64, .f32⟩
  | .hbm, ⟨39, _⟩ => ⟨S8x8192x12, .f32⟩
  | .hbm, ⟨40, _⟩ => ⟨S8x8192x12x1, .f32⟩
  | .hbm, ⟨41, _⟩ => ⟨S8x8192x12x64, .f32⟩
  | .hbm, ⟨42, _⟩ => ⟨S8x8192x6x128, .f32⟩
  | .hbm, ⟨43, _⟩ => ⟨S8x6x8192x128, .f32⟩
  | .hbm, ⟨44, _⟩ => ⟨S8x8192x6x128, .f32⟩
  | .hbm, ⟨45, _⟩ => ⟨S8x6x8192x128, .f32⟩
  | _, _ => ⟨S8x8192x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel7.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S1024x512 : Shape := ⟨2, ![1024, 512]⟩
abbrev S1024x2560 : Shape := ⟨2, ![1024, 2560]⟩
abbrev S1024x2304 : Shape := ⟨2, ![1024, 2304]⟩
abbrev S65536x1024 : Shape := ⟨2, ![65536, 1024]⟩
abbrev S1x1024 : Shape := ⟨2, ![1, 1024]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8x6x8192x128 : Shape := ⟨4, ![8, 6, 8192, 128]⟩
abbrev S2x8192x2048 : Shape := ⟨3, ![2, 8192, 2048]⟩
abbrev S512x1024 : Shape := ⟨2, ![512, 1024]⟩
abbrev S512x128 : Shape := ⟨2, ![512, 128]⟩
abbrev S1x6x512x128 : Shape := ⟨4, ![1, 6, 512, 128]⟩
abbrev S2x512x256 : Shape := ⟨3, ![2, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S512x512 : Shape := ⟨2, ![512, 512]⟩
abbrev S1x512x256 : Shape := ⟨3, ![1, 512, 256]⟩
abbrev S1x1x512x128 : Shape := ⟨4, ![1, 1, 512, 128]⟩

abbrev nBuf : Space → Nat
  | .hbm => 59
  | .vmem => 24
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x512, .f32⟩
  | .hbm, ⟨7, _⟩ => ⟨S1024x2560, .f32⟩
  | .hbm, ⟨8, _⟩ => ⟨S1024x512, .bf16⟩
  | .hbm, ⟨9, _⟩ => ⟨S1024x2304, .f32⟩
  | .hbm, ⟨10, _⟩ => ⟨S1024x2304, .bf16⟩
  | .hbm, ⟨11, _⟩ => ⟨S1024x2816, .bf16⟩
  | .hbm, ⟨12, _⟩ => ⟨S65536x1024, .f32⟩
  | .hbm, ⟨13, _⟩ => ⟨S1x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .hbm, ⟨17, _⟩ => ⟨S1x1024, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8192, .f32⟩
  | .hbm, ⟨33, _⟩ => ⟨S8192x1, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S1x8192x1x32, .f32⟩
  | .hbm, ⟨43, _⟩ => ⟨S1x8192x4x32, .f32⟩
  | .hbm, ⟨44, _⟩ => ⟨S8192x128, .f32⟩
  | .hbm, ⟨45, _⟩ => ⟨S8192x32, .f32⟩
  | .hbm, ⟨46, _⟩ => ⟨S8192x64, .f32⟩
  | .hbm, ⟨47, _⟩ => ⟨S1x8192x1x64, .f32⟩
  | .hbm, ⟨48, _⟩ => ⟨S1x8192x2x64, .f32⟩
  | .hbm, ⟨49, _⟩ => ⟨S8192x128, .f32⟩
  | .hbm, ⟨50, _⟩ => ⟨S8192x64, .f32⟩
  | .hbm, ⟨51, _⟩ => ⟨S1x8192x1x64, .f32⟩
  | .hbm, ⟨52, _⟩ => ⟨S1x8192x2x64, .f32⟩
  | .hbm, ⟨53, _⟩ => ⟨S8192x128, .f32⟩
  | .hbm, ⟨54, _⟩ => ⟨S65536x1024, .f32⟩
  | .hbm, ⟨55, _⟩ => ⟨S8x6x8192x128, .bf16⟩
  | .hbm, ⟨56, _⟩ => ⟨S8x6x8192x128, .bf16⟩
  | .hbm, ⟨57, _⟩ => ⟨S8x6x8192x128, .bf16⟩
  | .hbm, ⟨58, _⟩ => ⟨S2x8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x2816, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S1x6x512x128, .bf16⟩
  | .local _ .vmem, ⟨17, _⟩ => ⟨S1x6x512x128, .bf16⟩
  | .local _ .vmem, ⟨18, _⟩ => ⟨S1x6x512x128, .bf16⟩
  | .local _ .vmem, ⟨19, _⟩ => ⟨S1x6x512x128, .bf16⟩
  | .local _ .vmem, ⟨20, _⟩ => ⟨S1x6x512x128, .bf16⟩
  | .local _ .vmem, ⟨21, _⟩ => ⟨S1x6x512x128, .bf16⟩
  | .local _ .vmem, ⟨22, _⟩ => ⟨S2x512x256, .bf16⟩
  | .local _ .vmem, ⟨23, _⟩ => ⟨S2x512x256, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![c0_i32_10.toNat, v9.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x6x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x6x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x6x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference7Ideal.lean ====
abbrev S8x8192x1024 : Shape := ⟨3, ![8, 8192, 1024]⟩
abbrev S1024 : Shape := ⟨1, ![1024]⟩
abbrev S1024x2816 : Shape := ⟨2, ![1024, 2816]⟩
abbrev S2816x1024 : Shape := ⟨2, ![2816, 1024]⟩
abbrev S1024x512 : Shape := ⟨2, ![1024, 512]⟩
abbrev S1024x2560 : Shape := ⟨2, ![1024, 2560]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S8x8192x2560 : Shape := ⟨3, ![8, 8192, 2560]⟩
abbrev S8x8192x768 : Shape := ⟨3, ![8, 8192, 768]⟩
abbrev S8x8192x12x64 : Shape := ⟨4, ![8, 8192, 12, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x1x64 : Shape := ⟨3, ![8192, 1, 64]⟩
abbrev S8x8192x12x32 : Shape := ⟨4, ![8, 8192, 12, 32]⟩
abbrev S1x8192x1x64 : Shape := ⟨4, ![1, 8192, 1, 64]⟩
abbrev S8x8192x512 : Shape := ⟨3, ![8, 8192, 512]⟩
abbrev S8x8192x2x256 : Shape := ⟨4, ![8, 8192, 2, 256]⟩
abbrev S2x8192x8x256 : Shape := ⟨4, ![2, 8192, 8, 256]⟩
abbrev S2x8192x2048 : Shape := ⟨3, ![2, 8192, 2048]⟩
abbrev S65536x1024 : Shape := ⟨2, ![65536, 1024]⟩
abbrev S8x8192x6x128 : Shape := ⟨4, ![8, 8192, 6, 128]⟩
abbrev S8x6x8192x128 : Shape := ⟨4, ![8, 6, 8192, 128]⟩

abbrev nBuf : Space → Nat
  | .hbm => 151
  | .vmem => 0
  | .smem => 0
  | _ => 0

abbrev hbmTy0_0 (i : Nat) : BufTy := match i % 128 with
  | 0 => ⟨S8x8192x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S1024x512, .f32⟩
  | 7 => ⟨S1024x2560, .f32⟩
  | 8 => ⟨S8x8192x1024, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S_, .f32⟩
  | 16 => ⟨S8x8192x1, .f32⟩
  | 17 => ⟨S8x8192x1, .f32⟩
  | 18 => ⟨S8x8192x1, .f32⟩
  | 19 => ⟨S8x8192x1024, .f32⟩
  | 20 => ⟨S8x8192x1024, .f32⟩
  | 21 => ⟨S1x1x1024, .f32⟩
  | 22 => ⟨S8x8192x1024, .f32⟩
  | 23 => ⟨S8x8192x1024, .f32⟩
  | 24 => ⟨S8x8192x2816, .f32⟩
  | 25 => ⟨S8x8192x2816, .f32⟩
  | 26 => ⟨S8x8192x2816, .f32⟩
  | 27 => ⟨S_, .f32⟩
  | 28 => ⟨S8x8192x2816, .f32⟩
  | 29 => ⟨S8x8192x2816, .f32⟩
  | 30 => ⟨S_, .f32⟩
  | 31 => ⟨S8x8192x2816, .f32⟩
  | 32 => ⟨S8x8192x2816, .f32⟩
  | 33 => ⟨S8x8192x2816, .f32⟩
  | 34 => ⟨S8x8192x2816, .f32⟩
  | 35 => ⟨S8x8192x2816, .f32⟩
  | 36 => ⟨S8x8192x1024, .f32⟩
  | 37 => ⟨S_, .f32⟩
  | 38 => ⟨S8x8192x1024, .f32⟩
  | 39 => ⟨S8x8192x1024, .f32⟩
  | 40 => ⟨S8x8192x1024, .f32⟩
  | 41 => ⟨S8x8192x1024, .f32⟩
  | 42 => ⟨S_, .f32⟩
  | 43 => ⟨S8x8192, .f32⟩
  | 44 => ⟨S8x8192x1, .f32⟩
  | 45 => ⟨S_, .f32⟩
  | 46 => ⟨S8x8192x1, .f32⟩
  | 47 => ⟨S8x8192x1, .f32⟩
  | 48 => ⟨S_, .f32⟩
  | 49 => ⟨S8x8192x1, .f32⟩
  | 50 => ⟨S8x8192x1, .f32⟩
  | 51 => ⟨S8x8192x1, .f32⟩
  | 52 => ⟨S8x8192x1024, .f32⟩
  | 53 => ⟨S8x8192x1024, .f32⟩
  | 54 => ⟨S1x1x1024, .f32⟩
  | 55 => ⟨S8x8192x1024, .f32⟩
  | 56 => ⟨S8x8192x1024, .f32⟩
  | 57 => ⟨S8x8192x2560, .f32⟩
  | 58 => ⟨S8x8192x768, .f32⟩
  | 59 => ⟨S8x8192x12x64, .f32⟩
  | 60 => ⟨S8x8192x768, .f32⟩
  | 61 => ⟨S8x8192x12x64, .f32⟩
  | 62 => ⟨S8x8192x768, .f32⟩
  | 63 => ⟨S32, .f32⟩
  | 64 => ⟨S_, .f32⟩
  | 65 => ⟨S32, .f32⟩
  | 66 => ⟨S32, .f32⟩
  | 67 => ⟨S_, .f32⟩
  | 68 => ⟨S32, .f32⟩
  | 69 => ⟨S32, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S8192, .f32⟩
  | 78 => ⟨S8192x1, .f32⟩
  | 79 => ⟨S1x32, .f32⟩
  | 80 => ⟨S8192x32, .f32⟩
  | 81 => ⟨S8192x32, .f32⟩
  | 82 => ⟨S8192x32, .f32⟩
  | 83 => ⟨S8192x64, .f32⟩
  | 84 => ⟨S8192x1x64, .f32⟩
  | 85 => ⟨S8192x1x64, .f32⟩
  | 86 => ⟨S8192x1x64, .f32⟩
  | 87 => ⟨S8x8192x12x32, .f32⟩
  | 88 => ⟨S8x8192x12x32, .f32⟩
  | 89 => ⟨S8x8192x12x32, .f32⟩
  | 90 => ⟨S8x8192x12x64, .f32⟩
  | 91 => ⟨S1x8192x1x64, .f32⟩
  | 92 => ⟨S8x8192x12x64, .f32⟩
  | 93 => ⟨S8x8192x12x64, .f32⟩
  | 94 => ⟨S1x8192x1x64, .f32⟩
  | 95 => ⟨S8x8192x12x64, .f32⟩
  | 96 => ⟨S8x8192x12x64, .f32⟩
  | 97 => ⟨S8x8192x12x64, .f32⟩
  | 98 => ⟨S_, .f32⟩
  | 99 => ⟨S8x8192x12x64, .f32⟩
  | 100 => ⟨S8x8192x12x64, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S8192, .f32⟩
  | 116 => ⟨S8192x1, .f32⟩
  | 117 => ⟨S1x32, .f32⟩
  | 118 => ⟨S8192x32, .f32⟩
  | 119 => ⟨S8192x32, .f32⟩
  | 120 => ⟨S8192x32, .f32⟩
  | 121 => ⟨S8192x64, .f32⟩
  | 122 => ⟨S8192x1x64, .f32⟩
  | 123 => ⟨S8192x1x64, .f32⟩
  | 124 => ⟨S8192x1x64, .f32⟩
  | 125 => ⟨S8x8192x12x32, .f32⟩
  | 126 => ⟨S8x8192x12x32, .f32⟩
  | 127 => ⟨S8x8192x12x32, .f32⟩
  | _ => ⟨S8x8192x1024, .f32⟩

abbrev hbmTy0_1 (i : Nat) : BufTy := match i % 128 with
  | 0 => ⟨S8x8192x12x64, .f32⟩
  | 1 => ⟨S1x8192x1x64, .f32⟩
  | 2 => ⟨S8x8192x12x64, .f32⟩
  | 3 => ⟨S8x8192x12x64, .f32⟩
  | 4 => ⟨S1x8192x1x64, .f32⟩
  | 5 => ⟨S8x8192x12x64, .f32⟩
  | 6 => ⟨S8x8192x12x64, .f32⟩
  | 7 => ⟨S8x8192x12x64, .f32⟩
  | 8 => ⟨S8x8192x512, .f32⟩
  | 9 => ⟨S8x8192x2x256, .f32⟩
  | 10 => ⟨S2x8192x8x256, .f32⟩
  | 11 => ⟨S2x8192x2048, .f32⟩
  | 12 => ⟨S65536x1024, .f32⟩
  | 13 => ⟨S8x8192x6x128, .f32⟩
  | 14 => ⟨S8x6x8192x128, .f32⟩
  | 15 => ⟨S8x6x8192x128, .bf16⟩
  | 16 => ⟨S8x8192x6x128, .f32⟩
  | 17 => ⟨S8x6x8192x128, .f32⟩
  | 18 => ⟨S8x6x8192x128, .bf16⟩
  | 19 => ⟨S8x8192x6x128, .f32⟩
  | 20 => ⟨S8x6x8192x128, .f32⟩
  | 21 => ⟨S8x6x8192x128, .bf16⟩
  | 22 => ⟨S2x8192x2048, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_10 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Kernel8.lean ====
abbrev S8x8192x12x64 : Shape := ⟨4, ![8, 8192, 12, 64]⟩
abbrev S8x8192x6x128 : Shape := ⟨4, ![8, 8192, 6, 128]⟩
abbrev S8x6x8192x128 : Shape := ⟨4, ![8, 6, 8192, 128]⟩
abbrev S_ : Shape := ⟨0, ![]⟩
abbrev S8x6x2048x512 : Shape := ⟨4, ![8, 6, 2048, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S1x1x2048x512 : Shape := ⟨4, ![1, 1, 2048, 512]⟩
abbrev S1x128 : Shape := ⟨2, ![1, 128]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩

abbrev nBuf : Space → Nat
  | .hbm => 74
  | .vmem => 11
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8x8192x6x128, .f32⟩
  | .hbm, ⟨4, _⟩ => ⟨S8x6x8192x128, .f32⟩
  | .hbm, ⟨5, _⟩ => ⟨S_, .f32⟩
  | .hbm, ⟨6, _⟩ => ⟨S8x6x8192x128, .f32⟩
  | .hbm, ⟨7, _⟩ => ⟨S8x6x8192x128, .f32⟩
  | .hbm, ⟨8, _⟩ => ⟨S8x6x8192x128, .bf16⟩
  | .hbm, ⟨9, _⟩ => ⟨S8x8192x6x128, .f32⟩
  | .hbm, ⟨10, _⟩ => ⟨S8x6x8192x128, .f32⟩
  | .hbm, ⟨11, _⟩ => ⟨S8x6x8192x128, .bf16⟩
  | .hbm, ⟨12, _⟩ => ⟨S8x8192x6x128, .f32⟩
  | .hbm, ⟨13, _⟩ => ⟨S8x6x8192x128, .f32⟩
  | .hbm, ⟨14, _⟩ => ⟨S8x6x8192x128, .bf16⟩
  | .hbm, ⟨15, _⟩ => ⟨S8x6x2048x512, .bf16⟩
  | .hbm, ⟨16, _⟩ => ⟨S8x6x2048x512, .bf16⟩
  | .hbm, ⟨17, _⟩ => ⟨S8x6x2048x512, .bf16⟩
  | .hbm, ⟨18, _⟩ => ⟨S128, .i32⟩
  | .hbm, ⟨19, _⟩ => ⟨S128x1, .i32⟩
  | .hbm, ⟨20, _⟩ => ⟨S256, .i32⟩
  | .hbm, ⟨21, _⟩ => ⟨S1x256, .i32⟩
  | .hbm, ⟨22, _⟩ => ⟨S_, .i32⟩
  | .hbm, ⟨23, _⟩ => ⟨S1x256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .i32⟩
  | .hbm, ⟨38, _⟩ => ⟨S1x256, .i32⟩
  | .hbm, ⟨39, _⟩ => ⟨S1x256, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .f32⟩
  | .hbm, ⟨48, _⟩ => ⟨S_, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S_, .i32⟩
  | .hbm, ⟨53, _⟩ => ⟨S1x256, .i32⟩
  | .hbm, ⟨54, _⟩ => ⟨S1x256, .i32⟩
  | .hbm, ⟨55, _⟩ => ⟨S128x256, .i32⟩
  | .hbm, ⟨56, _⟩ => ⟨S128x256, .i32⟩
  | .hbm, ⟨57, _⟩ => ⟨S128x256, .i32⟩
  | .hbm, ⟨58, _⟩ => ⟨S128x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .f32⟩
  | .hbm, ⟨63, _⟩ => ⟨S_, .f32⟩
  | .hbm, ⟨64, _⟩ => ⟨S128x256, .f32⟩
  | .hbm, ⟨65, _⟩ => ⟨S128x256, .f32⟩
  | .hbm, ⟨66, _⟩ => ⟨S128x256, .f32⟩
  | .hbm, ⟨67, _⟩ => ⟨S1x128x256, .f32⟩
  | .hbm, ⟨68, _⟩ => ⟨S1x128x256, .f32⟩
  | .hbm, ⟨69, _⟩ => ⟨S1x128x256, .f32⟩
  | .hbm, ⟨70, _⟩ => ⟨S3x128x256, .f32⟩
  | .hbm, ⟨71, _⟩ => ⟨S3x128x256, .f32⟩
  | .hbm, ⟨72, _⟩ => ⟨S8x6x2048x512, .f32⟩
  | .hbm, ⟨73, _⟩ => ⟨S8x6x2048x512, .f32⟩
  | .local _ .vmem, ⟨0, _⟩ => ⟨S1x1x2048x512, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S3x128x256, .f32⟩
  | .local _ .vmem, ⟨7, _⟩ => ⟨S1x1x2048x512, .f32⟩
  | .local _ .vmem, ⟨8, _⟩ => ⟨S1x1x2048x512, .f32⟩
  | .local _ .vmem, ⟨9, _⟩ => ⟨S1x1x2048x512, .f32⟩
  | .local _ .vmem, ⟨10, _⟩ => ⟨S1x1x2048x512, .f32⟩
  | _, _ => ⟨S8x8192x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v7 : BitVec 32 := Scalar.muli arg8 c128_i32
  v7
def k0_mult2 (k0_t1 : Fin k0_t1_loop.trips) : BitVec 32 :=
  let c1792_i32 : BitVec 32 := 1792#32
  let c0_i32_14 : BitVec 32 := 0#32
  let c0_i32 : BitVec 32 := 0#32
  let c1_i32 : BitVec 32 := 1#32
  let arg8 : BitVec 32 := Scf.iv c0_i32 c1_i32 k0_t1
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  v11
def k0_off1 (k0_t1 : Fin k0_t1_loop.trips) : Fin 4 → Nat :=
  let c0 : Index := 0#32
  let c0_18 : Index := 0#32
  let c0_i32 : BitVec 32 := 0#32
  let c1_i32 : BitVec 32 := 1#32
  let arg8 : BitVec 32 := Scf.iv c0_i32 c1_i32 k0_t1
  let c128_i32 : BitVec 32 := 128#32
  let v7 : BitVec 32 := Scalar.muli arg8 c128_i32
  let v8 : BitVec 32 := v7
  let v17 : Index := Scalar.indexCast v8
  let c0_19 : Index := 0#32
  ![0, 0, v17.toNat, 0]
def k0_off2 (k0_t1 : Fin k0_t1_loop.trips) : Fin 4 → Nat :=
  let c0_20 : Index := 0#32
  let c0_21 : Index := 0#32
  let c1792_i32 : BitVec 32 := 1792#32
  let c0_i32_14 : BitVec 32 := 0#32
  let c0_i32 : BitVec 32 := 0#32
  let c1_i32 : BitVec 32 := 1#32
  let arg8 : BitVec 32 := Scf.iv c0_i32 c1_i32 k0_t1
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  let v12 : BitVec 32 := v11
  let v20 : Index := Scalar.indexCast v12
  let c0_22 : Index := 0#32
  ![0, 0, v20.toNat, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_15 : BitVec 32 := 0#32
  let v13 : BitVec 1 := Scalar.cmpi .eq arg8 c0_i32_15
  let c0_i32_17 : BitVec 32 := 0#32
  let c15_i32 : BitVec 32 := 15#32
  let v14 : BitVec 1 := Scalar.cmpi .eq arg8 c15_i32
  let c2_i32 : BitVec 32 := 2#32
  let c1_i32_16 : BitVec 32 := 1#32
  let v15 : BitVec 32 := Scalar.select v14 c2_i32 c1_i32_16
  let v16 : BitVec 32 := Scalar.select v13 c0_i32_17 v15
  let v26 : Index := Scalar.indexCast v16
  let c0_26 : Index := 0#32
  let c0_27 : Index := 0#32
  ![v26.toNat, 0, 0]
@[reducible] def k0_t2_loop : Scf.Loop 32 :=
  let c0_i32_1 : BitVec 32 := 0#32
  let c16_i32_2 : BitVec 32 := 16#32
  let v4 : BitVec 32 := Scalar.addi c0_i32_1 c16_i32_2
  let c1_i32_3 : BitVec 32 := 1#32
  ⟨c0_i32_1, v4, c1_i32_3⟩
def k0_mult3 (k0_t2 : Fin k0_t2_loop.trips) : BitVec 32 :=
  let c0_i32_1 : BitVec 32 := 0#32
  let c1_i32_3 : BitVec 32 := 1#32
  let arg8 : BitVec 32 := Scf.iv c0_i32_1 c1_i32_3 k0_t2
  let c128_i32 : BitVec 32 := 128#32
  let v7 : BitVec 32 := Scalar.muli arg8 c128_i32
  v7
def k0_mult4 (k0_t2 : Fin k0_t2_loop.trips) : BitVec 32 :=
  let c1792_i32 : BitVec 32 := 1792#32
  let c0_i32_14 : BitVec 32 := 0#32
  let c0_i32_1 : BitVec 32 := 0#32
  let c1_i32_3 : BitVec 32 := 1#32
  let arg8 : BitVec 32 := Scf.iv c0_i32_1 c1_i32_3 k0_t2
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  v11
def k0_off4 (k0_t2 : Fin k0_t2_loop.trips) : Fin 4 → Nat :=
  let c0 : Index := 0#32
  let c0_18 : Index := 0#32
  let c0_i32_1 : BitVec 32 := 0#32
  let c1_i32_3 : BitVec 32 := 1#32
  let arg8 : BitVec 32 := Scf.iv c0_i32_1 c1_i32_3 k0_t2
  let c128_i32 : BitVec 32 := 128#32
  let v7 : BitVec 32 := Scalar.muli arg8 c128_i32
  let v8 : BitVec 32 := v7
  let v17 : Index := Scalar.indexCast v8
  let c128 : Index := 128#32
  ![0, 0, v17.toNat, 128]
def k0_off5 (k0_t2 : Fin k0_t2_loop.trips) : Fin 4 → Nat :=
  let c0_19 : Index := 0#32
  let c0_20 : Index := 0#32
  let c1792_i32 : BitVec 32 := 1792#32
  let c0_i32_14 : BitVec 32 := 0#32
  let c0_i32_1 : BitVec 32 := 0#32
  let c1_i32_3 : BitVec 32 := 1#32
  let arg8 : BitVec 32 := Scf.iv c0_i32_1 c1_i32_3 k0_t2
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  let v12 : BitVec 32 := v11
  let v20 : Index := Scalar.indexCast v12
  let c128_21 : Index := 128#32
  ![0, 0, v20.toNat, 128]
def k0_off6 (k0_t2 : Fin k0_t2_loop.trips) : Fin 3 → Nat :=
  let c0_i32_1 : BitVec 32 := 0#32
  let c1_i32_3 : BitVec 32 := 1#32
  let arg8 : BitVec 32 := Scf.iv c0_i32_1 c1_i32_3 k0_t2
  let c0_i32_15 : BitVec 32 := 0#32
  let v13 : BitVec 1 := Scalar.cmpi .eq arg8 c0_i32_15
  let c0_i32_17 : BitVec 32 := 0#32
  let c15_i32 : BitVec 32 := 15#32
  let v14 : BitVec 1 := Scalar.cmpi .eq arg8 c15_i32
  let c2_i32 : BitVec 32 := 2#32
  let c1_i32_16 : BitVec 32 := 1#32
  let v15 : BitVec 32 := Scalar.select v14 c2_i32 c1_i32_16
  let v16 : BitVec 32 := Scalar.select v13 c0_i32_17 v15
  let v26 : Index := Scalar.indexCast v16
  let c0_25 : Index := 0#32
  let c0_26 : Index := 0#32
  ![v26.toNat, 0, 0]
@[reducible] def k0_t3_loop : Scf.Loop 32 :=
  let c0_i32_5 : BitVec 32 := 0#32
  let c16_i32_6 : BitVec 32 := 16#32
  let v5 : BitVec 32 := Scalar.addi c0_i32_5 c16_i32_6
  let c1_i32_7 : BitVec 32 := 1#32
  ⟨c0_i32_5, v5, c1_i32_7⟩
def k0_mult5 (k0_t3 : Fin k0_t3_loop.trips) : BitVec 32 :=
  let c0_i32_5 : BitVec 32 := 0#32
  let c1_i32_7 : BitVec 32 := 1#32
  let arg8 : BitVec 32 := Scf.iv c0_i32_5 c1_i32_7 k0_t3
  let c128_i32 : BitVec 32 := 128#32
  let v7 : BitVec 32 := Scalar.muli arg8 c128_i32
  v7
def k0_mult6 (k0_t3 : Fin k0_t3_loop.trips) : BitVec 32 :=
  let c1792_i32 : BitVec 32 := 1792#32
  let c0_i32_14 : BitVec 32 := 0#32
  let c0_i32_5 : BitVec 32 := 0#32
  let c1_i32_7 : BitVec 32 := 1#32
  let arg8 : BitVec 32 := Scf.iv c0_i32_5 c1_i32_7 k0_t3
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  v11
def k0_off7 (k0_t3 : Fin k0_t3_loop.trips) : Fin 4 → Nat :=
  let c0 : Index := 0#32
  let c0_18 : Index := 0#32
  let c0_i32_5 : BitVec 32 := 0#32
  let c1_i32_7 : BitVec 32 := 1#32
  let arg8 : BitVec 32 := Scf.iv c0_i32_5 c1_i32_7 k0_t3
  let c128_i32 : BitVec 32 := 128#32
  let v7 : BitVec 32 := Scalar.muli arg8 c128_i32
  let v8 : BitVec 32 := v7
  let v17 : Index := Scalar.indexCast v8
  let c256 : Index := 256#32
  ![0, 0, v17.toNat, 256]
def k0_off8 (k0_t3 : Fin k0_t3_loop.trips) : Fin 4 → Nat :=
  let c0_19 : Index := 0#32
  let c0_20 : Index := 0#32
  let c1792_i32 : BitVec 32 := 1792#32
  let c0_i32_14 : BitVec 32 := 0#32
  let c0_i32_5 : BitVec 32 := 0#32
  let c1_i32_7 : BitVec 32 := 1#32
  let arg8 : BitVec 32 := Scf.iv c0_i32_5 c1_i32_7 k0_t3
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  let v12 : BitVec 32 := v11
  let v20 : Index := Scalar.indexCast v12
  let c256_21 : Index := 256#32
  ![0, 0, v20.toNat, 256]
def k0_off9 (k0_t3 : Fin k0_t3_loop.trips) : Fin 3 → Nat :=
  let c0_i32_5 : BitVec 32 := 0#32
  let c1_i32_7 : BitVec 32 := 1#32
  let arg8 : BitVec 32 := Scf.iv c0_i32_5 c1_i32_7 k0_t3
  let c0_i32_15 : BitVec 32 := 0#32
  let v13 : BitVec 1 := Scalar.cmpi .eq arg8 c0_i32_15
  let c0_i32_17 : BitVec 32 := 0#32
  let c15_i32 : BitVec 32 := 15#32
  let v14 : BitVec 1 := Scalar.cmpi .eq arg8 c15_i32
  let c2_i32 : BitVec 32 := 2#32
  let c1_i32_16 : BitVec 32 := 1#32
  let v15 : BitVec 32 := Scalar.select v14 c2_i32 c1_i32_16
  let v16 : BitVec 32 := Scalar.select v13 c0_i32_17 v15
  let v26 : Index := Scalar.indexCast v16
  let c0_25 : Index := 0#32
  let c0_26 : Index := 0#32
  ![v26.toNat, 0, 0]
@[reducible] def k0_t4_loop : Scf.Loop 32 :=
  let c0_i32_9 : BitVec 32 := 0#32
  let c16_i32_10 : BitVec 32 := 16#32
  let v6 : BitVec 32 := Scalar.addi c0_i32_9 c16_i32_10
  let c1_i32_11 : BitVec 32 := 1#32
  ⟨c0_i32_9, v6, c1_i32_11⟩
def k0_mult7 (k0_t4 : Fin k0_t4_loop.trips) : BitVec 32 :=
  let c0_i32_9 : BitVec 32 := 0#32
  let c1_i32_11 : BitVec 32 := 1#32
  let arg8 : BitVec 32 := Scf.iv c0_i32_9 c1_i32_11 k0_t4
  let c128_i32 : BitVec 32 := 128#32
  let v7 : BitVec 32 := Scalar.muli arg8 c128_i32
  v7
def k0_mult8 (k0_t4 : Fin k0_t4_loop.trips) : BitVec 32 :=
  let c1792_i32 : BitVec 32 := 1792#32
  let c0_i32_14 : BitVec 32 := 0#32
  let c0_i32_9 : BitVec 32 := 0#32
  let c1_i32_11 : BitVec 32 := 1#32
  let arg8 : BitVec 32 := Scf.iv c0_i32_9 c1_i32_11 k0_t4
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  v11
def k0_off10 (k0_t4 : Fin k0_t4_loop.trips) : Fin 4 → Nat :=
  let c0 : Index := 0#32
  let c0_18 : Index := 0#32
  let c0_i32_9 : BitVec 32 := 0#32
  let c1_i32_11 : BitVec 32 := 1#32
  let arg8 : BitVec 32 := Scf.iv c0_i32_9 c1_i32_11 k0_t4
  let c128_i32 : BitVec 32 := 128#32
  let v7 : BitVec 32 := Scalar.muli arg8 c128_i32
  let v8 : BitVec 32 := v7
  let v17 : Index := Scalar.indexCast v8
  let c384 : Index := 384#32
  ![0, 0, v17.toNat, 384]
def k0_off11 (k0_t4 : Fin k0_t4_loop.trips) : Fin 4 → Nat :=
  let c0_19 : Index := 0#32
  let c0_20 : Index := 0#32
  let c1792_i32 : BitVec 32 := 1792#32
  let c0_i32_14 : BitVec 32 := 0#32
  let c0_i32_9 : BitVec 32 := 0#32
  let c1_i32_11 : BitVec 32 := 1#32
  let arg8 : BitVec 32 := Scf.iv c0_i32_9 c1_i32_11 k0_t4
  let c128_i32 : BitVec 32 := 128#32
  let v7 : BitVec 32 := Scalar.muli arg8 c128_i32
  let v8 : BitVec 32 := v7
  let c64_i32_13 : BitVec 32 := 64#32
  let v9 : BitVec 32 := Scalar.subi v8 c64_i32_13
  let v10 : BitVec 32 := Scalar.maxsi c0_i32_14 v9
  let v11 : BitVec 32 := Scalar.minsi c1792_i32 v10
  let v12 : BitVec 32 := v11
  let v20 : Index := Scalar.indexCast v12
  let c384_21 : Index := 384#32
  ![0, 0, v20.toNat, 384]
def k0_off12 (k0_t4 : Fin k0_t4_loop.trips) : Fin 3 → Nat :=
  let c0_i32_9 : BitVec 32 := 0#32
  let c1_i32_11 : BitVec 32 := 1#32
  let arg8 : BitVec 32 := Scf.iv c0_i32_9 c1_i32_11 k0_t4
  let c0_i32_15 : BitVec 32 := 0#32
  let v13 : BitVec 1 := Scalar.cmpi .eq arg8 c0_i32_15
  let c0_i32_17 : BitVec 32 := 0#32
  let c15_i32 : BitVec 32 := 15#32
  let v14 : BitVec 1 := Scalar.cmpi .eq arg8 c15_i32
  let c2_i32 : BitVec 32 := 2#32
  let c1_i32_16 : BitVec 32 := 1#32
  let v15 : BitVec 32 := Scalar.select v14 c2_i32 c1_i32_16
  let v16 : BitVec 32 := Scalar.select v13 c0_i32_17 v15
  let v26 : Index := Scalar.indexCast v16
  let c0_25 : Index := 0#32
  let c0_26 : Index := 0#32
  ![v26.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8x8192x12x64 : Shape := ⟨4, ![8, 8192, 12, 64]⟩
abbrev S8x2048x4x12x64 : Shape := ⟨5, ![8, 2048, 4, 12, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x12x2048x2048 : Shape := ⟨5, ![8, 4, 12, 2048, 2048]⟩
abbrev S1x1x1x2048x2048 : Shape := ⟨5, ![1, 1, 1, 2048, 2048]⟩
abbrev S8x4x12x2048 : Shape := ⟨4, ![8, 4, 12, 2048]⟩
abbrev S8x4x12x2048x1 : Shape := ⟨5, ![8, 4, 12, 2048, 1]⟩
abbrev S8x4x12x64x2048 : Shape := ⟨5, ![8, 4, 12, 64, 2048]⟩
abbrev S8x2048x4x12 : Shape := ⟨4, ![8, 2048, 4, 12]⟩
abbrev S8x2048x4x12x1 : Shape := ⟨5, ![8, 2048, 4, 12, 1]⟩
abbrev S8x2048x4x6x128 : Shape := ⟨5, ![8, 2048, 4, 6, 128]⟩
abbrev S8x6x2048x4x128 : Shape := ⟨5, ![8, 6, 2048, 4, 128]⟩
abbrev S8x6x2048x512 : Shape := ⟨4, ![8, 6, 2048, 512]⟩

abbrev nBuf : Space → Nat
  | .hbm => 51
  | .vmem => 0
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8x2048x4x12x64, .f32⟩
  | .hbm, ⟨4, _⟩ => ⟨S8x2048x4x12x64, .f32⟩
  | .hbm, ⟨5, _⟩ => ⟨S8x2048x4x12x64, .f32⟩
  | .hbm, ⟨6, _⟩ => ⟨S2048, .i32⟩
  | .hbm, ⟨7, _⟩ => ⟨S2048x1, .i32⟩
  | .hbm, ⟨8, _⟩ => ⟨S1x2048, .i32⟩
  | .hbm, ⟨9, _⟩ => ⟨S2048x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i1⟩
  | .hbm, ⟨16, _⟩ => ⟨S8x4x12x2048x2048, .f32⟩
  | .hbm, ⟨17, _⟩ => ⟨S_, .f32⟩
  | .hbm, ⟨18, _⟩ => ⟨S8x4x12x2048x2048, .f32⟩
  | .hbm, ⟨19, _⟩ => ⟨S8x4x12x2048x2048, .f32⟩
  | .hbm, ⟨20, _⟩ => ⟨S1x1x1x2048x2048, .i1⟩
  | .hbm, ⟨21, _⟩ => ⟨S_, .f32⟩
  | .hbm, ⟨22, _⟩ => ⟨S_, .f32⟩
  | .hbm, ⟨23, _⟩ => ⟨S8x4x12x2048x2048, .i1⟩
  | .hbm, ⟨24, _⟩ => ⟨S8x4x12x2048x2048, .f32⟩
  | .hbm, ⟨25, _⟩ => ⟨S8x4x12x2048x2048, .f32⟩
  | .hbm, ⟨26, _⟩ => ⟨S_, .f32⟩
  | .hbm, ⟨27, _⟩ => ⟨S8x4x12x2048, .f32⟩
  | .hbm, ⟨28, _⟩ => ⟨S8x4x12x2048x1, .f32⟩
  | .hbm, ⟨29, _⟩ => ⟨S8x4x12x2048x2048, .f32⟩
  | .hbm, ⟨30, _⟩ => ⟨S8x4x12x2048x2048, .f32⟩
  | .hbm, ⟨31, _⟩ => ⟨S8x4x12x2048x2048, .f32⟩
  | .hbm, ⟨32, _⟩ => ⟨S_, .f32⟩
  | .hbm, ⟨33, _⟩ => ⟨S8x4x12x2048, .f32⟩
  | .hbm, ⟨34, _⟩ => ⟨S8x4x12x2048, .f32⟩
  | .hbm, ⟨35, _⟩ => ⟨S8x4x12x2048, .f32⟩
  | .hbm, ⟨36, _⟩ => ⟨S8x4x12x2048x1, .f32⟩
  | .hbm, ⟨37, _⟩ => ⟨S8x4x12x2048x2048, .f32⟩
  | .hbm, ⟨38, _⟩ => ⟨S8x4x12x2048x2048, .f32⟩
  | .hbm, ⟨39, _⟩ => ⟨S8x4x12x2048x2048, .f32⟩
  | .hbm, ⟨40, _⟩ => ⟨S8x4x12x64x2048, .f32⟩
  | .hbm, ⟨41, _⟩ => ⟨S8x2048x4x12x64, .f32⟩
  | .hbm, ⟨42, _⟩ => ⟨S8x2048x4x12, .f32⟩
  | .hbm, ⟨43, _⟩ => ⟨S8x2048x4x12x1, .f32⟩
  | .hbm, ⟨44, _⟩ => ⟨S8x2048x4x12x64, .f32⟩
  | .hbm, ⟨45, _⟩ => ⟨S8x2048x4x6x128, .f32⟩
  | .hbm, ⟨46, _⟩ => ⟨S8x6x2048x4x128, .f32⟩
  | .hbm, ⟨47, _⟩ => ⟨S8x6x2048x512, .f32⟩
  | .hbm, ⟨48, _⟩ => ⟨S8x2048x4x6x128, .f32⟩
  | .hbm, ⟨49, _⟩ => ⟨S8x6x2048x4x128, .f32⟩
  | .hbm, ⟨50, _⟩ => ⟨S8x6x2048x512, .f32⟩
  | _, _ => ⟨S8x8192x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel9.lean ====
abbrev S8x8192x12x64 : Shape := ⟨4, ![8, 8192, 12, 64]⟩
abbrev S8x8192x6x128 : Shape := ⟨4, ![8, 8192, 6, 128]⟩
abbrev S8x6x8192x128 : Shape := ⟨4, ![8, 6, 8192, 128]⟩
abbrev S_ : Shape := ⟨0, ![]⟩
abbrev S8x6x512x2048 : Shape := ⟨4, ![8, 6, 512, 2048]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S1x1x512x2048 : Shape := ⟨4, ![1, 1, 512, 2048]⟩
abbrev S1x128 : Shape := ⟨2, ![1, 128]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x128 : Shape := ⟨2, ![256, 128]⟩

abbrev nBuf : Space → Nat
  | .hbm => 74
  | .vmem => 11
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8x8192x6x128, .f32⟩
  | .hbm, ⟨4, _⟩ => ⟨S8x6x8192x128, .f32⟩
  | .hbm, ⟨5, _⟩ => ⟨S_, .f32⟩
  | .hbm, ⟨6, _⟩ => ⟨S8x6x8192x128, .f32⟩
  | .hbm, ⟨7, _⟩ => ⟨S8x6x8192x128, .f32⟩
  | .hbm, ⟨8, _⟩ => ⟨S8x6x8192x128, .bf16⟩
  | .hbm, ⟨9, _⟩ => ⟨S8x8192x6x128, .f32⟩
  | .hbm, ⟨10, _⟩ => ⟨S8x6x8192x128, .f32⟩
  | .hbm, ⟨11, _⟩ => ⟨S8x6x8192x128, .bf16⟩
  | .hbm, ⟨12, _⟩ => ⟨S8x8192x6x128, .f32⟩
  | .hbm, ⟨13, _⟩ => ⟨S8x6x8192x128, .f32⟩
  | .hbm, ⟨14, _⟩ => ⟨S8x6x8192x128, .bf16⟩
  | .hbm, ⟨15, _⟩ => ⟨S8x6x512x2048, .bf16⟩
  | .hbm, ⟨16, _⟩ => ⟨S8x6x512x2048, .bf16⟩
  | .hbm, ⟨17, _⟩ => ⟨S8x6x512x2048, .bf16⟩
  | .hbm, ⟨18, _⟩ => ⟨S128, .i32⟩
  | .hbm, ⟨19, _⟩ => ⟨S128x1, .i32⟩
  | .hbm, ⟨20, _⟩ => ⟨S256, .i32⟩
  | .hbm, ⟨21, _⟩ => ⟨S1x256, .i32⟩
  | .hbm, ⟨22, _⟩ => ⟨S_, .i32⟩
  | .hbm, ⟨23, _⟩ => ⟨S1x256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .i32⟩
  | .hbm, ⟨38, _⟩ => ⟨S1x256, .i32⟩
  | .hbm, ⟨39, _⟩ => ⟨S1x256, .i32⟩
  | .hbm, ⟨40, _⟩ => ⟨S128x256, .i32⟩
  | .hbm, ⟨41, _⟩ => ⟨S128x256, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S_, .f32⟩
  | .hbm, ⟨48, _⟩ => ⟨S_, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S_, .i32⟩
  | .hbm, ⟨53, _⟩ => ⟨S1x256, .i32⟩
  | .hbm, ⟨54, _⟩ => ⟨S1x256, .i32⟩
  | .hbm, ⟨55, _⟩ => ⟨S128x256, .i32⟩
  | .hbm, ⟨56, _⟩ => ⟨S128x256, .i32⟩
  | .hbm, ⟨57, _⟩ => ⟨S128x256, .i32⟩
  | .hbm, ⟨58, _⟩ => ⟨S128x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .f32⟩
  | .hbm, ⟨63, _⟩ => ⟨S_, .f32⟩
  | .hbm, ⟨64, _⟩ => ⟨S128x256, .f32⟩
  | .hbm, ⟨65, _⟩ => ⟨S128x256, .f32⟩
  | .hbm, ⟨66, _⟩ => ⟨S128x256, .f32⟩
  | .hbm, ⟨67, _⟩ => ⟨S1x128x256, .f32⟩
  | .hbm, ⟨68, _⟩ => ⟨S1x128x256, .f32⟩
  | .hbm, ⟨69, _⟩ => ⟨S1x128x256, .f32⟩
  | .hbm, ⟨70, _⟩ => ⟨S3x128x256, .f32⟩
  | .hbm, ⟨71, _⟩ => ⟨S3x128x256, .f32⟩
  | .hbm, ⟨72, _⟩ => ⟨S8x6x512x2048, .f32⟩
  | .hbm, ⟨73, _⟩ => ⟨S8x6x512x2048, .f32⟩
  | .local _ .vmem, ⟨0, _⟩ => ⟨S1x1x512x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S3x128x256, .f32⟩
  | .local _ .vmem, ⟨7, _⟩ => ⟨S1x1x512x2048, .f32⟩
  | .local _ .vmem, ⟨8, _⟩ => ⟨S1x1x512x2048, .f32⟩
  | .local _ .vmem, ⟨9, _⟩ => ⟨S1x1x512x2048, .f32⟩
  | .local _ .vmem, ⟨10, _⟩ => ⟨S1x1x512x2048, .f32⟩
  | _, _ => ⟨S8x8192x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 6], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v19 : BitVec 32 := Scalar.muli arg8 c128_i32
  v19
def k0_mult2 (k0_t1 : Fin k0_t1_loop.trips) : BitVec 32 :=
  let c256_i32 : BitVec 32 := 256#32
  let c0_i32_62 : BitVec 32 := 0#32
  let c0_i32 : BitVec 32 := 0#32
  let c1_i32 : BitVec 32 := 1#32
  let arg8 : BitVec 32 := Scf.iv c0_i32 c1_i32 k0_t1
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off1 (k0_t1 : Fin k0_t1_loop.trips) : Fin 4 → Nat :=
  let c0 : Index := 0#32
  let c0_66 : Index := 0#32
  let c0_i32 : BitVec 32 := 0#32
  let c1_i32 : BitVec 32 := 1#32
  let arg8 : BitVec 32 := Scf.iv c0_i32 c1_i32 k0_t1
  let c128_i32 : BitVec 32 := 128#32
  let v19 : BitVec 32 := Scalar.muli arg8 c128_i32
  let v20 : BitVec 32 := v19
  let v29 : Index := Scalar.indexCast v20
  let c0_67 : Index := 0#32
  ![0, 0, v29.toNat, 0]
def k0_off2 (k0_t1 : Fin k0_t1_loop.trips) : Fin 4 → Nat :=
  let c0_68 : Index := 0#32
  let c0_69 : Index := 0#32
  let c256_i32 : BitVec 32 := 256#32
  let c0_i32_62 : BitVec 32 := 0#32
  let c0_i32 : BitVec 32 := 0#32
  let c1_i32 : BitVec 32 := 1#32
  let arg8 : BitVec 32 := Scf.iv c0_i32 c1_i32 k0_t1
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c0_70 : Index := 0#32
  ![0, 0, v32.toNat, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_74 : Index := 0#32
  let c0_75 : Index := 0#32
  ![v38.toNat, 0, 0]
@[reducible] def k0_t2_loop : Scf.Loop 32 :=
  let c0_i32_1 : BitVec 32 := 0#32
  let c4_i32_2 : BitVec 32 := 4#32
  let v4 : BitVec 32 := Scalar.addi c0_i32_1 c4_i32_2
  let c1_i32_3 : BitVec 32 := 1#32
  ⟨c0_i32_1, v4, c1_i32_3⟩
def k0_mult3 (k0_t2 : Fin k0_t2_loop.trips) : BitVec 32 :=
  let c0_i32_1 : BitVec 32 := 0#32
  let c1_i32_3 : BitVec 32 := 1#32
  let arg8 : BitVec 32 := Scf.iv c0_i32_1 c1_i32_3 k0_t2
  let c128_i32 : BitVec 32 := 128#32
  let v19 : BitVec 32 := Scalar.muli arg8 c128_i32
  v19
def k0_mult4 (k0_t2 : Fin k0_t2_loop.trips) : BitVec 32 :=
  let c256_i32 : BitVec 32 := 256#32
  let c0_i32_62 : BitVec 32 := 0#32
  let c0_i32_1 : BitVec 32 := 0#32
  let c1_i32_3 : BitVec 32 := 1#32
  let arg8 : BitVec 32 := Scf.iv c0_i32_1 c1_i32_3 k0_t2
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off4 (k0_t2 : Fin k0_t2_loop.trips) : Fin 4 → Nat :=
  let c0 : Index := 0#32
  let c0_66 : Index := 0#32
  let c0_i32_1 : BitVec 32 := 0#32
  let c1_i32_3 : BitVec 32 := 1#32
  let arg8 : BitVec 32 := Scf.iv c0_i32_1 c1_i32_3 k0_t2
  let c128_i32 : BitVec 32 := 128#32
  let v19 : BitVec 32 := Scalar.muli arg8 c128_i32
  let v20 : BitVec 32 := v19
  let v29 : Index := Scalar.indexCast v20
  let c128 : Index := 128#32
  ![0, 0, v29.toNat, 128]
def k0_off5 (k0_t2 : Fin k0_t2_loop.trips) : Fin 4 → Nat :=
  let c0_67 : Index := 0#32
  let c0_68 : Index := 0#32
  let c256_i32 : BitVec 32 := 256#32
  let c0_i32_62 : BitVec 32 := 0#32
  let c0_i32_1 : BitVec 32 := 0#32
  let c1_i32_3 : BitVec 32 := 1#32
  let arg8 : BitVec 32 := Scf.iv c0_i32_1 c1_i32_3 k0_t2
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c128_69 : Index := 128#32
  ![0, 0, v32.toNat, 128]
def k0_off6 (k0_t2 : Fin k0_t2_loop.trips) : Fin 3 → Nat :=
  let c0_i32_1 : BitVec 32 := 0#32
  let c1_i32_3 : BitVec 32 := 1#32
  let arg8 : BitVec 32 := Scf.iv c0_i32_1 c1_i32_3 k0_t2
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t3_loop : Scf.Loop 32 :=
  let c0_i32_5 : BitVec 32 := 0#32
  let c4_i32_6 : BitVec 32 := 4#32
  let v5 : BitVec 32 := Scalar.addi c0_i32_5 c4_i32_6
  let c1_i32_7 : BitVec 32 := 1#32
  ⟨c0_i32_5, v5, c1_i32_7⟩
def k0_mult5 (k0_t3 : Fin k0_t3_loop.trips) : BitVec 32 :=
  let c0_i32_5 : BitVec 32 := 0#32
  let c1_i32_7 : BitVec 32 := 1#32
  let arg8 : BitVec 32 := Scf.iv c0_i32_5 c1_i32_7 k0_t3
  let c128_i32 : BitVec 32 := 128#32
  let v19 : BitVec 32 := Scalar.muli arg8 c128_i32
  v19
def k0_mult6 (k0_t3 : Fin k0_t3_loop.trips) : BitVec 32 :=
  let c256_i32 : BitVec 32 := 256#32
  let c0_i32_62 : BitVec 32 := 0#32
  let c0_i32_5 : BitVec 32 := 0#32
  let c1_i32_7 : BitVec 32 := 1#32
  let arg8 : BitVec 32 := Scf.iv c0_i32_5 c1_i32_7 k0_t3
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off7 (k0_t3 : Fin k0_t3_loop.trips) : Fin 4 → Nat :=
  let c0 : Index := 0#32
  let c0_66 : Index := 0#32
  let c0_i32_5 : BitVec 32 := 0#32
  let c1_i32_7 : BitVec 32 := 1#32
  let arg8 : BitVec 32 := Scf.iv c0_i32_5 c1_i32_7 k0_t3
  let c128_i32 : BitVec 32 := 128#32
  let v19 : BitVec 32 := Scalar.muli arg8 c128_i32
  let v20 : BitVec 32 := v19
  let v29 : Index := Scalar.indexCast v20
  let c256 : Index := 256#32
  ![0, 0, v29.toNat, 256]
def k0_off8 (k0_t3 : Fin k0_t3_loop.trips) : Fin 4 → Nat :=
  let c0_67 : Index := 0#32
  let c0_68 : Index := 0#32
  let c256_i32 : BitVec 32 := 256#32
  let c0_i32_62 : BitVec 32 := 0#32
  let c0_i32_5 : BitVec 32 := 0#32
  let c1_i32_7 : BitVec 32 := 1#32
  let arg8 : BitVec 32 := Scf.iv c0_i32_5 c1_i32_7 k0_t3
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c256_69 : Index := 256#32
  ![0, 0, v32.toNat, 256]
def k0_off9 (k0_t3 : Fin k0_t3_loop.trips) : Fin 3 → Nat :=
  let c0_i32_5 : BitVec 32 := 0#32
  let c1_i32_7 : BitVec 32 := 1#32
  let arg8 : BitVec 32 := Scf.iv c0_i32_5 c1_i32_7 k0_t3
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t4_loop : Scf.Loop 32 :=
  let c0_i32_9 : BitVec 32 := 0#32
  let c4_i32_10 : BitVec 32 := 4#32
  let v6 : BitVec 32 := Scalar.addi c0_i32_9 c4_i32_10
  let c1_i32_11 : BitVec 32 := 1#32
  ⟨c0_i32_9, v6, c1_i32_11⟩
def k0_mult7 (k0_t4 : Fin k0_t4_loop.trips) : BitVec 32 :=
  let c0_i32_9 : BitVec 32 := 0#32
  let c1_i32_11 : BitVec 32 := 1#32
  let arg8 : BitVec 32 := Scf.iv c0_i32_9 c1_i32_11 k0_t4
  let c128_i32 : BitVec 32 := 128#32
  let v19 : BitVec 32 := Scalar.muli arg8 c128_i32
  v19
def k0_mult8 (k0_t4 : Fin k0_t4_loop.trips) : BitVec 32 :=
  let c256_i32 : BitVec 32 := 256#32
  let c0_i32_62 : BitVec 32 := 0#32
  let c0_i32_9 : BitVec 32 := 0#32
  let c1_i32_11 : BitVec 32 := 1#32
  let arg8 : BitVec 32 := Scf.iv c0_i32_9 c1_i32_11 k0_t4
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off10 (k0_t4 : Fin k0_t4_loop.trips) : Fin 4 → Nat :=
  let c0 : Index := 0#32
  let c0_66 : Index := 0#32
  let c0_i32_9 : BitVec 32 := 0#32
  let c1_i32_11 : BitVec 32 := 1#32
  let arg8 : BitVec 32 := Scf.iv c0_i32_9 c1_i32_11 k0_t4
  let c128_i32 : BitVec 32 := 128#32
  let v19 : BitVec 32 := Scalar.muli arg8 c128_i32
  let v20 : BitVec 32 := v19
  let v29 : Index := Scalar.indexCast v20
  let c384 : Index := 384#32
  ![0, 0, v29.toNat, 384]
def k0_off11 (k0_t4 : Fin k0_t4_loop.trips) : Fin 4 → Nat :=
  let c0_67 : Index := 0#32
  let c0_68 : Index := 0#32
  let c256_i32 : BitVec 32 := 256#32
  let c0_i32_62 : BitVec 32 := 0#32
  let c0_i32_9 : BitVec 32 := 0#32
  let c1_i32_11 : BitVec 32 := 1#32
  let arg8 : BitVec 32 := Scf.iv c0_i32_9 c1_i32_11 k0_t4
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c384_69 : Index := 384#32
  ![0, 0, v32.toNat, 384]
def k0_off12 (k0_t4 : Fin k0_t4_loop.trips) : Fin 3 → Nat :=
  let c0_i32_9 : BitVec 32 := 0#32
  let c1_i32_11 : BitVec 32 := 1#32
  let arg8 : BitVec 32 := Scf.iv c0_i32_9 c1_i32_11 k0_t4
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t5_loop : Scf.Loop 32 :=
  let c0_i32_13 : BitVec 32 := 0#32
  let c4_i32_14 : BitVec 32 := 4#32
  let v7 : BitVec 32 := Scalar.addi c0_i32_13 c4_i32_14
  let c1_i32_15 : BitVec 32 := 1#32
  ⟨c0_i32_13, v7, c1_i32_15⟩
def k0_mult9 (k0_t5 : Fin k0_t5_loop.trips) : BitVec 32 :=
  let c0_i32_13 : BitVec 32 := 0#32
  let c1_i32_15 : BitVec 32 := 1#32
  let arg8 : BitVec 32 := Scf.iv c0_i32_13 c1_i32_15 k0_t5
  let c128_i32 : BitVec 32 := 128#32
  let v19 : BitVec 32 := Scalar.muli arg8 c128_i32
  v19
def k0_mult10 (k0_t5 : Fin k0_t5_loop.trips) : BitVec 32 :=
  let c256_i32 : BitVec 32 := 256#32
  let c0_i32_62 : BitVec 32 := 0#32
  let c0_i32_13 : BitVec 32 := 0#32
  let c1_i32_15 : BitVec 32 := 1#32
  let arg8 : BitVec 32 := Scf.iv c0_i32_13 c1_i32_15 k0_t5
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off13 (k0_t5 : Fin k0_t5_loop.trips) : Fin 4 → Nat :=
  let c0 : Index := 0#32
  let c0_66 : Index := 0#32
  let c0_i32_13 : BitVec 32 := 0#32
  let c1_i32_15 : BitVec 32 := 1#32
  let arg8 : BitVec 32 := Scf.iv c0_i32_13 c1_i32_15 k0_t5
  let c128_i32 : BitVec 32 := 128#32
  let v19 : BitVec 32 := Scalar.muli arg8 c128_i32
  let v20 : BitVec 32 := v19
  let v29 : Index := Scalar.indexCast v20
  let c512 : Index := 512#32
  ![0, 0, v29.toNat, 512]
def k0_off14 (k0_t5 : Fin k0_t5_loop.trips) : Fin 4 → Nat :=
  let c0_67 : Index := 0#32
  let c0_68 : Index := 0#32
  let c256_i32 : BitVec 32 := 256#32
  let c0_i32_62 : BitVec 32 := 0#32
  let c0_i32_13 : BitVec 32 := 0#32
  let c1_i32_15 : BitVec 32 := 1#32
  let arg8 : BitVec 32 := Scf.iv c0_i32_13 c1_i32_15 k0_t5
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c512_69 : Index := 512#32
  ![0, 0, v32.toNat, 512]
def k0_off15 (k0_t5 : Fin k0_t5_loop.trips) : Fin 3 → Nat :=
  let c0_i32_13 : BitVec 32 := 0#32
  let c1_i32_15 : BitVec 32 := 1#32
  let arg8 : BitVec 32 := Scf.iv c0_i32_13 c1_i32_15 k0_t5
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t6_loop : Scf.Loop 32 :=
  let c0_i32_17 : BitVec 32 := 0#32
  let c4_i32_18 : BitVec 32 := 4#32
  let v8 : BitVec 32 := Scalar.addi c0_i32_17 c4_i32_18
  let c1_i32_19 : BitVec 32 := 1#32
  ⟨c0_i32_17, v8, c1_i32_19⟩
def k0_mult11 (k0_t6 : Fin k0_t6_loop.trips) : BitVec 32 :=
  let c0_i32_17 : BitVec 32 := 0#32
  let c1_i32_19 : BitVec 32 := 1#32
  let arg8 : BitVec 32 := Scf.iv c0_i32_17 c1_i32_19 k0_t6
  let c128_i32 : BitVec 32 := 128#32
  let v19 : BitVec 32 := Scalar.muli arg8 c128_i32
  v19
def k0_mult12 (k0_t6 : Fin k0_t6_loop.trips) : BitVec 32 :=
  let c256_i32 : BitVec 32 := 256#32
  let c0_i32_62 : BitVec 32 := 0#32
  let c0_i32_17 : BitVec 32 := 0#32
  let c1_i32_19 : BitVec 32 := 1#32
  let arg8 : BitVec 32 := Scf.iv c0_i32_17 c1_i32_19 k0_t6
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off16 (k0_t6 : Fin k0_t6_loop.trips) : Fin 4 → Nat :=
  let c0 : Index := 0#32
  let c0_66 : Index := 0#32
  let c0_i32_17 : BitVec 32 := 0#32
  let c1_i32_19 : BitVec 32 := 1#32
  let arg8 : BitVec 32 := Scf.iv c0_i32_17 c1_i32_19 k0_t6
  let c128_i32 : BitVec 32 := 128#32
  let v19 : BitVec 32 := Scalar.muli arg8 c128_i32
  let v20 : BitVec 32 := v19
  let v29 : Index := Scalar.indexCast v20
  let c640 : Index := 640#32
  ![0, 0, v29.toNat, 640]
def k0_off17 (k0_t6 : Fin k0_t6_loop.trips) : Fin 4 → Nat :=
  let c0_67 : Index := 0#32
  let c0_68 : Index := 0#32
  let c256_i32 : BitVec 32 := 256#32
  let c0_i32_62 : BitVec 32 := 0#32
  let c0_i32_17 : BitVec 32 := 0#32
  let c1_i32_19 : BitVec 32 := 1#32
  let arg8 : BitVec 32 := Scf.iv c0_i32_17 c1_i32_19 k0_t6
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c640_69 : Index := 640#32
  ![0, 0, v32.toNat, 640]
def k0_off18 (k0_t6 : Fin k0_t6_loop.trips) : Fin 3 → Nat :=
  let c0_i32_17 : BitVec 32 := 0#32
  let c1_i32_19 : BitVec 32 := 1#32
  let arg8 : BitVec 32 := Scf.iv c0_i32_17 c1_i32_19 k0_t6
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t7_loop : Scf.Loop 32 :=
  let c0_i32_21 : BitVec 32 := 0#32
  let c4_i32_22 : BitVec 32 := 4#32
  let v9 : BitVec 32 := Scalar.addi c0_i32_21 c4_i32_22
  let c1_i32_23 : BitVec 32 := 1#32
  ⟨c0_i32_21, v9, c1_i32_23⟩
def k0_mult13 (k0_t7 : Fin k0_t7_loop.trips) : BitVec 32 :=
  let c0_i32_21 : BitVec 32 := 0#32
  let c1_i32_23 : BitVec 32 := 1#32
  let arg8 : BitVec 32 := Scf.iv c0_i32_21 c1_i32_23 k0_t7
  let c128_i32 : BitVec 32 := 128#32
  let v19 : BitVec 32 := Scalar.muli arg8 c128_i32
  v19
def k0_mult14 (k0_t7 : Fin k0_t7_loop.trips) : BitVec 32 :=
  let c256_i32 : BitVec 32 := 256#32
  let c0_i32_62 : BitVec 32 := 0#32
  let c0_i32_21 : BitVec 32 := 0#32
  let c1_i32_23 : BitVec 32 := 1#32
  let arg8 : BitVec 32 := Scf.iv c0_i32_21 c1_i32_23 k0_t7
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off19 (k0_t7 : Fin k0_t7_loop.trips) : Fin 4 → Nat :=
  let c0 : Index := 0#32
  let c0_66 : Index := 0#32
  let c0_i32_21 : BitVec 32 := 0#32
  let c1_i32_23 : BitVec 32 := 1#32
  let arg8 : BitVec 32 := Scf.iv c0_i32_21 c1_i32_23 k0_t7
  let c128_i32 : BitVec 32 := 128#32
  let v19 : BitVec 32 := Scalar.muli arg8 c128_i32
  let v20 : BitVec 32 := v19
  let v29 : Index := Scalar.indexCast v20
  let c768 : Index := 768#32
  ![0, 0, v29.toNat, 768]
def k0_off20 (k0_t7 : Fin k0_t7_loop.trips) : Fin 4 → Nat :=
  let c0_67 : Index := 0#32
  let c0_68 : Index := 0#32
  let c256_i32 : BitVec 32 := 256#32
  let c0_i32_62 : BitVec 32 := 0#32
  let c0_i32_21 : BitVec 32 := 0#32
  let c1_i32_23 : BitVec 32 := 1#32
  let arg8 : BitVec 32 := Scf.iv c0_i32_21 c1_i32_23 k0_t7
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c768_69 : Index := 768#32
  ![0, 0, v32.toNat, 768]
def k0_off21 (k0_t7 : Fin k0_t7_loop.trips) : Fin 3 → Nat :=
  let c0_i32_21 : BitVec 32 := 0#32
  let c1_i32_23 : BitVec 32 := 1#32
  let arg8 : BitVec 32 := Scf.iv c0_i32_21 c1_i32_23 k0_t7
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t8_loop : Scf.Loop 32 :=
  let c0_i32_25 : BitVec 32 := 0#32
  let c4_i32_26 : BitVec 32 := 4#32
  let v10 : BitVec 32 := Scalar.addi c0_i32_25 c4_i32_26
  let c1_i32_27 : BitVec 32 := 1#32
  ⟨c0_i32_25, v10, c1_i32_27⟩
def k0_mult15 (k0_t8 : Fin k0_t8_loop.trips) : BitVec 32 :=
  let c0_i32_25 : BitVec 32 := 0#32
  let c1_i32_27 : BitVec 32 := 1#32
  let arg8 : BitVec 32 := Scf.iv c0_i32_25 c1_i32_27 k0_t8
  let c128_i32 : BitVec 32 := 128#32
  let v19 : BitVec 32 := Scalar.muli arg8 c128_i32
  v19
def k0_mult16 (k0_t8 : Fin k0_t8_loop.trips) : BitVec 32 :=
  let c256_i32 : BitVec 32 := 256#32
  let c0_i32_62 : BitVec 32 := 0#32
  let c0_i32_25 : BitVec 32 := 0#32
  let c1_i32_27 : BitVec 32 := 1#32
  let arg8 : BitVec 32 := Scf.iv c0_i32_25 c1_i32_27 k0_t8
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off22 (k0_t8 : Fin k0_t8_loop.trips) : Fin 4 → Nat :=
  let c0 : Index := 0#32
  let c0_66 : Index := 0#32
  let c0_i32_25 : BitVec 32 := 0#32
  let c1_i32_27 : BitVec 32 := 1#32
  let arg8 : BitVec 32 := Scf.iv c0_i32_25 c1_i32_27 k0_t8
  let c128_i32 : BitVec 32 := 128#32
  let v19 : BitVec 32 := Scalar.muli arg8 c128_i32
  let v20 : BitVec 32 := v19
  let v29 : Index := Scalar.indexCast v20
  let c896 : Index := 896#32
  ![0, 0, v29.toNat, 896]
def k0_off23 (k0_t8 : Fin k0_t8_loop.trips) : Fin 4 → Nat :=
  let c0_67 : Index := 0#32
  let c0_68 : Index := 0#32
  let c256_i32 : BitVec 32 := 256#32
  let c0_i32_62 : BitVec 32 := 0#32
  let c0_i32_25 : BitVec 32 := 0#32
  let c1_i32_27 : BitVec 32 := 1#32
  let arg8 : BitVec 32 := Scf.iv c0_i32_25 c1_i32_27 k0_t8
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c896_69 : Index := 896#32
  ![0, 0, v32.toNat, 896]
def k0_off24 (k0_t8 : Fin k0_t8_loop.trips) : Fin 3 → Nat :=
  let c0_i32_25 : BitVec 32 := 0#32
  let c1_i32_27 : BitVec 32 := 1#32
  let arg8 : BitVec 32 := Scf.iv c0_i32_25 c1_i32_27 k0_t8
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t9_loop : Scf.Loop 32 :=
  let c0_i32_29 : BitVec 32 := 0#32
  let c4_i32_30 : BitVec 32 := 4#32
  let v11 : BitVec 32 := Scalar.addi c0_i32_29 c4_i32_30
  let c1_i32_31 : BitVec 32 := 1#32
  ⟨c0_i32_29, v11, c1_i32_31⟩
def k0_mult17 (k0_t9 : Fin k0_t9_loop.trips) : BitVec 32 :=
  let c0_i32_29 : BitVec 32 := 0#32
  let c1_i32_31 : BitVec 32 := 1#32
  let arg8 : BitVec 32 := Scf.iv c0_i32_29 c1_i32_31 k0_t9
  let c128_i32 : BitVec 32 := 128#32
  let v19 : BitVec 32 := Scalar.muli arg8 c128_i32
  v19
def k0_mult18 (k0_t9 : Fin k0_t9_loop.trips) : BitVec 32 :=
  let c256_i32 : BitVec 32 := 256#32
  let c0_i32_62 : BitVec 32 := 0#32
  let c0_i32_29 : BitVec 32 := 0#32
  let c1_i32_31 : BitVec 32 := 1#32
  let arg8 : BitVec 32 := Scf.iv c0_i32_29 c1_i32_31 k0_t9
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off25 (k0_t9 : Fin k0_t9_loop.trips) : Fin 4 → Nat :=
  let c0 : Index := 0#32
  let c0_66 : Index := 0#32
  let c0_i32_29 : BitVec 32 := 0#32
  let c1_i32_31 : BitVec 32 := 1#32
  let arg8 : BitVec 32 := Scf.iv c0_i32_29 c1_i32_31 k0_t9
  let c128_i32 : BitVec 32 := 128#32
  let v19 : BitVec 32 := Scalar.muli arg8 c128_i32
  let v20 : BitVec 32 := v19
  let v29 : Index := Scalar.indexCast v20
  let c1024 : Index := 1024#32
  ![0, 0, v29.toNat, 1024]
def k0_off26 (k0_t9 : Fin k0_t9_loop.trips) : Fin 4 → Nat :=
  let c0_67 : Index := 0#32
  let c0_68 : Index := 0#32
  let c256_i32 : BitVec 32 := 256#32
  let c0_i32_62 : BitVec 32 := 0#32
  let c0_i32_29 : BitVec 32 := 0#32
  let c1_i32_31 : BitVec 32 := 1#32
  let arg8 : BitVec 32 := Scf.iv c0_i32_29 c1_i32_31 k0_t9
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1024_69 : Index := 1024#32
  ![0, 0, v32.toNat, 1024]
def k0_off27 (k0_t9 : Fin k0_t9_loop.trips) : Fin 3 → Nat :=
  let c0_i32_29 : BitVec 32 := 0#32
  let c1_i32_31 : BitVec 32 := 1#32
  let arg8 : BitVec 32 := Scf.iv c0_i32_29 c1_i32_31 k0_t9
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t10_loop : Scf.Loop 32 :=
  let c0_i32_33 : BitVec 32 := 0#32
  let c4_i32_34 : BitVec 32 := 4#32
  let v12 : BitVec 32 := Scalar.addi c0_i32_33 c4_i32_34
  let c1_i32_35 : BitVec 32 := 1#32
  ⟨c0_i32_33, v12, c1_i32_35⟩
def k0_mult19 (k0_t10 : Fin k0_t10_loop.trips) : BitVec 32 :=
  let c0_i32_33 : BitVec 32 := 0#32
  let c1_i32_35 : BitVec 32 := 1#32
  let arg8 : BitVec 32 := Scf.iv c0_i32_33 c1_i32_35 k0_t10
  let c128_i32 : BitVec 32 := 128#32
  let v19 : BitVec 32 := Scalar.muli arg8 c128_i32
  v19
def k0_mult20 (k0_t10 : Fin k0_t10_loop.trips) : BitVec 32 :=
  let c256_i32 : BitVec 32 := 256#32
  let c0_i32_62 : BitVec 32 := 0#32
  let c0_i32_33 : BitVec 32 := 0#32
  let c1_i32_35 : BitVec 32 := 1#32
  let arg8 : BitVec 32 := Scf.iv c0_i32_33 c1_i32_35 k0_t10
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off28 (k0_t10 : Fin k0_t10_loop.trips) : Fin 4 → Nat :=
  let c0 : Index := 0#32
  let c0_66 : Index := 0#32
  let c0_i32_33 : BitVec 32 := 0#32
  let c1_i32_35 : BitVec 32 := 1#32
  let arg8 : BitVec 32 := Scf.iv c0_i32_33 c1_i32_35 k0_t10
  let c128_i32 : BitVec 32 := 128#32
  let v19 : BitVec 32 := Scalar.muli arg8 c128_i32
  let v20 : BitVec 32 := v19
  let v29 : Index := Scalar.indexCast v20
  let c1152 : Index := 1152#32
  ![0, 0, v29.toNat, 1152]
def k0_off29 (k0_t10 : Fin k0_t10_loop.trips) : Fin 4 → Nat :=
  let c0_67 : Index := 0#32
  let c0_68 : Index := 0#32
  let c256_i32 : BitVec 32 := 256#32
  let c0_i32_62 : BitVec 32 := 0#32
  let c0_i32_33 : BitVec 32 := 0#32
  let c1_i32_35 : BitVec 32 := 1#32
  let arg8 : BitVec 32 := Scf.iv c0_i32_33 c1_i32_35 k0_t10
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1152_69 : Index := 1152#32
  ![0, 0, v32.toNat, 1152]
def k0_off30 (k0_t10 : Fin k0_t10_loop.trips) : Fin 3 → Nat :=
  let c0_i32_33 : BitVec 32 := 0#32
  let c1_i32_35 : BitVec 32 := 1#32
  let arg8 : BitVec 32 := Scf.iv c0_i32_33 c1_i32_35 k0_t10
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t11_loop : Scf.Loop 32 :=
  let c0_i32_37 : BitVec 32 := 0#32
  let c4_i32_38 : BitVec 32 := 4#32
  let v13 : BitVec 32 := Scalar.addi c0_i32_37 c4_i32_38
  let c1_i32_39 : BitVec 32 := 1#32
  ⟨c0_i32_37, v13, c1_i32_39⟩
def k0_mult21 (k0_t11 : Fin k0_t11_loop.trips) : BitVec 32 :=
  let c0_i32_37 : BitVec 32 := 0#32
  let c1_i32_39 : BitVec 32 := 1#32
  let arg8 : BitVec 32 := Scf.iv c0_i32_37 c1_i32_39 k0_t11
  let c128_i32 : BitVec 32 := 128#32
  let v19 : BitVec 32 := Scalar.muli arg8 c128_i32
  v19
def k0_mult22 (k0_t11 : Fin k0_t11_loop.trips) : BitVec 32 :=
  let c256_i32 : BitVec 32 := 256#32
  let c0_i32_62 : BitVec 32 := 0#32
  let c0_i32_37 : BitVec 32 := 0#32
  let c1_i32_39 : BitVec 32 := 1#32
  let arg8 : BitVec 32 := Scf.iv c0_i32_37 c1_i32_39 k0_t11
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off31 (k0_t11 : Fin k0_t11_loop.trips) : Fin 4 → Nat :=
  let c0 : Index := 0#32
  let c0_66 : Index := 0#32
  let c0_i32_37 : BitVec 32 := 0#32
  let c1_i32_39 : BitVec 32 := 1#32
  let arg8 : BitVec 32 := Scf.iv c0_i32_37 c1_i32_39 k0_t11
  let c128_i32 : BitVec 32 := 128#32
  let v19 : BitVec 32 := Scalar.muli arg8 c128_i32
  let v20 : BitVec 32 := v19
  let v29 : Index := Scalar.indexCast v20
  let c1280 : Index := 1280#32
  ![0, 0, v29.toNat, 1280]
def k0_off32 (k0_t11 : Fin k0_t11_loop.trips) : Fin 4 → Nat :=
  let c0_67 : Index := 0#32
  let c0_68 : Index := 0#32
  let c256_i32 : BitVec 32 := 256#32
  let c0_i32_62 : BitVec 32 := 0#32
  let c0_i32_37 : BitVec 32 := 0#32
  let c1_i32_39 : BitVec 32 := 1#32
  let arg8 : BitVec 32 := Scf.iv c0_i32_37 c1_i32_39 k0_t11
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1280_69 : Index := 1280#32
  ![0, 0, v32.toNat, 1280]
def k0_off33 (k0_t11 : Fin k0_t11_loop.trips) : Fin 3 → Nat :=
  let c0_i32_37 : BitVec 32 := 0#32
  let c1_i32_39 : BitVec 32 := 1#32
  let arg8 : BitVec 32 := Scf.iv c0_i32_37 c1_i32_39 k0_t11
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t12_loop : Scf.Loop 32 :=
  let c0_i32_41 : BitVec 32 := 0#32
  let c4_i32_42 : BitVec 32 := 4#32
  let v14 : BitVec 32 := Scalar.addi c0_i32_41 c4_i32_42
  let c1_i32_43 : BitVec 32 := 1#32
  ⟨c0_i32_41, v14, c1_i32_43⟩
def k0_mult23 (k0_t12 : Fin k0_t12_loop.trips) : BitVec 32 :=
  let c0_i32_41 : BitVec 32 := 0#32
  let c1_i32_43 : BitVec 32 := 1#32
  let arg8 : BitVec 32 := Scf.iv c0_i32_41 c1_i32_43 k0_t12
  let c128_i32 : BitVec 32 := 128#32
  let v19 : BitVec 32 := Scalar.muli arg8 c128_i32
  v19
def k0_mult24 (k0_t12 : Fin k0_t12_loop.trips) : BitVec 32 :=
  let c256_i32 : BitVec 32 := 256#32
  let c0_i32_62 : BitVec 32 := 0#32
  let c0_i32_41 : BitVec 32 := 0#32
  let c1_i32_43 : BitVec 32 := 1#32
  let arg8 : BitVec 32 := Scf.iv c0_i32_41 c1_i32_43 k0_t12
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off34 (k0_t12 : Fin k0_t12_loop.trips) : Fin 4 → Nat :=
  let c0 : Index := 0#32
  let c0_66 : Index := 0#32
  let c0_i32_41 : BitVec 32 := 0#32
  let c1_i32_43 : BitVec 32 := 1#32
  let arg8 : BitVec 32 := Scf.iv c0_i32_41 c1_i32_43 k0_t12
  let c128_i32 : BitVec 32 := 128#32
  let v19 : BitVec 32 := Scalar.muli arg8 c128_i32
  let v20 : BitVec 32 := v19
  let v29 : Index := Scalar.indexCast v20
  let c1408 : Index := 1408#32
  ![0, 0, v29.toNat, 1408]
def k0_off35 (k0_t12 : Fin k0_t12_loop.trips) : Fin 4 → Nat :=
  let c0_67 : Index := 0#32
  let c0_68 : Index := 0#32
  let c256_i32 : BitVec 32 := 256#32
  let c0_i32_62 : BitVec 32 := 0#32
  let c0_i32_41 : BitVec 32 := 0#32
  let c1_i32_43 : BitVec 32 := 1#32
  let arg8 : BitVec 32 := Scf.iv c0_i32_41 c1_i32_43 k0_t12
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1408_69 : Index := 1408#32
  ![0, 0, v32.toNat, 1408]
def k0_off36 (k0_t12 : Fin k0_t12_loop.trips) : Fin 3 → Nat :=
  let c0_i32_41 : BitVec 32 := 0#32
  let c1_i32_43 : BitVec 32 := 1#32
  let arg8 : BitVec 32 := Scf.iv c0_i32_41 c1_i32_43 k0_t12
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t13_loop : Scf.Loop 32 :=
  let c0_i32_45 : BitVec 32 := 0#32
  let c4_i32_46 : BitVec 32 := 4#32
  let v15 : BitVec 32 := Scalar.addi c0_i32_45 c4_i32_46
  let c1_i32_47 : BitVec 32 := 1#32
  ⟨c0_i32_45, v15, c1_i32_47⟩
def k0_mult25 (k0_t13 : Fin k0_t13_loop.trips) : BitVec 32 :=
  let c0_i32_45 : BitVec 32 := 0#32
  let c1_i32_47 : BitVec 32 := 1#32
  let arg8 : BitVec 32 := Scf.iv c0_i32_45 c1_i32_47 k0_t13
  let c128_i32 : BitVec 32 := 128#32
  let v19 : BitVec 32 := Scalar.muli arg8 c128_i32
  v19
def k0_mult26 (k0_t13 : Fin k0_t13_loop.trips) : BitVec 32 :=
  let c256_i32 : BitVec 32 := 256#32
  let c0_i32_62 : BitVec 32 := 0#32
  let c0_i32_45 : BitVec 32 := 0#32
  let c1_i32_47 : BitVec 32 := 1#32
  let arg8 : BitVec 32 := Scf.iv c0_i32_45 c1_i32_47 k0_t13
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off37 (k0_t13 : Fin k0_t13_loop.trips) : Fin 4 → Nat :=
  let c0 : Index := 0#32
  let c0_66 : Index := 0#32
  let c0_i32_45 : BitVec 32 := 0#32
  let c1_i32_47 : BitVec 32 := 1#32
  let arg8 : BitVec 32 := Scf.iv c0_i32_45 c1_i32_47 k0_t13
  let c128_i32 : BitVec 32 := 128#32
  let v19 : BitVec 32 := Scalar.muli arg8 c128_i32
  let v20 : BitVec 32 := v19
  let v29 : Index := Scalar.indexCast v20
  let c1536 : Index := 1536#32
  ![0, 0, v29.toNat, 1536]
def k0_off38 (k0_t13 : Fin k0_t13_loop.trips) : Fin 4 → Nat :=
  let c0_67 : Index := 0#32
  let c0_68 : Index := 0#32
  let c256_i32 : BitVec 32 := 256#32
  let c0_i32_62 : BitVec 32 := 0#32
  let c0_i32_45 : BitVec 32 := 0#32
  let c1_i32_47 : BitVec 32 := 1#32
  let arg8 : BitVec 32 := Scf.iv c0_i32_45 c1_i32_47 k0_t13
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1536_69 : Index := 1536#32
  ![0, 0, v32.toNat, 1536]
def k0_off39 (k0_t13 : Fin k0_t13_loop.trips) : Fin 3 → Nat :=
  let c0_i32_45 : BitVec 32 := 0#32
  let c1_i32_47 : BitVec 32 := 1#32
  let arg8 : BitVec 32 := Scf.iv c0_i32_45 c1_i32_47 k0_t13
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t14_loop : Scf.Loop 32 :=
  let c0_i32_49 : BitVec 32 := 0#32
  let c4_i32_50 : BitVec 32 := 4#32
  let v16 : BitVec 32 := Scalar.addi c0_i32_49 c4_i32_50
  let c1_i32_51 : BitVec 32 := 1#32
  ⟨c0_i32_49, v16, c1_i32_51⟩
def k0_mult27 (k0_t14 : Fin k0_t14_loop.trips) : BitVec 32 :=
  let c0_i32_49 : BitVec 32 := 0#32
  let c1_i32_51 : BitVec 32 := 1#32
  let arg8 : BitVec 32 := Scf.iv c0_i32_49 c1_i32_51 k0_t14
  let c128_i32 : BitVec 32 := 128#32
  let v19 : BitVec 32 := Scalar.muli arg8 c128_i32
  v19
def k0_mult28 (k0_t14 : Fin k0_t14_loop.trips) : BitVec 32 :=
  let c256_i32 : BitVec 32 := 256#32
  let c0_i32_62 : BitVec 32 := 0#32
  let c0_i32_49 : BitVec 32 := 0#32
  let c1_i32_51 : BitVec 32 := 1#32
  let arg8 : BitVec 32 := Scf.iv c0_i32_49 c1_i32_51 k0_t14
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off40 (k0_t14 : Fin k0_t14_loop.trips) : Fin 4 → Nat :=
  let c0 : Index := 0#32
  let c0_66 : Index := 0#32
  let c0_i32_49 : BitVec 32 := 0#32
  let c1_i32_51 : BitVec 32 := 1#32
  let arg8 : BitVec 32 := Scf.iv c0_i32_49 c1_i32_51 k0_t14
  let c128_i32 : BitVec 32 := 128#32
  let v19 : BitVec 32 := Scalar.muli arg8 c128_i32
  let v20 : BitVec 32 := v19
  let v29 : Index := Scalar.indexCast v20
  let c1664 : Index := 1664#32
  ![0, 0, v29.toNat, 1664]
def k0_off41 (k0_t14 : Fin k0_t14_loop.trips) : Fin 4 → Nat :=
  let c0_67 : Index := 0#32
  let c0_68 : Index := 0#32
  let c256_i32 : BitVec 32 := 256#32
  let c0_i32_62 : BitVec 32 := 0#32
  let c0_i32_49 : BitVec 32 := 0#32
  let c1_i32_51 : BitVec 32 := 1#32
  let arg8 : BitVec 32 := Scf.iv c0_i32_49 c1_i32_51 k0_t14
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1664_69 : Index := 1664#32
  ![0, 0, v32.toNat, 1664]
def k0_off42 (k0_t14 : Fin k0_t14_loop.trips) : Fin 3 → Nat :=
  let c0_i32_49 : BitVec 32 := 0#32
  let c1_i32_51 : BitVec 32 := 1#32
  let arg8 : BitVec 32 := Scf.iv c0_i32_49 c1_i32_51 k0_t14
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t15_loop : Scf.Loop 32 :=
  let c0_i32_53 : BitVec 32 := 0#32
  let c4_i32_54 : BitVec 32 := 4#32
  let v17 : BitVec 32 := Scalar.addi c0_i32_53 c4_i32_54
  let c1_i32_55 : BitVec 32 := 1#32
  ⟨c0_i32_53, v17, c1_i32_55⟩
def k0_mult29 (k0_t15 : Fin k0_t15_loop.trips) : BitVec 32 :=
  let c0_i32_53 : BitVec 32 := 0#32
  let c1_i32_55 : BitVec 32 := 1#32
  let arg8 : BitVec 32 := Scf.iv c0_i32_53 c1_i32_55 k0_t15
  let c128_i32 : BitVec 32 := 128#32
  let v19 : BitVec 32 := Scalar.muli arg8 c128_i32
  v19
def k0_mult30 (k0_t15 : Fin k0_t15_loop.trips) : BitVec 32 :=
  let c256_i32 : BitVec 32 := 256#32
  let c0_i32_62 : BitVec 32 := 0#32
  let c0_i32_53 : BitVec 32 := 0#32
  let c1_i32_55 : BitVec 32 := 1#32
  let arg8 : BitVec 32 := Scf.iv c0_i32_53 c1_i32_55 k0_t15
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off43 (k0_t15 : Fin k0_t15_loop.trips) : Fin 4 → Nat :=
  let c0 : Index := 0#32
  let c0_66 : Index := 0#32
  let c0_i32_53 : BitVec 32 := 0#32
  let c1_i32_55 : BitVec 32 := 1#32
  let arg8 : BitVec 32 := Scf.iv c0_i32_53 c1_i32_55 k0_t15
  let c128_i32 : BitVec 32 := 128#32
  let v19 : BitVec 32 := Scalar.muli arg8 c128_i32
  let v20 : BitVec 32 := v19
  let v29 : Index := Scalar.indexCast v20
  let c1792 : Index := 1792#32
  ![0, 0, v29.toNat, 1792]
def k0_off44 (k0_t15 : Fin k0_t15_loop.trips) : Fin 4 → Nat :=
  let c0_67 : Index := 0#32
  let c0_68 : Index := 0#32
  let c256_i32 : BitVec 32 := 256#32
  let c0_i32_62 : BitVec 32 := 0#32
  let c0_i32_53 : BitVec 32 := 0#32
  let c1_i32_55 : BitVec 32 := 1#32
  let arg8 : BitVec 32 := Scf.iv c0_i32_53 c1_i32_55 k0_t15
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1792_69 : Index := 1792#32
  ![0, 0, v32.toNat, 1792]
def k0_off45 (k0_t15 : Fin k0_t15_loop.trips) : Fin 3 → Nat :=
  let c0_i32_53 : BitVec 32 := 0#32
  let c1_i32_55 : BitVec 32 := 1#32
  let arg8 : BitVec 32 := Scf.iv c0_i32_53 c1_i32_55 k0_t15
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
@[reducible] def k0_t16_loop : Scf.Loop 32 :=
  let c0_i32_57 : BitVec 32 := 0#32
  let c4_i32_58 : BitVec 32 := 4#32
  let v18 : BitVec 32 := Scalar.addi c0_i32_57 c4_i32_58
  let c1_i32_59 : BitVec 32 := 1#32
  ⟨c0_i32_57, v18, c1_i32_59⟩
def k0_mult31 (k0_t16 : Fin k0_t16_loop.trips) : BitVec 32 :=
  let c0_i32_57 : BitVec 32 := 0#32
  let c1_i32_59 : BitVec 32 := 1#32
  let arg8 : BitVec 32 := Scf.iv c0_i32_57 c1_i32_59 k0_t16
  let c128_i32 : BitVec 32 := 128#32
  let v19 : BitVec 32 := Scalar.muli arg8 c128_i32
  v19
def k0_mult32 (k0_t16 : Fin k0_t16_loop.trips) : BitVec 32 :=
  let c256_i32 : BitVec 32 := 256#32
  let c0_i32_62 : BitVec 32 := 0#32
  let c0_i32_57 : BitVec 32 := 0#32
  let c1_i32_59 : BitVec 32 := 1#32
  let arg8 : BitVec 32 := Scf.iv c0_i32_57 c1_i32_59 k0_t16
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  v23
def k0_off46 (k0_t16 : Fin k0_t16_loop.trips) : Fin 4 → Nat :=
  let c0 : Index := 0#32
  let c0_66 : Index := 0#32
  let c0_i32_57 : BitVec 32 := 0#32
  let c1_i32_59 : BitVec 32 := 1#32
  let arg8 : BitVec 32 := Scf.iv c0_i32_57 c1_i32_59 k0_t16
  let c128_i32 : BitVec 32 := 128#32
  let v19 : BitVec 32 := Scalar.muli arg8 c128_i32
  let v20 : BitVec 32 := v19
  let v29 : Index := Scalar.indexCast v20
  let c1920 : Index := 1920#32
  ![0, 0, v29.toNat, 1920]
def k0_off47 (k0_t16 : Fin k0_t16_loop.trips) : Fin 4 → Nat :=
  let c0_67 : Index := 0#32
  let c0_68 : Index := 0#32
  let c256_i32 : BitVec 32 := 256#32
  let c0_i32_62 : BitVec 32 := 0#32
  let c0_i32_57 : BitVec 32 := 0#32
  let c1_i32_59 : BitVec 32 := 1#32
  let arg8 : BitVec 32 := Scf.iv c0_i32_57 c1_i32_59 k0_t16
  let c128_i32 : BitVec 32 := 128#32
  let v19 : BitVec 32 := Scalar.muli arg8 c128_i32
  let v20 : BitVec 32 := v19
  let c64_i32_61 : BitVec 32 := 64#32
  let v21 : BitVec 32 := Scalar.subi v20 c64_i32_61
  let v22 : BitVec 32 := Scalar.maxsi c0_i32_62 v21
  let v23 : BitVec 32 := Scalar.minsi c256_i32 v22
  let v24 : BitVec 32 := v23
  let v32 : Index := Scalar.indexCast v24
  let c1920_69 : Index := 1920#32
  ![0, 0, v32.toNat, 1920]
def k0_off48 (k0_t16 : Fin k0_t16_loop.trips) : Fin 3 → Nat :=
  let c0_i32_57 : BitVec 32 := 0#32
  let c1_i32_59 : BitVec 32 := 1#32
  let arg8 : BitVec 32 := Scf.iv c0_i32_57 c1_i32_59 k0_t16
  let c0_i32_63 : BitVec 32 := 0#32
  let v25 : BitVec 1 := Scalar.cmpi .eq arg8 c0_i32_63
  let c0_i32_65 : BitVec 32 := 0#32
  let c3_i32 : BitVec 32 := 3#32
  let v26 : BitVec 1 := Scalar.cmpi .eq arg8 c3_i32
  let c2_i32 : BitVec 32 := 2#32
  let c1_i32_64 : BitVec 32 := 1#32
  let v27 : BitVec 32 := Scalar.select v26 c2_i32 c1_i32_64
  let v28 : BitVec 32 := Scalar.select v25 c0_i32_65 v27
  let v38 : Index := Scalar.indexCast v28
  let c0_73 : Index := 0#32
  let c0_74 : Index := 0#32
  ![v38.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8x8192x12x64 : Shape := ⟨4, ![8, 8192, 12, 64]⟩
abbrev S8x512x16x12x64 : Shape := ⟨5, ![8, 512, 16, 12, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S8x16x12x512x512 : Shape := ⟨5, ![8, 16, 12, 512, 512]⟩
abbrev S1x1x1x512x512 : Shape := ⟨5, ![1, 1, 1, 512, 512]⟩
abbrev S8x16x12x512 : Shape := ⟨4, ![8, 16, 12, 512]⟩
abbrev S8x16x12x512x1 : Shape := ⟨5, ![8, 16, 12, 512, 1]⟩
abbrev S8x16x12x64x512 : Shape := ⟨5, ![8, 16, 12, 64, 512]⟩
abbrev S8x512x16x12 : Shape := ⟨4, ![8, 512, 16, 12]⟩
abbrev S8x512x16x12x1 : Shape := ⟨5, ![8, 512, 16, 12, 1]⟩
abbrev S8x512x16x6x128 : Shape := ⟨5, ![8, 512, 16, 6, 128]⟩
abbrev S8x6x512x16x128 : Shape := ⟨5, ![8, 6, 512, 16, 128]⟩
abbrev S8x6x512x2048 : Shape := ⟨4, ![8, 6, 512, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x8192x12x64, .f32⟩
  | .hbm, ⟨1, _⟩ => ⟨S8x8192x12x64, .f32⟩
  | .hbm, ⟨2, _⟩ => ⟨S8x8192x12x64, .f32⟩
  | .hbm, ⟨3, _⟩ => ⟨S8x512x16x12x64, .f32⟩
  | .hbm, ⟨4, _⟩ => ⟨S8x512x16x12x64, .f32⟩
  | .hbm, ⟨5, _⟩ => ⟨S8x512x16x12x64, .f32⟩
  | .hbm, ⟨6, _⟩ => ⟨S512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i1⟩
  | .hbm, ⟨16, _⟩ => ⟨S8x16x12x512x512, .f32⟩
  | .hbm, ⟨17, _⟩ => ⟨S_, .f32⟩
  | .hbm, ⟨18, _⟩ => ⟨S8x16x12x512x512, .f32⟩
  | .hbm, ⟨19, _⟩ => ⟨S8x16x12x512x512, .f32⟩
  | .hbm, ⟨20, _⟩ => ⟨S1x1x1x512x512, .i1⟩
  | .hbm, ⟨21, _⟩ => ⟨S_, .f32⟩
  | .hbm, ⟨22, _⟩ => ⟨S_, .f32⟩
  | .hbm, ⟨23, _⟩ => ⟨S8x16x12x512x512, .i1⟩
  | .hbm, ⟨24, _⟩ => ⟨S8x16x12x512x512, .f32⟩
  | .hbm, ⟨25, _⟩ => ⟨S8x16x12x512x512, .f32⟩
  | .hbm, ⟨26, _⟩ => ⟨S_, .f32⟩
  | .hbm, ⟨27, _⟩ => ⟨S8x16x12x512, .f32⟩
  | .hbm, ⟨28, _⟩ => ⟨S8x16x12x512x1, .f32⟩
  | .hbm, ⟨29, _⟩ => ⟨S8x16x12x512x512, .f32⟩
  | .hbm, ⟨30, _⟩ => ⟨S8x16x12x512x512, .f32⟩
  | .hbm, ⟨31, _⟩ => ⟨S8x16x12x512x512, .f32⟩
  | .hbm, ⟨32, _⟩ => ⟨S_, .f32⟩
  | .hbm, ⟨33, _⟩ => ⟨S8x16x12x512, .f32⟩
  | .hbm, ⟨34, _⟩ => ⟨S8x16x12x512, .f32⟩
  | .hbm, ⟨35, _⟩ => ⟨S8x16x12x512, .f32⟩
  | .hbm, ⟨36, _⟩ => ⟨S8x16x12x512x1, .f32⟩
  | .hbm, ⟨37, _⟩ => ⟨S8x16x12x512x512, .f32⟩
  | .hbm, ⟨38, _⟩ => ⟨S8x16x12x512x512, .f32⟩
  | .hbm, ⟨39, _⟩ => ⟨S8x16x12x512x512, .f32⟩
  | .hbm, ⟨40, _⟩ => ⟨S8x16x12x64x512, .f32⟩
  | .hbm, ⟨41, _⟩ => ⟨S8x512x16x12x64, .f32⟩
  | .hbm, ⟨42, _⟩ => ⟨S8x512x16x12, .f32⟩
  | .hbm, ⟨43, _⟩ => ⟨S8x512x16x12x1, .f32⟩
  | .hbm, ⟨44, _⟩ => ⟨S8x512x16x12x64, .f32⟩
  | .hbm, ⟨45, _⟩ => ⟨S8x512x16x6x128, .f32⟩
  | .hbm, ⟨46, _⟩ => ⟨S8x6x512x16x128, .f32⟩
  | .hbm, ⟨47, _⟩ => ⟨S8x6x512x2048, .f32⟩
  | .hbm, ⟨48, _⟩ => ⟨S8x512x16x6x128, .f32⟩
  | .hbm, ⟨49, _⟩ => ⟨S8x6x512x16x128, .f32⟩
  | .hbm, ⟨50, _⟩ => ⟨S8x6x512x2048, .f32⟩
  | _, _ => ⟨S8x8192x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Dft.lean ====
/-
  The transform over the positions.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof.Dft

theorem frame : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => frame_ideal m ρ trivial

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference_finite : Cert.quiescent_ReferenceIdeal_pre_finite := fun m ρ _ => frame_reference m ρ trivial

end Cert.Proof.Dft

end
-- ==== Proof.DftBody.lean ====
/-
  One grid step of the transform over the positions: the product a slab gains, and what the last step stores.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Dft

open Cert.KernelIdeal Cert.KernelIdeal.Gen

/-- What the slab of parity `p` gains in a step, at frequency `q` and column `n`: the cosines of the step's positions times the
    first half of the samples, plus the negated sines times the second. -/
def gain (x0 x1 : Vec Ideal S2x512x512 .f32) (x2 x3 : Vec Ideal S2x1x1x512 .f32) (x4 : Vec Ideal S2x2x512x2048 .bf16)
    (p : Fin 2) (q : Fin 512) (n : Fin 2048) : EReal :=
  (∑ l : Fin 512, ((x0 (ix3 p q l) * x2 (ix4 p 0 0 l) + x1 (ix3 p q l) * x3 (ix4 p 0 0 l) : EReal)) * x4 (ix4 p 0 l n))
    + ∑ l : Fin 512, ((x1 (ix3 p q l) * x2 (ix4 p 0 0 l) - x0 (ix3 p q l) * x3 (ix4 p 0 0 l) : EReal)) * x4 (ix4 p 1 l n)

theorem slab0_apply (x0 x1 : Vec Ideal S2x512x512 .f32) (x2 x3 : Vec Ideal S2x1x1x512 .f32) (x4 : Vec Ideal S2x2x512x2048 .bf16)
    (e : Vec Ideal S2x512x2048 .f32) (q : Fin 512) (n : Fin 2048) :
    (k0_pay14
      (k0_pay11 (View.ld x0 (Rect.unit ![0, 0, 0] ![1, 512, 512] inb_S2x512x512_S1x512x512_0_0_0))
        (View.ld x1 (Rect.unit ![0, 0, 0] ![1, 512, 512] inb_S2x512x512_S1x512x512_0_0_0))
        (View.ld x2 (Rect.unit ![0, 0, 0, 0] ![1, 1, 1, 512] inb_S2x1x1x512_S1x1x1x512_0_0_0_0))
        (View.ld x3 (Rect.unit ![0, 0, 0, 0] ![1, 1, 1, 512] inb_S2x1x1x512_S1x1x1x512_0_0_0_0)))
      (k0_pay12 (View.ld e (Rect.unit ![0, 0, 0] ![1, 512, 2048] inb_S2x512x2048_S1x512x2048_0_0_0)))
      (k0_pay13 (View.ld x0 (Rect.unit ![0, 0, 0] ![1, 512, 512] inb_S2x512x512_S1x512x512_0_0_0))
        (View.ld x1 (Rect.unit ![0, 0, 0] ![1, 512, 512] inb_S2x512x512_S1x512x512_0_0_0))
        (View.ld x2 (Rect.unit ![0, 0, 0, 0] ![1, 1, 1, 512] inb_S2x1x1x512_S1x1x1x512_0_0_0_0))
        (View.ld x3 (Rect.unit ![0, 0, 0, 0] ![1, 1, 1, 512] inb_S2x1x1x512_S1x1x1x512_0_0_0_0))
        (View.ld x4 (Rect.unit ![0, 0, 0, 0] ![1, 1, 512, 2048] inb_S2x2x512x2048_S1x1x512x2048_0_0_0_0)))
      (View.ld x4 (Rect.unit ![0, 1, 0, 0] ![1, 1, 512, 2048] inb_S2x2x512x2048_S1x1x512x2048_0_1_0_0)) (ix3 0 q n) : EReal)
      = e (ix3 0 q n) + gain x0 x1 x2 x3 x4 0 q n := by
  pointwise [k0_pay14, k0_pay13, k0_pay12, k0_pay11, k0_pay10, k0_pay9, k0_pay8, k0_pay7, gain]

theorem slab1_apply (x0 x1 : Vec Ideal S2x512x512 .f32) (x2 x3 : Vec Ideal S2x1x1x512 .f32) (x4 : Vec Ideal S2x2x512x2048 .bf16)
    (e : Vec Ideal S2x512x2048 .f32) (q : Fin 512) (n : Fin 2048) :
    (k0_pay1
      (k0_pay19 (View.ld x0 (Rect.unit ![1, 0, 0] ![1, 512, 512] inb_S2x512x512_S1x512x512_1_0_0))
        (View.ld x1 (Rect.unit ![1, 0, 0] ![1, 512, 512] inb_S2x512x512_S1x512x512_1_0_0))
        (View.ld x2 (Rect.unit ![1, 0, 0, 0] ![1, 1, 1, 512] inb_S2x1x1x512_S1x1x1x512_1_0_0_0))
        (View.ld x3 (Rect.unit ![1, 0, 0, 0] ![1, 1, 1, 512] inb_S2x1x1x512_S1x1x1x512_1_0_0_0)))
      (k0_pay20 (View.ld e (Rect.unit ![1, 0, 0] ![1, 512, 2048] inb_S2x512x2048_S1x512x2048_1_0_0)))
      (k0_pay21 (View.ld x0 (Rect.unit ![1, 0, 0] ![1, 512, 512] inb_S2x512x512_S1x512x512_1_0_0))
        (View.ld x1 (Rect.unit ![1, 0, 0] ![1, 512, 512] inb_S2x512x512_S1x512x512_1_0_0))
        (View.ld x2 (Rect.unit ![1, 0, 0, 0] ![1, 1, 1, 512] inb_S2x1x1x512_S1x1x1x512_1_0_0_0))
        (View.ld x3 (Rect.unit ![1, 0, 0, 0] ![1, 1, 1, 512] inb_S2x1x1x512_S1x1x1x512_1_0_0_0))
        (View.ld x4 (Rect.unit ![1, 0, 0, 0] ![1, 1, 512, 2048] inb_S2x2x512x2048_S1x1x512x2048_1_0_0_0)))
      (View.ld x4 (Rect.unit ![1, 1, 0, 0] ![1, 1, 512, 2048] inb_S2x2x512x2048_S1x1x512x2048_1_1_0_0)) (ix3 0 q n) : EReal)
      = e (ix3 1 q n) + gain x0 x1 x2 x3 x4 1 q n := by
  pointwise [k0_pay1, k0_pay21, k0_pay20, k0_pay19, k0_pay18, k0_pay17, k0_pay16, k0_pay15, gain]

/-- What the buffer holds after a step that found `e` in it, before the last step's sum and difference. -/
def stepped (x0 x1 : Vec Ideal S2x512x512 .f32) (x2 x3 : Vec Ideal S2x1x1x512 .f32) (x4 : Vec Ideal S2x2x512x2048 .bf16)
    (e : Vec Ideal S2x512x2048 .f32) : Vec Ideal S2x512x2048 .f32 :=
  fun y => (e y + gain x0 x1 x2 x3 x4 (y 0) (y 1) (y 2) : EReal)

variable (m : (ℓ : Loc nD τ sig) → Buf (Elt Ideal) ℓ)

/-- Two slab stores over anything leave the buffer they are the slabs of. -/
theorem pieces (W : S2x512x2048.Idx → Elt Ideal .f32) (w0 w1 : S1x512x2048.Idx → Elt Ideal .f32) (L : List (View.Piece (Elt Ideal) S2x512x2048 .f32))
    (h0 : ∀ q n, w0 (ix3 0 q n) = W (ix3 0 q n)) (h1 : ∀ q n, w1 (ix3 0 q n) = W (ix3 1 q n)) (y : S2x512x2048.Idx) :
    View.canon (⟨Rect.unit ![1, 0, 0] ![1, 512, 2048] inb_S2x512x2048_S1x512x2048_1_0_0, w1⟩
      :: ⟨Rect.unit ![0, 0, 0] ![1, 512, 2048] inb_S2x512x2048_S1x512x2048_0_0_0, w0⟩ :: L) y = W y := by
  refine View.canon_append_of_piecesOf W L [⟨Rect.unit ![1, 0, 0] ![1, 512, 2048] inb_S2x512x2048_S1x512x2048_1_0_0, w1⟩,
    ⟨Rect.unit ![0, 0, 0] ![1, 512, 2048] inb_S2x512x2048_S1x512x2048_0_0_0, w0⟩] ⟨fun x => ?_, fun x => ?_, trivial⟩ y ?_
  · obtain ⟨i, q, n, rfl⟩ : ∃ (i : Fin 1) (q : Fin 512) (n : Fin 2048), x = ix3 i q n := ⟨x 0, x 1, x 2, eq_ix3 x⟩
    obtain rfl := Subsingleton.elim i 0
    exact (h1 q n).trans (by congr 1; funext a; fin_cases a <;> ext <;> simp [Rect.emb, Rect.unit, LoadRect.idx])
  · obtain ⟨i, q, n, rfl⟩ : ∃ (i : Fin 1) (q : Fin 512) (n : Fin 2048), x = ix3 i q n := ⟨x 0, x 1, x 2, eq_ix3 x⟩
    obtain rfl := Subsingleton.elim i 0
    exact (h0 q n).trans (by congr 1; funext a; fin_cases a <;> ext <;> simp [Rect.emb, Rect.unit, LoadRect.idx])
  · obtain ⟨p, q, n, rfl⟩ : ∃ (p : Fin 2) (q : Fin 512) (n : Fin 2048), y = ix3 p q n := ⟨y 0, y 1, y 2, eq_ix3 y⟩
    obtain rfl | rfl : p = 0 ∨ p = 1 := by omega
    · refine ⟨_, List.mem_cons_of_mem _ List.mem_cons_self, ?_⟩
      rw [Rect.mem_set_unit (inb := inb_S2x512x2048_S1x512x2048_0_0_0)]
      intro a; fin_cases a <;> simp <;> omega
    · refine ⟨_, List.mem_cons_self, ?_⟩
      rw [Rect.mem_set_unit (inb := inb_S2x512x2048_S1x512x2048_1_0_0)]
      intro a; fin_cases a <;> simp <;> omega

/-- What the last step stores from the buffer `s`: the sum of its two slabs, and their difference. -/
def folded (s : Vec Ideal S2x512x2048 .f32) : Vec Ideal S2x512x2048 .f32 := fun y =>
  if (y 0).val = 0 then (s (ix3 0 (y 1) (y 2)) + s (ix3 1 (y 1) (y 2)) : EReal) else (s (ix3 0 (y 1) (y 2)) - s (ix3 1 (y 1) (y 2)) : EReal)

theorem sum_apply (a b : Vec Ideal S1x512x2048 .f32) (q : Fin 512) (n : Fin 2048) :
    (k0_pay4 a b (ix3 0 q n) : EReal) = a (ix3 0 q n) + b (ix3 0 q n) := by
  pointwise [k0_pay4, k0_pay3, k0_pay2]

theorem diff_apply (a b : Vec Ideal S1x512x2048 .f32) (q : Fin 512) (n : Fin 2048) :
    (k0_pay5 a b (ix3 0 q n) : EReal) = a (ix3 0 q n) - b (ix3 0 q n) := by
  pointwise [k0_pay5, k0_pay3, k0_pay2]

/-- A run of eight starts from a buffer of zeros. -/
theorem out_first (c : Dev nD) (t : Fin cfg0.N) (h0 : t.val % 8 = 0) (h1 : ¬t.val % 8 = 7) :
    (outsAt0 m c t.val t.isLt : Vec Ideal S2x512x2048 .f32)
      = stepped (iblk m c 0 t) (iblk m c 1 t) (iblk m c 2 t) (iblk m c 3 t) (iblk m c 4 t) (k0_pay6 (F := Ideal)) := by
  rw [outsAt0_A m c t h0 h1]
  frame_open
  simp (disch := decide) only [↓ View.readCov_skip, ↓ View.readCov_cons_toLoadRect, ↓ View.readCov_fill]
  funext y
  frame_out
  exact pieces _ _ _ _ (fun q n => slab0_apply ..) (fun q n => slab1_apply ..) y

/-- The six steps between add to what the step before left. -/
theorem out_middle (c : Dev nD) (t : Fin cfg0.N) (h0 : ¬t.val % 8 = 0) (h1 : ¬t.val % 8 = 7) :
    (outsAt0 m c t.val t.isLt : Vec Ideal S2x512x2048 .f32)
      = stepped (iblk m c 0 t) (iblk m c 1 t) (iblk m c 2 t) (iblk m c 3 t) (iblk m c 4 t)
        (outsAt0 m c (t.val - 1) (lt_of_le_of_lt (Nat.sub_le _ _) t.isLt)) := by
  rw [outsAt0_B m c t h0 h1]
  frame_open
  simp (disch := decide) only [↓ View.readCov_skip, ↓ View.readCov_cons_toLoadRect, ↓ View.readCov_fill]
  funext y
  frame_out
  exact pieces _ _ _ _ (fun q n => slab0_apply ..) (fun q n => slab1_apply ..) y

/-- The last step adds as the others do, then stores the sum and the difference of the slabs. -/
theorem out_last (c : Dev nD) (t : Fin cfg0.N) (h0 : ¬t.val % 8 = 0) (h1 : t.val % 8 = 7) :
    (outsAt0 m c t.val t.isLt : Vec Ideal S2x512x2048 .f32)
      = folded (stepped (iblk m c 0 t) (iblk m c 1 t) (iblk m c 2 t) (iblk m c 3 t) (iblk m c 4 t)
        (outsAt0 m c (t.val - 1) (lt_of_le_of_lt (Nat.sub_le _ _) t.isLt))) := by
  rw [outsAt0_C m c t h0 h1]
  frame_open
  simp (disch := decide) only [↓ View.readCov_skip, ↓ View.readCov_cons_toLoadRect, ↓ View.readCov_fill]
  funext y
  frame_out
  refine pieces _ _ _ _ (fun q n => ?_) (fun q n => ?_) y
  · refine (sum_apply _ _ q n).trans ?_
    exact congrArg₂ (· + · : EReal → EReal → EReal) (slab0_apply ..) (slab1_apply ..)
  · refine (diff_apply _ _ q n).trans ?_
    exact congrArg₂ (· - · : EReal → EReal → EReal) (slab0_apply ..) (slab1_apply ..)

end Cert.KernelIdeal.Dft

end
-- ==== Proof.DftReal.lean ====
/-
  The transform of length 8192 on real numbers: the angles, and the split of its sum into the even and the odd positions.
-/
module

public import Idealize.ShloMosaic.Lib.Pointwise
public import Idealize.ShloMosaic.PureOps.Ideal

@[expose] public section

noncomputable section

namespace Cert.DftReal

open Idealize.ShloMosaic

/-- The angle of one step of the transform of length 8192. -/
def w : ℝ := Real.pi / 4096

theorem cos_rem (n : ℕ) : Real.cos (((n % 8192 : ℕ) : ℝ) * w) = Real.cos (n * w) := by
  conv_rhs => rw [← Nat.mod_add_div n 8192]
  rw [show (((n % 8192 + 8192 * (n / 8192) : ℕ) : ℝ)) * w = ((n % 8192 : ℕ) : ℝ) * w + ((n / 8192 : ℕ) : ℝ) * (2 * Real.pi) by
    rw [w]; push_cast; ring, Real.cos_add_nat_mul_two_pi]

theorem sin_rem (n : ℕ) : Real.sin (((n % 8192 : ℕ) : ℝ) * w) = Real.sin (n * w) := by
  conv_rhs => rw [← Nat.mod_add_div n 8192]
  rw [show (((n % 8192 + 8192 * (n / 8192) : ℕ) : ℝ)) * w = ((n % 8192 : ℕ) : ℝ) * w + ((n / 8192 : ℕ) : ℝ) * (2 * Real.pi) by
    rw [w]; push_cast; ring, Real.sin_add_nat_mul_two_pi]

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- What the position `x` with the samples `a` and `b` adds to the frequency `k`. -/
def share (k x : ℕ) (a b : ℝ) : ℝ := Real.cos ((k * x : ℕ) * w) * a - Real.sin ((k * x : ℕ) * w) * b

/-- Half a turn further the even positions add the same and the odd ones the opposite. -/
theorem share_far (k x : ℕ) (a b : ℝ) : share (4096 + k) x a b = (-1) ^ x * share k x a b := by
  have e : (((4096 + k) * x : ℕ) : ℝ) * w = ((k * x : ℕ) : ℝ) * w + x * Real.pi := by rw [w]; push_cast; ring
  rw [share, share, e, Real.cos_add_nat_mul_pi, Real.sin_add_nat_mul_pi]
  ring

/-- The positions of parity `p`. -/
def slab (k p : ℕ) (A B : ℕ → ℝ) : ℝ := ∑ j : Fin 4096, share k (2 * j.val + p) (A (2 * j.val + p)) (B (2 * j.val + p))

theorem whole (k : ℕ) (A B : ℕ → ℝ) : ∑ x : Fin 8192, share k x.val (A x.val) (B x.val) = slab k 0 A B + slab k 1 A B := by
  rw [Fin.sum_univ_tiles 4096 2 rfl, slab, slab, ← Finset.sum_add_distrib]
  refine Finset.sum_congr rfl fun j _ => ?_
  rw [Fin.sum_univ_two]
  simp only [Fin.val_zero, Fin.val_one, Nat.mul_comm]

theorem whole_far (k : ℕ) (A B : ℕ → ℝ) :
    ∑ x : Fin 8192, share (4096 + k) x.val (A x.val) (B x.val) = slab k 0 A B - slab k 1 A B := by
  simp only [share_far]
  rw [Fin.sum_univ_tiles 4096 2 rfl, slab, slab, ← Finset.sum_sub_distrib]
  refine Finset.sum_congr rfl fun j _ => ?_
  rw [Fin.sum_univ_two]
  have e0 : (-1 : ℝ) ^ (2 * j.val + 0) = 1 := by rw [add_zero, pow_mul]; norm_num
  have e1 : (-1 : ℝ) ^ (2 * j.val + 1) = -1 := by rw [pow_succ, pow_mul]; norm_num
  simp only [Fin.val_zero, Fin.val_one, Nat.mul_comm _ 2, e0, e1]
  ring

/-- A slab, eight blocks of 512 positions one after the other. -/
theorem slab_blocks (k p : ℕ) (A B : ℕ → ℝ) :
    slab k p A B = ∑ i ∈ Finset.range 8, ∑ l : Fin 512, share k (2 * (i * 512 + l.val) + p) (A (2 * (i * 512 + l.val) + p)) (B (2 * (i * 512 + l.val) + p)) := by
  rw [slab, Fin.sum_univ_tiles 8 512 rfl, Finset.sum_range]

/-- The angle addition in the products of a step: the block's first frequency `k`, the frequency `q` within it, the scale `r`. -/
theorem turn (k q x : ℕ) (r a b : ℝ) :
    (Real.cos ((q * x : ℕ) * w) * (Real.cos ((k * x : ℕ) * w) * r) + -Real.sin ((q * x : ℕ) * w) * (Real.sin ((k * x : ℕ) * w) * r)) * a
      + (-Real.sin ((q * x : ℕ) * w) * (Real.cos ((k * x : ℕ) * w) * r) - Real.cos ((q * x : ℕ) * w) * (Real.sin ((k * x : ℕ) * w) * r)) * b
      = r * share (k + q) x a b := by
  have e : (((k + q) * x : ℕ) : ℝ) * w = ((q * x : ℕ) : ℝ) * w + ((k * x : ℕ) : ℝ) * w := by push_cast; ring
  rw [share, e, Real.cos_add, Real.sin_add]
  ring

/-- A finite extended real is a real. -/
theorem exists_coe {x : EReal} (h : max x (-x) < ⊤) : x = ((x.toReal : ℝ) : EReal) := by
  refine (EReal.coe_toReal ?_ ?_).symm
  · rintro rfl; simp at h
  · rintro rfl; simp at h

end Cert.DftReal

end
-- ==== Proof.DftTables.lean ====
/-
  The angle tables of the transform over the positions, read at an index.
-/
module

public import proofs.«01_k».proof.Proof.Gen.KernelIdeal.Value
public import Idealize.ShloMosaic.Lib.Pipeline.ValueKit
public import Idealize.ShloMosaic.Lib.StableHlo.ReadAt
public import Idealize.ShloMosaic.Lib.Routing.Words
public import proofs.«01_k».proof.Proof.DftReal

@[expose] public section

set_option maxRecDepth 16384

noncomputable section

open Idealize.ShloMosaic Idealize.ShloMosaic.TcCoe Idealize.SL.Sem

namespace Cert.KernelIdeal.Dft

open Cert.KernelIdeal Cert.KernelIdeal.Gen Cert.DftReal

/-- The divisor as the remainder's function guards it. -/
theorem divisor : Scalar.select (IntOp.cmpi CmpIPredicate.eq (id (constantI S_ 32 8192#32) ix0) 0#32) (1#32)
    (id (constantI S_ 32 8192#32) ix0) = 8192#32 := by
  simp only [id, constantI]; decide

/-- The remainder of a product of iotas, as printed, is the number's remainder. -/
theorem word_rem (a d : BitVec 32) (n : ℕ) (ha : a = BitVec.ofNat 32 n) (hd : d = 8192#32) (hn : n < 2 ^ 31) :
    Scalar.select (IntOp.andi (IntOp.cmpi .ne (IntOp.cmpi .slt (IntOp.remsi .host a d) 0#32) (IntOp.cmpi .slt d 0#32))
        (IntOp.cmpi .ne (IntOp.remsi .host a d) 0#32))
      (IntOp.addi (IntOp.remsi .host a d) d) (IntOp.remsi .host a d) = BitVec.ofNat 32 (n % 8192) := by
  subst ha hd
  rw [show (8192#32 : BitVec 32) = BitVec.ofNat 32 8192 from rfl, Routing.remsi_word .host hn (by norm_num) (by norm_num)]
  have hm : n % 8192 < 2 ^ 31 := lt_of_le_of_lt (Nat.mod_le _ _) hn
  rw [show (0#32 : BitVec 32) = BitVec.ofNat 32 0 from rfl, WordCmp.cmpi_slt_ofNat (w := 32) hm (by decide), WordCmp.cmpi_slt_ofNat (w := 32) (by decide) (by decide)]
  simp only [Nat.not_lt_zero, decide_false]
  exact Routing.select_zero_and _ _ _

/-- The word of a number below `2^31`, as a real. -/
theorem word_real (n : ℕ) (hn : n < 2 ^ 31) : (FloatOps.sitofp (F := Ideal) .f32 (BitVec.ofNat 32 n) : EReal) = ((n : ℝ) : EReal) := by
  refine (Ideal.scalar_sitofp_def (φ := .f32) _).trans ?_
  rw [WordCmp.toInt_ofNat_of_lt (w := 32) hn]; norm_cast

/-- The printed angle: the arc of minus one times `2^-12`. -/
theorem step : (Ideal.acos (Ideal.ofBits .f32 3212836864#32) * Ideal.ofBits .f32 964689920#32 : EReal) = ((w : ℝ) : EReal) := by
  rw [show (Ideal.ofBits .f32 3212836864#32 : EReal) = ((-1 : ℝ) : EReal) by simp [Ideal.ofBits, Ideal.ieee, -EReal.coe_mul, -EReal.coe_neg]; norm_num,
    show (Ideal.ofBits .f32 964689920#32 : EReal) = ((1 / 4096 : ℝ) : EReal) by simp [Ideal.ofBits, Ideal.ieee, -EReal.coe_mul]; norm_num,
    Ideal.acos_coe, if_pos ⟨le_refl _, by norm_num⟩, Real.arccos_neg_one, ← EReal.coe_mul]
  congr 1; rw [w]; ring

variable (m : (ℓ : Loc nD τ sig) → Buf (Elt Ideal) ℓ)

/-- The buffers before the last stretch of host operations. -/
abbrev W5 (c : Dev nD) : Valuation τ sig (Elt Ideal) :=
  StableHlo.after (List.flatten [hostOps0, hostOps0_1, hostOps0_2, hostOps0_3, hostOps0_4, hostOps0_5]) (fun b => m (c, b))

theorem v20 (c : Dev nD) : (W5 m c main_v20 ix0 : Elt Ideal .f32) = ((w : ℝ) : EReal) := by
  after_reads_at
  exact step

theorem v52 (c : Dev nD) (p : Fin 2) (q : Fin 32) (j : Fin 4096) :
    (W5 m c main_v52 (ix3 p q j) : BitVec 32) = BitVec.ofNat 32 (q.val * (2 * j.val + p.val) % 8192) := by
  after_reads_at
  refine word_rem _ _ _ ?_ divisor ?_
  · simp only [IntOp.muli, IntOp.addi, BitVec.ofNat_add, BitVec.ofNat_mul]
  · have : q.val * (2 * j.val + p.val) ≤ 31 * 8191 := Nat.mul_le_mul (by omega) (by omega)
    omega

theorem v46 (c : Dev nD) (p : Fin 2) (q : Fin 16) (j : Fin 4096) :
    (W5 m c main_v46 (ix3 p q j) : Elt Ideal .f32) = ((((32 * q.val * (2 * j.val + p.val) % 8192 : ℕ) : ℝ) * w : ℝ) : EReal) := by
  after_reads_at
  rw [word_rem _ _ (32 * q.val * (2 * j.val + p.val)) ?_ divisor ?_]
  · rw [EReal.coe_mul]
    exact congrArg₂ (· * · : EReal → EReal → EReal) (word_real _ (lt_of_lt_of_le (Nat.mod_lt _ (by norm_num)) (by norm_num))) step
  · simp [IntOp.muli, IntOp.addi, BitVec.ofNat_add, BitVec.ofNat_mul]
  · have : 32 * q.val * (2 * j.val + p.val) ≤ 480 * 8191 := Nat.mul_le_mul (by omega) (by omega)
    omega

theorem v33 (c : Dev nD) (p : Fin 2) (s : Fin 8) (j : Fin 4096) :
    (W5 m c main_v33 (ix3 p s j) : Elt Ideal .f32) = ((((512 * s.val * (2 * j.val + p.val) % 8192 : ℕ) : ℝ) * w : ℝ) : EReal) := by
  after_reads_at
  rw [word_rem _ _ (512 * s.val * (2 * j.val + p.val)) ?_ divisor ?_]
  · rw [EReal.coe_mul]
    exact congrArg₂ (· * · : EReal → EReal → EReal) (word_real _ (lt_of_lt_of_le (Nat.mod_lt _ (by norm_num)) (by norm_num))) step
  · simp [IntOp.muli, IntOp.addi, BitVec.ofNat_add, BitVec.ofNat_mul]
  · have : 512 * s.val * (2 * j.val + p.val) ≤ 3584 * 8191 := Nat.mul_le_mul (by omega) (by omega)
    omega

/-- The buffers at the launch are the last stretch's. -/
theorem V_after (c : Dev nD) (b : Ref sig .tc) : V m c b = StableHlo.after (hostOps0_6 (F := Ideal)) (W5 m c) (Proc.tc.devRef b) := rfl

/-- The scale of the table of a block's first frequency. -/
abbrev sc : EReal := Ideal.ofBits .f32 1010107635#32

theorem angle (p : Fin 2) (q : Fin 512) (j : Fin 4096) :
    ((q.val * (2 * j.val + p.val) : ℕ) : ℝ) * w
      = ((32 * (q.val / 32) * (2 * j.val + p.val) : ℕ) : ℝ) * w + ((q.val % 32 * (2 * j.val + p.val) : ℕ) : ℝ) * w := by
  rw [← add_mul, ← Nat.cast_add, ← Nat.add_mul, Nat.div_add_mod]

theorem low (c : Dev nD) (p : Fin 2) (q : Fin 512) (j : Fin 4096) :
    (FloatOps.sitofp (F := Ideal) .f32 (W5 m c main_v52 (ix3 p ⟨q.val % 32, by omega⟩ j) : BitVec 32) * (W5 m c main_v20 ix0 : Elt Ideal .f32) : EReal)
      = ((((q.val % 32 * (2 * j.val + p.val) % 8192 : ℕ) : ℝ) * w : ℝ) : EReal) := by
  rw [v52, EReal.coe_mul]
  exact congrArg₂ (· * · : EReal → EReal → EReal) (word_real _ (lt_of_lt_of_le (Nat.mod_lt _ (by norm_num)) (by norm_num))) (v20 m c)

/-- The table of cosines within a block of frequencies. -/
theorem cos_table (c : Dev nD) (p : Fin 2) (q : Fin 512) (j : Fin 4096) :
    (V m c main_v71 (ix3 p q j) : EReal) = ((Real.cos ((q.val * (2 * j.val + p.val) : ℕ) * w) : ℝ) : EReal) := by
  have hl := low m c p q j
  have hh := v46 m c p ⟨q.val / 32, by omega⟩ j
  rw [V_after]
  generalize W5 m c = W at hl hh ⊢
  after_reads_at
  rw [angle, Real.cos_add, ← cos_rem, ← cos_rem (q.val % 32 * _), ← sin_rem (32 * _ * _), ← sin_rem (q.val % 32 * _), EReal.coe_sub, EReal.coe_mul, EReal.coe_mul,
    ← Ideal.cos_coe, ← Ideal.cos_coe, ← Ideal.sin_coe, ← Ideal.sin_coe, ← hl, ← hh]

/-- The table of negated sines within a block of frequencies. -/
theorem sin_table (c : Dev nD) (p : Fin 2) (q : Fin 512) (j : Fin 4096) :
    (V m c main_v80 (ix3 p q j) : EReal) = ((-Real.sin ((q.val * (2 * j.val + p.val) : ℕ) * w) : ℝ) : EReal) := by
  have hl := low m c p q j
  have hh := v46 m c p ⟨q.val / 32, by omega⟩ j
  rw [V_after]
  generalize W5 m c = W at hl hh ⊢
  after_reads_at
  have key : ((-Real.sin ((q.val * (2 * j.val + p.val) : ℕ) * w) : ℝ) : EReal)
      = -(Ideal.sin (((((32 * (q.val / 32) * (2 * j.val + p.val) % 8192 : ℕ) : ℝ) * w : ℝ) : EReal))
          * Ideal.cos (((((q.val % 32 * (2 * j.val + p.val) % 8192 : ℕ) : ℝ) * w : ℝ) : EReal))
        + Ideal.cos (((((32 * (q.val / 32) * (2 * j.val + p.val) % 8192 : ℕ) : ℝ) * w : ℝ) : EReal))
          * Ideal.sin (((((q.val % 32 * (2 * j.val + p.val) % 8192 : ℕ) : ℝ) * w : ℝ) : EReal))) := by
    rw [angle, Real.sin_add, Ideal.cos_coe, Ideal.sin_coe, Ideal.cos_coe, Ideal.sin_coe, cos_rem, cos_rem, sin_rem, sin_rem, EReal.coe_neg,
      EReal.coe_add, EReal.coe_mul, EReal.coe_mul]
  rw [← hl, ← hh] at key
  exact key.symm

/-- The scaled cosines of a block's first frequency. -/
theorem cos_first (c : Dev nD) (p : Fin 2) (s : Fin 8) (j : Fin 4096) :
    (V m c main_v84 (ix4 p s 0 j) : EReal) = ((Real.cos ((512 * s.val * (2 * j.val + p.val) : ℕ) * w) : ℝ) : EReal) * sc := by
  have hh := v33 m c p s j
  rw [V_after]
  generalize W5 m c = W at hh ⊢
  after_reads_at
  rw [← cos_rem, ← Ideal.cos_coe, ← hh]

/-- The scaled sines of a block's first frequency. -/
theorem sin_first (c : Dev nD) (p : Fin 2) (s : Fin 8) (j : Fin 4096) :
    (V m c main_v88 (ix4 p s 0 j) : EReal) = ((Real.sin ((512 * s.val * (2 * j.val + p.val) : ℕ) * w) : ℝ) : EReal) * sc := by
  have hh := v33 m c p s j
  rw [V_after]
  generalize W5 m c = W at hh ⊢
  after_reads_at
  rw [← sin_rem, ← Ideal.sin_coe, ← hh]

/-- The first half of the samples, at the position `2 j + p` and the column `n`. -/
theorem samples_zero (c : Dev nD) (p : Fin 2) (j : Fin 4096) (n : Fin 2048) :
    (V m c main_v9 (ix4 p 0 j n) : Elt Ideal .bf16)
      = m (c, main_arg0) (ix3 ⟨n.val / 256, by omega⟩ ⟨j.val * 2 + p.val, by omega⟩ ⟨n.val % 256, by omega⟩) := by
  after_reads_at
  after_reads_at

/-- The second half. -/
theorem samples_one (c : Dev nD) (p : Fin 2) (j : Fin 4096) (n : Fin 2048) :
    (V m c main_v9 (ix4 p 1 j n) : Elt Ideal .bf16)
      = m (c, main_arg1) (ix3 ⟨n.val / 256, by omega⟩ ⟨j.val * 2 + p.val, by omega⟩ ⟨n.val % 256, by omega⟩) := by
  after_reads_at
  after_reads_at

end Cert.KernelIdeal.Dft

end
-- ==== Proof.DftRun.lean ====
/-
  The array the transform leaves, from samples that are real numbers: the eight steps of a block of frequencies added up.
-/
module

public import proofs.«01_k».proof.Proof.DftBody
public import proofs.«01_k».proof.Proof.DftTables

@[expose] public section

set_option maxRecDepth 16384

noncomputable section

open Idealize.ShloMosaic Idealize.ShloMosaic.TcCoe Idealize.SL.Sem

namespace Cert.KernelIdeal.Dft

open Cert.KernelIdeal Cert.KernelIdeal.Gen Cert.DftReal

variable (m : (ℓ : Loc nD τ sig) → Buf (Elt Ideal) ℓ) (c : Dev nD) (t : Fin cfg0.N)

/-- The windows' block indices at a point of the grid. -/
theorem idx : ∀ t : Fin grid0.N, win0_0.index t = ![0, 0, t.val % 8] ∧ win0_1.index t = ![0, 0, t.val % 8]
    ∧ win0_2.index t = ![0, t.val / 8, 0, t.val % 8] ∧ win0_3.index t = ![0, t.val / 8, 0, t.val % 8]
    ∧ win0_4.index t = ![0, 0, t.val % 8, 0] ∧ win0_5.index t = ![0, t.val / 8, 0] := by decide +kernel

theorem lt_points : t.val < 64 := lt_of_lt_of_eq t.isLt N_0

theorem read0 (p : Fin 2) (q l : Fin 512) :
    (iblk m c 0 t (ix3 p q l) : EReal) = V m c main_v71 (ix3 p q ⟨t.val % 8 * 512 + l.val, by omega⟩) := by
  blk_ext! [iblk, idx t]

theorem read1 (p : Fin 2) (q l : Fin 512) :
    (iblk m c 1 t (ix3 p q l) : EReal) = V m c main_v80 (ix3 p q ⟨t.val % 8 * 512 + l.val, by omega⟩) := by
  blk_ext! [iblk, idx t]

theorem read2 (p : Fin 2) (l : Fin 512) :
    (iblk m c 2 t (ix4 p 0 0 l) : EReal)
      = V m c main_v84 (ix4 p ⟨t.val / 8, by have := lt_points t; omega⟩ 0 ⟨t.val % 8 * 512 + l.val, by omega⟩) := by
  blk_ext! [iblk, idx t]

theorem read3 (p : Fin 2) (l : Fin 512) :
    (iblk m c 3 t (ix4 p 0 0 l) : EReal)
      = V m c main_v88 (ix4 p ⟨t.val / 8, by have := lt_points t; omega⟩ 0 ⟨t.val % 8 * 512 + l.val, by omega⟩) := by
  blk_ext! [iblk, idx t]

theorem read4 (p d : Fin 2) (l : Fin 512) (n : Fin 2048) :
    (iblk m c 4 t (ix4 p d l n) : EReal) = V m c main_v9 (ix4 p d ⟨t.val % 8 * 512 + l.val, by omega⟩ n) := by
  blk_ext! [iblk, idx t]

/-- The scale as a real number. -/
def scr : ℝ := sc.toReal

theorem sc_real : sc = ((scr : ℝ) : EReal) := by
  refine exists_coe ?_
  rw [sc, show (Ideal.ofBits .f32 1010107635#32 : EReal) = ((11863283 / 1073741824 : ℝ) : EReal) by
    simp [Ideal.ofBits, Ideal.ieee, -EReal.coe_mul]; norm_num]
  exact max_lt (EReal.coe_lt_top _) (EReal.coe_lt_top _)

/-- Column `n` of an array of samples, by position. -/
def col (A : S8x8192x256.Idx → ℝ) (n : Fin 2048) (x : ℕ) : ℝ :=
  if h : x < 8192 then A (ix3 ⟨n.val / 256, by omega⟩ ⟨x, h⟩ ⟨n.val % 256, by omega⟩) else 0

variable (A B : S8x8192x256.Idx → ℝ) (hA : ∀ i, (m (c, main_arg0) i : Elt Ideal .f32) = ((A i : ℝ) : EReal))
  (hB : ∀ i, (m (c, main_arg1) i : Elt Ideal .f32) = ((B i : ℝ) : EReal))

/-- What the block of 512 positions `i` adds. -/
def piece (s i : ℕ) (p : Fin 2) (q : Fin 512) (n : Fin 2048) : ℝ :=
  ∑ l : Fin 512, share (512 * s + q.val) (2 * (i * 512 + l.val) + p.val) (col A n (2 * (i * 512 + l.val) + p.val)) (col B n (2 * (i * 512 + l.val) + p.val))

theorem prod_add {x0 x1 x2 x3 y : EReal} {a0 a1 a2 a3 b : ℝ} (h0 : x0 = (a0 : EReal)) (h1 : x1 = (a1 : EReal)) (h2 : x2 = (a2 : EReal) * sc)
    (h3 : x3 = (a3 : EReal) * sc) (hy : y = (b : EReal)) :
    (x0 * x2 + x1 * x3) * y = (((a0 * (a2 * scr) + a1 * (a3 * scr)) * b : ℝ) : EReal) := by
  rw [h0, h1, h2, h3, hy, sc_real]
  norm_cast

theorem prod_sub {x0 x1 x2 x3 y : EReal} {a0 a1 a2 a3 b : ℝ} (h0 : x0 = (a0 : EReal)) (h1 : x1 = (a1 : EReal)) (h2 : x2 = (a2 : EReal) * sc)
    (h3 : x3 = (a3 : EReal) * sc) (hy : y = (b : EReal)) :
    (x1 * x2 - x0 * x3) * y = (((a1 * (a2 * scr) - a0 * (a3 * scr)) * b : ℝ) : EReal) := by
  rw [h0, h1, h2, h3, hy, sc_real]
  norm_cast

include hA hB in
/-- What a slab gains in a step. -/
theorem gain_eq (p : Fin 2) (q : Fin 512) (n : Fin 2048) :
    gain (iblk m c 0 t) (iblk m c 1 t) (iblk m c 2 t) (iblk m c 3 t) (iblk m c 4 t) p q n
      = ((scr * piece A B (t.val / 8) (t.val % 8) p q n : ℝ) : EReal) := by
  have h4 (l : Fin 512) : (iblk m c 4 t (ix4 p 0 l n) : EReal) = ((col A n (2 * (t.val % 8 * 512 + l.val) + p.val) : ℝ) : EReal) := by
    refine (read4 m c t p 0 l n).trans ((samples_zero m c p _ n).trans ((hA _).trans ?_))
    rw [col, dif_pos (by omega)]
    simp only [Nat.mul_comm 2]
  have h5 (l : Fin 512) : (iblk m c 4 t (ix4 p 1 l n) : EReal) = ((col B n (2 * (t.val % 8 * 512 + l.val) + p.val) : ℝ) : EReal) := by
    refine (read4 m c t p 1 l n).trans ((samples_one m c p _ n).trans ((hB _).trans ?_))
    rw [col, dif_pos (by omega)]
    simp only [Nat.mul_comm 2]
  have h0 (l : Fin 512) := (read0 m c t p q l).trans (cos_table m c p q _)
  have h1 (l : Fin 512) := (read1 m c t p q l).trans (sin_table m c p q _)
  have h2 (l : Fin 512) := (read2 m c t p l).trans (cos_first m c p _ _)
  have h3 (l : Fin 512) := (read3 m c t p l).trans (sin_first m c p _ _)
  refine (congrArg₂ (· + · : EReal → EReal → EReal)
    (Finset.sum_congr rfl fun l _ => prod_add (h0 l) (h1 l) (h2 l) (h3 l) (h4 l))
    (Finset.sum_congr rfl fun l _ => prod_sub (h0 l) (h1 l) (h2 l) (h3 l) (h5 l))).trans ?_
  rw [← coe_sum, ← coe_sum, ← EReal.coe_add, ← Finset.sum_add_distrib, piece, Finset.mul_sum]
  exact congrArg _ (Finset.sum_congr rfl fun l _ => turn _ _ _ _ _ _)

include hA hB in
/-- The buffer after the step `i` of a run of eight, before the last. -/
theorem running (s : ℕ) (i : ℕ) (hi : i < 7) (h : 8 * s + i < cfg0.N) (p : Fin 2) (q : Fin 512) (n : Fin 2048) :
    (outsAt0 m c (8 * s + i) h (ix3 p q n) : EReal) = ((scr * ∑ j ∈ Finset.range (i + 1), piece A B s j p q n : ℝ) : EReal) := by
  induction i with
  | zero =>
    have e := congrFun (out_first m c ⟨8 * s + 0, h⟩ (by simp only; omega) (by simp only; omega)) (ix3 p q n)
    refine e.trans ?_
    have g := gain_eq m c ⟨8 * s + 0, h⟩ A B hA hB p q n
    simp only [show (8 * s + 0) / 8 = s by omega, show (8 * s + 0) % 8 = 0 by omega] at g
    have z : ((k0_pay6 (F := Ideal)) (ix3 p q n) : EReal) = 0 := by pointwise [k0_pay6]
    refine (congrArg₂ (· + · : EReal → EReal → EReal) z g).trans ?_
    rw [zero_add, Finset.sum_range_one]
  | succ i ih =>
    have e := congrFun (out_middle m c ⟨8 * s + (i + 1), h⟩ (by simp only; omega) (by simp only; omega)) (ix3 p q n)
    refine e.trans ?_
    have g := gain_eq m c ⟨8 * s + (i + 1), h⟩ A B hA hB p q n
    simp only [show (8 * s + (i + 1)) / 8 = s by omega, show (8 * s + (i + 1)) % 8 = i + 1 by omega] at g
    refine (congrArg₂ (· + · : EReal → EReal → EReal) (ih (by omega) (by omega)) g).trans ?_
    rw [← EReal.coe_add, ← mul_add, Finset.sum_range_succ _ (i + 1)]

include hA hB in
/-- The buffer at the end of a run, before the sum and the difference. -/
theorem total (s : ℕ) (h : 8 * s + 7 < cfg0.N) (p : Fin 2) (q : Fin 512) (n : Fin 2048) :
    (stepped (iblk m c 0 ⟨8 * s + 7, h⟩) (iblk m c 1 ⟨8 * s + 7, h⟩) (iblk m c 2 ⟨8 * s + 7, h⟩) (iblk m c 3 ⟨8 * s + 7, h⟩)
      (iblk m c 4 ⟨8 * s + 7, h⟩) (outsAt0 m c (8 * s + 7 - 1) (lt_of_le_of_lt (Nat.sub_le _ _) h)) (ix3 p q n) : EReal)
      = ((scr * slab (512 * s + q.val) p.val (col A n) (col B n) : ℝ) : EReal) := by
  have g := gain_eq m c ⟨8 * s + 7, h⟩ A B hA hB p q n
  simp only [show (8 * s + 7) / 8 = s by omega, show (8 * s + 7) % 8 = 7 by omega] at g
  refine (congrArg₂ (· + · : EReal → EReal → EReal) (running m c A B hA hB s 6 (by omega) (by omega) p q n) g).trans ?_
  rw [← EReal.coe_add, ← mul_add, slab_blocks, Finset.sum_range_succ _ 7]
  rfl

/-- The result: for each frequency the sum of the slabs, and half a turn further their difference. -/
def result : S2x4096x2048.Idx → Elt Ideal .f32 := fun y =>
  if (y 0).val = 0
  then ((scr * (slab (y 1).val 0 (col A (y 2)) (col B (y 2)) + slab (y 1).val 1 (col A (y 2)) (col B (y 2))) : ℝ) : EReal)
  else ((scr * (slab (y 1).val 0 (col A (y 2)) (col B (y 2)) - slab (y 1).val 1 (col A (y 2)) (col B (y 2))) : ℝ) : EReal)

include hA hB in
/-- What the result array holds after the run. -/
theorem final : (dats m 0 c).arrAt 5 cfg0.N = result A B := by
  refine (dats m 0 c).arrAt_eq_of_covers 5 _ (by decide +kernel) fun t hf y => ?_
  blk_simp
  rw [after0_5]
  have ht : t.val < 64 := lt_points t
  have h7 : t.val % 8 = 7 := (flush0_5 t).mp hf
  obtain ⟨p, q, n, rfl⟩ : ∃ (p : Fin 2) (q : Fin 512) (n : Fin 2048), y = ix3 p q n := ⟨y 0, y 1, y 2, eq_ix3 y⟩
  have e : (win0_5.blk t).view.emb (ix3 p q n) = ix3 p ⟨t.val / 8 * 512 + q.val, by omega⟩ n := by
    have h5 := (idx t).2.2.2.2.2
    funext a
    apply Fin.ext
    match a with
    | ⟨0, _⟩ => show win0_5.index t 0 * 2 + 1 * p.val = _; rw [h5]; show 0 * 2 + 1 * p.val = p.val; omega
    | ⟨1, _⟩ => show win0_5.index t 1 * 512 + 1 * q.val = _; rw [h5]; show t.val / 8 * 512 + 1 * q.val = t.val / 8 * 512 + q.val; omega
    | ⟨2, _⟩ => show win0_5.index t 2 * 2048 + 1 * n.val = _; rw [h5]; show 0 * 2048 + 1 * n.val = n.val; omega
  rw [e]
  obtain ⟨s, hs⟩ : ∃ s, t.val = 8 * s + 7 := ⟨t.val / 8, by omega⟩
  obtain ⟨tv, hN⟩ := t
  simp only at hs ht
  subst hs
  refine (congrFun (out_last m c ⟨8 * s + 7, hN⟩ (by simp only; omega) (by simp only; omega)) (ix3 p q n)).trans ?_
  have t0 := total m c A B hA hB s hN 0 q n
  have t1 := total m c A B hA hB s hN 1 q n
  have ek : (8 * s + 7) / 8 * 512 + q.val = 512 * s + q.val := by omega
  by_cases hp : p.val = 0
  · refine (if_pos hp).trans ((congrArg₂ (· + · : EReal → EReal → EReal) t0 t1).trans ?_)
    rw [← EReal.coe_add, ← mul_add]
    refine Eq.trans ?_ (if_pos hp).symm
    simp only [ek]
    rfl
  · refine (if_neg hp).trans ((congrArg₂ (· - · : EReal → EReal → EReal) t0 t1).trans ?_)
    rw [← EReal.coe_sub, ← mul_sub]
    refine Eq.trans ?_ (if_neg hp).symm
    simp only [ek]
    rfl

end Cert.KernelIdeal.Dft

end
-- ==== Proof.DftValue.lean ====
/-
  The transform over the positions: from equal finite arguments the kernel's array and the reference's are equal.
-/
module

public import proofs.«01_k».proof.Proof.Dft
public import proofs.«01_k».proof.Proof.DftRun
public import proofs.«01_k».proof.Proof.Gen.ReferenceIdeal.Read
public import proofs.«01_k».proof.Proof.Gen.Pre_finite

@[expose] public section

set_option maxRecDepth 16384

noncomputable section

open Idealize.ShloMosaic Idealize.ShloMosaic.TcCoe Idealize.SL.Sem

namespace Cert.ReferenceIdeal.Dft

open Cert.ReferenceIdeal Cert.ReferenceIdeal.Read Cert.DftReal Cert.KernelIdeal.Dft

/-- The angle of frequency `k` at position `x`. -/
theorem angle_apply (k x : Fin 8192) : (val_main_v10 (F := Ideal) (ix2 k x) : EReal) = (((k.val * x.val : ℕ) * w : ℝ) : EReal) := by
  pointwise [val_main_v10, val_main_v9, val_main_v8, val_main_v7, val_main_v6, val_main_v5, val_main_v4, val_main_v3, val_main_v2,
    val_main_v1, val_main_v0, val_main_cst, val_main_cst_0]
  have hb : k.val * x.val < 2 ^ 31 := by
    have := Nat.mul_le_mul (show k.val ≤ 8191 by omega) (show x.val ≤ 8191 by omega)
    omega
  have e : IntOp.muli (BitVec.ofNat 32 k.val) (BitVec.ofNat 32 x.val) = BitVec.ofNat 32 (k.val * x.val) := by
    simp only [IntOp.muli, BitVec.ofNat_mul]
  rw [e, step, EReal.coe_mul]
  exact congrArg (· * ((w : ℝ) : EReal)) (word_real _ hb)

theorem row_apply (x0 x1 : FVec Ideal S8x8192x256 .f32) (h : Fin 2) (k : Fin 4096) (n : Fin 2048) :
    (val_main_v18 (F := Ideal) x0 x1 (ix3 h k n) : EReal)
      = ((∑ x : Fin 8192, Ideal.cos (val_main_v10 (F := Ideal) (ix2 ⟨h.val * 4096 + k.val, by omega⟩ x) : EReal) * x0 (ix3 ⟨n.val / 256, by omega⟩ x ⟨n.val % 256, by omega⟩))
        - ∑ x : Fin 8192, Ideal.sin (val_main_v10 (F := Ideal) (ix2 ⟨h.val * 4096 + k.val, by omega⟩ x) : EReal) * x1 (ix3 ⟨n.val / 256, by omega⟩ x ⟨n.val % 256, by omega⟩)) * sc := by
  unfold val_main_v18 val_main_v17 val_main_v15 val_main_v14 val_main_v13 val_main_v12 val_main_v11
  generalize val_main_v10 (F := Ideal) = a
  pointwise [val_main_v16, val_main_cst_1]

/-- The reference's result, from samples that are real numbers. -/
theorem result_eq (x0 x1 : FVec Ideal S8x8192x256 .f32) (A B : S8x8192x256.Idx → ℝ) (hA : ∀ i, (x0 i : EReal) = ((A i : ℝ) : EReal))
    (hB : ∀ i, (x1 i : EReal) = ((B i : ℝ) : EReal)) : val_main_v18 (F := Ideal) x0 x1 = result A B := by
  funext i
  obtain ⟨h, k, n, rfl⟩ : ∃ (h : Fin 2) (k : Fin 4096) (n : Fin 2048), i = ix3 h k n := ⟨i 0, i 1, i 2, eq_ix3 i⟩
  refine (row_apply x0 x1 h k n).trans ?_
  have hc (x : Fin 8192) : A (ix3 ⟨n.val / 256, by omega⟩ x ⟨n.val % 256, by omega⟩) = col A n x.val := by rw [col, dif_pos x.isLt]
  have hd (x : Fin 8192) : B (ix3 ⟨n.val / 256, by omega⟩ x ⟨n.val % 256, by omega⟩) = col B n x.val := by rw [col, dif_pos x.isLt]
  simp only [angle_apply, hA, hB, hc, hd, Ideal.cos_coe, Ideal.sin_coe, sc_real, ← EReal.coe_mul]
  rw [← coe_sum, ← coe_sum, ← EReal.coe_sub, ← EReal.coe_mul, ← Finset.sum_sub_distrib, mul_comm]
  obtain rfl | rfl : h = 0 ∨ h = 1 := by omega
  · refine Eq.trans ?_ (if_pos rfl).symm
    refine congrArg (fun r : ℝ => ((scr * r : ℝ) : EReal)) (Eq.trans ?_ (whole k.val (col A n) (col B n)))
    simp only [share, Fin.val_zero, Nat.zero_mul, Nat.zero_add]
  · refine Eq.trans ?_ (if_neg Nat.one_ne_zero).symm
    refine congrArg (fun r : ℝ => ((scr * r : ℝ) : EReal)) (Eq.trans ?_ (whole_far k.val (col A n) (col B n)))
    simp only [share, Fin.val_one, Nat.one_mul]

end Cert.ReferenceIdeal.Dft

namespace Cert.Proof.Dft

theorem finite_apply (x0 x1 : FVec Ideal Cert.Pre_finite.S8x8192x256 .f32) (h : Cert.Pre_finite.fn (F := Ideal) x0 x1 = fun _ => 1#1) (i : Cert.Pre_finite.S8x8192x256.Idx) :
    max (x0 i : EReal) (-x0 i) < ⊤ ∧ max (x1 i : EReal) (-x1 i) < ⊤ := by
  have e := congrFun h i
  unfold Cert.Pre_finite.fn at e
  pointwise at e
  rw [show (Ideal.ofBits .f32 2139095040#32 : EReal) = ⊤ by simp [Ideal.ofBits, Ideal.ieee]] at e
  change BitVec.ofBool (decide (max (x0 i : EReal) (-x0 i) < ⊤)) &&& BitVec.ofBool (decide (max (x1 i : EReal) (-x1 i) < ⊤)) = 1#1 at e
  by_cases a : max (x0 i : EReal) (-x0 i) < ⊤
  · refine ⟨a, ?_⟩
    by_contra b
    rw [decide_eq_false b, decide_eq_true a] at e
    exact absurd e (by decide)
  · rw [decide_eq_false a] at e
    simp at e

theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := hagree c
  have hf := finite_apply _ _ (hpre c)
  rw [Cert.KernelIdeal.Dft.final m c _ _ (fun i => Cert.DftReal.exists_coe (hf i).1) (fun i => Cert.DftReal.exists_coe (hf i).2), h0, h1]
  exact (Cert.ReferenceIdeal.Read.val_main_v18_eq _ _).trans
    (Cert.ReferenceIdeal.Dft.result_eq _ _ _ _ (fun i => Cert.DftReal.exists_coe (hf i).1) (fun i => Cert.DftReal.exists_coe (hf i).2))

end Cert.Proof.Dft

end
-- ==== Proof.Rows.lean ====
/-
  The row-wise functions of the layer on the extended reals, as plain sums: the RMS norm of a row, one hidden unit of the
  gated unit (SwiGLU) and its down projection; and the sum over the hidden units cut into the kernel's eleven tiles.
-/
module

public import Idealize.ShloMosaic.Lib.Pointwise
public import Idealize.ShloMosaic.PureOps.Ideal

@[expose] public section

noncomputable section

namespace Cert.Rows

open Idealize.ShloMosaic

/-- The RMS norm of the row `x` with the gains `g`, read at `k`; `N` is the row's length and `ε` the bias under the root. -/
def rms {n : ℕ} (N ε : EReal) (x g : Fin n → EReal) (k : Fin n) : EReal :=
  x k * Ideal.rsqrt (Ideal.div (∑ j, x j * x j) N + ε) * g k

/-- Hidden unit `j` of the gated unit on the row `h`. -/
def hid {d f : ℕ} (h : Fin d → EReal) (wg wu : Fin d → Fin f → EReal) (j : Fin f) : EReal :=
  (∑ k, h k * wg k j) * Ideal.logistic (∑ k, h k * wg k j) * ∑ k, h k * wu k j

/-- The gated unit on the row `h`, read at output `c`. -/
def swi {d f o : ℕ} (h : Fin d → EReal) (wg wu : Fin d → Fin f → EReal) (wd : Fin f → Fin o → EReal) (c : Fin o) : EReal :=
  ∑ j, hid h wg wu j * wd j c

/-- A sum over the 2816 hidden units, tile by tile from the left. -/
theorem sum_tiles (F : Fin 2816 → EReal) :
    ∑ j, F j = (∑ t : Fin 256, F ⟨t.val, by omega⟩) + (∑ t : Fin 256, F ⟨256 + t.val, by omega⟩)
      + (∑ t : Fin 256, F ⟨512 + t.val, by omega⟩) + (∑ t : Fin 256, F ⟨768 + t.val, by omega⟩)
      + (∑ t : Fin 256, F ⟨1024 + t.val, by omega⟩) + (∑ t : Fin 256, F ⟨1280 + t.val, by omega⟩)
      + (∑ t : Fin 256, F ⟨1536 + t.val, by omega⟩) + (∑ t : Fin 256, F ⟨1792 + t.val, by omega⟩)
      + (∑ t : Fin 256, F ⟨2048 + t.val, by omega⟩) + (∑ t : Fin 256, F ⟨2304 + t.val, by omega⟩)
      + (∑ t : Fin 256, F ⟨2560 + t.val, by omega⟩) := by
  rw [Fin.sum_univ_tiles 11 256 rfl F]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0),
    Fin.sum_univ_zero, zero_add]
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  refine congrArg₂ (· + ·) ?_ rfl
  exact Finset.sum_congr rfl fun t _ => congrArg F (Fin.ext (by simp))

end Cert.Rows

end
-- ==== Proof.Out.lean ====
/-
  The layer's tail — the mixers' results normed and projected onto the residual stream, the second SwiGLU half, the
  final norm: at the extended reals the tiled kernel's result array is the reference's. A block is two halves of 512 rows,
  each half the same function of its loads; the output projection's contraction is split 256 + 768, the hidden units'
  in eleven tiles of 256.
-/
module

public import proofs.«01_k».proof.Defs
public import proofs.«01_k».proof.Proof.Rows
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Kernel2Ideal.Tail

open Cert.Kernel2Ideal Cert.Kernel2Ideal.Gen Cert.Rows

/-- The row lengths, the bias under the norms' roots and the half, as the programs' constants denote them. -/
abbrev len : EReal := Ideal.ofBits .f32 0x44800000#32
abbrev lenF : EReal := Ideal.ofBits .f32 0x43800000#32
abbrev lenA : EReal := Ideal.ofBits .f32 0x44400000#32
abbrev eps : EReal := Ideal.ofBits .f32 0x358637BD#32
abbrev half : EReal := Ideal.ofBits .f32 0x3F000000#32

/-! ## The body's vector functions on 512 rows -/

/-- The six head pairs side by side. -/
def heads (a0 a1 a2 a3 a4 a5 : FVec Ideal S1x1x512x128 .f32) : FVec Ideal S512x768 .f32 :=
  concatenate S512x768 1 [⟨S512x128, shapeCast S512x128 a0 shapeCasts_S1x1x512x128_S512x128⟩,
    ⟨S512x128, shapeCast S512x128 a1 shapeCasts_S1x1x512x128_S512x128⟩, ⟨S512x128, shapeCast S512x128 a2 shapeCasts_S1x1x512x128_S512x128⟩,
    ⟨S512x128, shapeCast S512x128 a3 shapeCasts_S1x1x512x128_S512x128⟩, ⟨S512x128, shapeCast S512x128 a4 shapeCasts_S1x1x512x128_S512x128⟩,
    ⟨S512x128, shapeCast S512x128 a5 shapeCasts_S1x1x512x128_S512x128⟩]
    concatenates_S512x128_S512x128_S512x128_S512x128_S512x128_S512x128_S512x768_d1

/-- The norm of 512 rows of 768. -/
def normA (x : FVec Ideal S512x768 .f32) (g : FVec Ideal S1x768 .f32) : FVec Ideal S512x768 .f32 :=
  mulf (mulf x (broadcastTo S512x768 (rsqrt (addf (divf (shapeCast S512x1
    (multiReduction .add [1] S512 (mulf x x) 0x00000000#32 reduces_S512x768_S512 (.inl rfl) rfl) shapeCasts_S512_S512x1)
    (broadcast S512x1 (Scalar.ofBits .f32 0x44400000#32))) (broadcast S512x1 (Scalar.ofBits .f32 0x358637BD#32))))
    broadcasts_S512x1_S512x768)) (broadcastTo S512x768 (shapeCast S1x768 g shapeCasts_S1x768_S1x768) broadcasts_S1x768_S512x768)

theorem normA_apply (x : FVec Ideal S512x768 .f32) (g : FVec Ideal S1x768 .f32) (r : Fin 512) (k : Fin 768) :
    (normA x g (ix2 r k) : EReal) = rms lenA eps (fun k => x (ix2 r k)) (fun k => g (ix2 0 k)) k := by
  pointwise [normA, rms]

/-- The norm of 512 rows of 1024. -/
def norm (x : FVec Ideal S512x1024 .f32) (g : FVec Ideal S1x1024 .f32) : FVec Ideal S512x1024 .f32 :=
  mulf (mulf x (broadcastTo S512x1024 (rsqrt (addf (divf (shapeCast S512x1
    (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 (shapeCast S1x1024 g shapeCasts_S1x1024_S1x1024) broadcasts_S1x1024_S512x1024)

theorem norm_apply (x : FVec Ideal S512x1024 .f32) (g : FVec Ideal S1x1024 .f32) (r : Fin 512) (k : Fin 1024) :
    (norm x g (ix2 r k) : EReal) = rms len eps (fun k => x (ix2 r k)) (fun k => g (ix2 0 k)) k := by
  pointwise [norm, rms]

/-- One tile of 256 hidden units. -/
def tile (h : FVec Ideal S512x1024 .bf16) (wg wu : FVec Ideal S1024x256 .bf16) (wd : FVec Ideal S256x1024 .bf16) :
    FVec Ideal S512x1024 .f32 :=
  have g := matmul dot_S512x1024_S1024x256_S512x256_1_0_0_1_n_n none h (shapeCast S1024x256 wg shapeCasts_S1024x256_S1024x256)
    (constant S512x256 .f32 0x00000000#32)
  have u := matmul dot_S512x1024_S1024x256_S512x256_1_0_0_1_n_n none h (shapeCast S1024x256 wu shapeCasts_S1024x256_S1024x256)
    (constant S512x256 .f32 0x00000000#32)
  matmul dot_S512x256_S256x1024_S512x1024_1_0_0_1_n_n none (truncf .bf16 (mulf (mulf g (logistic g)) u) bitsLt_bf16_f32)
    (shapeCast S256x1024 wd shapeCasts_S256x1024_S256x1024) (constant S512x1024 .f32 0x00000000#32)

theorem tile_apply (h : FVec Ideal S512x1024 .bf16) (wg wu : FVec Ideal S1024x256 .bf16) (wd : FVec Ideal S256x1024 .bf16)
    (r : Fin 512) (c : Fin 1024) :
    tile h wg wu wd (ix2 r c) = ∑ j : Fin 256, hid (fun k => h (ix2 r k)) (fun k j => wg (ix2 k j)) (fun k j => wu (ix2 k j)) j
      * wd (ix2 j c) := by
  pointwise [tile, hid]

/-- The eleven tiles added in order. -/
def units (h : FVec Ideal S512x1024 .bf16) (x7 x8 : Vec Ideal S1024x2816 .bf16) (x9 : Vec Ideal S2816x1024 .bf16) : FVec Ideal S512x1024 .f32 :=
  addf (addf (addf (addf (addf (addf (addf (addf (addf (addf
    (tile h (View.ld x7 r0_13) (View.ld x8 r0_13) (View.ld x9 r0_14))
    (tile h (View.ld x7 r0_15) (View.ld x8 r0_15) (View.ld x9 r0_16)))
    (tile h (View.ld x7 r0_17) (View.ld x8 r0_17) (View.ld x9 r0_18)))
    (tile h (View.ld x7 r0_19) (View.ld x8 r0_19) (View.ld x9 r0_20)))
    (tile h (View.ld x7 r0_21) (View.ld x8 r0_21) (View.ld x9 r0_22)))
    (tile h (View.ld x7 r0_23) (View.ld x8 r0_23) (View.ld x9 r0_24)))
    (tile h (View.ld x7 r0_25) (View.ld x8 r0_25) (View.ld x9 r0_26)))
    (tile h (View.ld x7 r0_27) (View.ld x8 r0_27) (View.ld x9 r0_28)))
    (tile h (View.ld x7 r0_29) (View.ld x8 r0_29) (View.ld x9 r0_30)))
    (tile h (View.ld x7 r0_31) (View.ld x8 r0_31) (View.ld x9 r0_32)))
    (tile h (View.ld x7 r0_33) (View.ld x8 r0_33) (View.ld x9 r0_34))

theorem units_apply (h : FVec Ideal S512x1024 .bf16) (x7 x8 : Vec Ideal S1024x2816 .bf16) (x9 : Vec Ideal S2816x1024 .bf16)
    (r : Fin 512) (c : Fin 1024) :
    (units h x7 x8 x9 (ix2 r c) : EReal) = swi (fun k => h (ix2 r k)) (fun k j => x7 (ix2 k j)) (fun k j => x8 (ix2 k j)) (fun j c => x9 (ix2 j c)) c := by
  rw [swi, sum_tiles]
  simp only [units, addf_apply, tile_apply]
  pointwise [hid]

/-- The residual stream after the output projection. -/
def mixed (x0 : FVec Ideal S512x1024 .f32) (f : FVec Ideal S512x256 .f32) (a : FVec Ideal S512x768 .f32) (gf : FVec Ideal S1x256 .f32)
    (ga : FVec Ideal S1x768 .f32) (w : Vec Ideal S1024x1024 .bf16) : FVec Ideal S512x1024 .f32 :=
  k0_pay3 (truncf .bf16 (normA a ga) bitsLt_bf16_f32) f gf x0 (View.ld w r0_10) (View.ld w r0_11)

theorem mixed_apply (x0 : FVec Ideal S512x1024 .f32) (f : FVec Ideal S512x256 .f32) (a : FVec Ideal S512x768 .f32) (gf : FVec Ideal S1x256 .f32)
    (ga : FVec Ideal S1x768 .f32) (w : Vec Ideal S1024x1024 .bf16) (r : Fin 512) (c : Fin 1024) :
    (mixed x0 f a gf ga w (ix2 r c) : EReal) = x0 (ix2 r c)
      + (∑ k : Fin 256, rms lenF eps (fun k => f (ix2 r k)) (fun k => gf (ix2 0 k)) k * w (ix2 ⟨k.val, by omega⟩ c))
      + ∑ k : Fin 768, rms lenA eps (fun k => a (ix2 r k)) (fun k => ga (ix2 0 k)) k * w (ix2 ⟨256 + k.val, by omega⟩ c) := by
  unfold mixed
  have hn (k : Fin 768) := normA_apply a ga r k
  generalize normA a ga = h at hn ⊢
  simp only [← hn]
  pointwise [k0_pay3, rms]

/-- What a half of the block stores, from its loads. -/
def rows (x0 : FVec Ideal S512x1024 .f32) (f : FVec Ideal S512x256 .f32) (a : FVec Ideal S512x768 .f32) (gf : FVec Ideal S1x256 .f32)
    (ga : FVec Ideal S1x768 .f32) (w : Vec Ideal S1024x1024 .bf16) (g2 : FVec Ideal S1x1024 .f32) (x7 x8 : Vec Ideal S1024x2816 .bf16)
    (x9 : Vec Ideal S2816x1024 .bf16) (gl : FVec Ideal S1x1024 .f32) : FVec Ideal S512x1024 .f32 :=
  norm (addf (mixed x0 f a gf ga w) (mulf (broadcast S512x1024 (Scalar.ofBits .f32 0x3F000000#32))
    (units (truncf .bf16 (norm (mixed x0 f a gf ga w) g2) bitsLt_bf16_f32) x7 x8 x9))) gl

/-- The residual row after the projection: the row, plus the normed Fourier row times the matrix's first 256 rows, plus the
    normed attention row times its other 768. -/
def mix (x : Fin 1024 → EReal) (f : Fin 256 → EReal) (a : Fin 768 → EReal) (gf : Fin 256 → EReal) (ga : Fin 768 → EReal)
    (w : Fin 1024 → Fin 1024 → EReal) (c : Fin 1024) : EReal :=
  x c + (∑ k : Fin 256, rms lenF eps f gf k * w ⟨k.val, by omega⟩ c) + ∑ k : Fin 768, rms lenA eps a ga k * w ⟨256 + k.val, by omega⟩ c

/-- The layer's last row function: the SwiGLU half on the mixed row, then the final norm. -/
def last (y : Fin 1024 → EReal) (g2 : Fin 1024 → EReal) (wg wu : Fin 1024 → Fin 2816 → EReal) (wd : Fin 2816 → Fin 1024 → EReal)
    (gl : Fin 1024 → EReal) : Fin 1024 → EReal :=
  rms len eps (fun c => y c + half * swi (rms len eps y g2) wg wu wd c) gl

theorem rows_apply (x0 : FVec Ideal S512x1024 .f32) (f : FVec Ideal S512x256 .f32) (a : FVec Ideal S512x768 .f32) (gf : FVec Ideal S1x256 .f32)
    (ga : FVec Ideal S1x768 .f32) (w : Vec Ideal S1024x1024 .bf16) (g2 : FVec Ideal S1x1024 .f32) (x7 x8 : Vec Ideal S1024x2816 .bf16)
    (x9 : Vec Ideal S2816x1024 .bf16) (gl : FVec Ideal S1x1024 .f32) (r : Fin 512) (c : Fin 1024) :
    (rows x0 f a gf ga w g2 x7 x8 x9 gl (ix2 r c) : EReal)
      = last (mix (fun k => x0 (ix2 r k)) (fun k => f (ix2 r k)) (fun k => a (ix2 r k)) (fun k => gf (ix2 0 k)) (fun k => ga (ix2 0 k))
          (fun k c => w (ix2 k c))) (fun k => g2 (ix2 0 k)) (fun k j => x7 (ix2 k j)) (fun k j => x8 (ix2 k j)) (fun j c => x9 (ix2 j c))
          (fun k => gl (ix2 0 k)) c := by
  have hm : mix (fun k => x0 (ix2 r k)) (fun k => f (ix2 r k)) (fun k => a (ix2 r k)) (fun k => gf (ix2 0 k)) (fun k => ga (ix2 0 k))
      (fun k c => w (ix2 k c)) = fun c => (mixed x0 f a gf ga w (ix2 r c) : EReal) := funext fun c => (mixed_apply x0 f a gf ga w r c).symm
  rw [hm, last, rows, norm_apply]
  generalize mixed x0 f a gf ga w = y
  refine congrFun (congrArg (fun z => rms len eps z _) (funext fun c => ?_)) c
  rw [addf_apply, mulf_apply, units_apply]
  have hn : (fun k => (norm y g2 (ix2 r k) : EReal)) = rms len eps (fun k => y (ix2 r k)) (fun k => g2 (ix2 0 k)) :=
    funext fun k => norm_apply y g2 r k
  rw [← hn]
  rfl

/-- The six loads of 512 rows, side by side, read at an index. -/
theorem heads_apply (b : Fin 1024 → Fin 768 → EReal) (a0 a1 a2 a3 a4 a5 : FVec Ideal S1x1x512x128 .f32) (o : Nat) (ho : o ≤ 512)
    (h0 : ∀ (r : Fin 512) (l : Fin 128) (k : Fin 768), k.val = 0 + l.val → a0 (ix4 0 0 r l) = b ⟨o + r.val, by omega⟩ k)
    (h1 : ∀ (r : Fin 512) (l : Fin 128) (k : Fin 768), k.val = 128 + l.val → a1 (ix4 0 0 r l) = b ⟨o + r.val, by omega⟩ k)
    (h2 : ∀ (r : Fin 512) (l : Fin 128) (k : Fin 768), k.val = 256 + l.val → a2 (ix4 0 0 r l) = b ⟨o + r.val, by omega⟩ k)
    (h3 : ∀ (r : Fin 512) (l : Fin 128) (k : Fin 768), k.val = 384 + l.val → a3 (ix4 0 0 r l) = b ⟨o + r.val, by omega⟩ k)
    (h4 : ∀ (r : Fin 512) (l : Fin 128) (k : Fin 768), k.val = 512 + l.val → a4 (ix4 0 0 r l) = b ⟨o + r.val, by omega⟩ k)
    (h5 : ∀ (r : Fin 512) (l : Fin 128) (k : Fin 768), k.val = 640 + l.val → a5 (ix4 0 0 r l) = b ⟨o + r.val, by omega⟩ k)
    (r : Fin 512) (k : Fin 768) : (heads a0 a1 a2 a3 a4 a5 (ix2 r k) : EReal) = b ⟨o + r.val, by omega⟩ k := by
  pointwise [heads]
  by_cases c0 : k.val < 128
  · rw [dif_pos c0]; exact h0 _ _ _ (by simp only; omega)
  rw [dif_neg c0]
  by_cases c1 : k.val - 128 < 128
  · rw [dif_pos c1]; exact h1 _ _ _ (by simp only; omega)
  rw [dif_neg c1]
  by_cases c2 : k.val - 128 - 128 < 128
  · rw [dif_pos c2]; exact h2 _ _ _ (by simp only; omega)
  rw [dif_neg c2]
  by_cases c3 : k.val - 128 - 128 - 128 < 128
  · rw [dif_pos c3]; exact h3 _ _ _ (by simp only; omega)
  rw [dif_neg c3]
  by_cases c4 : k.val - 128 - 128 - 128 - 128 < 128
  · rw [dif_pos c4]; exact h4 _ _ _ (by simp only; omega)
  rw [dif_neg c4]
  exact h5 _ _ _ (by simp only; omega)

theorem out_eq (x0 : Vec Ideal S1024x1024 .f32) (x1 : Vec Ideal S1024x256 .f32) (x2 : Vec Ideal S1x6x1024x128 .f32) (x3 : Vec Ideal S1x256 .f32)
    (x4 : Vec Ideal S1x768 .f32) (x5 : Vec Ideal S1024x1024 .bf16) (x6 : Vec Ideal S1x1024 .f32) (x7 x8 : Vec Ideal S1024x2816 .bf16)
    (x9 : Vec Ideal S2816x1024 .bf16) (x10 : Vec Ideal S1x1024 .f32) :
    out0_11 x0 x1 x2 x3 x4 x5 x6 x7 x8 x9 x10 = View.canon [
      ⟨r0_42, rows (View.ld x0 r0_42) (View.ld x1 r0_41)
        (heads (View.ld x2 r0_35) (View.ld x2 r0_36) (View.ld x2 r0_37) (View.ld x2 r0_38) (View.ld x2 r0_39) (View.ld x2 r0_40))
        (View.ld x3 r0_8) (View.ld x4 r0_6) x5 (View.ld x6 r0_12) x7 x8 x9 (View.ld x10 r0_12)⟩,
      ⟨r0_9, rows (View.ld x0 r0_9) (View.ld x1 r0_7)
        (heads (View.ld x2 r0_0) (View.ld x2 r0_1) (View.ld x2 r0_2) (View.ld x2 r0_3) (View.ld x2 r0_4) (View.ld x2 r0_5))
        (View.ld x3 r0_8) (View.ld x4 r0_6) x5 (View.ld x6 r0_12) x7 x8 x9 (View.ld x10 r0_12)⟩] := rfl

/-- Lane `l` of head pair `n` is column `128 n + l` of the heads side by side. -/
theorem pair_at (x : Vec Ideal S1x6x1024x128 .f32) (n : Fin 6) (r r' : Fin 1024) (l : Fin 128) (k : Fin 768) (hr : r.val = r'.val)
    (h : k.val = 128 * n.val + l.val) :
    (x (ix4 0 n r l) : EReal) = x (ix4 0 ⟨k.val / 128, by omega⟩ r' ⟨k.val % 128, by omega⟩) := by
  have e1 : n = ⟨k.val / 128, by omega⟩ := Fin.ext (by simp only; omega)
  have e2 : l = ⟨k.val % 128, by omega⟩ := Fin.ext (by simp only; omega)
  rw [← e1, ← e2, Fin.ext hr]

/-- The block's result at an index. -/
theorem out_apply (x0 : Vec Ideal S1024x1024 .f32) (x1 : Vec Ideal S1024x256 .f32) (x2 : Vec Ideal S1x6x1024x128 .f32) (x3 : Vec Ideal S1x256 .f32)
    (x4 : Vec Ideal S1x768 .f32) (x5 : Vec Ideal S1024x1024 .bf16) (x6 : Vec Ideal S1x1024 .f32) (x7 x8 : Vec Ideal S1024x2816 .bf16)
    (x9 : Vec Ideal S2816x1024 .bf16) (x10 : Vec Ideal S1x1024 .f32) (r c : Fin 1024) :
    out0_11 x0 x1 x2 x3 x4 x5 x6 x7 x8 x9 x10 (ix2 r c)
      = last (mix (fun k => x0 (ix2 r k)) (fun k => x1 (ix2 r k)) (fun k => x2 (ix4 0 ⟨k.val / 128, by omega⟩ r ⟨k.val % 128, by omega⟩))
          (fun k => x3 (ix2 0 k)) (fun k => x4 (ix2 0 k)) (fun k c => x5 (ix2 k c))) (fun k => x6 (ix2 0 k)) (fun k j => x7 (ix2 k j))
          (fun k j => x8 (ix2 k j)) (fun j c => x9 (ix2 j c)) (fun k => x10 (ix2 0 k)) c := by
  have hz : (![0, 0] : Fin 2 → Nat) = fun _ => 0 := funext fun a => by fin_cases a <;> rfl
  have e3 : View.ld x3 r0_8 = x3 := View.ld_unit_zero hz ..
  have e4 : View.ld x4 r0_6 = x4 := View.ld_unit_zero hz ..
  have e6 : View.ld x6 r0_12 = x6 := View.ld_unit_zero hz ..
  have e10 : View.ld x10 r0_12 = x10 := View.ld_unit_zero hz ..
  rw [out_eq, e3, e4, e6, e10]
  refine (View.canon_apply_of_pieces (fun y : S1024x1024.Idx => (last (mix (fun k => x0 (ix2 (y 0) k)) (fun k => x1 (ix2 (y 0) k))
    (fun k => x2 (ix4 0 ⟨k.val / 128, by omega⟩ (y 0) ⟨k.val % 128, by omega⟩))
          (fun k => x3 (ix2 0 k)) (fun k => x4 (ix2 0 k)) (fun k c => x5 (ix2 k c))) (fun k => x6 (ix2 0 k)) (fun k j => x7 (ix2 k j))
          (fun k j => x8 (ix2 k j)) (fun j c => x9 (ix2 j c)) (fun k => x10 (ix2 0 k)) (y 1) : EReal)) _ ?_ _ ?_).trans rfl
  · intro p hp
    simp only [List.mem_cons, List.not_mem_nil, or_false] at hp
    rcases hp with rfl | rfl
    · intro x
      obtain ⟨i, l, rfl⟩ : ∃ (i : Fin 512) (l : Fin 1024), x = ix2 i l := ⟨x 0, x 1, eq_ix2 x⟩
      refine (rows_apply _ _ _ _ _ _ _ _ _ _ _ i l).trans ?_
      have ea (k : Fin 768) := heads_apply (fun r k => x2 (ix4 0 ⟨k.val / 128, by omega⟩ r ⟨k.val % 128, by omega⟩))
        (View.ld x2 r0_35) (View.ld x2 r0_36) (View.ld x2 r0_37) (View.ld x2 r0_38) (View.ld x2 r0_39) (View.ld x2 r0_40) 512 (by omega)
        (fun r l k h => by pointwise; exact pair_at x2 0 _ _ l k (by simp) (by simpa using h))
        (fun r l k h => by pointwise; exact pair_at x2 1 _ _ l k (by simp) (by simpa using h))
        (fun r l k h => by pointwise; exact pair_at x2 2 _ _ l k (by simp) (by simpa using h))
        (fun r l k h => by pointwise; exact pair_at x2 3 _ _ l k (by simp) (by simpa using h))
        (fun r l k h => by pointwise; exact pair_at x2 4 _ _ l k (by simp) (by simpa using h))
        (fun r l k h => by pointwise; exact pair_at x2 5 _ _ l k (by simp) (by simpa using h)) i k
      have e0 (k : Fin 1024) : (View.ld x0 r0_42 (ix2 i k) : EReal) = x0 (ix2 ⟨512 + i.val, by omega⟩ k) := by pointwise
      have e1 (k : Fin 256) : (View.ld x1 r0_41 (ix2 i k) : EReal) = x1 (ix2 ⟨512 + i.val, by omega⟩ k) := by pointwise
      have ei : r0_42.emb (ix2 i l) = ix2 ⟨512 + i.val, by omega⟩ l := by
        funext a
        apply Fin.ext
        match a with
        | ⟨0, _⟩ => show 512 + 1 * i.val = 512 + i.val; omega
        | ⟨1, _⟩ => show 0 + 1 * l.val = l.val; omega
      simp only [ea, e0, e1, ei]
      rfl
    · intro x
      obtain ⟨i, l, rfl⟩ : ∃ (i : Fin 512) (l : Fin 1024), x = ix2 i l := ⟨x 0, x 1, eq_ix2 x⟩
      refine (rows_apply _ _ _ _ _ _ _ _ _ _ _ i l).trans ?_
      have ea (k : Fin 768) := heads_apply (fun r k => x2 (ix4 0 ⟨k.val / 128, by omega⟩ r ⟨k.val % 128, by omega⟩))
        (View.ld x2 r0_0) (View.ld x2 r0_1) (View.ld x2 r0_2) (View.ld x2 r0_3) (View.ld x2 r0_4) (View.ld x2 r0_5) 0 (by omega)
        (fun r l k h => by pointwise; exact pair_at x2 0 _ _ l k (by simp) (by simpa using h))
        (fun r l k h => by pointwise; exact pair_at x2 1 _ _ l k (by simp) (by simpa using h))
        (fun r l k h => by pointwise; exact pair_at x2 2 _ _ l k (by simp) (by simpa using h))
        (fun r l k h => by pointwise; exact pair_at x2 3 _ _ l k (by simp) (by simpa using h))
        (fun r l k h => by pointwise; exact pair_at x2 4 _ _ l k (by simp) (by simpa using h))
        (fun r l k h => by pointwise; exact pair_at x2 5 _ _ l k (by simp) (by simpa using h)) i k
      have e0 (k : Fin 1024) : (View.ld x0 r0_9 (ix2 i k) : EReal) = x0 (ix2 ⟨0 + i.val, by omega⟩ k) := by pointwise
      have e1 (k : Fin 256) : (View.ld x1 r0_7 (ix2 i k) : EReal) = x1 (ix2 ⟨0 + i.val, by omega⟩ k) := by pointwise
      have ei : r0_9.emb (ix2 i l) = ix2 ⟨0 + i.val, by omega⟩ l := by
        funext a
        apply Fin.ext
        match a with
        | ⟨0, _⟩ => show 0 + 1 * i.val = 0 + i.val; omega
        | ⟨1, _⟩ => show 0 + 1 * l.val = l.val; omega
      simp only [ea, e0, e1, ei]
      rfl
  · by_cases hr : r.val < 512
    · exact ⟨_, List.mem_cons_of_mem _ (List.mem_cons_self ..), (Rect.mem_set_unit (inb := inb_S1024x1024_S512x1024_0_0)).2 fun a => by
        match a with
        | ⟨0, _⟩ => exact ⟨Nat.zero_le _, show r.val < 0 + 512 by omega⟩
        | ⟨1, _⟩ => exact ⟨Nat.zero_le _, show c.val < 0 + 1024 by omega⟩⟩
    · exact ⟨_, List.mem_cons_self .., (Rect.mem_set_unit (inb := inb_S1024x1024_S512x1024_512_0)).2 fun a => by
        match a with
        | ⟨0, _⟩ => exact ⟨show 512 ≤ r.val by omega, show r.val < 512 + 512 by omega⟩
        | ⟨1, _⟩ => exact ⟨Nat.zero_le _, show c.val < 0 + 1024 by omega⟩⟩

/-! ## The result array as a function of the arguments -/

/-- Entry `(i, c)` of the result: the row functions on row `(i / 8192, i % 8192)` of the residual stream and the mixers' results. -/
def result (x : FVec Ideal S8x8192x1024 .f32) (f : FVec Ideal S8x8192x256 .f32) (a : FVec Ideal S8x8192x768 .f32) (gf : FVec Ideal S256 .f32)
    (ga : FVec Ideal S768 .f32) (w : FVec Ideal S1024x1024 .f32) (g2 : FVec Ideal S1024 .f32) (wg wu : FVec Ideal S1024x2816 .f32)
    (wd : FVec Ideal S2816x1024 .f32) (gl : FVec Ideal S1024 .f32) : FVec Ideal S65536x1024 .f32 := fun i =>
  have h : (i 0).val < 65536 := (i 0).isLt
  have b : Fin 8 := ⟨(i 0).val / 8192, by omega⟩
  have s : Fin 8192 := ⟨(i 0).val % 8192, by omega⟩
  last (mix (fun k => x (ix3 b s k)) (fun k => f (ix3 b s k)) (fun k => a (ix3 b s k)) (fun k => gf (ix1 k)) (fun k => ga (ix1 k))
    (fun k c => w (ix2 k c))) (fun k => g2 (ix1 k)) (fun k j => wg (ix2 k j)) (fun k j => wu (ix2 k j)) (fun j c => wd (ix2 j c))
    (fun k => gl (ix1 k)) (i 1)

variable (m : (ℓ : Loc nD τ sig) → Buf (Elt Ideal) ℓ) (ρ : Dev nD → PrngReg)

/-- The windows' block indices at a point of the grid. -/
theorem idx : ∀ t : Fin grid0.N, win0_0.index t = ![t.val, 0] ∧ win0_1.index t = ![t.val % 8, t.val / 8]
    ∧ win0_2.index t = ![t.val / 8, 0, t.val % 8, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] := by decide +kernel

variable (c : Dev nD) (t : Fin cfg0.N)

theorem stream_read (r k : Fin 1024) (b : Fin 8) (s : Fin 8192) (hbs : t.val * 1024 + r.val = b.val * 8192 + s.val) :
    (iblk m c 0 t (ix2 r k) : EReal) = m ((c : Thread nD τ).loc main_arg0) (ix3 b s k) := by
  blk_ext! [iblk, V, idx t]

/-- Batch `b`'s Fourier rows are columns `256 b` to `256 b + 255` of the transposed array. -/
theorem fourier_read (r : Fin 1024) (k : Fin 256) (b : Fin 8) (s : Fin 8192) (hb : b.val = t.val / 8) (hs : s.val = t.val % 8 * 1024 + r.val) :
    (iblk m c 1 t (ix2 r k) : EReal) = m ((c : Thread nD τ).loc main_arg1) (ix3 b s k) := by
  blk_ext! [iblk, V, idx t]

theorem heads_read (r : Fin 1024) (k : Fin 768) (b : Fin 8) (s : Fin 8192) (hb : b.val = t.val / 8) (hs : s.val = t.val % 8 * 1024 + r.val) :
    (iblk m c 2 t (ix4 0 ⟨k.val / 128, by omega⟩ r ⟨k.val % 128, by omega⟩) : EReal) = m ((c : Thread nD τ).loc main_arg2) (ix3 b s k) := by
  blk_ext! [iblk, V, idx t]

theorem gain3_read (k : Fin 256) : (iblk m c 3 t (ix2 0 k) : EReal) = m ((c : Thread nD τ).loc main_arg3) (ix1 k) := by
  blk_ext! [iblk, V, idx t]

theorem gain4_read (k : Fin 768) : (iblk m c 4 t (ix2 0 k) : EReal) = m ((c : Thread nD τ).loc main_arg4) (ix1 k) := by
  blk_ext! [iblk, V, idx t]

theorem proj_read (k j : Fin 1024) : (iblk m c 5 t (ix2 k j) : EReal) = m ((c : Thread nD τ).loc main_arg5) (ix2 k j) := by
  blk_ext! [iblk, V, idx t]

theorem gain6_read (k : Fin 1024) : (iblk m c 6 t (ix2 0 k) : EReal) = m ((c : Thread nD τ).loc main_arg6) (ix1 k) := by
  blk_ext! [iblk, V, idx t]

theorem gate_read (k : Fin 1024) (j : Fin 2816) : (iblk m c 7 t (ix2 k j) : EReal) = m ((c : Thread nD τ).loc main_arg7) (ix2 k j) := by
  blk_ext! [iblk, V, idx t]

theorem up_read (k : Fin 1024) (j : Fin 2816) : (iblk m c 8 t (ix2 k j) : EReal) = m ((c : Thread nD τ).loc main_arg8) (ix2 k j) := by
  blk_ext! [iblk, V, idx t]

theorem down_read (j : Fin 2816) (k : Fin 1024) : (iblk m c 9 t (ix2 j k) : EReal) = m ((c : Thread nD τ).loc main_arg9) (ix2 j k) := by
  blk_ext! [iblk, V, idx t]

theorem gain10_read (k : Fin 1024) : (iblk m c 10 t (ix2 0 k) : EReal) = m ((c : Thread nD τ).loc main_arg10) (ix1 k) := by
  blk_ext! [iblk, V, idx t]

/-- What the result array holds after the run. -/
theorem final : (dats m 0 c).arrAt 11 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t hf y => ?_
  blk_simp
  rw [after0_11]
  have ht : t.val < 64 := lt_of_lt_of_eq t.isLt N_0
  obtain ⟨r, l, rfl⟩ : ∃ (r l : Fin 1024), y = ix2 r l := ⟨y 0, y 1, eq_ix2 y⟩
  refine (out_apply _ _ _ _ _ _ _ _ _ _ _ r l).trans ?_
  simp only [gain3_read, gain4_read, proj_read, gain6_read, gate_read, up_read, down_read, gain10_read]
  have hr (k : Fin 1024) := stream_read m c t r k ⟨(t.val * 1024 + r.val) / 8192, by omega⟩ ⟨(t.val * 1024 + r.val) % 8192, by omega⟩
    (by simp only; omega)
  have hf (k : Fin 256) := fourier_read m c t r k ⟨(t.val * 1024 + r.val) / 8192, by omega⟩ ⟨(t.val * 1024 + r.val) % 8192, by omega⟩
    (by simp only; omega) (by simp only; omega)
  have ha (k : Fin 768) := heads_read m c t r k ⟨(t.val * 1024 + r.val) / 8192, by omega⟩ ⟨(t.val * 1024 + r.val) % 8192, by omega⟩
    (by simp only; omega) (by simp only; omega)
  simp only [hr, hf, ha]
  have e : (win0_11.blk t).view.emb (ix2 r l) = ix2 ⟨t.val * 1024 + r.val, by omega⟩ l := by
    have h11 := (idx t).2.2.2.2.2.2.2.2.2.2.2
    funext a
    apply Fin.ext
    match a with
    | ⟨0, _⟩ => show win0_11.index t 0 * 1024 + 1 * r.val = _; rw [h11]; show t.val * 1024 + 1 * r.val = t.val * 1024 + r.val; omega
    | ⟨1, _⟩ => show win0_11.index t 1 * 1024 + 1 * l.val = _; rw [h11]; show 0 * 1024 + 1 * l.val = l.val; omega
  rw [e]
  rfl

end Cert.Kernel2Ideal.Tail

namespace Cert.Reference2Ideal.Tail

open Cert.Reference2Ideal Cert.Reference2Ideal.Read Cert.Rows Cert.Kernel2Ideal.Tail

variable (x0 : FVec Ideal S8x8192x1024 .f32) (x1 : FVec Ideal S8x8192x256 .f32) (x2 : FVec Ideal S8x8192x768 .f32) (x3 : FVec Ideal S256 .f32)
  (x4 : FVec Ideal S768 .f32) (x5 : FVec Ideal S1024x1024 .f32) (x6 : FVec Ideal S1024 .f32) (x7 x8 : FVec Ideal S1024x2816 .f32)
  (x9 : FVec Ideal S2816x1024 .f32) (x10 : FVec Ideal S1024 .f32)

theorem fourier_apply (b : Fin 8) (s : Fin 8192) (k : Fin 256) :
    (val_main_v12 (F := Ideal) x1 x3 (ix3 b s k) : EReal) = rms lenF eps (fun k => x1 (ix3 b s k)) (fun k => x3 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem heads_apply (b : Fin 8) (s : Fin 8192) (k : Fin 768) :
    (val_main_v25 (F := Ideal) x2 x4 (ix3 b s k) : EReal) = rms lenA eps (fun k => x2 (ix3 b s k)) (fun k => x4 (ix1 k)) k := by
  pointwise [val_main_v25, val_main_v24, val_main_v23, val_main_v22, val_main_v21, val_main_v20, val_main_v19, val_main_v18, val_main_v17,
    val_main_v16, val_main_v15, val_main_v14, val_main_v13, val_main_cst_2, val_main_cst_3, val_main_cst_4, rms]

theorem mix_apply (b : Fin 8) (s : Fin 8192) (c : Fin 1024) :
    (val_main_v28 (F := Ideal) x0 x1 x2 x3 x4 x5 (ix3 b s c) : EReal)
      = mix (fun k => x0 (ix3 b s k)) (fun k => x1 (ix3 b s k)) (fun k => x2 (ix3 b s k)) (fun k => x3 (ix1 k)) (fun k => x4 (ix1 k))
          (fun k c => x5 (ix2 k c)) c := by
  unfold mix
  simp only [← fourier_apply, ← heads_apply]
  unfold val_main_v28 val_main_v27 val_main_v26
  generalize val_main_v12 (F := Ideal) x1 x3 = f
  generalize val_main_v25 (F := Ideal) x2 x4 = a
  pointwise
  exact (add_assoc _ _ _).symm

/-- The normed mixed row. -/
theorem normed_apply (b : Fin 8) (s : Fin 8192) (k : Fin 1024) :
    (val_main_v41 (F := Ideal) x0 x1 x2 x3 x4 x5 x6 (ix3 b s k) : EReal)
      = rms len eps (fun k => (val_main_v28 (F := Ideal) x0 x1 x2 x3 x4 x5 (ix3 b s k) : EReal)) (fun k => x6 (ix1 k)) k := by
  unfold val_main_v41 val_main_v38 val_main_v37 val_main_v36 val_main_v35 val_main_v33 val_main_v31 val_main_v30 val_main_v29
  generalize val_main_v28 (F := Ideal) x0 x1 x2 x3 x4 x5 = y
  pointwise [val_main_v40, val_main_v39, val_main_v34, val_main_v32, val_main_cst_5, val_main_cst_6, val_main_cst_7, rms]

/-- The row after the second SwiGLU half. -/
theorem half_apply (b : Fin 8) (s : Fin 8192) (c : Fin 1024) :
    (val_main_v49 (F := Ideal) x0 x1 x2 x3 x4 x5 x6 x7 x8 x9 (ix3 b s c) : EReal)
      = val_main_v28 (F := Ideal) x0 x1 x2 x3 x4 x5 (ix3 b s c)
        + half * swi (fun k => (val_main_v41 (F := Ideal) x0 x1 x2 x3 x4 x5 x6 (ix3 b s k) : EReal)) (fun k j => x7 (ix2 k j))
          (fun k j => x8 (ix2 k j)) (fun j c => x9 (ix2 j c)) c := by
  unfold val_main_v49 val_main_v48 val_main_v46 val_main_v45 val_main_v44 val_main_v43 val_main_call0_v5 val_main_call0_v3
    val_main_call0_v1 val_main_call0_v0 val_main_v42
  generalize val_main_v28 (F := Ideal) x0 x1 x2 x3 x4 x5 = y
  generalize val_main_v41 (F := Ideal) x0 x1 x2 x3 x4 x5 x6 = h
  pointwise [val_main_v47, val_main_cst_8, val_main_call0_v2, val_main_call0_v4, val_main_call0_cst, val_main_call0_cst_0]
  rfl

/-- The final norm. -/
theorem final_apply (b : Fin 8) (s : Fin 8192) (c : Fin 1024) :
    (val_main_v62 (F := Ideal) x0 x1 x2 x3 x4 x5 x6 x7 x8 x9 x10 (ix3 b s c) : EReal)
      = rms len eps (fun k => (val_main_v49 (F := Ideal) x0 x1 x2 x3 x4 x5 x6 x7 x8 x9 (ix3 b s k) : EReal)) (fun k => x10 (ix1 k)) c := by
  unfold val_main_v62 val_main_v59 val_main_v58 val_main_v57 val_main_v56 val_main_v54 val_main_v52 val_main_v51 val_main_v50
  generalize val_main_v49 (F := Ideal) x0 x1 x2 x3 x4 x5 x6 x7 x8 x9 = y
  pointwise [val_main_v61, val_main_v60, val_main_v55, val_main_v53, val_main_cst_9, val_main_cst_10, val_main_cst_11, rms]

/-- The reference's result term is the same function of the arguments. -/
theorem result_eq : val_main_v63 (F := Ideal) x0 x1 x2 x3 x4 x5 x6 x7 x8 x9 x10 = result x0 x1 x2 x3 x4 x5 x6 x7 x8 x9 x10 := by
  funext i
  obtain ⟨r, l, rfl⟩ : ∃ (r : Fin 65536) (l : Fin 1024), i = ix2 r l := ⟨i 0, i 1, eq_ix2 i⟩
  have e : (val_main_v63 (F := Ideal) x0 x1 x2 x3 x4 x5 x6 x7 x8 x9 x10 (ix2 r l) : EReal)
      = val_main_v62 (F := Ideal) x0 x1 x2 x3 x4 x5 x6 x7 x8 x9 x10
          (ix3 ⟨r.val / 8192, by omega⟩ ⟨r.val % 8192, by omega⟩ l) := by
    unfold val_main_v63
    generalize val_main_v62 (F := Ideal) x0 x1 x2 x3 x4 x5 x6 x7 x8 x9 x10 = y
    pointwise
  refine e.trans ((final_apply ..).trans ?_)
  simp only [half_apply]
  have hn (b s) : (fun k => (val_main_v41 (F := Ideal) x0 x1 x2 x3 x4 x5 x6 (ix3 b s k) : EReal)) = _ :=
    funext fun k => normed_apply x0 x1 x2 x3 x4 x5 x6 b s k
  simp only [hn, mix_apply]
  rfl

end Cert.Reference2Ideal.Tail

namespace Cert.Proof.Out

theorem frame : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- From equal arguments the kernel's array and the reference's are equal, entry by entry. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10⟩ := hagree c
  refine (Cert.Reference2Ideal.Read.val_main_v63_eq m' c).trans ?_
  rw [Cert.Kernel2Ideal.Tail.final m c, h0, h1, h2, h3, h4, h5, h6, h7, h8, h9, h10]
  exact Cert.Reference2Ideal.Tail.result_eq ..

end Cert.Proof.Out

end
-- ==== Proof.OutSample.lean ====
/-
  The layer's tail on the sample batch, 32 sequences of 2048 positions: a block's result is the one `Proof.Out` reads, so what is
  left is which rows a block reads and the reference's arrays at these shapes.
-/
module

public import proofs.«01_k».proof.Proof.Out
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.Kernel4Ideal.Tail

open Cert.Kernel4Ideal Cert.Kernel4Ideal.Gen Cert.Rows
open Cert.Kernel2Ideal.Tail (mix last len lenF lenA eps half)

/-- The block's result is the same function of its windows as at the prompts' shapes. -/
theorem out_eq (x0 : Vec Ideal S1024x1024 .f32) (x1 : Vec Ideal S1024x256 .f32) (x2 : Vec Ideal S1x6x1024x128 .f32) (x3 : Vec Ideal S1x256 .f32)
    (x4 : Vec Ideal S1x768 .f32) (x5 : Vec Ideal S1024x1024 .bf16) (x6 : Vec Ideal S1x1024 .f32) (x7 x8 : Vec Ideal S1024x2816 .bf16)
    (x9 : Vec Ideal S2816x1024 .bf16) (x10 : Vec Ideal S1x1024 .f32) :
    out0_11 x0 x1 x2 x3 x4 x5 x6 x7 x8 x9 x10 = Cert.Kernel2Ideal.Gen.out0_11 x0 x1 x2 x3 x4 x5 x6 x7 x8 x9 x10 := rfl

/-- Entry `(i, c)` of the result: the row functions on row `(i / 2048, i % 2048)` of the residual stream and the mixers' results. -/
def result (x : FVec Ideal S32x2048x1024 .f32) (f : FVec Ideal S32x2048x256 .f32) (a : FVec Ideal S32x2048x768 .f32) (gf : FVec Ideal S256 .f32)
    (ga : FVec Ideal S768 .f32) (w : FVec Ideal S1024x1024 .f32) (g2 : FVec Ideal S1024 .f32) (wg wu : FVec Ideal S1024x2816 .f32)
    (wd : FVec Ideal S2816x1024 .f32) (gl : FVec Ideal S1024 .f32) : FVec Ideal S65536x1024 .f32 := fun i =>
  have h : (i 0).val < 65536 := (i 0).isLt
  have b : Fin 32 := ⟨(i 0).val / 2048, by omega⟩
  have s : Fin 2048 := ⟨(i 0).val % 2048, by omega⟩
  last (mix (fun k => x (ix3 b s k)) (fun k => f (ix3 b s k)) (fun k => a (ix3 b s k)) (fun k => gf (ix1 k)) (fun k => ga (ix1 k))
    (fun k c => w (ix2 k c))) (fun k => g2 (ix1 k)) (fun k j => wg (ix2 k j)) (fun k j => wu (ix2 k j)) (fun j c => wd (ix2 j c))
    (fun k => gl (ix1 k)) (i 1)

variable (m : (ℓ : Loc nD τ sig) → Buf (Elt Ideal) ℓ) (ρ : Dev nD → PrngReg)

/-- The windows' block indices at a point of the grid. -/
theorem idx : ∀ t : Fin grid0.N, win0_0.index t = ![t.val, 0] ∧ win0_1.index t = ![t.val % 2, t.val / 2]
    ∧ win0_2.index t = ![t.val / 2, 0, t.val % 2, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val, 0] := by decide +kernel

variable (c : Dev nD) (t : Fin cfg0.N)

theorem stream_read (r k : Fin 1024) (b : Fin 32) (s : Fin 2048) (hbs : t.val * 1024 + r.val = b.val * 2048 + s.val) :
    (iblk m c 0 t (ix2 r k) : EReal) = m ((c : Thread nD τ).loc main_arg0) (ix3 b s k) := by
  blk_ext! [iblk, V, idx t]

/-- Batch `b`'s Fourier rows are columns `256 b` to `256 b + 255` of the transposed array. -/
theorem fourier_read (r : Fin 1024) (k : Fin 256) (b : Fin 32) (s : Fin 2048) (hb : b.val = t.val / 2) (hs : s.val = t.val % 2 * 1024 + r.val) :
    (iblk m c 1 t (ix2 r k) : EReal) = m ((c : Thread nD τ).loc main_arg1) (ix3 b s k) := by
  blk_ext! [iblk, V, idx t]

theorem heads_read (r : Fin 1024) (k : Fin 768) (b : Fin 32) (s : Fin 2048) (hb : b.val = t.val / 2) (hs : s.val = t.val % 2 * 1024 + r.val) :
    (iblk m c 2 t (ix4 0 ⟨k.val / 128, by omega⟩ r ⟨k.val % 128, by omega⟩) : EReal) = m ((c : Thread nD τ).loc main_arg2) (ix3 b s k) := by
  blk_ext! [iblk, V, idx t]

theorem gain3_read (k : Fin 256) : (iblk m c 3 t (ix2 0 k) : EReal) = m ((c : Thread nD τ).loc main_arg3) (ix1 k) := by
  blk_ext! [iblk, V, idx t]

theorem gain4_read (k : Fin 768) : (iblk m c 4 t (ix2 0 k) : EReal) = m ((c : Thread nD τ).loc main_arg4) (ix1 k) := by
  blk_ext! [iblk, V, idx t]

theorem proj_read (k j : Fin 1024) : (iblk m c 5 t (ix2 k j) : EReal) = m ((c : Thread nD τ).loc main_arg5) (ix2 k j) := by
  blk_ext! [iblk, V, idx t]

theorem gain6_read (k : Fin 1024) : (iblk m c 6 t (ix2 0 k) : EReal) = m ((c : Thread nD τ).loc main_arg6) (ix1 k) := by
  blk_ext! [iblk, V, idx t]

theorem gate_read (k : Fin 1024) (j : Fin 2816) : (iblk m c 7 t (ix2 k j) : EReal) = m ((c : Thread nD τ).loc main_arg7) (ix2 k j) := by
  blk_ext! [iblk, V, idx t]

theorem up_read (k : Fin 1024) (j : Fin 2816) : (iblk m c 8 t (ix2 k j) : EReal) = m ((c : Thread nD τ).loc main_arg8) (ix2 k j) := by
  blk_ext! [iblk, V, idx t]

theorem down_read (j : Fin 2816) (k : Fin 1024) : (iblk m c 9 t (ix2 j k) : EReal) = m ((c : Thread nD τ).loc main_arg9) (ix2 j k) := by
  blk_ext! [iblk, V, idx t]

theorem gain10_read (k : Fin 1024) : (iblk m c 10 t (ix2 0 k) : EReal) = m ((c : Thread nD τ).loc main_arg10) (ix1 k) := by
  blk_ext! [iblk, V, idx t]

/-- What the result array holds after the run. -/
theorem final : (dats m 0 c).arrAt 11 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t hf y => ?_
  blk_simp
  rw [after0_11]
  have ht : t.val < 64 := lt_of_lt_of_eq t.isLt N_0
  obtain ⟨r, l, rfl⟩ : ∃ (r l : Fin 1024), y = ix2 r l := ⟨y 0, y 1, eq_ix2 y⟩
  refine (congrFun (out_eq ..) _).trans ((Cert.Kernel2Ideal.Tail.out_apply _ _ _ _ _ _ _ _ _ _ _ r l).trans ?_)
  simp only [gain3_read, gain4_read, proj_read, gain6_read, gate_read, up_read, down_read, gain10_read]
  have hr (k : Fin 1024) := stream_read m c t r k ⟨(t.val * 1024 + r.val) / 2048, by omega⟩ ⟨(t.val * 1024 + r.val) % 2048, by omega⟩
    (by simp only; omega)
  have hf (k : Fin 256) := fourier_read m c t r k ⟨(t.val * 1024 + r.val) / 2048, by omega⟩ ⟨(t.val * 1024 + r.val) % 2048, by omega⟩
    (by simp only; omega) (by simp only; omega)
  have ha (k : Fin 768) := heads_read m c t r k ⟨(t.val * 1024 + r.val) / 2048, by omega⟩ ⟨(t.val * 1024 + r.val) % 2048, by omega⟩
    (by simp only; omega) (by simp only; omega)
  simp only [hr, hf, ha]
  have e : (win0_11.blk t).view.emb (ix2 r l) = ix2 ⟨t.val * 1024 + r.val, by omega⟩ l := by
    have h11 := (idx t).2.2.2.2.2.2.2.2.2.2.2
    funext a
    apply Fin.ext
    match a with
    | ⟨0, _⟩ => show win0_11.index t 0 * 1024 + 1 * r.val = _; rw [h11]; show t.val * 1024 + 1 * r.val = t.val * 1024 + r.val; omega
    | ⟨1, _⟩ => show win0_11.index t 1 * 1024 + 1 * l.val = _; rw [h11]; show 0 * 1024 + 1 * l.val = l.val; omega
  rw [e]
  rfl

end Cert.Kernel4Ideal.Tail

namespace Cert.Reference4Ideal.Tail

open Cert.Reference4Ideal Cert.Reference4Ideal.Read Cert.Rows
open Cert.Kernel2Ideal.Tail (mix last len lenF lenA eps half)
open Cert.Kernel4Ideal.Tail (result)

variable (x0 : FVec Ideal S32x2048x1024 .f32) (x1 : FVec Ideal S32x2048x256 .f32) (x2 : FVec Ideal S32x2048x768 .f32) (x3 : FVec Ideal S256 .f32)
  (x4 : FVec Ideal S768 .f32) (x5 : FVec Ideal S1024x1024 .f32) (x6 : FVec Ideal S1024 .f32) (x7 x8 : FVec Ideal S1024x2816 .f32)
  (x9 : FVec Ideal S2816x1024 .f32) (x10 : FVec Ideal S1024 .f32)

theorem fourier_apply (b : Fin 32) (s : Fin 2048) (k : Fin 256) :
    (val_main_v12 (F := Ideal) x1 x3 (ix3 b s k) : EReal) = rms lenF eps (fun k => x1 (ix3 b s k)) (fun k => x3 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem heads_apply (b : Fin 32) (s : Fin 2048) (k : Fin 768) :
    (val_main_v25 (F := Ideal) x2 x4 (ix3 b s k) : EReal) = rms lenA eps (fun k => x2 (ix3 b s k)) (fun k => x4 (ix1 k)) k := by
  pointwise [val_main_v25, val_main_v24, val_main_v23, val_main_v22, val_main_v21, val_main_v20, val_main_v19, val_main_v18, val_main_v17,
    val_main_v16, val_main_v15, val_main_v14, val_main_v13, val_main_cst_2, val_main_cst_3, val_main_cst_4, rms]

theorem mix_apply (b : Fin 32) (s : Fin 2048) (c : Fin 1024) :
    (val_main_v28 (F := Ideal) x0 x1 x2 x3 x4 x5 (ix3 b s c) : EReal)
      = mix (fun k => x0 (ix3 b s k)) (fun k => x1 (ix3 b s k)) (fun k => x2 (ix3 b s k)) (fun k => x3 (ix1 k)) (fun k => x4 (ix1 k))
          (fun k c => x5 (ix2 k c)) c := by
  unfold mix
  simp only [← fourier_apply, ← heads_apply]
  unfold val_main_v28 val_main_v27 val_main_v26
  generalize val_main_v12 (F := Ideal) x1 x3 = f
  generalize val_main_v25 (F := Ideal) x2 x4 = a
  pointwise
  exact (add_assoc _ _ _).symm

/-- The normed mixed row. -/
theorem normed_apply (b : Fin 32) (s : Fin 2048) (k : Fin 1024) :
    (val_main_v41 (F := Ideal) x0 x1 x2 x3 x4 x5 x6 (ix3 b s k) : EReal)
      = rms len eps (fun k => (val_main_v28 (F := Ideal) x0 x1 x2 x3 x4 x5 (ix3 b s k) : EReal)) (fun k => x6 (ix1 k)) k := by
  unfold val_main_v41 val_main_v38 val_main_v37 val_main_v36 val_main_v35 val_main_v33 val_main_v31 val_main_v30 val_main_v29
  generalize val_main_v28 (F := Ideal) x0 x1 x2 x3 x4 x5 = y
  pointwise [val_main_v40, val_main_v39, val_main_v34, val_main_v32, val_main_cst_5, val_main_cst_6, val_main_cst_7, rms]

/-- The row after the second SwiGLU half. -/
theorem half_apply (b : Fin 32) (s : Fin 2048) (c : Fin 1024) :
    (val_main_v49 (F := Ideal) x0 x1 x2 x3 x4 x5 x6 x7 x8 x9 (ix3 b s c) : EReal)
      = val_main_v28 (F := Ideal) x0 x1 x2 x3 x4 x5 (ix3 b s c)
        + half * swi (fun k => (val_main_v41 (F := Ideal) x0 x1 x2 x3 x4 x5 x6 (ix3 b s k) : EReal)) (fun k j => x7 (ix2 k j))
          (fun k j => x8 (ix2 k j)) (fun j c => x9 (ix2 j c)) c := by
  unfold val_main_v49 val_main_v48 val_main_v46 val_main_v45 val_main_v44 val_main_v43 val_main_call0_v5 val_main_call0_v3
    val_main_call0_v1 val_main_call0_v0 val_main_v42
  generalize val_main_v28 (F := Ideal) x0 x1 x2 x3 x4 x5 = y
  generalize val_main_v41 (F := Ideal) x0 x1 x2 x3 x4 x5 x6 = h
  pointwise [val_main_v47, val_main_cst_8, val_main_call0_v2, val_main_call0_v4, val_main_call0_cst, val_main_call0_cst_0]
  rfl

/-- The final norm. -/
theorem final_apply (b : Fin 32) (s : Fin 2048) (c : Fin 1024) :
    (val_main_v62 (F := Ideal) x0 x1 x2 x3 x4 x5 x6 x7 x8 x9 x10 (ix3 b s c) : EReal)
      = rms len eps (fun k => (val_main_v49 (F := Ideal) x0 x1 x2 x3 x4 x5 x6 x7 x8 x9 (ix3 b s k) : EReal)) (fun k => x10 (ix1 k)) c := by
  unfold val_main_v62 val_main_v59 val_main_v58 val_main_v57 val_main_v56 val_main_v54 val_main_v52 val_main_v51 val_main_v50
  generalize val_main_v49 (F := Ideal) x0 x1 x2 x3 x4 x5 x6 x7 x8 x9 = y
  pointwise [val_main_v61, val_main_v60, val_main_v55, val_main_v53, val_main_cst_9, val_main_cst_10, val_main_cst_11, rms]

/-- The reference's result term is the same function of the arguments. -/
theorem result_eq : val_main_v63 (F := Ideal) x0 x1 x2 x3 x4 x5 x6 x7 x8 x9 x10 = result x0 x1 x2 x3 x4 x5 x6 x7 x8 x9 x10 := by
  funext i
  obtain ⟨r, l, rfl⟩ : ∃ (r : Fin 65536) (l : Fin 1024), i = ix2 r l := ⟨i 0, i 1, eq_ix2 i⟩
  have e : (val_main_v63 (F := Ideal) x0 x1 x2 x3 x4 x5 x6 x7 x8 x9 x10 (ix2 r l) : EReal)
      = val_main_v62 (F := Ideal) x0 x1 x2 x3 x4 x5 x6 x7 x8 x9 x10
          (ix3 ⟨r.val / 2048, by omega⟩ ⟨r.val % 2048, by omega⟩ l) := by
    unfold val_main_v63
    generalize val_main_v62 (F := Ideal) x0 x1 x2 x3 x4 x5 x6 x7 x8 x9 x10 = y
    pointwise
  refine e.trans ((final_apply ..).trans ?_)
  simp only [half_apply]
  have hn (b s) : (fun k => (val_main_v41 (F := Ideal) x0 x1 x2 x3 x4 x5 x6 (ix3 b s k) : EReal)) = _ :=
    funext fun k => normed_apply x0 x1 x2 x3 x4 x5 x6 b s k
  simp only [hn, mix_apply]
  rfl

end Cert.Reference4Ideal.Tail

namespace Cert.Proof.OutSample

theorem frame : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- From equal arguments the kernel's array and the reference's are equal, entry by entry. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3, h4, h5, h6, h7, h8, h9, h10⟩ := hagree c
  refine (Cert.Reference4Ideal.Read.val_main_v63_eq m' c).trans ?_
  rw [Cert.Kernel4Ideal.Tail.final m c, h0, h1, h2, h3, h4, h5, h6, h7, h8, h9, h10]
  exact Cert.Reference4Ideal.Tail.result_eq ..

end Cert.Proof.OutSample

end
-- ==== Proof.Fold.lean ====
/-
  The channel transform of the Fourier mixer and its group maps, folded into the input weights: at the extended reals, from finite
  weights, the kernel's array is the reference's. The kernel multiplies block-diagonal tables by the group maps first and the input
  weights by the product; the reference transforms each row of the weights and applies the group's map after.
-/
module

public import proofs.«01_k».proof.Defs
public import proofs.«01_k».proof.Proof.DftReal
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_weights
public import Idealize.ShloMosaic.Lib.Pipeline.ValueKit
public import Idealize.ShloMosaic.Lib.StableHlo.ReadAt
public import Idealize.ShloMosaic.Lib.Routing.Words
public import Idealize.ShloMosaic.Lib.Quiescent

@[expose] public section

set_option maxRecDepth 16384

noncomputable section

open Idealize.ShloMosaic Idealize.ShloMosaic.TcCoe Idealize.SL.Sem

namespace Cert.Fold

open Cert.DftReal (coe_sum exists_coe)

/-- The angle of one step of the transform over the 64 channels of a group. -/
def w : ℝ := 2 * Real.pi / 64

/-- A multiple of 64 steps is whole turns. -/
theorem cos_rem (n : ℕ) : Real.cos (((n % 64 : ℕ) : ℝ) * w) = Real.cos (n * w) := by
  conv_rhs => rw [← Nat.mod_add_div n 64]
  rw [← Real.cos_add_nat_mul_two_pi _ (n / 64), w]
  push_cast
  congr 1; ring

theorem sin_rem (n : ℕ) : Real.sin (((n % 64 : ℕ) : ℝ) * w) = Real.sin (n * w) := by
  conv_rhs => rw [← Nat.mod_add_div n 64]
  rw [← Real.sin_add_nat_mul_two_pi _ (n / 64), w]
  push_cast
  congr 1; ring

/-- A sum over 256 channels of terms that vanish outside one group is the sum over the group's 64. -/
theorem sum_group (g : ℕ) (hg : g < 4) (f : ℕ → ℝ) :
    ∑ k : Fin 256, (if k.val / 64 = g then f (k.val % 64) else 0) = ∑ k : Fin 64, f k.val := by
  rw [← (finProdFinEquiv (m := 4) (n := 64)).sum_comp, Fintype.sum_prod_type, Finset.sum_eq_single ⟨g, hg⟩]
  · refine Finset.sum_congr rfl fun b _ => ?_
    simp only [finProdFinEquiv_apply_val]
    rw [if_pos (by omega), show (b.val + 64 * g) % 64 = b.val by omega]
  · intro a _ ha
    refine Finset.sum_eq_zero fun b _ => if_neg fun h => ha (Fin.ext ?_)
    simp only [finProdFinEquiv_apply_val] at h
    simp only; omega
  · intro h; exact absurd (Finset.mem_univ _) h

/-- The two orders of the products. -/
theorem reorder (x : ℕ → ℝ) (t : ℕ → ℕ → ℝ) (y : ℕ → ℝ) (s : ℝ) :
    ∑ c : Fin 64, x c.val * ((∑ k : Fin 64, t c.val k.val * y k.val) * s) = ∑ k : Fin 64, y k.val * ((∑ c : Fin 64, x c.val * t c.val k.val) * s) := by
  simp only [Finset.sum_mul, Finset.mul_sum]
  rw [Finset.sum_comm]
  refine Finset.sum_congr rfl fun k _ => Finset.sum_congr rfl fun c _ => ?_
  ring

/-- The word of a number below `2^31`, as a real. -/
theorem word_real (n : ℕ) (hn : n < 2 ^ 31) : (FloatOps.sitofp (F := Ideal) .f32 (BitVec.ofNat 32 n) : EReal) = ((n : ℝ) : EReal) := by
  refine (Ideal.scalar_sitofp_def (φ := .f32) _).trans ?_
  rw [WordCmp.toInt_ofNat_of_lt (w := 32) hn]; norm_cast

/-- The printed angle: the arc of minus one times `2^-5`. -/
theorem step : (Ideal.acos (Ideal.ofBits .f32 0xBF800000#32) * Ideal.ofBits .f32 0x3D000000#32 : EReal) = ((w : ℝ) : EReal) := by
  rw [show (Ideal.ofBits .f32 0xBF800000#32 : EReal) = ((-1 : ℝ) : EReal) by simp [Ideal.ofBits, Ideal.ieee, -EReal.coe_mul, -EReal.coe_neg]; norm_num,
    show (Ideal.ofBits .f32 0x3D000000#32 : EReal) = ((1 / 32 : ℝ) : EReal) by simp [Ideal.ofBits, Ideal.ieee, -EReal.coe_mul]; norm_num,
    Ideal.acos_coe, if_pos ⟨le_refl _, by norm_num⟩, Real.arccos_neg_one, ← EReal.coe_mul]
  congr 1; rw [w]; ring

/-- The scale of the orthonormal transform. -/
theorem eighth : (Ideal.ofBits .f32 0x3E000000#32 : EReal) = ((1 / 8 : ℝ) : EReal) := by
  simp [Ideal.ofBits, Ideal.ieee, -EReal.coe_mul]; norm_num

/-- The remainder by 64, as printed, is the number's remainder. -/
theorem word_rem (a d : BitVec 32) (n : ℕ) (ha : a = BitVec.ofNat 32 n) (hd : d = 64#32) (hn : n < 2 ^ 31) :
    Scalar.select (IntOp.andi (IntOp.cmpi .ne (IntOp.cmpi .slt (IntOp.remsi .host a d) 0#32) (IntOp.cmpi .slt d 0#32))
        (IntOp.cmpi .ne (IntOp.remsi .host a d) 0#32))
      (IntOp.addi (IntOp.remsi .host a d) d) (IntOp.remsi .host a d) = BitVec.ofNat 32 (n % 64) := by
  subst ha hd
  rw [show (64#32 : BitVec 32) = BitVec.ofNat 32 64 from rfl, Routing.remsi_word .host hn (by norm_num) (by norm_num)]
  have hm : n % 64 < 2 ^ 31 := lt_of_le_of_lt (Nat.mod_le _ _) hn
  rw [show (0#32 : BitVec 32) = BitVec.ofNat 32 0 from rfl, WordCmp.cmpi_slt_ofNat (w := 32) hm (by decide), WordCmp.cmpi_slt_ofNat (w := 32) (by decide) (by decide)]
  simp only [Nat.not_lt_zero, decide_false]
  exact Routing.select_zero_and _ _ _

/-- The block-diagonal products are the group's own. -/
theorem collapse (a : ℕ → ℕ → ℝ) (t : ℕ → ℕ → ℝ) (b : ℕ → ℕ → ℝ) (g : ℕ) (hg : g < 4) (s : ℝ) :
    ∑ i : Fin 256, a (i.val / 64) (i.val % 64) * ((∑ k : Fin 256, (if i.val / 64 = k.val / 64 then t (i.val % 64) (k.val % 64) else 0)
        * (if k.val / 64 = g then b (k.val / 64) (k.val % 64) else 0)) * s)
      = ∑ c : Fin 64, a g c.val * ((∑ k : Fin 64, t c.val k.val * b g k.val) * s) := by
  have inner (i : Fin 256) : ∑ k : Fin 256, (if i.val / 64 = k.val / 64 then t (i.val % 64) (k.val % 64) else 0)
        * (if k.val / 64 = g then b (k.val / 64) (k.val % 64) else 0)
      = if i.val / 64 = g then ∑ k : Fin 64, t (i.val % 64) k.val * b g k.val else 0 := by
    by_cases hi : i.val / 64 = g
    · rw [if_pos hi, ← sum_group g hg (fun k => t (i.val % 64) k * b g k)]
      refine Finset.sum_congr rfl fun k _ => ?_
      by_cases hk : k.val / 64 = g
      · rw [if_pos hk, if_pos hk, if_pos (hi.trans hk.symm), hk]
      · rw [if_neg hk, if_neg hk, mul_zero]
    · rw [if_neg hi]
      refine Finset.sum_eq_zero fun k _ => ?_
      by_cases hk : k.val / 64 = g
      · rw [if_neg (fun h => hi (h.trans hk)), zero_mul]
      · rw [if_neg hk, mul_zero]
  simp only [inner]
  rw [← sum_group g hg (fun c => a g c * ((∑ k : Fin 64, t c k.val * b g k.val) * s))]
  refine Finset.sum_congr rfl fun i _ => ?_
  by_cases hi : i.val / 64 = g
  · rw [if_pos hi, if_pos hi, hi]
  · rw [if_neg hi, if_neg hi, zero_mul, mul_zero]

/-- Channel `c` of group `g` of row `d` of the input weights, and entry `(k, e)` of the map of group `g`, as functions of numbers. -/
def row (A : (⟨2, ![1024, 256]⟩ : Shape).Idx → ℝ) (d : Fin 1024) (g c : ℕ) : ℝ := if h : 64 * g + c < 256 then A (ix2 d ⟨64 * g + c, h⟩) else 0
def entry (B : (⟨3, ![4, 64, 64]⟩ : Shape).Idx → ℝ) (e g k : ℕ) : ℝ := if h : g < 4 ∧ k < 64 ∧ e < 64 then B (ix3 ⟨g, h.1⟩ ⟨k, h.2.1⟩ ⟨e, h.2.2⟩) else 0

/-- An output channel of the first or the second half, from real weights: the group's channels against the table times the group's map. -/
def slab (t : ℕ → ℕ → ℝ) (A : (⟨2, ![1024, 256]⟩ : Shape).Idx → ℝ) (B : (⟨3, ![4, 64, 64]⟩ : Shape).Idx → ℝ) (d : Fin 1024) (e : ℕ) : ℝ :=
  ∑ c : Fin 64, row A d (e / 64) c.val * ((∑ k : Fin 64, t c.val k.val * entry B (e % 64) (e / 64) k.val) * (1 / 8))

/-- The two tables' entries. -/
def cosines (c k : ℕ) : ℝ := Real.cos ((c * k : ℕ) * w)
def sines (c k : ℕ) : ℝ := Real.sin ((c * k : ℕ) * w)

/-- What the result array holds, from real weights: the cosines' half on the left, the sines' on the right. -/
def result (A : (⟨2, ![1024, 256]⟩ : Shape).Idx → ℝ) (B : (⟨3, ![4, 64, 64]⟩ : Shape).Idx → ℝ) : FVec Ideal (⟨2, ![1024, 512]⟩ : Shape) .bf16 := fun i =>
  if (i 1).val < 256 then ((slab cosines A B (i 0) (i 1).val : ℝ) : EReal) else ((slab sines A B (i 0) ((i 1).val - 256) : ℝ) : EReal)

end Cert.Fold

namespace Cert.Kernel5Ideal.Fold

open Cert.Kernel5Ideal Cert.Kernel5Ideal.Gen Cert.Fold
open Cert.DftReal (coe_sum)

variable (m : (ℓ : Loc nD τ sig) → Buf (Elt Ideal) ℓ)

/-- The divisor as the remainder's function guards it. -/
theorem divisor : Scalar.select (IntOp.cmpi CmpIPredicate.eq (id (constantI S_ 32 64#32) ix0) 0#32) (1#32)
    (id (constantI S_ 32 64#32) ix0) = 64#32 := by
  simp only [id, constantI]; decide

/-- An entry of the identity of the four groups, as printed. -/
theorem same (a b : ℕ) (ha : a < 4) (hb : b < 4) :
    (FloatOps.uitofp (F := Ideal) .f32 (IntOp.cmpi .eq (IntOp.addi (BitVec.ofNat 32 a) 0#32) (BitVec.ofNat 32 b)) : EReal)
      = ((if a = b then 1 else 0 : ℝ) : EReal) := by
  interval_cases a <;> interval_cases b <;> simp [IntOp.cmpi, IntOp.addi, FloatOps.uitofp]

/-- The printed angle of a pair of channels. -/
theorem angle (i j : ℕ) (hi : i < 64) (hj : j < 64) :
    (FloatOps.sitofp (F := Ideal) .f32
        (Scalar.select (IntOp.andi (IntOp.cmpi .ne (IntOp.cmpi .slt (IntOp.remsi .host (IntOp.muli (BitVec.ofNat 32 i) (BitVec.ofNat 32 j))
            (Scalar.select (IntOp.cmpi CmpIPredicate.eq (id (constantI S_ 32 64#32) ix0) 0#32) (1#32) (id (constantI S_ 32 64#32) ix0))) 0#32)
            (IntOp.cmpi .slt (Scalar.select (IntOp.cmpi CmpIPredicate.eq (id (constantI S_ 32 64#32) ix0) 0#32) (1#32) (id (constantI S_ 32 64#32) ix0)) 0#32))
          (IntOp.cmpi .ne (IntOp.remsi .host (IntOp.muli (BitVec.ofNat 32 i) (BitVec.ofNat 32 j))
            (Scalar.select (IntOp.cmpi CmpIPredicate.eq (id (constantI S_ 32 64#32) ix0) 0#32) (1#32) (id (constantI S_ 32 64#32) ix0))) 0#32))
        (IntOp.addi (IntOp.remsi .host (IntOp.muli (BitVec.ofNat 32 i) (BitVec.ofNat 32 j))
            (Scalar.select (IntOp.cmpi CmpIPredicate.eq (id (constantI S_ 32 64#32) ix0) 0#32) (1#32) (id (constantI S_ 32 64#32) ix0)))
          (Scalar.select (IntOp.cmpi CmpIPredicate.eq (id (constantI S_ 32 64#32) ix0) 0#32) (1#32) (id (constantI S_ 32 64#32) ix0)))
        (IntOp.remsi .host (IntOp.muli (BitVec.ofNat 32 i) (BitVec.ofNat 32 j))
          (Scalar.select (IntOp.cmpi CmpIPredicate.eq (id (constantI S_ 32 64#32) ix0) 0#32) (1#32) (id (constantI S_ 32 64#32) ix0))))
      * (Ideal.acos (Ideal.ofBits .f32 0xBF800000#32) * Ideal.ofBits .f32 0x3D000000#32) : EReal) = ((((i * j % 64 : ℕ) : ℝ) * w : ℝ) : EReal) := by
  have h : i * j ≤ 63 * 63 := Nat.mul_le_mul (by omega) (by omega)
  rw [word_rem _ _ (i * j) (by simp only [IntOp.muli, BitVec.ofNat_mul]) divisor (by omega), step, EReal.coe_mul]
  exact congrArg (· * ((w : ℝ) : EReal)) (word_real _ (by omega))

/-- The block-diagonal table of cosines. -/
theorem cos_table (c : Dev nD) (i j : Fin 256) :
    (V m c main_v19 (ix2 i j) : EReal) = ((if i.val / 64 = j.val / 64 then Real.cos ((i.val % 64 * (j.val % 64) : ℕ) * w) else 0 : ℝ) : EReal) := by
  after_reads_at
  rw [same _ _ (by omega) (by omega), angle _ _ (by omega) (by omega), Ideal.cos_coe, cos_rem, ← EReal.coe_mul, ite_mul, one_mul, zero_mul]

/-- The block-diagonal table of sines. -/
theorem sin_table (c : Dev nD) (i j : Fin 256) :
    (V m c main_v21 (ix2 i j) : EReal) = ((if i.val / 64 = j.val / 64 then Real.sin ((i.val % 64 * (j.val % 64) : ℕ) * w) else 0 : ℝ) : EReal) := by
  after_reads_at
  rw [same _ _ (by omega) (by omega), angle _ _ (by omega) (by omega), Ideal.sin_coe, sin_rem, ← EReal.coe_mul, ite_mul, one_mul, zero_mul]

/-- A group's map written at its place on the diagonal, read at an index. -/
theorem placed (x : FVec Ideal S256x256 .f32) (u : FVec Ideal S64x64 .f32) (st : Fin 2 → Int) (s : ℕ) (hs : s ≤ 192) (e : ∀ a, st a = (s : Int))
    (i j : Fin 256) :
    (Host.dynamicUpdateSlice x u st updateFits_S256x256_S64x64 (ix2 i j) : EReal)
      = if h : (s ≤ i.val ∧ i.val < s + 64) ∧ (s ≤ j.val ∧ j.val < s + 64) then u (ix2 ⟨i.val - s, by omega⟩ ⟨j.val - s, by omega⟩) else x (ix2 i j) := by
  rw [WordCmp.dynamicUpdateSlice_eq_update x u st updateFits_S256x256_S64x64 (fun _ => s) ⟨rfl, fun a => by fin_cases a <;> (show s + 64 ≤ 256; omega)⟩ e]
  have e1 : (∀ a : Fin 2, s ≤ ((ix2 i j : S256x256.Idx) a).val ∧ ((ix2 i j : S256x256.Idx) a).val < s + S64x64.size a)
      ↔ ((s ≤ i.val ∧ i.val < s + 64) ∧ (s ≤ j.val ∧ j.val < s + 64)) := by
    rw [Fin.forall_fin_two]; rfl
  unfold updateSlice
  by_cases h : (s ≤ i.val ∧ i.val < s + 64) ∧ (s ≤ j.val ∧ j.val < s + 64)
  · rw [dif_pos h]
    refine (dif_pos (e1.2 h)).trans ?_
    refine congrArg u (funext fun a => ?_)
    match a with
    | ⟨0, _⟩ => rfl
    | ⟨1, _⟩ => rfl
  · rw [dif_neg h]
    exact dif_neg fun h' => h (e1.1 h')

/-- The four maps in their places are the block-diagonal table. -/
theorem blocks (f : Fin 4 → Fin 64 → Fin 64 → EReal) (i j : Fin 256) :
    (if h : 192 ≤ i.val ∧ 192 ≤ j.val then f 3 ⟨i.val - 192, by omega⟩ ⟨j.val - 192, by omega⟩
      else if h : (128 ≤ i.val ∧ i.val < 192) ∧ 128 ≤ j.val ∧ j.val < 192 then f 2 ⟨i.val - 128, by omega⟩ ⟨j.val - 128, by omega⟩
      else if h : (64 ≤ i.val ∧ i.val < 128) ∧ 64 ≤ j.val ∧ j.val < 128 then f 1 ⟨i.val - 64, by omega⟩ ⟨j.val - 64, by omega⟩
      else if h : i.val < 64 ∧ j.val < 64 then f 0 ⟨i.val, by omega⟩ ⟨j.val, by omega⟩ else 0)
      = if i.val / 64 = j.val / 64 then f ⟨i.val / 64, by omega⟩ ⟨i.val % 64, by omega⟩ ⟨j.val % 64, by omega⟩ else 0 := by
  have key (g g' : Fin 4) (a a' b b' : Fin 64) (hg : g.val = g'.val) (ha : a.val = a'.val) (hb : b.val = b'.val) : f g a b = f g' a' b' := by
    rw [Fin.ext hg, Fin.ext ha, Fin.ext hb]
  split_ifs <;> first | rfl | (exfalso; omega) | exact key _ _ _ _ _ _ (by simp only; omega) (by simp only; omega) (by simp only; omega)

set_option maxHeartbeats 1000000 in
/-- The block-diagonal table of the groups' maps. -/
theorem map_table (c : Dev nD) (i j : Fin 256) :
    (V m c main_v34 (ix2 i j) : EReal) = if i.val / 64 = j.val / 64 then (m (c, main_arg1) (ix3 ⟨i.val / 64, by omega⟩ ⟨i.val % 64, by omega⟩ ⟨j.val % 64, by omega⟩) : Elt Ideal .f32) else (0 : EReal) := by
  after_reads_simp
  try simp -implicitDefEqProofs only [StableHlo.TRef.toBuf, StableHlo.TRef.ofBuf, cast_cast, cast_eq]
  clean_types
  rw [placed _ _ _ 192 (by norm_num) ?_, placed _ _ _ 128 (by norm_num) ?_, placed _ _ _ 64 (by norm_num) ?_, placed _ _ _ 0 (by norm_num) ?_]
  · pointwise
    exact blocks (fun g a b => (m (c, main_arg1) (ix3 g a b) : Elt Ideal .f32)) i j
  all_goals
    intro a
    fin_cases a
    · show BitVec.toInt _ = _
      rfl
    · show BitVec.toInt _ = _
      rfl

/-- The kernel's two products on real weights. -/
theorem products (t : ℕ → ℕ → ℝ) (A : S1024x256.Idx → ℝ) (B : S4x64x64.Idx → ℝ) (x : FVec Ideal S1024x256 .f32) (y z : FVec Ideal S256x256 .f32)
    (hx : ∀ (d : Fin 1024) (i : Fin 256), (x (ix2 d i) : EReal) = (row A d (i.val / 64) (i.val % 64) : ℝ))
    (hy : ∀ i j : Fin 256, (y (ix2 i j) : EReal) = ((if i.val / 64 = j.val / 64 then t (i.val % 64) (j.val % 64) else 0 : ℝ) : EReal))
    (hz : ∀ i j : Fin 256, (z (ix2 i j) : EReal) = ((if i.val / 64 = j.val / 64 then entry B (j.val % 64) (i.val / 64) (i.val % 64) else 0 : ℝ) : EReal))
    (d : Fin 1024) (e : Fin 256) : (k0_pay1 (F := Ideal) y z x (ix2 d e) : EReal) = (slab t A B d e.val : ℝ) := by
  pointwise [k0_pay1]
  simp only [hx, hy, hz, eighth, ← EReal.coe_mul, ← coe_sum]
  rw [EReal.coe_eq_coe_iff]
  exact collapse (row A d) t (entry B (e.val % 64)) (e.val / 64) (by omega) (1 / 8)

variable (c : Dev nD) (t : Fin cfg0.N)

theorem idx : ∀ t : Fin grid0.N, win0_0.index t = ![0, 0] ∧ win0_1.index t = ![0, 0] ∧ win0_2.index t = ![0, 0] ∧ win0_3.index t = ![0, 0]
    ∧ win0_4.index t = ![0, 0] := by decide +kernel

theorem weights_read (A : S1024x256.Idx → ℝ) (hA : ∀ i, (m ((c : Thread nD τ).loc main_arg0) i : EReal) = ((A i : ℝ) : EReal)) (d : Fin 1024) (i : Fin 256) :
    (iblk m c 0 t (ix2 d i) : EReal) = ((row A d (i.val / 64) (i.val % 64) : ℝ) : EReal) := by
  have e : (iblk m c 0 t (ix2 d i) : EReal) = m ((c : Thread nD τ).loc main_arg0) (ix2 d i) := by
    blk_ext! [iblk, V_main_arg0, idx t]
  rw [e, hA, row, dif_pos (by omega)]
  congr 3
  exact Fin.ext (by simp only; omega)

theorem cos_read (i j : Fin 256) :
    (iblk m c 1 t (ix2 i j) : EReal) = ((if i.val / 64 = j.val / 64 then cosines (i.val % 64) (j.val % 64) else 0 : ℝ) : EReal) := by
  refine Eq.trans ?_ (cos_table m c i j)
  blk_ext! [iblk, idx t]

theorem sin_read (i j : Fin 256) :
    (iblk m c 2 t (ix2 i j) : EReal) = ((if i.val / 64 = j.val / 64 then sines (i.val % 64) (j.val % 64) else 0 : ℝ) : EReal) := by
  refine Eq.trans ?_ (sin_table m c i j)
  blk_ext! [iblk, idx t]

theorem map_read (B : S4x64x64.Idx → ℝ) (hB : ∀ i, (m ((c : Thread nD τ).loc main_arg1) i : EReal) = ((B i : ℝ) : EReal)) (i j : Fin 256) :
    (iblk m c 3 t (ix2 i j) : EReal) = ((if i.val / 64 = j.val / 64 then entry B (j.val % 64) (i.val / 64) (i.val % 64) else 0 : ℝ) : EReal) := by
  have e : (iblk m c 3 t (ix2 i j) : EReal) = V m c main_v34 (ix2 i j) := by
    blk_ext! [iblk, idx t]
  rw [e, map_table]
  by_cases h : i.val / 64 = j.val / 64
  · rw [if_pos h, if_pos h, entry, dif_pos (by omega)]
    exact hB _
  · rw [if_neg h, if_neg h]; rfl

/-- The block's result over its windows. -/
theorem out_eq (x0 : Vec Ideal S1024x256 .f32) (x1 x2 x3 : Vec Ideal S256x256 .f32) :
    out0_4 x0 x1 x2 x3 = View.canon [⟨r0_3, k0_pay1 x2 x3 x0⟩, ⟨r0_2, k0_pay1 x1 x3 x0⟩] := by
  have hz : (![0, 0] : Fin 2 → Nat) = fun _ => 0 := funext fun a => by fin_cases a <;> rfl
  have e0 : View.ld x0 r0_1 = x0 := View.ld_unit_zero hz ..
  have e1 (x : Vec Ideal S256x256 .f32) : View.ld x r0_0 = x := View.ld_unit_zero hz ..
  rw [out0_4, e0, e1, e1, e1]
  rfl

/-- What the result array holds after the run, from real weights. -/
theorem final (A : S1024x256.Idx → ℝ) (B : S4x64x64.Idx → ℝ) (hA : ∀ i, (m ((c : Thread nD τ).loc main_arg0) i : EReal) = ((A i : ℝ) : EReal))
    (hB : ∀ i, (m ((c : Thread nD τ).loc main_arg1) i : EReal) = ((B i : ℝ) : EReal)) : (dats m 0 c).arrAt 4 cfg0.N = result A B := by
  refine (dats m 0 c).arrAt_eq_of_covers 4 _ (by decide +kernel) fun t hf y => ?_
  blk_simp
  rw [after0_4]
  obtain ⟨d, e, rfl⟩ : ∃ (d : Fin 1024) (e : Fin 512), y = ix2 d e := ⟨y 0, y 1, eq_ix2 y⟩
  rw [out_eq]
  have hemb : (win0_4.blk t).view.emb (ix2 d e) = ix2 d e := by
    have h4 := (idx t).2.2.2.2
    funext a
    apply Fin.ext
    match a with
    | ⟨0, _⟩ => show win0_4.index t 0 * 1024 + 1 * d.val = _; rw [h4]; show 0 * 1024 + 1 * d.val = d.val; omega
    | ⟨1, _⟩ => show win0_4.index t 1 * 512 + 1 * e.val = _; rw [h4]; show 0 * 512 + 1 * e.val = e.val; omega
  rw [hemb]
  refine (View.canon_apply_of_pieces (fun y : S1024x512.Idx => (result A B y : EReal)) _ ?_ _ (cover0_4 _ _ _)).trans rfl
  intro p hp
  simp only [List.mem_cons, List.not_mem_nil, or_false] at hp
  rcases hp with rfl | rfl
  · intro x
    obtain ⟨i, l, rfl⟩ : ∃ (i : Fin 1024) (l : Fin 256), x = ix2 i l := ⟨x 0, x 1, eq_ix2 x⟩
    refine (products sines A B _ _ _ (weights_read m c t A hA) (sin_read m c t) (map_read m c t B hB) i l).trans ?_
    have ei : r0_3.emb (ix2 i l) = ix2 i ⟨256 + l.val, by omega⟩ := by
      funext a
      apply Fin.ext
      match a with
      | ⟨0, _⟩ => show 0 + 1 * i.val = i.val; omega
      | ⟨1, _⟩ => show 256 + 1 * l.val = 256 + l.val; omega
    rw [ei]
    refine Eq.trans ?_ (if_neg (show ¬ 256 + l.val < 256 by omega)).symm
    rw [show ((ix2 i ⟨256 + l.val, by omega⟩ : S1024x512.Idx) 1).val - 256 = l.val from Nat.add_sub_cancel_left ..]
    rfl
  · intro x
    obtain ⟨i, l, rfl⟩ : ∃ (i : Fin 1024) (l : Fin 256), x = ix2 i l := ⟨x 0, x 1, eq_ix2 x⟩
    refine (products cosines A B _ _ _ (weights_read m c t A hA) (cos_read m c t) (map_read m c t B hB) i l).trans ?_
    have ei : r0_2.emb (ix2 i l) = ix2 i ⟨l.val, by omega⟩ := by
      funext a
      apply Fin.ext
      match a with
      | ⟨0, _⟩ => show 0 + 1 * i.val = i.val; omega
      | ⟨1, _⟩ => show 0 + 1 * l.val = l.val; omega
    rw [ei]
    exact (if_pos (show l.val < 256 by omega)).symm

end Cert.Kernel5Ideal.Fold

namespace Cert.Reference5Ideal.Fold

open Cert.Reference5Ideal Cert.Reference5Ideal.Read Cert.Fold
open Cert.DftReal (coe_sum)

/-- The angle of a pair of channels. -/
theorem angle_apply (c k : Fin 64) : (val_main_v11 (F := Ideal) (ix2 c k) : EReal) = (((c.val * k.val : ℕ) * w : ℝ) : EReal) := by
  pointwise [val_main_v11, val_main_v10, val_main_v9, val_main_v8, val_main_v7, val_main_v6, val_main_v5, val_main_v4, val_main_v3, val_main_v2,
    val_main_v1, val_main_cst, val_main_cst_0]
  have hb : c.val * k.val ≤ 63 * 63 := Nat.mul_le_mul (by omega) (by omega)
  rw [show IntOp.muli (BitVec.ofNat 32 c.val) (BitVec.ofNat 32 k.val) = BitVec.ofNat 32 (c.val * k.val) by simp only [IntOp.muli, BitVec.ofNat_mul],
    step, EReal.coe_mul]
  exact congrArg (· * ((w : ℝ) : EReal)) (word_real _ (by omega))

/-- The left half of the result at an index, over the table of cosines. -/
theorem left_apply (x0 : FVec Ideal S1024x256 .f32) (x1 : FVec Ideal S4x64x64 .f32) (d : Fin 1024) (e : Fin 256) :
    (val_main_v22 (F := Ideal) x0 x1 (ix2 d e) : EReal) = ∑ k : Fin 64, x1 (ix3 ⟨e.val / 64, by omega⟩ k ⟨e.val % 64, by omega⟩)
      * ((∑ c : Fin 64, x0 (ix2 d ⟨e.val / 64 * 64 + c.val, by omega⟩) * Ideal.cos (val_main_v11 (F := Ideal) (ix2 c k) : EReal))
        * Ideal.ofBits .f32 0x3E000000#32) := by
  unfold val_main_v22 val_main_v21 val_main_v20 val_main_v15 val_main_v13 val_main_v12
  generalize val_main_v11 (F := Ideal) = a
  pointwise [val_main_v14, val_main_cst_1, val_main_v0]

/-- The right half, over the table of sines. -/
theorem right_apply (x0 : FVec Ideal S1024x256 .f32) (x1 : FVec Ideal S4x64x64 .f32) (d : Fin 1024) (e : Fin 256) :
    (val_main_v25 (F := Ideal) x0 x1 (ix2 d e) : EReal) = ∑ k : Fin 64, x1 (ix3 ⟨e.val / 64, by omega⟩ k ⟨e.val % 64, by omega⟩)
      * ((∑ c : Fin 64, x0 (ix2 d ⟨e.val / 64 * 64 + c.val, by omega⟩) * Ideal.sin (val_main_v11 (F := Ideal) (ix2 c k) : EReal))
        * Ideal.ofBits .f32 0x3E000000#32) := by
  unfold val_main_v25 val_main_v24 val_main_v23 val_main_v19 val_main_v17 val_main_v16
  generalize val_main_v11 (F := Ideal) = a
  pointwise [val_main_v18, val_main_cst_2, val_main_v0]

/-- The reference's order of the products, on real weights and a table of reals. -/
theorem half_eq (t : ℕ → ℕ → ℝ) (x0 : FVec Ideal S1024x256 .f32) (x1 : FVec Ideal S4x64x64 .f32) (A : S1024x256.Idx → ℝ) (B : S4x64x64.Idx → ℝ)
    (hA : ∀ i, (x0 i : EReal) = ((A i : ℝ) : EReal)) (hB : ∀ i, (x1 i : EReal) = ((B i : ℝ) : EReal)) (d : Fin 1024) (e : Fin 256) :
    (∑ k : Fin 64, x1 (ix3 ⟨e.val / 64, by omega⟩ k ⟨e.val % 64, by omega⟩)
      * ((∑ c : Fin 64, x0 (ix2 d ⟨e.val / 64 * 64 + c.val, by omega⟩) * ((t c.val k.val : ℝ) : EReal))
        * Ideal.ofBits .f32 0x3E000000#32) : EReal) = ((slab t A B d e.val : ℝ) : EReal) := by
  have ha (c : Fin 64) : A (ix2 d ⟨e.val / 64 * 64 + c.val, by omega⟩) = row A d (e.val / 64) c.val := by
    rw [row, dif_pos (by omega)]
    congr 3
    omega
  have hb (k : Fin 64) : B (ix3 ⟨e.val / 64, by omega⟩ k ⟨e.val % 64, by omega⟩) = entry B (e.val % 64) (e.val / 64) k.val := by
    rw [entry, dif_pos (by omega)]
  simp only [hA, hB, ha, hb, eighth, ← EReal.coe_mul, ← coe_sum]
  rw [EReal.coe_eq_coe_iff]
  exact (reorder (row A d (e.val / 64)) t (entry B (e.val % 64) (e.val / 64)) (1 / 8)).symm

/-- The reference's result, from real weights. -/
theorem result_eq (x0 : FVec Ideal S1024x256 .f32) (x1 : FVec Ideal S4x64x64 .f32) (A : S1024x256.Idx → ℝ) (B : S4x64x64.Idx → ℝ)
    (hA : ∀ i, (x0 i : EReal) = ((A i : ℝ) : EReal)) (hB : ∀ i, (x1 i : EReal) = ((B i : ℝ) : EReal)) :
    val_main_v27 (F := Ideal) x0 x1 = result A B := by
  funext i
  obtain ⟨d, e, rfl⟩ : ∃ (d : Fin 1024) (e : Fin 512), i = ix2 d e := ⟨i 0, i 1, eq_ix2 i⟩
  have hl (e : Fin 256) : (val_main_v22 (F := Ideal) x0 x1 (ix2 d e) : EReal) = ((slab cosines A B d e.val : ℝ) : EReal) := by
    rw [left_apply, ← half_eq cosines x0 x1 A B hA hB]
    simp only [angle_apply, Ideal.cos_coe, cosines]
  have hr (e : Fin 256) : (val_main_v25 (F := Ideal) x0 x1 (ix2 d e) : EReal) = ((slab sines A B d e.val : ℝ) : EReal) := by
    rw [right_apply, ← half_eq sines x0 x1 A B hA hB]
    simp only [angle_apply, Ideal.sin_coe, sines]
  unfold val_main_v27 val_main_v26
  generalize val_main_v22 (F := Ideal) x0 x1 = y at hl
  generalize val_main_v25 (F := Ideal) x0 x1 = z at hr
  have key (hc) (hb) : ((truncf .bf16 (concatenate S1024x512 1 [⟨S1024x256, y⟩, ⟨S1024x256, z⟩] hc : FVec Ideal S1024x512 .f32) hb : FVec Ideal S1024x512 .bf16) (ix2 d e) : EReal)
      = if h : e.val < 256 then y (ix2 d ⟨e.val, h⟩) else z (ix2 d ⟨e.val - 256, by omega⟩) := by
    pointwise
  refine (key _ _).trans ?_
  by_cases h : e.val < 256
  · rw [dif_pos h]
    exact (hl _).trans (if_pos h).symm
  · rw [dif_neg h]
    exact (hr _).trans (if_neg h).symm

end Cert.Reference5Ideal.Fold

namespace Cert.Proof.Fold

theorem frame : Cert.quiescent_Kernel5 := fun m ρ _ => Cert.Kernel5.Gen.frame m ρ

theorem frame_ideal : Cert.quiescent_Kernel5Ideal := fun m ρ _ => Cert.Kernel5Ideal.Gen.frame m ρ

theorem frame_ideal_finite : Cert.quiescent_Kernel5Ideal_pre_finite_weights := fun m ρ _ => Cert.Kernel5Ideal.Gen.frame m ρ

theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_reference_finite : Cert.quiescent_Reference5Ideal_pre_finite_weights := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem both (a b : BitVec 1) (h : IntOp.andi a b = 1#1) : a = 1#1 ∧ b = 1#1 := by revert a b; decide

theorem of_ofBool {p : Prop} [Decidable p] (h : BitVec.ofBool (decide p) = 1#1) : p := by
  by_contra hp
  rw [decide_eq_false hp] at h
  exact absurd h (by decide)

/-- Where a conjunction over a set is one, every term is. -/
theorem all_of_fold {ι : Type} (s : Finset ι) (f : ι → BitVec 1) (h : s.fold IntOp.andi 1#1 f = 1#1) : ∀ k ∈ s, f k = 1#1 := by
  classical
  induction s using Finset.induction_on with
  | empty => intro k hk; simp at hk
  | insert a s ha ih =>
    rw [Finset.fold_insert ha] at h
    obtain ⟨h1, h2⟩ := both _ _ h
    intro k hk
    rcases Finset.mem_insert.1 hk with rfl | hk
    · exact h1
    · exact ih h2 k hk

/-- The precondition: every entry of both arrays lies below the infinity. -/
theorem finite_apply (x0 : FVec Ideal Cert.Pre_finite_weights.S1024x256 .f32) (x1 : FVec Ideal Cert.Pre_finite_weights.S4x64x64 .f32)
    (h : Cert.Pre_finite_weights.fn (F := Ideal) x0 x1 = fun _ => 1#1) :
    (∀ i, max (x0 i : EReal) (-x0 i) < ⊤) ∧ ∀ i, max (x1 i : EReal) (-x1 i) < ⊤ := by
  have e := congrFun h ix0
  unfold Cert.Pre_finite_weights.fn at e
  pointwise at e
  rw [show (Ideal.ofBits .f32 2139095040#32 : EReal) = ⊤ by simp [Ideal.ofBits, Ideal.ieee]] at e
  obtain ⟨e0, e1⟩ := both _ _ e
  refine ⟨fun i => ?_, fun i => ?_⟩
  · have := all_of_fold _ _ e0 (i 0, i 1) (Finset.mem_univ _)
    rw [eq_ix2 i]
    exact of_ofBool this
  · have := all_of_fold _ _ e1 (i 0, i 1, i 2) (Finset.mem_univ _)
    rw [eq_ix3 i]
    exact of_ofBool this

/-- From equal finite arguments the kernel's array and the reference's are equal. -/
theorem algebraic : Cert.algebraic_Kernel5Ideal_Reference5Ideal_pre_finite_weights := by
  intro m ρ m' ρ' hpre hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨h0, h1⟩ := hagree c
  have hf := finite_apply _ _ (hpre c)
  rw [Cert.Kernel5Ideal.Fold.final m c _ _ (fun i => Cert.DftReal.exists_coe (hf.1 i)) (fun i => Cert.DftReal.exists_coe (hf.2 i)), h0, h1]
  exact (Cert.Reference5Ideal.Read.val_main_v27_eq _ _).trans
    (Cert.Reference5Ideal.Fold.result_eq _ _ _ _ (fun i => Cert.DftReal.exists_coe (hf.1 i)) (fun i => Cert.DftReal.exists_coe (hf.2 i)))

end Cert.Proof.Fold
end
-- ==== Proof.Ffn1.lean ====
/-
  The first SwiGLU half, `x + 1/2 swiglu(rms_norm x)`: at the extended reals the tiled kernel's result array is the
  reference's. Row by row both are the functions of Proof/Rows.lean; the kernel takes the sum over the hidden units in
  eleven tiles of 256 (`Rows.sum_tiles`), the reference in one.
-/
module

public import proofs.«01_k».proof.Defs
public import proofs.«01_k».proof.Proof.Rows
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen Cert.Rows

/-- The row length 1024 and the bias 1e-6 under the norm's root, as the programs' constants denote them. -/
abbrev len : EReal := Ideal.ofBits .f32 0x44800000#32
abbrev eps : EReal := Ideal.ofBits .f32 0x358637BD#32
abbrev half : EReal := Ideal.ofBits .f32 0x3F000000#32

/-- One tile of 256 hidden units, as the body computes it from the normed rows and the tile's weights. -/
def tile (h : FVec Ideal S1024x1024 .bf16) (wg wu : FVec Ideal S1024x256 .bf16) (wd : FVec Ideal S256x1024 .bf16) :
    FVec Ideal S1024x1024 .f32 :=
  have g := matmul dot_S1024x1024_S1024x256_S1024x256_1_0_0_1_n_n none h (shapeCast S1024x256 wg shapeCasts_S1024x256_S1024x256)
    (constant S1024x256 .f32 0x00000000#32)
  have u := matmul dot_S1024x1024_S1024x256_S1024x256_1_0_0_1_n_n none h (shapeCast S1024x256 wu shapeCasts_S1024x256_S1024x256)
    (constant S1024x256 .f32 0x00000000#32)
  matmul dot_S1024x256_S256x1024_S1024x1024_1_0_0_1_n_n none (truncf .bf16 (mulf (mulf g (logistic g)) u) bitsLt_bf16_f32)
    (shapeCast S256x1024 wd shapeCasts_S256x1024_S256x1024) (constant S1024x1024 .f32 0x00000000#32)

theorem tile_apply (h : FVec Ideal S1024x1024 .bf16) (wg wu : FVec Ideal S1024x256 .bf16) (wd : FVec Ideal S256x1024 .bf16)
    (r c : Fin 1024) :
    tile h wg wu wd (ix2 r c) = ∑ j : Fin 256, hid (fun k => h (ix2 r k)) (fun k j => wg (ix2 k j)) (fun k j => wu (ix2 k j)) j
      * wd (ix2 j c) := by
  pointwise [tile, hid]

theorem normed_apply (x : FVec Ideal S1024x1024 .f32) (g : FVec Ideal S1x1024 .f32) (r c : Fin 1024) :
    (k0_pay3 (F := Ideal) x g (ix2 r c) : EReal) = rms len eps (fun k => x (ix2 r k)) (fun k => g (ix2 0 k)) c := by
  pointwise [k0_pay3, k0_pay2, rms]

/-- The body's result at an index. -/
theorem out_apply (x0 : Vec Ideal S1024x1024 .f32) (x1 : Vec Ideal S1x1024 .f32) (x2 x3 : Vec Ideal S1024x2816 .bf16)
    (x4 : Vec Ideal S2816x1024 .bf16) (r c : Fin 1024) :
    out0_5 x0 x1 x2 x3 x4 (ix2 r c)
      = x0 (ix2 r c) + half * swi (rms len eps (fun k => x0 (ix2 r k)) (fun k => x1 (ix2 0 k)))
          (fun k j => x2 (ix2 k j)) (fun k j => x3 (ix2 k j)) (fun j c => x4 (ix2 j c)) c := by
  have e : out0_5 x0 x1 x2 x3 x4 = View.canon [⟨r0_0, addf (k0_pay2 (View.ld x0 r0_0)) (mulf (broadcast S1024x1024 (Scalar.ofBits .f32 0x3F000000#32))
      (addf (addf (addf (addf (addf (addf (addf (addf (addf (addf
        (tile (k0_pay3 (View.ld x0 r0_0) (View.ld x1 r0_1)) (View.ld x2 r0_2) (View.ld x3 r0_2) (View.ld x4 r0_3))
        (tile (k0_pay3 (View.ld x0 r0_0) (View.ld x1 r0_1)) (View.ld x2 r0_4) (View.ld x3 r0_4) (View.ld x4 r0_5)))
        (tile (k0_pay3 (View.ld x0 r0_0) (View.ld x1 r0_1)) (View.ld x2 r0_6) (View.ld x3 r0_6) (View.ld x4 r0_7)))
        (tile (k0_pay3 (View.ld x0 r0_0) (View.ld x1 r0_1)) (View.ld x2 r0_8) (View.ld x3 r0_8) (View.ld x4 r0_9)))
        (tile (k0_pay3 (View.ld x0 r0_0) (View.ld x1 r0_1)) (View.ld x2 r0_10) (View.ld x3 r0_10) (View.ld x4 r0_11)))
        (tile (k0_pay3 (View.ld x0 r0_0) (View.ld x1 r0_1)) (View.ld x2 r0_12) (View.ld x3 r0_12) (View.ld x4 r0_13)))
        (tile (k0_pay3 (View.ld x0 r0_0) (View.ld x1 r0_1)) (View.ld x2 r0_14) (View.ld x3 r0_14) (View.ld x4 r0_15)))
        (tile (k0_pay3 (View.ld x0 r0_0) (View.ld x1 r0_1)) (View.ld x2 r0_16) (View.ld x3 r0_16) (View.ld x4 r0_17)))
        (tile (k0_pay3 (View.ld x0 r0_0) (View.ld x1 r0_1)) (View.ld x2 r0_18) (View.ld x3 r0_18) (View.ld x4 r0_19)))
        (tile (k0_pay3 (View.ld x0 r0_0) (View.ld x1 r0_1)) (View.ld x2 r0_20) (View.ld x3 r0_20) (View.ld x4 r0_21)))
        (tile (k0_pay3 (View.ld x0 r0_0) (View.ld x1 r0_1)) (View.ld x2 r0_22) (View.ld x3 r0_22) (View.ld x4 r0_23))))⟩] := rfl
  have hz : (![0, 0] : Fin 2 → Nat) = fun _ => 0 := funext fun a => by fin_cases a <;> rfl
  rw [e, View.canon_unit_zero hz, View.ld_unit_zero hz, View.ld_unit_zero hz, swi, sum_tiles]
  clear e
  have hn : (fun k => (k0_pay3 (F := Ideal) x0 x1 (ix2 r k) : EReal)) = rms len eps (fun k => x0 (ix2 r k)) (fun k => x1 (ix2 0 k)) :=
    funext fun k => normed_apply x0 x1 r k
  generalize k0_pay3 x0 x1 = h at hn ⊢
  rw [← hn]
  simp only [addf_apply, mulf_apply, tile_apply]
  pointwise [k0_pay2, hid]

/-! ## The result array as a function of the arguments -/

/-- Entry `(i, c)` of the result: row `i` of the argument, taken as `(i / 8192, i % 8192)`. -/
def result (x : FVec Ideal S8x8192x1024 .f32) (g : FVec Ideal S1024 .f32) (wg wu : FVec Ideal S1024x2816 .f32)
    (wd : FVec Ideal S2816x1024 .f32) : FVec Ideal S65536x1024 .f32 := fun i =>
  have h : (i 0).val < 65536 := (i 0).isLt
  have row : Fin 1024 → EReal := fun k => x (ix3 ⟨(i 0).val / 8192, by omega⟩ ⟨(i 0).val % 8192, by omega⟩ k)
  row (i 1) + half * swi (rms len eps row (fun k => g (ix1 k))) (fun k j => wg (ix2 k j)) (fun k j => wu (ix2 k j))
    (fun j c => wd (ix2 j c)) (i 1)

variable (m : (ℓ : Loc nD τ sig) → Buf (Elt Ideal) ℓ) (ρ : Dev nD → PrngReg)

/-- The windows' block indices at a point of the grid. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

/-- The block of rows at a point: row `r` of block `t` is row `t * 1024 + r` of the flattened argument. -/
theorem rows_read (c : Dev nD) (t : Fin cfg0.N) (r k : Fin 1024) (b : Fin 8) (s : Fin 8192) (hbs : t.val * 1024 + r.val = b.val * 8192 + s.val) :
    (iblk m c 0 t (ix2 r k) : EReal) = m ((c : Thread nD τ).loc main_arg0) (ix3 b s k) := by
  blk_ext! [iblk, V, idx t]

theorem scale_read (c : Dev nD) (t : Fin cfg0.N) (k : Fin 1024) :
    (iblk m c 1 t (ix2 0 k) : EReal) = m ((c : Thread nD τ).loc main_arg1) (ix1 k) := by
  blk_ext! [iblk, V, idx t]

theorem gate_read (c : Dev nD) (t : Fin cfg0.N) (k : Fin 1024) (j : Fin 2816) :
    (iblk m c 2 t (ix2 k j) : EReal) = m ((c : Thread nD τ).loc main_arg2) (ix2 k j) := by
  blk_ext! [iblk, V, idx t]

theorem up_read (c : Dev nD) (t : Fin cfg0.N) (k : Fin 1024) (j : Fin 2816) :
    (iblk m c 3 t (ix2 k j) : EReal) = m ((c : Thread nD τ).loc main_arg3) (ix2 k j) := by
  blk_ext! [iblk, V, idx t]

theorem down_read (c : Dev nD) (t : Fin cfg0.N) (j : Fin 2816) (k : Fin 1024) :
    (iblk m c 4 t (ix2 j k) : EReal) = m ((c : Thread nD τ).loc main_arg4) (ix2 j k) := by
  blk_ext! [iblk, V, idx t]

/-- What the result array holds after the run. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have ht : t.val < 64 := lt_of_lt_of_eq t.isLt N_0
  obtain ⟨r, l, rfl⟩ : ∃ (r l : Fin 1024), y = ix2 r l := ⟨y 0, y 1, eq_ix2 y⟩
  refine (out_apply _ _ _ _ _ r l).trans ?_
  simp only [scale_read, gate_read, up_read, down_read]
  have hr (k : Fin 1024) := rows_read m c t r k ⟨(t.val * 1024 + r.val) / 8192, by omega⟩ ⟨(t.val * 1024 + r.val) % 8192, by omega⟩
    (by simp only; omega)
  simp only [hr]
  have e : (win0_5.blk t).view.emb (ix2 r l) = ix2 ⟨t.val * 1024 + r.val, by omega⟩ l := by
    funext a
    apply Fin.ext
    match a with
    | ⟨0, _⟩ => show win0_5.index t 0 * 1024 + 1 * r.val = _; rw [(idx t).2.2.2.2.2]; show t.val * 1024 + 1 * r.val = t.val * 1024 + r.val; omega
    | ⟨1, _⟩ => show win0_5.index t 1 * 1024 + 1 * l.val = _; rw [(idx t).2.2.2.2.2]; show 0 * 1024 + 1 * l.val = l.val; omega
  rw [e]
  rfl

end Cert.Kernel3Ideal.Ffn

namespace Cert.Reference3Ideal.Ffn

open Cert.Reference3Ideal Cert.Reference3Ideal.Read Cert.Rows Cert.Kernel3Ideal.Ffn

/-- The reference's normed row. -/
theorem normed_apply (x0 : FVec Ideal S8x8192x1024 .f32) (x1 : FVec Ideal S1024 .f32) (b : Fin 8) (s : Fin 8192) (k : Fin 1024) :
    (val_main_v12 (F := Ideal) x0 x1 (ix3 b s k) : EReal) = rms len eps (fun k => x0 (ix3 b s k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

/-- The reference's result term is the function of Proof/Rows.lean's rows. -/
theorem result_eq (x0 : FVec Ideal S8x8192x1024 .f32) (x1 : FVec Ideal S1024 .f32) (x2 x3 : FVec Ideal S1024x2816 .f32)
    (x4 : FVec Ideal S2816x1024 .f32) :
    val_main_v21 (F := Ideal) x0 x1 x2 x3 x4 = result x0 x1 x2 x3 x4 := by
  funext i
  obtain ⟨r, l, rfl⟩ : ∃ (r : Fin 65536) (l : Fin 1024), i = ix2 r l := ⟨i 0, i 1, eq_ix2 i⟩
  have hn (b s) : (fun k => (val_main_v12 (F := Ideal) x0 x1 (ix3 b s k) : EReal))
      = rms len eps (fun k => x0 (ix3 b s k)) (fun k => x1 (ix1 k)) := funext fun k => normed_apply x0 x1 b s k
  pointwise [result, val_main_v21, val_main_v20, val_main_v19, val_main_v18, val_main_v17, val_main_v16, val_main_v15, val_main_v14,
    val_main_v13, val_main_cst_2, val_main_call0_v0, val_main_call0_v1, val_main_call0_v2, val_main_call0_v3, val_main_call0_v4,
    val_main_call0_v5, val_main_call0_cst, val_main_call0_cst_0]
  simp only [← hn, swi, hid]
  rfl

end Cert.Reference3Ideal.Ffn

namespace Cert.Proof.Ffn1

theorem frame : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- From equal arguments the kernel's array and the reference's are equal, entry by entry. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3, h4⟩ := hagree c
  rw [Cert.Kernel3Ideal.Ffn.final m c, h0, h1, h2, h3, h4]
  exact (Cert.Reference3Ideal.Read.val_main_v21_eq _ _ _ _ _).trans (Cert.Reference3Ideal.Ffn.result_eq _ _ _ _ _)

end Cert.Proof.Ffn1

end
-- ==== Proof.AttnBody.lean ====
/-
  What one block of the window attention computes, at the extended reals and read at an index: the scores of a query against the
  256 keys of its window, their maximum, the exponentials, and the two results.
-/
module

public import proofs.«01_k».proof.Defs
public import proofs.«01_k».proof.Proof.Gen.Kernel6Ideal.Value
public import Idealize.ShloMosaic.Lib.Pipeline.ValueKit
public import Idealize.ShloMosaic.Lib.StableHlo.ReadAt
public import Idealize.ShloMosaic.Lib.Routing.Words

@[expose] public section

set_option maxRecDepth 16384

noncomputable section

open Idealize.ShloMosaic Idealize.ShloMosaic.TcCoe Idealize.SL.Sem

namespace Cert.Kernel6Ideal.Attn

open Cert.Kernel6Ideal Cert.Kernel6Ideal.Gen

variable (mask : IVec S1x128 1) (q : Vec Ideal S1x1x128x128 .bf16) (k v : Vec Ideal S1x1x256x128 .bf16) (b : Vec Ideal S1x128x256 .f32)

/-- The score of query `i` of the block against key `j` of its window: their product over the lanes the mask keeps, and the bias. -/
def score (i : Fin 128) (j : Fin 256) : EReal :=
  ∑ l : Fin 128, Scalar.select (mask (ix2 0 l)) (q (ix4 0 0 i l) : EReal) 0 * (k (ix4 0 0 j l) : EReal) + (b (ix3 0 i j) : EReal)

/-- The scores as the block computes them. -/
theorem score_apply (i : Fin 128) (j : Fin 256) : k0_pay7 mask q k b (ix2 i j) = score mask q k b i j := by
  pointwise [k0_pay7, k0_pay2, k0_pay3, k0_pay5, score]

/-- The word the maximum starts from is minus infinity. -/
theorem bottom : (Ideal.ofBits .f32 0xFF800000#32 : EReal) = ⊥ := by
  simp [Ideal.ofBits, Ideal.ieee]

/-- A query's greatest score. -/
theorem top_apply (i : Fin 128) : k0_pay8 mask q k b (ix2 i 0) = Finset.univ.fold max (⊥ : EReal) fun j => score mask q k b i j := by
  pointwise [k0_pay8]
  simp only [score_apply, bottom]

/-- The exponentials of the scores over the greatest. -/
theorem weight_apply (i : Fin 128) (j : Fin 256) :
    k0_pay9 mask q k b (ix2 i j) = Ideal.exp (score mask q k b i j - Finset.univ.fold max (⊥ : EReal) fun j => score mask q k b i j) := by
  pointwise [k0_pay9]
  simp only [score_apply, top_apply]

/-- Their sum. -/
theorem total_apply (i : Fin 128) :
    k0_pay10 (k0_pay9 mask q k b) (ix2 i 0) = ∑ j, Ideal.exp (score mask q k b i j - Finset.univ.fold max (⊥ : EReal) fun j => score mask q k b i j) := by
  pointwise [k0_pay10]
  simp only [weight_apply]

/-- The values' mean under the weights, as the block computes it: the weighted sum over the weights' sum. -/
def mixed (i l : Fin 128) : EReal :=
  Ideal.div (∑ j, Ideal.exp (score mask q k b i j - Finset.univ.fold max (⊥ : EReal) fun j => score mask q k b i j) * (v (ix4 0 0 j l) : EReal))
    (∑ j, Ideal.exp (score mask q k b i j - Finset.univ.fold max (⊥ : EReal) fun j => score mask q k b i j))

/-- The logarithm of the softmax's denominator. -/
def level (i : Fin 128) : EReal :=
  (Finset.univ.fold max (⊥ : EReal) fun j => score mask q k b i j)
    + Ideal.log (∑ j, Ideal.exp (score mask q k b i j - Finset.univ.fold max (⊥ : EReal) fun j => score mask q k b i j))

/-- The block's first result: the first head's mean on the first 64 lanes, the second's on the others. -/
theorem mixed_apply (i l : Fin 128) :
    k0_pay15 k0_pay1 (k0_pay2 q) (k0_pay3 k) (k0_pay4 v) (k0_pay5 b) (k0_pay6 k0_pay1) (k0_pay9 k0_pay1 q k b) (ix4 0 0 i l)
      = Scalar.select (k0_pay1 (ix2 0 l)) (mixed k0_pay1 q k v b i l) (mixed (k0_pay6 k0_pay1) q k v b i l) := by
  pointwise [k0_pay15, k0_pay4]
  rw [show k0_pay13 (k0_pay2 q) (k0_pay3 k) (k0_pay5 b) (k0_pay6 k0_pay1) = k0_pay9 (k0_pay6 k0_pay1) q k b from rfl,
    show k0_pay14 (k0_pay2 q) (k0_pay3 k) (k0_pay5 b) (k0_pay6 k0_pay1) = k0_pay10 (k0_pay9 (k0_pay6 k0_pay1) q k b) from rfl]
  simp only [weight_apply, total_apply, mixed]

/-- The block's second result, on the lanes likewise. -/
theorem level_apply (i l : Fin 128) :
    k0_pay16 k0_pay1 (k0_pay2 q) (k0_pay3 k) (k0_pay5 b) (k0_pay6 k0_pay1) (k0_pay8 k0_pay1 q k b) (k0_pay9 k0_pay1 q k b) (ix4 0 0 i l)
      = Scalar.select (k0_pay1 (ix2 0 l)) (level k0_pay1 q k b i) (level (k0_pay6 k0_pay1) q k b i) := by
  pointwise [k0_pay16]
  rw [show k0_pay12 (k0_pay2 q) (k0_pay3 k) (k0_pay5 b) (k0_pay6 k0_pay1) = k0_pay8 (k0_pay6 k0_pay1) q k b from rfl,
    show k0_pay14 (k0_pay2 q) (k0_pay3 k) (k0_pay5 b) (k0_pay6 k0_pay1) = k0_pay10 (k0_pay9 (k0_pay6 k0_pay1) q k b) from rfl]
  simp only [total_apply, top_apply, level]

/-- The mask of the first head's lanes. -/
theorem first_lane (l : Fin 128) : k0_pay1 (ix2 0 l) = BitVec.ofBool (decide (l.val < 64)) := by
  pointwise [k0_pay1]
  rw [show (64#32 : BitVec 32) = BitVec.ofNat 32 64 from rfl, WordCmp.cmpi_slt_ofNat (w := 32) (by omega) (by norm_num)]

/-- The mask of the second head's lanes. -/
theorem second_lane (l : Fin 128) : k0_pay6 k0_pay1 (ix2 0 l) = BitVec.ofBool (decide (¬ l.val < 64)) := by
  pointwise [k0_pay6]
  rw [first_lane]
  by_cases h : l.val < 64
  · simp only [h, decide_true, not_true, decide_false]; rfl
  · simp only [h, decide_false, not_false_eq_true, decide_true]; rfl

end Cert.Kernel6Ideal.Attn

end
-- ==== Proof.AttnRun.lean ====
/-
  The pieces the window attention's counted loop stores: trip `k` stores one block of each result, computed from the block of queries,
  the window of keys and values and the tile of the bias it loads.
-/
module

public import proofs.«01_k».proof.Proof.AttnBody

@[expose] public section

set_option maxRecDepth 16384

noncomputable section

open Idealize.ShloMosaic Idealize.ShloMosaic.TcCoe Idealize.SL.Sem

namespace Cert.Kernel6Ideal.Attn

open Cert.Kernel6Ideal Cert.Kernel6Ideal.Gen

variable {F : FTy → Type} [FloatOps F] (x0 x1 x2 : Vec F S1x1x8192x128 .bf16) (x3 : Vec F S3x128x256 .f32) (k : Fin k0_t1_loop.trips)

/-- What trip `k` loads: its queries, its window of the keys or of the values, its tile of the bias. -/
def queries : Vec F S1x1x128x128 .bf16 := View.ld x0 (Rect.unit (s := S1x1x8192x128) (k0_off1 k) S1x1x128x128.size (k0_off1_inb k))
def window : Vec F S1x1x256x128 .bf16 := View.ld x1 (Rect.unit (s := S1x1x8192x128) (k0_off2 k) S1x1x256x128.size (k0_off2_inb k))
def tile : Vec F S1x128x256 .f32 := View.ld x3 (Rect.unit (s := S3x128x256) (k0_off3 k) S1x128x256.size (k0_off3_inb k))

/-- What trip `k` stores into the two results' blocks. -/
def stored4 : Vec F S1x1x128x128 .f32 :=
  k0_pay15 k0_pay1 (k0_pay2 (queries x0 k)) (k0_pay3 (window x1 k)) (k0_pay4 (window x2 k)) (k0_pay5 (tile x3 k)) (k0_pay6 k0_pay1)
    (k0_pay9 k0_pay1 (queries x0 k) (window x1 k) (tile x3 k))
def stored5 : Vec F S1x1x128x128 .f32 :=
  k0_pay16 k0_pay1 (k0_pay2 (queries x0 k)) (k0_pay3 (window x1 k)) (k0_pay5 (tile x3 k)) (k0_pay6 k0_pay1)
    (k0_pay8 k0_pay1 (queries x0 k) (window x1 k) (tile x3 k)) (k0_pay9 k0_pay1 (queries x0 k) (window x1 k) (tile x3 k))

/-- The rows of the results' blocks trip `k` stores. -/
def rows : Rect S1x1x8192x128 := Rect.unit (s := S1x1x8192x128) (k0_off1 k) S1x1x128x128.size (k0_off1_inb k)

variable (c : Dev nD) (i : grid0.Coords)
  (arg2 : Memref sig .tc .vmem S1x1x8192x128 .bf16) (harg2 : arg2.IsWhole) (arg3 : Memref sig .tc .vmem S1x1x8192x128 .bf16) (harg3 : arg3.IsWhole)
  (arg4 : Memref sig .tc .vmem S1x1x8192x128 .bf16) (harg4 : arg4.IsWhole) (arg5 : Memref sig .tc .vmem S3x128x256 .f32) (harg5 : arg5.IsWhole)
  (arg6 : Memref sig .tc .vmem S1x1x8192x128 .f32) (harg6 : arg6.IsWhole) (arg7 : Memref sig .tc .vmem S1x1x8192x128 .f32) (harg7 : arg7.IsWhole)

/-- A trip's pieces, over any contents of the buffers it loads. -/
theorem trip_pieces (X2 : BufTy.Contents (Elt F) arg2.view.ty) (X3 : BufTy.Contents (Elt F) arg3.view.ty) (X4 : BufTy.Contents (Elt F) arg4.view.ty)
    (X5 : BufTy.Contents (Elt F) arg5.view.ty) :
    tripL_k0_t1 Variants.none c none i arg2 harg2 arg3 harg3 arg4 harg4 arg5 harg5 arg6 harg6 arg7 harg7 X2 X3 X4 X5 k
      = ([⟨rows k, stored4 (arg2.view.read (Elt F) X2) (arg3.view.read (Elt F) X3) (arg4.view.read (Elt F) X4) (arg5.view.read (Elt F) X5) k⟩],
        [⟨rows k, stored5 (arg2.view.read (Elt F) X2) (arg3.view.read (Elt F) X3) (arg5.view.read (Elt F) X5) k⟩]) := by
  unfold tripL_k0_t1 trip_k0_t1
  rfl

/-- Every piece of the trips before `n` is some trip's. -/
theorem mem_pieces (X2 : BufTy.Contents (Elt F) arg2.view.ty) (X3 : BufTy.Contents (Elt F) arg3.view.ty) (X4 : BufTy.Contents (Elt F) arg4.view.ty)
    (X5 : BufTy.Contents (Elt F) arg5.view.ty) (n : ℕ) (hn : n ≤ k0_t1_loop.trips) :
    (∀ p ∈ (pb_k0_t1 Variants.none c none i arg2 harg2 arg3 harg3 arg4 harg4 arg5 harg5 arg6 harg6 arg7 harg7 X2 X3 X4 X5 n).1,
      ∃ k, p = ⟨rows k, stored4 (arg2.view.read (Elt F) X2) (arg3.view.read (Elt F) X3) (arg4.view.read (Elt F) X4) (arg5.view.read (Elt F) X5) k⟩)
    ∧ ∀ p ∈ (pb_k0_t1 Variants.none c none i arg2 harg2 arg3 harg3 arg4 harg4 arg5 harg5 arg6 harg6 arg7 harg7 X2 X3 X4 X5 n).2,
      ∃ k, p = ⟨rows k, stored5 (arg2.view.read (Elt F) X2) (arg3.view.read (Elt F) X3) (arg5.view.read (Elt F) X5) k⟩ := by
  induction n with
  | zero => exact ⟨fun p hp => absurd hp List.not_mem_nil, fun p hp => absurd hp List.not_mem_nil⟩
  | succ n ih =>
    rw [pb_k0_t1_succ Variants.none c none i arg2 harg2 arg3 harg3 arg4 harg4 arg5 harg5 arg6 harg6 arg7 harg7 X2 X3 X4 X5 ⟨n, hn⟩, trip_pieces]
    refine ⟨fun p hp => ?_, fun p hp => ?_⟩
    · rcases List.mem_append.1 hp with h | h
      · exact ⟨_, List.mem_singleton.1 h⟩
      · exact (ih (Nat.le_of_succ_le hn)).1 p h
    · rcases List.mem_append.1 hp with h | h
      · exact ⟨_, List.mem_singleton.1 h⟩
      · exact (ih (Nat.le_of_succ_le hn)).2 p h

omit [FloatOps F] in
theorem loop_trips : k0_t1_loop.trips = 64 := by decide

/-- The pieces of a point are those of the loop's trips over its windows. -/
theorem run_pieces :
    (kernelRun0_A c i arg2 harg2 arg3 harg3 arg4 harg4 arg5 harg5 arg6 harg6 arg7 harg7 x0 x1 x2 x3).1
      = (pb_k0_t1 Variants.none c none i arg2 harg2 arg3 harg3 arg4 harg4 arg5 harg5 arg6 harg6 arg7 harg7
          (harg2.unread x0) (harg3.unread x1) (harg4.unread x2) (harg5.unread x3) k0_t1_loop.trips).1
    ∧ (kernelRun0_A c i arg2 harg2 arg3 harg3 arg4 harg4 arg5 harg5 arg6 harg6 arg7 harg7 x0 x1 x2 x3).2.1
      = (pb_k0_t1 Variants.none c none i arg2 harg2 arg3 harg3 arg4 harg4 arg5 harg5 arg6 harg6 arg7 harg7
          (harg2.unread x0) (harg3.unread x1) (harg4.unread x2) (harg5.unread x3) k0_t1_loop.trips).2 := by
  unfold kernelRun0_A
  exact ⟨rfl, rfl⟩

end Cert.Kernel6Ideal.Attn

namespace Cert.Kernel6Ideal.Attn

open Cert.Kernel6Ideal Cert.Kernel6Ideal.Gen

variable (x0 x1 x2 : Vec Ideal S1x1x8192x128 .bf16) (x3 : Vec Ideal S3x128x256 .f32) (c : Dev nD) (i : grid0.Coords)
  (arg2 : Memref sig .tc .vmem S1x1x8192x128 .bf16) (harg2 : arg2.IsWhole) (arg3 : Memref sig .tc .vmem S1x1x8192x128 .bf16) (harg3 : arg3.IsWhole)
  (arg4 : Memref sig .tc .vmem S1x1x8192x128 .bf16) (harg4 : arg4.IsWhole) (arg5 : Memref sig .tc .vmem S3x128x256 .f32) (harg5 : arg5.IsWhole)
  (arg6 : Memref sig .tc .vmem S1x1x8192x128 .f32) (harg6 : arg6.IsWhole) (arg7 : Memref sig .tc .vmem S1x1x8192x128 .f32) (harg7 : arg7.IsWhole)

/-- The first result's block after a point, read at an index, where every trip's piece agrees with one array. -/
theorem out4_apply (G : S1x1x8192x128.Idx → EReal) (h : ∀ k x, (stored4 x0 x1 x2 x3 k x : EReal) = G ((rows k).emb x)) (y : S1x1x8192x128.Idx) :
    (out0_A_4 c i arg2 harg2 arg3 harg3 arg4 harg4 arg5 harg5 arg6 harg6 arg7 harg7 x0 x1 x2 x3 y : EReal) = G y := by
  have hc := cover0_A_4 c i arg2 harg2 arg3 harg3 arg4 harg4 arg5 harg5 arg6 harg6 arg7 harg7 x0 x1 x2 x3
  refine (congrFun (View.read_writes_eq_canon VO0_4 _ _ hc) y).trans ?_
  refine View.canon_apply_of_pieces (Val := Elt Ideal) (e := .f32) G _ (fun p hp => ?_) y (hc y)
  rw [(run_pieces x0 x1 x2 x3 c i arg2 harg2 arg3 harg3 arg4 harg4 arg5 harg5 arg6 harg6 arg7 harg7).1] at hp
  obtain ⟨k, rfl⟩ := (mem_pieces c i arg2 harg2 arg3 harg3 arg4 harg4 arg5 harg5 arg6 harg6 arg7 harg7 _ _ _ _ _ le_rfl).1 p hp
  rw [harg2.read_unread, harg3.read_unread, harg4.read_unread, harg5.read_unread]
  exact h k

/-- The second result's block likewise. -/
theorem out5_apply (G : S1x1x8192x128.Idx → EReal) (h : ∀ k x, (stored5 x0 x1 x3 k x : EReal) = G ((rows k).emb x)) (y : S1x1x8192x128.Idx) :
    (out0_A_5 c i arg2 harg2 arg3 harg3 arg4 harg4 arg5 harg5 arg6 harg6 arg7 harg7 x0 x1 x2 x3 y : EReal) = G y := by
  have hc := cover0_A_5 c i arg2 harg2 arg3 harg3 arg4 harg4 arg5 harg5 arg6 harg6 arg7 harg7 x0 x1 x2 x3
  refine (congrFun (View.read_writes_eq_canon VO0_5 _ _ hc) y).trans ?_
  refine View.canon_apply_of_pieces (Val := Elt Ideal) (e := .f32) G _ (fun p hp => ?_) y (hc y)
  rw [(run_pieces x0 x1 x2 x3 c i arg2 harg2 arg3 harg3 arg4 harg4 arg5 harg5 arg6 harg6 arg7 harg7).2] at hp
  obtain ⟨k, rfl⟩ := (mem_pieces c i arg2 harg2 arg3 harg3 arg4 harg4 arg5 harg5 arg6 harg6 arg7 harg7 _ _ _ _ _ le_rfl).2 p hp
  rw [harg2.read_unread, harg3.read_unread, harg5.read_unread]
  exact h k

/-- The offsets of trip `k`: its queries start at `128 k`, its window of keys at `128 k - 64` kept within the positions, and its tile of the
    bias is the first, the middle or the last. -/
theorem offsets : ∀ k : Fin k0_t1_loop.trips, k0_off1 k = ![0, 0, 128 * k.val, 0]
    ∧ k0_off2 k = ![0, 0, min 7936 (128 * k.val - 64), 0]
    ∧ k0_off3 k = ![if k.val = 0 then 0 else if k.val = 63 then 2 else 1, 0, 0] := by decide +kernel

variable (k : Fin k0_t1_loop.trips)

theorem trip_lt : k.val < 64 := k.isLt.trans_eq loop_trips

theorem queries_apply (a l : Fin 128) : queries x0 k (ix4 0 0 a l) = x0 (ix4 0 0 ⟨128 * k.val + a.val, by have := trip_lt k; omega⟩ l) := by
  refine congrArg x0 (funext fun d => Fin.ext ?_)
  have e := (offsets k).1
  match d with
  | ⟨0, _⟩ => show k0_off1 k 0 + 1 * 0 = 0; rw [e]; rfl
  | ⟨1, _⟩ => show k0_off1 k 1 + 1 * 0 = 0; rw [e]; rfl
  | ⟨2, _⟩ => show k0_off1 k 2 + 1 * a.val = 128 * k.val + a.val; rw [e]; show 128 * k.val + 1 * a.val = _; omega
  | ⟨3, _⟩ => show k0_off1 k 3 + 1 * l.val = l.val; rw [e]; show 0 + 1 * l.val = _; omega

theorem window_apply (j : Fin 256) (l : Fin 128) :
    window x1 k (ix4 0 0 j l) = x1 (ix4 0 0 ⟨min 7936 (128 * k.val - 64) + j.val, by omega⟩ l) := by
  refine congrArg x1 (funext fun d => Fin.ext ?_)
  have e := (offsets k).2.1
  match d with
  | ⟨0, _⟩ => show k0_off2 k 0 + 1 * 0 = 0; rw [e]; rfl
  | ⟨1, _⟩ => show k0_off2 k 1 + 1 * 0 = 0; rw [e]; rfl
  | ⟨2, _⟩ => show k0_off2 k 2 + 1 * j.val = _; rw [e]; show min 7936 (128 * k.val - 64) + 1 * j.val = min 7936 (128 * k.val - 64) + j.val; omega
  | ⟨3, _⟩ => show k0_off2 k 3 + 1 * l.val = l.val; rw [e]; show 0 + 1 * l.val = _; omega

theorem tile_apply (a : Fin 128) (j : Fin 256) :
    tile x3 k (ix3 0 a j) = x3 (ix3 (if k.val = 0 then 0 else if k.val = 63 then 2 else 1) a j) := by
  refine congrArg x3 (funext fun d => Fin.ext ?_)
  have e := (offsets k).2.2
  match d with
  | ⟨0, _⟩ =>
    show k0_off3 k 0 + 1 * 0 = _; rw [e]
    show (if k.val = 0 then 0 else if k.val = 63 then 2 else 1) + 1 * 0 = (if k.val = 0 then (0 : Fin 3) else if k.val = 63 then 2 else 1).val
    split_ifs <;> rfl
  | ⟨1, _⟩ => show k0_off3 k 1 + 1 * a.val = a.val; rw [e]; show 0 + 1 * a.val = _; omega
  | ⟨2, _⟩ => show k0_off3 k 2 + 1 * j.val = j.val; rw [e]; show 0 + 1 * j.val = _; omega

theorem rows_emb (a l : Fin 128) : (rows k).emb (ix4 0 0 a l) = ix4 0 0 ⟨128 * k.val + a.val, by have := trip_lt k; omega⟩ l := by
  funext d
  apply Fin.ext
  have e := (offsets k).1
  match d with
  | ⟨0, _⟩ => show k0_off1 k 0 + 1 * 0 = 0; rw [e]; rfl
  | ⟨1, _⟩ => show k0_off1 k 1 + 1 * 0 = 0; rw [e]; rfl
  | ⟨2, _⟩ => show k0_off1 k 2 + 1 * a.val = 128 * k.val + a.val; rw [e]; show 128 * k.val + 1 * a.val = _; omega
  | ⟨3, _⟩ => show k0_off1 k 3 + 1 * l.val = l.val; rw [e]; show 0 + 1 * l.val = _; omega

end Cert.Kernel6Ideal.Attn

end
-- ==== Proof.AttnReal.lean ====
/-
  The softmax over a window, over the extended reals: a position's weights vanish at the positions its mask leaves out, so that sums
  and maxima over all positions are those over a window that holds the ones kept; and weights normalised before or after the sum agree.
-/
module

public import proofs.«01_k».proof.Proof.DftReal
public import Idealize.ShloMosaic.Lib.ValueIdx

@[expose] public section

noncomputable section

open Idealize.ShloMosaic Idealize.ShloMosaic.TcCoe

namespace Cert.AttnReal

open Cert.DftReal (coe_sum)

/-- The greatest of the scores `f`, minus infinity if there are none. -/
def top {n : ℕ} (f : Fin n → EReal) : EReal := Finset.univ.fold max (⊥ : EReal) f

/-- The sum of the exponentials of the scores over the greatest. -/
def total {n : ℕ} (f : Fin n → EReal) : EReal := ∑ j, Ideal.exp (f j - top f)

/-- The logarithm of the softmax's denominator. -/
def level {n : ℕ} (f : Fin n → EReal) : EReal := top f + Ideal.log (total f)

theorem top_eq_sup {n : ℕ} (f : Fin n → EReal) : top f = Finset.univ.sup f := rfl

/-- A maximum over all positions is the maximum over a window that holds the scores which are not minus infinity. -/
theorem top_window {n : ℕ} (f : Fin n → EReal) (w : ℕ) (hw : w + 256 ≤ n) (h : ∀ j : Fin n, ¬ (w ≤ j.val ∧ j.val < w + 256) → f j = ⊥) :
    top (fun j : Fin 256 => f ⟨w + j.val, by omega⟩) = top f := by
  rw [top_eq_sup, top_eq_sup]
  refine le_antisymm (Finset.sup_le fun j _ => Finset.le_sup (f := f) (Finset.mem_univ _)) (Finset.sup_le fun j _ => ?_)
  by_cases hj : w ≤ j.val ∧ j.val < w + 256
  · have e : f j = (fun j : Fin 256 => f ⟨w + j.val, by omega⟩) ⟨j.val - w, by omega⟩ := by
      simp only
      congr 1
      exact Fin.ext (by simp only; omega)
    rw [e]
    exact Finset.le_sup (f := fun j : Fin 256 => f ⟨w + j.val, by omega⟩) (Finset.mem_univ _)
  · rw [h j hj]; exact bot_le

/-- A sum over all positions is the sum over a window that holds the terms which are not zero. -/
theorem sum_window {n : ℕ} (g : Fin n → EReal) (w : ℕ) (hw : w + 256 ≤ n) (h : ∀ j : Fin n, ¬ (w ≤ j.val ∧ j.val < w + 256) → g j = 0) :
    ∑ j : Fin 256, g ⟨w + j.val, by omega⟩ = ∑ j, g j := by
  refine Finset.sum_of_injOn (fun j : Fin 256 => (⟨w + j.val, by omega⟩ : Fin n)) ?_ (fun _ _ => Finset.mem_coe.2 (Finset.mem_univ _)) ?_ fun _ _ => rfl
  · intro a _ b _ e
    have e' := congrArg Fin.val e
    simp only at e'
    exact Fin.ext (by omega)
  · intro j _ hj
    refine h j fun hh => hj ⟨⟨j.val - w, by omega⟩, Finset.mem_coe.2 (Finset.mem_univ _), Fin.ext ?_⟩
    simp only; omega

section

variable {n : ℕ} (f : Fin n → EReal) (S : Fin n → ℝ) (ok : Fin n → Prop) [DecidablePred ok] (hf : ∀ j, f j = if ok j then ((S j : ℝ) : EReal) else ⊥)
  (j₀ : Fin n) (h₀ : ok j₀)

include hf h₀

/-- The greatest score is a real. -/
theorem top_real : ∃ M : ℝ, top f = ((M : ℝ) : EReal) := by
  obtain ⟨j, _, hj⟩ := Finset.exists_mem_eq_sup Finset.univ ⟨j₀, Finset.mem_univ _⟩ f
  rw [top_eq_sup, hj, hf j]
  by_cases h : ok j
  · exact ⟨S j, if_pos h⟩
  · have := Finset.le_sup (f := f) (Finset.mem_univ j₀)
    rw [hj, hf j, hf j₀, if_pos h₀, if_neg h] at this
    exact absurd (le_bot_iff.1 this) (EReal.coe_ne_bot _)

omit h₀ in
/-- An exponential over a real. -/
theorem weight_real (M : ℝ) (j : Fin n) : Ideal.exp (f j - ((M : ℝ) : EReal)) = (((if ok j then Real.exp (S j - M) else 0) : ℝ) : EReal) := by
  rw [hf j]
  by_cases h : ok j
  · rw [if_pos h, if_pos h, ← EReal.coe_sub, Ideal.exp_coe]
  · rw [if_neg h, if_neg h, EReal.bot_sub, Ideal.exp_bot, EReal.coe_zero]

/-- The weights' sum over the greatest is a positive real, so that the level is a real. -/
theorem level_real : ∃ M L : ℝ, 0 < L ∧ top f = ((M : ℝ) : EReal) ∧ total f = ((L : ℝ) : EReal) ∧ level f = (((M + Real.log L) : ℝ) : EReal) := by
  obtain ⟨M, hM⟩ := top_real f S ok hf j₀ h₀
  have hL : total f = ((∑ j, (if ok j then Real.exp (S j - M) else 0) : ℝ) : EReal) := by
    rw [total, hM, coe_sum]
    exact Finset.sum_congr rfl fun j _ => weight_real f S ok hf M j
  have hpos : 0 < ∑ j, (if ok j then Real.exp (S j - M) else 0) := by
    refine Finset.sum_pos' (fun j _ => ?_) ⟨j₀, Finset.mem_univ _, ?_⟩
    · by_cases h : ok j
      · rw [if_pos h]; exact (Real.exp_pos _).le
      · rw [if_neg h]
    · rw [if_pos h₀]; exact Real.exp_pos _
  refine ⟨M, _, hpos, hM, hL, ?_⟩
  rw [level, hM, hL, Ideal.log_coe, if_neg (not_le.2 hpos), EReal.coe_add]

/-- The mean under the weights: dividing the weighted sum by the weights' sum, or weighting with the normalised weights. -/
theorem mean (c : Fin n → ℝ) :
    Ideal.div (∑ j, Ideal.exp (f j - top f) * ((c j : ℝ) : EReal)) (total f) = ∑ j, Ideal.exp (f j - level f) * ((c j : ℝ) : EReal) := by
  obtain ⟨M, L, hL, hM, hT, hl⟩ := level_real f S ok hf j₀ h₀
  have hne : ((L : ℝ) : EReal) ≠ 0 := by exact_mod_cast hL.ne'
  rw [hT, hl, hM, Ideal.div, if_neg hne]
  simp only [weight_real f S ok hf, ← EReal.coe_mul, ← coe_sum, ← EReal.coe_inv]
  rw [EReal.coe_eq_coe_iff, Finset.sum_mul]
  refine Finset.sum_congr rfl fun j _ => ?_
  by_cases h : ok j
  · rw [if_pos h, if_pos h, show S j - (M + Real.log L) = (S j - M) - Real.log L by ring, Real.exp_sub (S j - M), Real.exp_log hL]
    field_simp
  · rw [if_neg h, if_neg h]; ring

end

/-- A sum over 128 lanes of terms that vanish off one head's 64 is the sum over the head's. -/
theorem sum_head (d : ℕ) (hd : d < 2) (f : Fin 64 → ℝ) :
    ∑ l : Fin 128, (if l.val / 64 = d then f ⟨l.val % 64, by omega⟩ else 0) = ∑ e : Fin 64, f e := by
  rw [← (finProdFinEquiv (m := 2) (n := 64)).sum_comp, Fintype.sum_prod_type, Finset.sum_eq_single ⟨d, hd⟩]
  · refine Finset.sum_congr rfl fun e _ => ?_
    simp only [finProdFinEquiv_apply_val]
    rw [if_pos (by omega)]
    congr 1
    exact Fin.ext (by simp only; omega)
  · intro a _ ha
    refine Finset.sum_eq_zero fun e _ => if_neg fun h => ha (Fin.ext ?_)
    simp only [finProdFinEquiv_apply_val] at h
    simp only; omega
  · intro h; exact absurd (Finset.mem_univ _) h

/-- The arrays by position and head, and by head pair. -/
abbrev Heads : Shape := ⟨4, ![8, 8192, 12, 64]⟩
abbrev Pairs : Shape := ⟨4, ![8, 6, 8192, 128]⟩

/-- The score of position `j` for the query at position `i` of head `h` of batch element `b`: their product over the head's channels, scaled. -/
def logit (A B : Heads.Idx → ℝ) (b : Fin 8) (h : Fin 12) (i j : Fin 8192) : ℝ := (∑ e : Fin 64, A (ix4 b i h e) * B (ix4 b j h e)) * (1 / 8)

/-- Two positions at most 64 apart. -/
abbrev near (i j : Fin 8192) : Prop := j.val ≤ i.val + 64 ∧ i.val ≤ j.val + 64

/-- A query's scores, minus infinity at the positions outside its window. -/
def scores (A B : Heads.Idx → ℝ) (b : Fin 8) (h : Fin 12) (i : Fin 8192) : Fin 8192 → EReal := fun j =>
  if near i j then ((logit A B b h i j : ℝ) : EReal) else ⊥

/-- The values' mean under the softmax of a query's scores. -/
def mixed (A B C : Heads.Idx → ℝ) (b : Fin 8) (h : Fin 12) (i : Fin 8192) (e : Fin 64) : EReal :=
  ∑ j, Ideal.exp (scores A B b h i j - level (scores A B b h i)) * ((C (ix4 b j h e) : ℝ) : EReal)

/-- What the two result arrays hold, from real arguments: lane `l` of pair `p` is channel `l % 64` of head `2 p + l / 64`. -/
def result4 (A B C : Heads.Idx → ℝ) : FVec Ideal Pairs .f32 := fun x =>
  mixed A B C (x 0) ⟨(x 1).val * 2 + (x 3).val / 64, by have h1 : (x 1).val < 6 := (x 1).isLt; have h3 : (x 3).val < 128 := (x 3).isLt; omega⟩ (x 2)
    ⟨(x 3).val % 64, by omega⟩
def result5 (A B : Heads.Idx → ℝ) : FVec Ideal Pairs .f32 := fun x =>
  level (scores A B (x 0) ⟨(x 1).val * 2 + (x 3).val / 64, by have h1 : (x 1).val < 6 := (x 1).isLt; have h3 : (x 3).val < 128 := (x 3).isLt; omega⟩ (x 2))

variable (A B C : Heads.Idx → ℝ) (b : Fin 8) (h : Fin 12) (i : Fin 8192) (w : ℕ) (hw : w + 256 ≤ 8192) (hi : w ≤ i.val - 64) (hi' : i.val + 64 < w + 256 ∨ w + 256 = 8192)

include hi hi'

theorem scores_off (j : Fin 8192) (hj : ¬ (w ≤ j.val ∧ j.val < w + 256)) : scores A B b h i j = ⊥ :=
  if_neg fun hn => hj ⟨by omega, by omega⟩

/-- The greatest score and the weights' sum over a window that holds the positions near the query. -/
theorem top_scores : top (fun j : Fin 256 => scores A B b h i ⟨w + j.val, by omega⟩) = top (scores A B b h i) :=
  top_window _ w hw (scores_off A B b h i w hi hi')

theorem total_scores : total (fun j : Fin 256 => scores A B b h i ⟨w + j.val, by omega⟩) = total (scores A B b h i) := by
  unfold total
  rw [top_scores A B b h i w hw hi hi']
  refine sum_window (fun j => Ideal.exp (scores A B b h i j - top (scores A B b h i))) w hw fun j hj => ?_
  rw [scores_off A B b h i w hi hi' j hj, EReal.bot_sub, Ideal.exp_bot]

/-- The level, from the window. -/
theorem level_scores : level (fun j : Fin 256 => scores A B b h i ⟨w + j.val, by omega⟩) = level (scores A B b h i) := by
  unfold level
  rw [top_scores A B b h i w hw hi hi', total_scores A B b h i w hw hi hi']

/-- The mean, from the window: the weighted sum divided by the weights' sum. -/
theorem mixed_scores (e : Fin 64) :
    Ideal.div (∑ j : Fin 256, Ideal.exp (scores A B b h i ⟨w + j.val, by omega⟩ - top (fun j : Fin 256 => scores A B b h i ⟨w + j.val, by omega⟩))
        * ((C (ix4 b ⟨w + j.val, by omega⟩ h e) : ℝ) : EReal)) (total (fun j : Fin 256 => scores A B b h i ⟨w + j.val, by omega⟩))
      = mixed A B C b h i e := by
  rw [top_scores A B b h i w hw hi hi', total_scores A B b h i w hw hi hi']
  rw [sum_window (fun j => Ideal.exp (scores A B b h i j - top (scores A B b h i)) * ((C (ix4 b j h e) : ℝ) : EReal)) w hw fun j hj => ?_]
  · exact mean (scores A B b h i) (logit A B b h i) (near i) (fun _ => rfl) i ⟨by omega, by omega⟩ fun j => C (ix4 b j h e)
  · rw [scores_off A B b h i w hi hi' j hj, EReal.bot_sub, Ideal.exp_bot, zero_mul]

end Cert.AttnReal

end
-- ==== Proof.AttnHost.lean ====
/-
  The arrays the window attention's host code prepares: two heads packed into 128 lanes, the queries scaled, and the bias tables.
-/
module

public import proofs.«01_k».proof.Proof.AttnRun
public import proofs.«01_k».proof.Proof.AttnReal
public import Idealize.ShloMosaic.Lib.Routing.Words

@[expose] public section

set_option maxRecDepth 16384

noncomputable section

open Idealize.ShloMosaic Idealize.ShloMosaic.TcCoe Idealize.SL.Sem

namespace Cert.AttnReal

/-- The scale of the scores. -/
theorem eighth : (Ideal.ofBits .f32 0x3E000000#32 : EReal) = ((1 / 8 : ℝ) : EReal) := by
  simp [Ideal.ofBits, Ideal.ieee, -EReal.coe_mul]; norm_num

/-- The word of a difference of two small integers. -/
theorem toInt_diff (x y : BitVec 32) (a b : ℤ) (hx : x.toInt = a) (hy : y.toInt = b) (ha : a < 2 ^ 29) (ha' : -2 ^ 29 < a) (hb : b < 2 ^ 29) (hb' : -2 ^ 29 < b) :
    (IntOp.subi x y).toInt = a - b := by
  unfold IntOp.subi
  rw [BitVec.toInt_sub, hx, hy]
  exact Int.bmod_eq_of_le (by omega) (by omega)

/-- The word of a sum of two small integers. -/
theorem toInt_add (x y : BitVec 32) (a b : ℤ) (hx : x.toInt = a) (hy : y.toInt = b) (ha : a < 2 ^ 28) (ha' : -2 ^ 28 < a) (hb : b < 2 ^ 28) (hb' : -2 ^ 28 < b) :
    (IntOp.addi x y).toInt = a + b := by
  unfold IntOp.addi
  rw [BitVec.toInt_add, hx, hy]
  exact Int.bmod_eq_of_le (by omega) (by omega)

/-- The mask's word: two positions at most 64 apart. -/
theorem near_word (x : BitVec 32) (z : ℤ) (hx : x.toInt = z) (hz : z < 2 ^ 30) (hz' : -2 ^ 30 < z) :
    IntOp.cmpi .sle (IntOp.absi x) 64#32 = BitVec.ofBool (decide (-64 ≤ z ∧ z ≤ 64)) := by
  unfold IntOp.cmpi IntOp.absi
  simp only
  congr 1
  rw [BitVec.sle_eq_decide, BitVec.msb_eq_toInt, hx, show (64#32 : BitVec 32).toInt = 64 from rfl]
  by_cases h : z < 0
  · rw [if_pos (by simpa using h), BitVec.toInt_neg, hx, Int.bmod_eq_of_le (by omega) (by omega)]
    exact decide_eq_decide.2 ⟨fun _ => ⟨by omega, by omega⟩, fun _ => by omega⟩
  · rw [if_neg (by simpa using h), hx]
    exact decide_eq_decide.2 ⟨fun _ => ⟨by omega, by omega⟩, fun _ => by omega⟩

end Cert.AttnReal

namespace Cert.Kernel6Ideal.Attn

open Cert.AttnReal

/-- An entry of a bias table, as printed. -/
theorem tile_word (a : Fin 128) (j : Fin 256) (t : ℕ) (o : BitVec 32) (ho : o.toInt = -64 * (t : ℤ)) (ht : t < 3) :
    Scalar.select (IntOp.cmpi CmpIPredicate.sle (IntOp.absi (IntOp.subi (IntOp.addi (BitVec.ofNat 32 j.val) o) (BitVec.ofNat 32 a.val))) 64#32)
        (0 : EReal) (Ideal.ofBits .f32 0xFF800000#32)
      = if j.val ≤ a.val + 64 + 64 * t ∧ a.val + 64 * t ≤ j.val + 64 then (0 : EReal) else ⊥ := by
  rw [near_word _ ((j.val : ℤ) + -64 * (t : ℤ) - a.val) ?_ (by omega) (by omega), bottom]
  · by_cases h : j.val ≤ a.val + 64 + 64 * t ∧ a.val + 64 * t ≤ j.val + 64
    · rw [if_pos h, decide_eq_true (by omega)]; rfl
    · rw [if_neg h, decide_eq_false (by omega)]; rfl
  · refine toInt_diff _ _ _ _ (toInt_add _ _ _ _ ?_ ho ?_ ?_ ?_ ?_) (WordCmp.toInt_ofNat_of_lt (w := 32) (by omega)) ?_ ?_ ?_ ?_
    · exact WordCmp.toInt_ofNat_of_lt (w := 32) (by omega)
    all_goals omega

open Cert.Kernel6Ideal Cert.Kernel6Ideal.Gen

variable (m : (ℓ : Loc nD τ sig) → Buf (Elt Ideal) ℓ) (c : Dev nD)

/-- The queries by head pair, scaled. -/
theorem queries_array (A : S8x8192x12x64.Idx → ℝ) (hA : ∀ i, (m ((c : Thread nD τ).loc main_arg0) i : EReal) = ((A i : ℝ) : EReal))
    (b : Fin 8) (p : Fin 6) (s : Fin 8192) (l : Fin 128) :
    (V m c main_v4 (ix4 b p s l) : EReal) = ((A (ix4 b s ⟨p.val * 2 + l.val / 64, by omega⟩ ⟨l.val % 64, by omega⟩) * (1 / 8) : ℝ) : EReal) := by
  rw [EReal.coe_mul, ← hA, ← eighth]
  after_reads_at

/-- The keys by head pair. -/
theorem keys_array (B : S8x8192x12x64.Idx → ℝ) (hB : ∀ i, (m ((c : Thread nD τ).loc main_arg1) i : EReal) = ((B i : ℝ) : EReal))
    (b : Fin 8) (p : Fin 6) (s : Fin 8192) (l : Fin 128) :
    (V m c main_v7 (ix4 b p s l) : EReal) = ((B (ix4 b s ⟨p.val * 2 + l.val / 64, by omega⟩ ⟨l.val % 64, by omega⟩) : ℝ) : EReal) := by
  rw [← hB]
  after_reads_at

/-- The values by head pair. -/
theorem values_array (C : S8x8192x12x64.Idx → ℝ) (hC : ∀ i, (m ((c : Thread nD τ).loc main_arg2) i : EReal) = ((C i : ℝ) : EReal))
    (b : Fin 8) (p : Fin 6) (s : Fin 8192) (l : Fin 128) :
    (V m c main_v10 (ix4 b p s l) : EReal) = ((C (ix4 b s ⟨p.val * 2 + l.val / 64, by omega⟩ ⟨l.val % 64, by omega⟩) : ℝ) : EReal) := by
  rw [← hC]
  after_reads_at

/-- The bias tables: zero at the keys at most 64 from the query, where tile `t`'s keys start `64 t` before its queries, and minus infinity
    at the others. -/
theorem bias_array (t : Fin 3) (a : Fin 128) (j : Fin 256) :
    (V m c main_v46 (ix3 t a j) : EReal) = if j.val ≤ a.val + 64 + 64 * t.val ∧ a.val + 64 * t.val ≤ j.val + 64 then (0 : EReal) else ⊥ := by
  after_reads_simp
  try simp -implicitDefEqProofs only [StableHlo.TRef.toBuf, StableHlo.TRef.ofBuf, cast_cast, cast_eq]
  clean_types
  rw [id_eq]
  fin_cases t
  · pointwise
    after_reads_at
    exact tile_word a j 0 0#32 rfl (by norm_num)
  · pointwise
    after_reads_at
    exact (tile_word a j 1 4294967232#32 (by decide) (by norm_num)).trans (if_congr (by omega) rfl rfl)
  · pointwise
    after_reads_at
    exact (tile_word a j 2 4294967168#32 (by decide) (by norm_num)).trans (if_congr (by omega) rfl rfl)

end Cert.Kernel6Ideal.Attn

end
-- ==== Proof.AttnValue.lean ====
/-
  The window attention's two result arrays after the run, from real queries, keys and values: each head's softmax over the positions at
  most 64 away, and its logarithm of the softmax's denominator.
-/
module

public import proofs.«01_k».proof.Proof.AttnHost
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem

namespace Cert.Kernel6Ideal.Attn

open Cert.Kernel6Ideal Cert.Kernel6Ideal.Gen Cert.AttnReal
open Cert.DftReal (coe_sum)

/-- The masked sum over the 128 lanes is one head's product. -/
theorem logit_lanes (A B : Heads.Idx → ℝ) (b : Fin 8) (p : Fin 6) (d : ℕ) (hd : d < 2) (i j : Fin 8192) (mask : S1x128.Idx → BitVec 1)
    (hm : ∀ l : Fin 128, mask (ix2 0 l) = BitVec.ofBool (decide (l.val / 64 = d))) (q k : Fin 128 → EReal)
    (hq : ∀ l : Fin 128, q l = ((A (ix4 b i ⟨p.val * 2 + l.val / 64, by omega⟩ ⟨l.val % 64, by omega⟩) * (1 / 8) : ℝ) : EReal))
    (hk : ∀ l : Fin 128, k l = ((B (ix4 b j ⟨p.val * 2 + l.val / 64, by omega⟩ ⟨l.val % 64, by omega⟩) : ℝ) : EReal)) :
    (∑ l : Fin 128, Scalar.select (mask (ix2 0 l)) (q l) 0 * k l : EReal) = ((logit A B b ⟨p.val * 2 + d, by omega⟩ i j : ℝ) : EReal) := by
  rw [logit, Finset.sum_mul, ← sum_head d hd, coe_sum]
  refine Finset.sum_congr rfl fun l _ => ?_
  rw [hm, hq, hk]
  by_cases h : l.val / 64 = d
  · subst h
    rw [if_pos rfl, decide_eq_true rfl]
    refine (EReal.coe_mul _ _).symm.trans ?_
    rw [EReal.coe_eq_coe_iff]
    ring
  · rw [if_neg h, decide_eq_false h]
    exact zero_mul _

/-- One head's scores on a window: the head's product, and the bias leaves the positions near the query and puts minus infinity at the
    others. -/
theorem score_real (A B : Heads.Idx → ℝ) (b : Fin 8) (p : Fin 6) (d : ℕ) (hd : d < 2) (i j : Fin 8192) (mask : S1x128.Idx → BitVec 1)
    (hm : ∀ l : Fin 128, mask (ix2 0 l) = BitVec.ofBool (decide (l.val / 64 = d))) (q k : Fin 128 → EReal) (z : EReal)
    (hq : ∀ l : Fin 128, q l = ((A (ix4 b i ⟨p.val * 2 + l.val / 64, by omega⟩ ⟨l.val % 64, by omega⟩) * (1 / 8) : ℝ) : EReal))
    (hk : ∀ l : Fin 128, k l = ((B (ix4 b j ⟨p.val * 2 + l.val / 64, by omega⟩ ⟨l.val % 64, by omega⟩) : ℝ) : EReal))
    (hz : z = if near i j then (0 : EReal) else ⊥) :
    (∑ l : Fin 128, Scalar.select (mask (ix2 0 l)) (q l) 0 * k l + z : EReal) = scores A B b ⟨p.val * 2 + d, by omega⟩ i j := by
  rw [logit_lanes A B b p d hd i j mask hm q k hq hk, hz, scores]
  by_cases h : near i j
  · rw [if_pos h, if_pos h, add_zero]
  · rw [if_neg h, if_neg h, EReal.add_bot]

variable (m : (ℓ : Loc nD τ sig) → Buf (Elt Ideal) ℓ) (c : Dev nD) (t : Fin cfg0.N)

/-- Grid point `t` is batch element `t / 6` and head pair `t % 6`. -/
theorem idx : ∀ t : Fin grid0.N, win0_0.index t = ![t.val / 6, t.val % 6, 0, 0] ∧ win0_1.index t = ![t.val / 6, t.val % 6, 0, 0]
    ∧ win0_2.index t = ![t.val / 6, t.val % 6, 0, 0] ∧ win0_3.index t = ![0, 0, 0] ∧ win0_4.index t = ![t.val / 6, t.val % 6, 0, 0]
    ∧ win0_5.index t = ![t.val / 6, t.val % 6, 0, 0] := by decide +kernel

theorem point_lt (t : Fin cfg0.N) : t.val < 48 := t.isLt.trans_eq (by decide +kernel)

/-- The batch element and the head pair of a grid point. -/
abbrev bat : Fin 8 := ⟨t.val / 6, by have := point_lt t; omega⟩
abbrev pair : Fin 6 := ⟨t.val % 6, by omega⟩

/-- The blocks the point's windows hold. -/
theorem queries_read (A : Heads.Idx → ℝ) (hA : ∀ i, (m ((c : Thread nD τ).loc main_arg0) i : EReal) = ((A i : ℝ) : EReal)) (s : Fin 8192) (l : Fin 128) :
    (iblk m c 0 t (ix4 0 0 s l) : EReal)
      = ((A (ix4 (bat t) s ⟨(pair t).val * 2 + l.val / 64, by omega⟩ ⟨l.val % 64, by omega⟩) * (1 / 8) : ℝ) : EReal) := by
  refine Eq.trans ?_ (queries_array m c A hA (bat t) (pair t) s l)
  blk_ext! [iblk, idx t]

theorem keys_read (B : Heads.Idx → ℝ) (hB : ∀ i, (m ((c : Thread nD τ).loc main_arg1) i : EReal) = ((B i : ℝ) : EReal)) (s : Fin 8192) (l : Fin 128) :
    (iblk m c 1 t (ix4 0 0 s l) : EReal)
      = ((B (ix4 (bat t) s ⟨(pair t).val * 2 + l.val / 64, by omega⟩ ⟨l.val % 64, by omega⟩) : ℝ) : EReal) := by
  refine Eq.trans ?_ (keys_array m c B hB (bat t) (pair t) s l)
  blk_ext! [iblk, idx t]

theorem values_read (C : Heads.Idx → ℝ) (hC : ∀ i, (m ((c : Thread nD τ).loc main_arg2) i : EReal) = ((C i : ℝ) : EReal)) (s : Fin 8192) (l : Fin 128) :
    (iblk m c 2 t (ix4 0 0 s l) : EReal)
      = ((C (ix4 (bat t) s ⟨(pair t).val * 2 + l.val / 64, by omega⟩ ⟨l.val % 64, by omega⟩) : ℝ) : EReal) := by
  refine Eq.trans ?_ (values_array m c C hC (bat t) (pair t) s l)
  blk_ext! [iblk, idx t]

theorem bias_read (u : Fin 3) (a : Fin 128) (j : Fin 256) :
    (iblk m c 3 t (ix3 u a j) : EReal) = if j.val ≤ a.val + 64 + 64 * u.val ∧ a.val + 64 * u.val ≤ j.val + 64 then (0 : EReal) else ⊥ := by
  refine Eq.trans ?_ (bias_array m c u a j)
  blk_ext! [iblk, idx t]

/-- The lanes of the two masks. -/
theorem first_mask (l : Fin 128) : k0_pay1 (ix2 0 l) = BitVec.ofBool (decide (l.val / 64 = 0)) := by
  rw [first_lane]; exact congrArg BitVec.ofBool (decide_eq_decide.2 (by omega))

theorem second_mask (l : Fin 128) : k0_pay6 k0_pay1 (ix2 0 l) = BitVec.ofBool (decide (l.val / 64 = 1)) := by
  rw [second_lane]; exact congrArg BitVec.ofBool (decide_eq_decide.2 (by omega))

variable (A B C : Heads.Idx → ℝ) (hA : ∀ i, (m ((c : Thread nD τ).loc main_arg0) i : EReal) = ((A i : ℝ) : EReal))
  (hB : ∀ i, (m ((c : Thread nD τ).loc main_arg1) i : EReal) = ((B i : ℝ) : EReal))
  (hC : ∀ i, (m ((c : Thread nD τ).loc main_arg2) i : EReal) = ((C i : ℝ) : EReal))
  (k : Fin k0_t1_loop.trips)

/-- The position of trip `k`'s row `a`, and the start of its window. -/
abbrev pos (a : Fin 128) : Fin 8192 := ⟨128 * k.val + a.val, by have := trip_lt k; omega⟩
abbrev start : ℕ := min 7936 (128 * k.val - 64)

theorem start_le : start k + 256 ≤ 8192 := by show min 7936 (128 * k.val - 64) + 256 ≤ 8192; omega

theorem start_low (a : Fin 128) : start k ≤ (pos k a).val - 64 := by
  show min 7936 (128 * k.val - 64) ≤ 128 * k.val + a.val - 64; omega

theorem start_high (a : Fin 128) : (pos k a).val + 64 < start k + 256 ∨ start k + 256 = 8192 := by
  have := trip_lt k
  show 128 * k.val + a.val + 64 < min 7936 (128 * k.val - 64) + 256 ∨ min 7936 (128 * k.val - 64) + 256 = 8192
  omega

/-- The bias trip `k` loads is zero exactly at the positions near the query. -/
theorem bias_near (a : Fin 128) (j : Fin 256) :
    (tile (iblk m c 3 t) k (ix3 0 a j) : EReal) = if near (pos k a) ⟨start k + j.val, by have := start_le k; omega⟩ then (0 : EReal) else ⊥ := by
  have hk := trip_lt k
  rw [tile_apply]
  refine (bias_read m c t _ a j).trans (if_congr ?_ rfl rfl)
  show _ ↔ min 7936 (128 * k.val - 64) + j.val ≤ 128 * k.val + a.val + 64 ∧ 128 * k.val + a.val ≤ min 7936 (128 * k.val - 64) + j.val + 64
  split_ifs with h h'
  · simp only [Fin.val_zero]; omega
  · rw [show (2 : Fin 3).val = 2 from rfl]; omega
  · rw [show (1 : Fin 3).val = 1 from rfl]; omega

include hA hB in
/-- The scores trip `k` computes for one head of the pair. -/
theorem score_head (d : ℕ) (hd : d < 2) (mask : IVec S1x128 1) (hm : ∀ l : Fin 128, mask (ix2 0 l) = BitVec.ofBool (decide (l.val / 64 = d)))
    (a : Fin 128) (j : Fin 256) :
    score mask (queries (iblk m c 0 t) k) (window (iblk m c 1 t) k) (tile (iblk m c 3 t) k) a j
      = scores A B (bat t) ⟨(pair t).val * 2 + d, by omega⟩ (pos k a) ⟨start k + j.val, by have := start_le k; omega⟩ := by
  refine score_real A B (bat t) (pair t) d hd (pos k a) ⟨start k + j.val, by have := start_le k; omega⟩ mask hm _ _ _ (fun l => ?_) (fun l => ?_)
    (bias_near m c t k a j)
  · rw [queries_apply]
    exact queries_read m c t A hA _ l
  · rw [window_apply]
    exact keys_read m c t B hB _ l

include hA hB hC in
/-- One head's mean, from the window. -/
theorem mixed_head (d : ℕ) (hd : d < 2) (mask : IVec S1x128 1) (hm : ∀ l : Fin 128, mask (ix2 0 l) = BitVec.ofBool (decide (l.val / 64 = d)))
    (a l : Fin 128) (hl : l.val / 64 = d) :
    mixed mask (queries (iblk m c 0 t) k) (window (iblk m c 1 t) k) (window (iblk m c 2 t) k) (tile (iblk m c 3 t) k) a l
      = Cert.AttnReal.mixed A B C (bat t) ⟨(pair t).val * 2 + d, by omega⟩ (pos k a) ⟨l.val % 64, by omega⟩ := by
  subst hl
  have hv (j : Fin 256) : (window (iblk m c 2 t) k (ix4 0 0 j l) : EReal)
      = ((C (ix4 (bat t) ⟨start k + j.val, by have := start_le k; omega⟩ ⟨(pair t).val * 2 + l.val / 64, by omega⟩ ⟨l.val % 64, by omega⟩) : ℝ) : EReal) := by
    rw [window_apply]
    exact values_read m c t C hC _ l
  unfold mixed
  simp only [score_head m c t A B hA hB k _ hd mask hm a, hv]
  exact mixed_scores A B C (bat t) _ (pos k a) (start k) (start_le k) (start_low k a) (start_high k a) _

include hA hB in
/-- One head's level, from the window. -/
theorem level_head (d : ℕ) (hd : d < 2) (mask : IVec S1x128 1) (hm : ∀ l : Fin 128, mask (ix2 0 l) = BitVec.ofBool (decide (l.val / 64 = d)))
    (a : Fin 128) :
    level mask (queries (iblk m c 0 t) k) (window (iblk m c 1 t) k) (tile (iblk m c 3 t) k) a
      = Cert.AttnReal.level (scores A B (bat t) ⟨(pair t).val * 2 + d, by omega⟩ (pos k a)) := by
  unfold level
  simp only [score_head m c t A B hA hB k _ hd mask hm a]
  exact level_scores A B (bat t) _ (pos k a) (start k) (start_le k) (start_low k a) (start_high k a)

theorem select_one (x y : EReal) : Scalar.select (BitVec.ofBool true) x y = x := rfl
theorem select_zero (x y : EReal) : Scalar.select (BitVec.ofBool false) x y = y := rfl

include hA hB hC in
/-- What trip `k` stores of the first result. -/
theorem stored4_real (a l : Fin 128) :
    (stored4 (iblk m c 0 t) (iblk m c 1 t) (iblk m c 2 t) (iblk m c 3 t) k (ix4 0 0 a l) : EReal)
      = result4 A B C (ix4 (bat t) (pair t) (pos k a) l) := by
  refine (mixed_apply _ _ _ _ a l).trans ?_
  rw [first_lane]
  by_cases h : l.val < 64
  · rw [decide_eq_true h, select_one]
    refine (mixed_head m c t A B C hA hB hC k 0 (by norm_num) _ first_mask a l (by omega)).trans ?_
    exact congrArg (fun h => Cert.AttnReal.mixed A B C (bat t) h (pos k a) ⟨l.val % 64, by omega⟩)
      (Fin.ext (show (pair t).val * 2 + 0 = (pair t).val * 2 + l.val / 64 by omega))
  · rw [decide_eq_false h, select_zero]
    refine (mixed_head m c t A B C hA hB hC k 1 (by norm_num) _ second_mask a l (by omega)).trans ?_
    exact congrArg (fun h => Cert.AttnReal.mixed A B C (bat t) h (pos k a) ⟨l.val % 64, by omega⟩)
      (Fin.ext (show (pair t).val * 2 + 1 = (pair t).val * 2 + l.val / 64 by omega))

include hA hB in
/-- What trip `k` stores of the second result. -/
theorem stored5_real (a l : Fin 128) :
    (stored5 (iblk m c 0 t) (iblk m c 1 t) (iblk m c 3 t) k (ix4 0 0 a l) : EReal)
      = result5 A B (ix4 (bat t) (pair t) (pos k a) l) := by
  refine (level_apply _ _ _ a l).trans ?_
  rw [first_lane]
  by_cases h : l.val < 64
  · rw [decide_eq_true h, select_one]
    refine (level_head m c t A B hA hB k 0 (by norm_num) _ first_mask a).trans ?_
    exact congrArg (fun h => Cert.AttnReal.level (scores A B (bat t) h (pos k a)))
      (Fin.ext (show (pair t).val * 2 + 0 = (pair t).val * 2 + l.val / 64 by omega))
  · rw [decide_eq_false h, select_zero]
    refine (level_head m c t A B hA hB k 1 (by norm_num) _ second_mask a).trans ?_
    exact congrArg (fun h => Cert.AttnReal.level (scores A B (bat t) h (pos k a)))
      (Fin.ext (show (pair t).val * 2 + 1 = (pair t).val * 2 + l.val / 64 by omega))

include hA hB hC in
/-- What the first result array holds after the run. -/
theorem final4 : (dats m 0 c).arrAt 4 cfg0.N = result4 A B C := by
  refine (dats m 0 c).arrAt_eq_of_covers 4 _ (by decide +kernel) fun t hf y => ?_
  refine (congrFun (Value.flushed4_A m c t) y).trans ?_
  obtain ⟨p, q, s, l, rfl⟩ : ∃ (p q : Fin 1) (s : Fin 8192) (l : Fin 128), y = ix4 p q s l := ⟨y 0, y 1, y 2, y 3, eq_ix4 y⟩
  obtain rfl := Fin.fin_one_eq_zero p
  obtain rfl := Fin.fin_one_eq_zero q
  have e : (win0_4.blk t).view.emb (ix4 0 0 s l) = ix4 (bat t) (pair t) s l := by
    have h4 := (idx t).2.2.2.2.1
    funext a
    apply Fin.ext
    match a with
    | ⟨0, _⟩ => show win0_4.index t 0 * 1 + 1 * 0 = t.val / 6; rw [h4]; show t.val / 6 * 1 + 1 * 0 = _; omega
    | ⟨1, _⟩ => show win0_4.index t 1 * 1 + 1 * 0 = t.val % 6; rw [h4]; show t.val % 6 * 1 + 1 * 0 = _; omega
    | ⟨2, _⟩ => show win0_4.index t 2 * 8192 + 1 * s.val = s.val; rw [h4]; show 0 * 8192 + 1 * s.val = s.val; omega
    | ⟨3, _⟩ => show win0_4.index t 3 * 128 + 1 * l.val = l.val; rw [h4]; show 0 * 128 + 1 * l.val = l.val; omega
  refine Eq.trans ?_ (congrArg (result4 A B C) e).symm
  refine out4_apply _ _ _ _ c _ _ _ _ _ _ _ _ _ _ _ _ _ (fun y => result4 A B C (ix4 (bat t) (pair t) (y 2) (y 3))) (fun k x => ?_) (ix4 0 0 s l)
  obtain ⟨p, q, a, l, rfl⟩ : ∃ (p q : Fin 1) (a l : Fin 128), x = ix4 p q a l := ⟨x 0, x 1, x 2, x 3, eq_ix4 x⟩
  obtain rfl := Fin.fin_one_eq_zero p
  obtain rfl := Fin.fin_one_eq_zero q
  rw [rows_emb]
  exact stored4_real m c t A B C hA hB hC k a l

include hA hB in
/-- What the second result array holds after the run. -/
theorem final5 : (dats m 0 c).arrAt 5 cfg0.N = result5 A B := by
  refine (dats m 0 c).arrAt_eq_of_covers 5 _ (by decide +kernel) fun t hf y => ?_
  refine (congrFun (Value.flushed5_A m c t) y).trans ?_
  obtain ⟨p, q, s, l, rfl⟩ : ∃ (p q : Fin 1) (s : Fin 8192) (l : Fin 128), y = ix4 p q s l := ⟨y 0, y 1, y 2, y 3, eq_ix4 y⟩
  obtain rfl := Fin.fin_one_eq_zero p
  obtain rfl := Fin.fin_one_eq_zero q
  have e : (win0_5.blk t).view.emb (ix4 0 0 s l) = ix4 (bat t) (pair t) s l := by
    have h5 := (idx t).2.2.2.2.2
    funext a
    apply Fin.ext
    match a with
    | ⟨0, _⟩ => show win0_5.index t 0 * 1 + 1 * 0 = t.val / 6; rw [h5]; show t.val / 6 * 1 + 1 * 0 = _; omega
    | ⟨1, _⟩ => show win0_5.index t 1 * 1 + 1 * 0 = t.val % 6; rw [h5]; show t.val % 6 * 1 + 1 * 0 = _; omega
    | ⟨2, _⟩ => show win0_5.index t 2 * 8192 + 1 * s.val = s.val; rw [h5]; show 0 * 8192 + 1 * s.val = s.val; omega
    | ⟨3, _⟩ => show win0_5.index t 3 * 128 + 1 * l.val = l.val; rw [h5]; show 0 * 128 + 1 * l.val = l.val; omega
  refine Eq.trans ?_ (congrArg (result5 A B) e).symm
  refine out5_apply _ _ _ _ c _ _ _ _ _ _ _ _ _ _ _ _ _ (fun y => result5 A B (ix4 (bat t) (pair t) (y 2) (y 3))) (fun k x => ?_) (ix4 0 0 s l)
  obtain ⟨p, q, a, l, rfl⟩ : ∃ (p q : Fin 1) (a l : Fin 128), x = ix4 p q a l := ⟨x 0, x 1, x 2, x 3, eq_ix4 x⟩
  obtain rfl := Fin.fin_one_eq_zero p
  obtain rfl := Fin.fin_one_eq_zero q
  rw [rows_emb]
  exact stored5_real m c t A B hA hB k a l

end Cert.Kernel6Ideal.Attn

end
-- ==== Proof.Attn.lean ====
/-
  The window attention: at the extended reals, from finite queries, keys and values, the kernel's two arrays are the reference's. The
  kernel takes the softmax of each block of queries over a window of 256 keys and divides after the products; the reference masks all the
  scores, and takes the exponentials less the softmax's logarithm.
-/
module

public import proofs.«01_k».proof.Defs
public import proofs.«01_k».proof.Proof.AttnValue
public import proofs.«01_k».proof.Proof.Fold
public import proofs.«01_k».proof.Proof.Gen.Kernel6.Frame
public import proofs.«01_k».proof.Proof.Gen.Reference6Ideal.Run
public import proofs.«01_k».proof.Proof.Gen.Reference6Ideal.Read
public import proofs.«01_k».proof.Proof.Gen.Pre_finite_heads

@[expose] public section

set_option maxRecDepth 16384

noncomputable section

open Idealize.ShloMosaic Idealize.ShloMosaic.TcCoe Idealize.SL.Sem

namespace Cert.Reference6Ideal.Attn

open Cert.Reference6Ideal Cert.Reference6Ideal.Gen Cert.Reference6Ideal.Read Cert.AttnReal
open Cert.DftReal (coe_sum)

variable (x0 x1 x2 : FVec Ideal S8x8192x12x64 .f32)

/-- The reference's mask: the positions at most 64 apart. -/
theorem mask_apply (i j : Fin 8192) : val_main_v8 (F := Ideal) (ix2 i j) = BitVec.ofBool (decide (near i j)) := by
  pointwise [val_main_v8, val_main_v7, val_main_v6, val_main_v5, val_main_v4, val_main_v3, val_main_v2, val_main_v1, val_main_v0, val_main_c]
  rw [near_word _ ((i.val : ℤ) - j.val) ?_ (by omega) (by omega)]
  · exact congrArg BitVec.ofBool (decide_eq_decide.2 (by omega))
  · refine toInt_diff _ _ _ _ (WordCmp.toInt_ofNat_of_lt (w := 32) (by omega)) (WordCmp.toInt_ofNat_of_lt (w := 32) (by omega)) ?_ ?_ ?_ ?_
    all_goals omega

variable (A B C : Heads.Idx → ℝ) (hA : ∀ i, (x0 i : EReal) = ((A i : ℝ) : EReal)) (hB : ∀ i, (x1 i : EReal) = ((B i : ℝ) : EReal))
  (hC : ∀ i, (x2 i : EReal) = ((C i : ℝ) : EReal))

include hA hB in
/-- The reference's masked scores. -/
theorem scores_apply (b : Fin 8) (h : Fin 12) (i j : Fin 8192) : (val_main_v13 (F := Ideal) x0 x1 (ix4 b h i j) : EReal) = scores A B b h i j := by
  have hm := mask_apply i j
  unfold val_main_v13 val_main_call0_v1 val_main_v12
  generalize val_main_v8 (F := Ideal) = w at hm
  pointwise [val_main_call0_v2, val_main_call0_v0, val_main_cst_0, val_main_v11, val_main_v10, val_main_cst, val_main_v9]
  rw [hm, show (id (constant (F := Ideal) S_ .f32 0xFF800000#32) ix0 : EReal) = ⊥ from Cert.Kernel6Ideal.Attn.bottom]
  simp only [hA, hB, eighth, ← EReal.coe_mul, ← coe_sum]
  unfold scores
  by_cases hn : near i j
  · rw [if_pos hn, decide_eq_true hn]; rfl
  · rw [if_neg hn, decide_eq_false hn]; rfl

/-- The reference's greatest score of a query, from its masked scores. -/
theorem top_apply (b : Fin 8) (h : Fin 12) (i : Fin 8192) (f : Fin 8192 → EReal)
    (hf : ∀ j, (val_main_v13 (F := Ideal) x0 x1 (ix4 b h i j) : EReal) = f j) : (val_main_v14 (F := Ideal) x0 x1 (ix3 b h i) : EReal) = top f := by
  unfold val_main_v14
  generalize val_main_v13 (F := Ideal) x0 x1 = y at hf
  have hr : S8x12x8192x8192.Reduces [3] S8x12x8192 := by decide
  refine (Host.reduce_eq_fold_single (α := EReal) (FloatOps.maximumf (F := Ideal) (φ := .f32)) y _ reducesTo_S8x12x8192x8192_S8x12x8192_d3 hr h_S_ (ix3 b h i)).trans ?_
  have e (j : Fin 8192) : (y (hr.lift (ix3 b h i) j) : EReal) = f j := by
    rw [← hf]
    exact congrArg y (funext fun a => Fin.ext (by match a with | ⟨0, _⟩ => rfl | ⟨1, _⟩ => rfl | ⟨2, _⟩ => rfl | ⟨3, _⟩ => rfl))
  exact congrArg₂ (fun (v : EReal) (g : Fin 8192 → EReal) => Finset.univ.fold max v g) Cert.Kernel6Ideal.Attn.bottom (funext e)

/-- The reference's sum of a query's weights, from its masked scores and the greatest. -/
theorem total_apply (b : Fin 8) (h : Fin 12) (i : Fin 8192) :
    (val_main_v19 (F := Ideal) x0 x1 (ix3 b h i) : EReal)
      = ∑ j, Ideal.exp ((val_main_v13 (F := Ideal) x0 x1 (ix4 b h i j) : EReal) - val_main_v14 (F := Ideal) x0 x1 (ix3 b h i)) := by
  unfold val_main_v19 val_main_v18 val_main_v17 val_main_v16 val_main_v15
  generalize val_main_v13 (F := Ideal) x0 x1 = y
  generalize val_main_v14 (F := Ideal) x0 x1 = z
  pointwise [val_main_cst_2]

/-- The reference's level of a query, from its masked scores. -/
theorem level_apply (b : Fin 8) (h : Fin 12) (i : Fin 8192) (f : Fin 8192 → EReal)
    (hf : ∀ j, (val_main_v13 (F := Ideal) x0 x1 (ix4 b h i j) : EReal) = f j) : (val_main_v21 (F := Ideal) x0 x1 (ix3 b h i) : EReal) = level f := by
  have ht := top_apply x0 x1 b h i f hf
  have hs : (val_main_v19 (F := Ideal) x0 x1 (ix3 b h i) : EReal) = total f := by
    rw [total_apply, ht, total]
    exact Finset.sum_congr rfl fun j _ => by rw [hf]
  rw [val_main_v21_apply, val_main_v20_apply, ht, hs]
  unfold level
  generalize top f = a
  generalize total f = z
  rfl

/-- The reference's first result at an index, from its scores and its levels. -/
theorem mixed_apply (b : Fin 8) (p : Fin 6) (s : Fin 8192) (l : Fin 128) :
    (val_main_v32 (F := Ideal) x0 x1 x2 (ix4 b p s l) : EReal) = ∑ j : Fin 8192, x2 (ix4 b j ⟨p.val * 2 + l.val / 64, by omega⟩ ⟨l.val % 64, by omega⟩)
      * Ideal.exp ((val_main_v13 (F := Ideal) x0 x1 (ix4 b ⟨p.val * 2 + l.val / 64, by omega⟩ s j) : EReal)
        - val_main_v21 (F := Ideal) x0 x1 (ix3 b ⟨p.val * 2 + l.val / 64, by omega⟩ s)) := by
  unfold val_main_v32 val_main_v31 val_main_v27 val_main_v26 val_main_v25 val_main_v24 val_main_v23 val_main_v22
  generalize val_main_v13 (F := Ideal) x0 x1 = y
  generalize val_main_v21 (F := Ideal) x0 x1 = z
  pointwise

/-- The reference's second result at an index. -/
theorem spread_apply (b : Fin 8) (p : Fin 6) (s : Fin 8192) (l : Fin 128) :
    (val_main_v34 (F := Ideal) x0 x1 (ix4 b p s l) : EReal) = val_main_v21 (F := Ideal) x0 x1 (ix3 b ⟨p.val * 2 + l.val / 64, by omega⟩ s) := by
  unfold val_main_v34 val_main_v33 val_main_v30 val_main_v29 val_main_v28
  generalize val_main_v21 (F := Ideal) x0 x1 = z
  pointwise

include hA hB hC in
/-- The reference's first result, from real arguments. -/
theorem result4_eq : val_main_v32 (F := Ideal) x0 x1 x2 = result4 A B C := by
  funext y
  obtain ⟨b, p, s, l, rfl⟩ : ∃ (b : Fin 8) (p : Fin 6) (s : Fin 8192) (l : Fin 128), y = ix4 b p s l := ⟨y 0, y 1, y 2, y 3, eq_ix4 y⟩
  rw [mixed_apply, level_apply x0 x1 b _ s _ fun j => scores_apply x0 x1 A B hA hB b _ s j]
  simp only [scores_apply x0 x1 A B hA hB, hC]
  exact Finset.sum_congr rfl fun j _ => mul_comm _ _

include hA hB in
/-- The reference's second result, from real arguments. -/
theorem result5_eq : val_main_v34 (F := Ideal) x0 x1 = result5 A B := by
  funext y
  obtain ⟨b, p, s, l, rfl⟩ : ∃ (b : Fin 8) (p : Fin 6) (s : Fin 8192) (l : Fin 128), y = ix4 b p s l := ⟨y 0, y 1, y 2, y 3, eq_ix4 y⟩
  rw [spread_apply, level_apply x0 x1 b _ s _ fun j => scores_apply x0 x1 A B hA hB b _ s j]
  rfl

end Cert.Reference6Ideal.Attn

namespace Cert.Proof.Attn

open Cert.Proof.Fold (both of_ofBool all_of_fold)

/-- Each of the programs runs and ends with its arguments unchanged. -/
theorem frame : Cert.quiescent_Kernel6 := fun m ρ _ => Cert.Kernel6.Gen.frame m ρ

theorem frame_ideal : Cert.quiescent_Kernel6Ideal := fun m ρ _ => Cert.Kernel6Ideal.Gen.frame m ρ

theorem frame_ideal_finite : Cert.quiescent_Kernel6Ideal_pre_finite_heads := fun m ρ _ => Cert.Kernel6Ideal.Gen.frame m ρ

theorem frame_reference : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem frame_reference_finite : Cert.quiescent_Reference6Ideal_pre_finite_heads := fun m ρ _ => frame_reference m ρ trivial

/-- The precondition: every entry of the three arrays lies below the infinity. -/
theorem finite_apply (x0 x1 x2 : FVec Ideal Cert.Pre_finite_heads.S8x8192x12x64 .f32)
    (h : Cert.Pre_finite_heads.fn (F := Ideal) x0 x1 x2 = fun _ => 1#1) :
    (∀ i, max (x0 i : EReal) (-x0 i) < ⊤) ∧ (∀ i, max (x1 i : EReal) (-x1 i) < ⊤) ∧ ∀ i, max (x2 i : EReal) (-x2 i) < ⊤ := by
  have e := congrFun h ix0
  unfold Cert.Pre_finite_heads.fn at e
  pointwise at e
  rw [show (Ideal.ofBits .f32 2139095040#32 : EReal) = ⊤ by simp [Ideal.ofBits, Ideal.ieee]] at e
  obtain ⟨e01, e2⟩ := both _ _ e
  obtain ⟨e0, e1⟩ := both _ _ e01
  refine ⟨fun i => ?_, fun i => ?_, fun i => ?_⟩
  · exact of_ofBool (all_of_fold _ _ e0 i (Finset.mem_filter.2 ⟨Finset.mem_univ _, funext fun a => a.elim0⟩))
  · exact of_ofBool (all_of_fold _ _ e1 i (Finset.mem_filter.2 ⟨Finset.mem_univ _, funext fun a => a.elim0⟩))
  · exact of_ofBool (all_of_fold _ _ e2 i (Finset.mem_filter.2 ⟨Finset.mem_univ _, funext fun a => a.elim0⟩))

/-- From equal finite arguments the kernel's two arrays and the reference's are equal. -/
theorem algebraic : Cert.algebraic_Kernel6Ideal_Reference6Ideal_pre_finite_heads := by
  intro m ρ m' ρ' hpre hagree
  refine ⟨_, _, Cert.Kernel6Ideal.Value.run_blocks (F := Ideal) m ρ, ?_⟩
  refine (θ_run Cert.Reference6Ideal.defs _ _).mono (fun _ h c => ⟨(h c).1.trans ?_, (h c).2.1.trans ?_, (h c).2.2⟩)
    (Cert.Reference6Ideal.Value.run (F := Ideal) m' ρ')
  · obtain ⟨h0, h1, h2⟩ := hagree c
    have hf := finite_apply _ _ _ (hpre c)
    rw [Cert.Kernel6Ideal.Attn.final4 m c _ _ _ (fun i => Cert.DftReal.exists_coe (hf.1 i)) (fun i => Cert.DftReal.exists_coe (hf.2.1 i))
      (fun i => Cert.DftReal.exists_coe (hf.2.2 i)), Cert.Reference6Ideal.Read.val_main_v32_eq, h0, h1, h2]
    exact Cert.Reference6Ideal.Attn.result4_eq _ _ _ _ _ _ (fun i => Cert.DftReal.exists_coe (hf.1 i)) (fun i => Cert.DftReal.exists_coe (hf.2.1 i))
      (fun i => Cert.DftReal.exists_coe (hf.2.2 i))
  · obtain ⟨h0, h1, h2⟩ := hagree c
    have hf := finite_apply _ _ _ (hpre c)
    rw [Cert.Kernel6Ideal.Attn.final5 m c _ _ (fun i => Cert.DftReal.exists_coe (hf.1 i)) (fun i => Cert.DftReal.exists_coe (hf.2.1 i)), h0, h1]
    exact (Cert.Reference6Ideal.Read.val_main_v34_eq _ _).trans
      (Cert.Reference6Ideal.Attn.result5_eq _ _ _ _ (fun i => Cert.DftReal.exists_coe (hf.1 i)) (fun i => Cert.DftReal.exists_coe (hf.2.1 i)))

end Cert.Proof.Attn

end
-- ==== Proof.DilReal.lean ====
/-
  The softmax over a dilated window, over the extended reals: among the positions of one stride, numbered along it, those at most 64 away
  from the query's.
-/
module

public import proofs.«01_k».proof.Proof.AttnReal

@[expose] public section

noncomputable section

open Idealize.ShloMosaic Idealize.ShloMosaic.TcCoe

namespace Cert.DilReal

open Cert.AttnReal

/-- Two positions of a stride at most 64 apart along it. -/
abbrev near {n : ℕ} (i j : Fin n) : Prop := j.val ≤ i.val + 64 ∧ i.val ≤ j.val + 64

/-- A query's scores, minus infinity at the positions outside its window. -/
def masked {n : ℕ} (S : Fin n → ℝ) (i : Fin n) : Fin n → EReal := fun j => if near i j then ((S j : ℝ) : EReal) else ⊥

section

variable {n : ℕ} (S : Fin n → ℝ) (i : Fin n) (w : ℕ) (hw : w + 256 ≤ n) (hi : w ≤ i.val - 64) (hi' : i.val + 64 < w + 256 ∨ w + 256 = n)

include hi hi'

/-- Outside a window that holds the positions near the query the scores are minus infinity. -/
theorem masked_off (j : Fin n) (hj : ¬ (w ≤ j.val ∧ j.val < w + 256)) : masked S i j = ⊥ :=
  if_neg fun hn => hj ⟨by omega, by omega⟩

/-- The greatest score, from the window. -/
theorem top_masked : top (fun j : Fin 256 => masked S i ⟨w + j.val, by omega⟩) = top (masked S i) :=
  top_window _ w hw (masked_off S i w hi hi')

/-- The weights' sum, from the window. -/
theorem total_masked : total (fun j : Fin 256 => masked S i ⟨w + j.val, by omega⟩) = total (masked S i) := by
  unfold total
  rw [top_masked S i w hw hi hi']
  refine sum_window (fun j => Ideal.exp (masked S i j - top (masked S i))) w hw fun j hj => ?_
  rw [masked_off S i w hi hi' j hj, EReal.bot_sub, Ideal.exp_bot]

/-- The level, from the window. -/
theorem level_masked : level (fun j : Fin 256 => masked S i ⟨w + j.val, by omega⟩) = level (masked S i) := by
  unfold level
  rw [top_masked S i w hw hi hi', total_masked S i w hw hi hi']

/-- The mean, from the window: the weighted sum divided by the weights' sum. -/
theorem mean_masked (c : Fin n → ℝ) :
    Ideal.div (∑ j : Fin 256, Ideal.exp (masked S i ⟨w + j.val, by omega⟩ - top (fun j : Fin 256 => masked S i ⟨w + j.val, by omega⟩))
        * ((c ⟨w + j.val, by omega⟩ : ℝ) : EReal)) (total (fun j : Fin 256 => masked S i ⟨w + j.val, by omega⟩))
      = ∑ j, Ideal.exp (masked S i j - level (masked S i)) * ((c j : ℝ) : EReal) := by
  rw [top_masked S i w hw hi hi', total_masked S i w hw hi hi']
  rw [sum_window (fun j => Ideal.exp (masked S i j - top (masked S i)) * ((c j : ℝ) : EReal)) w hw fun j hj => ?_]
  · exact mean (masked S i) S (near i) (fun _ => rfl) i ⟨by omega, by omega⟩ c
  · rw [masked_off S i w hi hi' j hj, EReal.bot_sub, Ideal.exp_bot, zero_mul]

end

/-- The results' arrays: a row holds the positions of a stride, 128 lanes each. -/
abbrev Wide (L N : ℕ) : Shape := ⟨4, ![8, 6, L, N]⟩

/-- The scores of a query of a stride against the stride's positions, the positions given by their places along the stride. -/
def scores {n : ℕ} (A B : Heads.Idx → ℝ) (b : Fin 8) (h : Fin 12) (pos : Fin n → Fin 8192) (i : Fin n) : Fin n → EReal :=
  masked (fun j => logit A B b h (pos i) (pos j)) i

/-- The values' mean under the softmax of a query's scores. -/
def mixed {n : ℕ} (A B C : Heads.Idx → ℝ) (b : Fin 8) (h : Fin 12) (pos : Fin n → Fin 8192) (i : Fin n) (e : Fin 64) : EReal :=
  ∑ j, Ideal.exp (scores A B b h pos i j - level (scores A B b h pos i)) * ((C (ix4 b (pos j) h e) : ℝ) : EReal)

/-- Column `n` of pair `p`'s rows is lane `n % 128` of one of the row's positions: channel `n % 128 % 64` of head `2 p + n % 128 / 64`. -/
abbrev head {N : ℕ} (p : Fin 6) (n : Fin N) : Fin 12 := ⟨p.val * 2 + n.val % 128 / 64, by omega⟩
abbrev chan {N : ℕ} (n : Fin N) : Fin 64 := ⟨n.val % 128 % 64, by omega⟩

/-- What the two result arrays hold, from real arguments; `pos n` are the positions of column `n`'s stride. -/
def result4 {L N : ℕ} (pos : Fin N → Fin L → Fin 8192) (A B C : Heads.Idx → ℝ) : FVec Ideal (Wide L N) .f32 := fun x =>
  mixed A B C (x 0) (head (x 1) (x 3)) (pos (x 3)) (x 2) (chan (x 3))
def result5 {L N : ℕ} (pos : Fin N → Fin L → Fin 8192) (A B : Heads.Idx → ℝ) : FVec Ideal (Wide L N) .f32 := fun x =>
  level (scores A B (x 0) (head (x 1) (x 3)) (pos (x 3)) (x 2))

end Cert.DilReal

end
-- ==== Proof.DilHost.lean ====
/-
  The arrays the host code of the window attention at dilation 4 prepares: two heads packed into 128 lanes, the four positions of a stride
  in one row, the queries scaled, and the bias tables.
-/
module

public import proofs.«01_k».proof.Proof.AttnHost
public import proofs.«01_k».proof.Proof.DilReal
public import proofs.«01_k».proof.Proof.Gen.Kernel8Ideal.Value

@[expose] public section

set_option maxRecDepth 16384

noncomputable section

open Idealize.ShloMosaic Idealize.ShloMosaic.TcCoe Idealize.SL.Sem

namespace Cert.Kernel8Ideal.Dil

open Cert.AttnReal (Heads eighth)
open Cert.DilReal (head chan)
open Cert.Kernel8Ideal Cert.Kernel8Ideal.Gen
open Cert.Kernel6Ideal.Attn (tile_word)

/-- The positions of stride `r` by their places, and those of a column's stride. -/
abbrev place (r : Fin 4) (i : Fin 2048) : Fin 8192 := ⟨i.val * 4 + r.val, by omega⟩
abbrev stride (n : Fin 512) : Fin 4 := ⟨n.val / 128, by omega⟩
abbrev pos (n : Fin 512) : Fin 2048 → Fin 8192 := place (stride n)

variable (m : (ℓ : Loc nD τ sig) → Buf (Elt Ideal) ℓ) (c : Dev nD)

/-- The queries by head pair and stride, scaled. -/
theorem queries_array (A : Heads.Idx → ℝ) (hA : ∀ i, (m ((c : Thread nD τ).loc main_arg0) i : EReal) = ((A i : ℝ) : EReal))
    (b : Fin 8) (p : Fin 6) (s : Fin 2048) (n : Fin 512) :
    (V m c main_v11 (ix4 b p s n) : EReal) = ((A (ix4 b (pos n s) (head p n) (chan n)) * (1 / 8) : ℝ) : EReal) := by
  rw [EReal.coe_mul, ← hA, ← eighth]
  after_reads_at

/-- The keys by head pair and stride. -/
theorem keys_array (B : Heads.Idx → ℝ) (hB : ∀ i, (m ((c : Thread nD τ).loc main_arg1) i : EReal) = ((B i : ℝ) : EReal))
    (b : Fin 8) (p : Fin 6) (s : Fin 2048) (n : Fin 512) :
    (V m c main_v12 (ix4 b p s n) : EReal) = ((B (ix4 b (pos n s) (head p n) (chan n)) : ℝ) : EReal) := by
  rw [← hB]
  after_reads_at

/-- The values by head pair and stride. -/
theorem values_array (C : Heads.Idx → ℝ) (hC : ∀ i, (m ((c : Thread nD τ).loc main_arg2) i : EReal) = ((C i : ℝ) : EReal))
    (b : Fin 8) (p : Fin 6) (s : Fin 2048) (n : Fin 512) :
    (V m c main_v13 (ix4 b p s n) : EReal) = ((C (ix4 b (pos n s) (head p n) (chan n)) : ℝ) : EReal) := by
  rw [← hC]
  after_reads_at

/-- The bias tables: zero at the keys at most 64 from the query, where tile `t`'s keys start `64 t` before its queries, and minus infinity
    at the others. -/
theorem bias_array (t : Fin 3) (a : Fin 128) (j : Fin 256) :
    (V m c main_v49 (ix3 t a j) : EReal) = if j.val ≤ a.val + 64 + 64 * t.val ∧ a.val + 64 * t.val ≤ j.val + 64 then (0 : EReal) else ⊥ := by
  after_reads_simp
  try simp -implicitDefEqProofs only [StableHlo.TRef.toBuf, StableHlo.TRef.ofBuf, cast_cast, cast_eq]
  clean_types
  rw [id_eq]
  fin_cases t
  · pointwise
    after_reads_at
    exact tile_word a j 0 0#32 rfl (by norm_num)
  · pointwise
    after_reads_at
    exact (tile_word a j 1 4294967232#32 (by decide) (by norm_num)).trans (if_congr (by omega) rfl rfl)
  · pointwise
    after_reads_at
    exact (tile_word a j 2 4294967168#32 (by decide) (by norm_num)).trans (if_congr (by omega) rfl rfl)

end Cert.Kernel8Ideal.Dil

end
-- ==== Proof.Strip.lean ====
/-
  A dilated window attention's block for one batch element and head pair: loops over the strides, each over blocks of 128 queries, store
  pieces of the two results' blocks. What a trip loads and stores, and what the results' blocks hold in the end, for any length of a stride
  and any number of strides.
-/
module

public import proofs.«01_k».proof.Proof.AttnValue
public import proofs.«01_k».proof.Proof.DilReal
public import Idealize.ShloMosaic.Lib.Pipeline.ValueKit

@[expose] public section

set_option maxRecDepth 16384

noncomputable section

open Idealize.ShloMosaic Idealize.ShloMosaic.TcCoe

namespace Cert.Strip

open Cert.Kernel6Ideal.Gen
open Cert.AttnReal (Heads logit)
open Cert.DilReal (near masked scores head chan mean_masked level_masked)
open Cert.Kernel6Ideal.Attn (score mixed level first_mask second_mask first_lane logit_lanes select_one select_zero mixed_apply level_apply)

/-- The shapes: a block of `L` places by `N` columns, its tile of queries, its window of keys, the bias tables and one of them. -/
abbrev Blk (L N : ℕ) : Shape := ⟨4, ![1, 1, L, N]⟩
abbrev Tile : Shape := ⟨4, ![1, 1, 128, 128]⟩
abbrev Win : Shape := ⟨4, ![1, 1, 256, 128]⟩
abbrev Tabs : Shape := ⟨3, ![3, 128, 256]⟩
abbrev Tab : Shape := ⟨3, ![1, 128, 256]⟩

section

variable {F : FTy → Type} [FloatOps F] {L N : ℕ}

/-- What a trip stores into the two results' blocks, from what it loads: what a block of the attention at dilation 1 does. -/
def stored4 (q : Vec F Tile .bf16) (k v : Vec F Win .bf16) (b : Vec F Tab .f32) : Vec F Tile .f32 :=
  k0_pay15 k0_pay1 (k0_pay2 q) (k0_pay3 k) (k0_pay4 v) (k0_pay5 b) (k0_pay6 k0_pay1) (k0_pay9 k0_pay1 q k b)
def stored5 (q : Vec F Tile .bf16) (k : Vec F Win .bf16) (b : Vec F Tab .f32) : Vec F Tile .f32 :=
  k0_pay16 k0_pay1 (k0_pay2 q) (k0_pay3 k) (k0_pay5 b) (k0_pay6 k0_pay1) (k0_pay8 k0_pay1 q k b) (k0_pay9 k0_pay1 q k b)

/-- The offsets of trip `k` of loop `r`: its queries start at `128 k`, its window of keys at `128 k - 64` kept within the stride, and its
    tile of the bias is the first, the middle or the last. -/
def off1 (r k : ℕ) : Fin 4 → ℕ := ![0, 0, 128 * k, 128 * r]
def off2 (L r k : ℕ) : Fin 4 → ℕ := ![0, 0, min (L - 256) (128 * k - 64), 128 * r]
def off3 (L k : ℕ) : Fin 3 → ℕ := ![if k = 0 then 0 else if k = L / 128 - 1 then 2 else 1, 0, 0]

section

variable (x0 x1 x2 : Vec F (Blk L N) .bf16) (x3 : Vec F Tabs .f32) (o1 o2 : Fin 4 → ℕ) (o3 : Fin 3 → ℕ)
  (h1 : ∀ a, o1 a + Tile.size a ≤ (Blk L N).size a) (h2 : ∀ a, o2 a + Win.size a ≤ (Blk L N).size a) (h3 : ∀ a, o3 a + Tab.size a ≤ Tabs.size a)

/-- The pieces a trip with given offsets stores. -/
def piece4 : View.Piece (Elt F) (Blk L N) .f32 :=
  ⟨Rect.unit (s := Blk L N) o1 Tile.size h1,
    stored4 (View.ld x0 (Rect.unit (s := Blk L N) o1 Tile.size h1)) (View.ld x1 (Rect.unit (s := Blk L N) o2 Win.size h2))
      (View.ld x2 (Rect.unit (s := Blk L N) o2 Win.size h2)) (View.ld x3 (Rect.unit (s := Tabs) o3 Tab.size h3))⟩
def piece5 : View.Piece (Elt F) (Blk L N) .f32 :=
  ⟨Rect.unit (s := Blk L N) o1 Tile.size h1,
    stored5 (View.ld x0 (Rect.unit (s := Blk L N) o1 Tile.size h1)) (View.ld x1 (Rect.unit (s := Blk L N) o2 Win.size h2))
      (View.ld x3 (Rect.unit (s := Tabs) o3 Tab.size h3))⟩

end

/-- A piece is that of trip `k` of loop `r`. -/
def Is4 (x0 x1 x2 : Vec F (Blk L N) .bf16) (x3 : Vec F Tabs .f32) (p : View.Piece (Elt F) (Blk L N) .f32) : Prop :=
  ∃ (r k : ℕ) (_ : 128 * r + 128 ≤ N) (_ : 128 * k + 128 ≤ L) (h1 : ∀ a, off1 r k a + Tile.size a ≤ (Blk L N).size a)
    (h2 : ∀ a, off2 L r k a + Win.size a ≤ (Blk L N).size a) (h3 : ∀ a, off3 L k a + Tab.size a ≤ Tabs.size a),
    p = piece4 x0 x1 x2 x3 (off1 r k) (off2 L r k) (off3 L k) h1 h2 h3
def Is5 (x0 x1 : Vec F (Blk L N) .bf16) (x3 : Vec F Tabs .f32) (p : View.Piece (Elt F) (Blk L N) .f32) : Prop :=
  ∃ (r k : ℕ) (_ : 128 * r + 128 ≤ N) (_ : 128 * k + 128 ≤ L) (h1 : ∀ a, off1 r k a + Tile.size a ≤ (Blk L N).size a)
    (h2 : ∀ a, off2 L r k a + Win.size a ≤ (Blk L N).size a) (h3 : ∀ a, off3 L k a + Tab.size a ≤ Tabs.size a),
    p = piece5 x0 x1 x3 (off1 r k) (off2 L r k) (off3 L k) h1 h2 h3

/-- All pieces of the two lists are pieces of trips. -/
def Trips (x0 x1 x2 : Vec F (Blk L N) .bf16) (x3 : Vec F Tabs .f32)
    (ps : List (View.Piece (Elt F) (Blk L N) .f32) × List (View.Piece (Elt F) (Blk L N) .f32)) : Prop :=
  (∀ p ∈ ps.1, Is4 x0 x1 x2 x3 p) ∧ ∀ p ∈ ps.2, Is5 x0 x1 x3 p

variable {x0 x1 x2 : Vec F (Blk L N) .bf16} {x3 : Vec F Tabs .f32}

/-- The two pieces of a trip, where its offsets are those of trip `k` of loop `r`. -/
theorem trip (r k : ℕ) (hr : 128 * r + 128 ≤ N) (hk : 128 * k + 128 ≤ L) (o1 o2 : Fin 4 → ℕ) (o3 : Fin 3 → ℕ)
    (h1 : ∀ a, o1 a + Tile.size a ≤ (Blk L N).size a) (h2 : ∀ a, o2 a + Win.size a ≤ (Blk L N).size a) (h3 : ∀ a, o3 a + Tab.size a ≤ Tabs.size a)
    (e : o1 = off1 r k ∧ o2 = off2 L r k ∧ o3 = off3 L k) :
    Trips x0 x1 x2 x3 ([piece4 x0 x1 x2 x3 o1 o2 o3 h1 h2 h3], [piece5 x0 x1 x3 o1 o2 o3 h1 h2 h3]) := by
  obtain ⟨rfl, rfl, rfl⟩ := e
  exact ⟨fun p hp => ⟨r, k, hr, hk, h1, h2, h3, List.mem_singleton.1 hp⟩, fun p hp => ⟨r, k, hr, hk, h1, h2, h3, List.mem_singleton.1 hp⟩⟩

/-- Two such pairs of lists, one put in front of the other. -/
theorem Trips.append {ps qs : List (View.Piece (Elt F) (Blk L N) .f32) × List (View.Piece (Elt F) (Blk L N) .f32)}
    (hp : Trips x0 x1 x2 x3 ps) (hq : Trips x0 x1 x2 x3 qs) : Trips x0 x1 x2 x3 (ps.1 ++ qs.1, ps.2 ++ qs.2) :=
  ⟨fun p h => (List.mem_append.1 h).elim (hp.1 p) (hq.1 p), fun p h => (List.mem_append.1 h).elim (hp.2 p) (hq.2 p)⟩

/-- Where the steps of a counted loop put their pieces in front, the pieces of the first `n` steps are pieces of trips if each step's are. -/
theorem Trips.steps {M : ℕ} (pb : ℕ → List (View.Piece (Elt F) (Blk L N) .f32) × List (View.Piece (Elt F) (Blk L N) .f32))
    (step : Fin M → List (View.Piece (Elt F) (Blk L N) .f32) × List (View.Piece (Elt F) (Blk L N) .f32))
    (h0 : pb 0 = ([], [])) (hs : ∀ k : Fin M, pb (k.val + 1) = ((step k).1 ++ (pb k.val).1, (step k).2 ++ (pb k.val).2))
    (hP : ∀ k, Trips x0 x1 x2 x3 (step k)) (n : ℕ) (hn : n ≤ M) : Trips x0 x1 x2 x3 (pb n) := by
  induction n with
  | zero => rw [h0]; exact ⟨fun p hp => absurd hp List.not_mem_nil, fun p hp => absurd hp List.not_mem_nil⟩
  | succ n ih =>
    rw [hs ⟨n, hn⟩]
    exact (hP _).append (ih (Nat.le_of_succ_le hn))

end

variable {L N : ℕ}

/-- The place in the results' block of row `a` and lane `l` that trip `k` of loop `r` stores. -/
abbrev row (k : ℕ) (hk : 128 * k + 128 ≤ L) (a : Fin 128) : Fin L := ⟨128 * k + a.val, by omega⟩
abbrev col (r : ℕ) (hr : 128 * r + 128 ≤ N) (l : Fin 128) : Fin N := ⟨128 * r + l.val, by omega⟩

/-- The start of trip `k`'s window. -/
abbrev start (L k : ℕ) : ℕ := min (L - 256) (128 * k - 64)

/-- Column `128 r + l` is lane `l` of the row's position `r`. -/
theorem head_col {N : ℕ} (p : Fin 6) (r : ℕ) (hr : 128 * r + 128 ≤ N) (l : Fin 128) :
    head p (col r hr l) = ⟨p.val * 2 + l.val / 64, by omega⟩ :=
  Fin.ext (by show p.val * 2 + (128 * r + l.val) % 128 / 64 = p.val * 2 + l.val / 64; omega)
theorem chan_col {N : ℕ} (r : ℕ) (hr : 128 * r + 128 ≤ N) (l : Fin 128) : chan (col r hr l) = ⟨l.val % 64, by omega⟩ :=
  Fin.ext (by show (128 * r + l.val) % 128 % 64 = l.val % 64; omega)

/-- What trip `k` of loop `r` loads: its queries, its window of the keys or of the values, its tile of the bias. -/
def queries {L N : ℕ} (x0 : Vec Ideal (Blk L N) .bf16) (r k : ℕ) (hr : 128 * r + 128 ≤ N) (hk : 128 * k + 128 ≤ L) : Vec Ideal Tile .bf16 := fun x =>
  x0 (ix4 0 0 (row k hk (x 2)) (col r hr (x 3)))
/-- Key `j` of trip `k`'s window, as a place. -/
def key {L : ℕ} (k : ℕ) (hL : 256 ≤ L) (j : Fin 256) : Fin L := ⟨start L k + j.val, by have := j.isLt; show min (L - 256) (128 * k - 64) + j.val < L; omega⟩

def window {L N : ℕ} (x1 : Vec Ideal (Blk L N) .bf16) (r k : ℕ) (hr : 128 * r + 128 ≤ N) (hL : 256 ≤ L) : Vec Ideal Win .bf16 := fun x =>
  x1 (ix4 0 0 (key k hL (x 2)) (col r hr (x 3)))
def tile (x3 : Vec Ideal Tabs .f32) (k L : ℕ) : Vec Ideal Tab .f32 := fun x => x3 (ix3 (if k = 0 then 0 else if k = L / 128 - 1 then 2 else 1) (x 1) (x 2))

variable (x0 x1 x2 : Vec Ideal (Blk L N) .bf16) (x3 : Vec Ideal Tabs .f32) (r k : ℕ) (hr : 128 * r + 128 ≤ N) (hk : 128 * k + 128 ≤ L)
  (hL : 256 ≤ L) (hL' : L % 128 = 0)

section

variable (h1 : ∀ a, off1 r k a + Tile.size a ≤ (Blk L N).size a)
    (h2 : ∀ a, off2 L r k a + Win.size a ≤ (Blk L N).size a) (h3 : ∀ a, off3 L k a + Tab.size a ≤ Tabs.size a)

theorem queries_eq : View.ld x0 (Rect.unit (s := Blk L N) (off1 r k) Tile.size h1) = queries x0 r k hr hk := by
  funext x
  obtain ⟨p, q, a, l, rfl⟩ : ∃ (p q : Fin 1) (a l : Fin 128), x = ix4 p q a l := ⟨x 0, x 1, x 2, x 3, eq_ix4 x⟩
  obtain rfl := Fin.fin_one_eq_zero p
  obtain rfl := Fin.fin_one_eq_zero q
  refine congrArg x0 (funext fun d => Fin.ext ?_)
  match d with
  | ⟨0, _⟩ => rfl
  | ⟨1, _⟩ => rfl
  | ⟨2, _⟩ => show 128 * k + 1 * a.val = 128 * k + a.val; omega
  | ⟨3, _⟩ => show 128 * r + 1 * l.val = 128 * r + l.val; omega

theorem window_eq : View.ld x1 (Rect.unit (s := Blk L N) (off2 L r k) Win.size h2) = window x1 r k hr hL := by
  funext x
  obtain ⟨p, q, a, l, rfl⟩ : ∃ (p q : Fin 1) (a : Fin 256) (l : Fin 128), x = ix4 p q a l := ⟨x 0, x 1, x 2, x 3, eq_ix4 x⟩
  obtain rfl := Fin.fin_one_eq_zero p
  obtain rfl := Fin.fin_one_eq_zero q
  refine congrArg x1 (funext fun d => Fin.ext ?_)
  match d with
  | ⟨0, _⟩ => rfl
  | ⟨1, _⟩ => rfl
  | ⟨2, _⟩ => show min (L - 256) (128 * k - 64) + 1 * a.val = min (L - 256) (128 * k - 64) + a.val; omega
  | ⟨3, _⟩ => show 128 * r + 1 * l.val = 128 * r + l.val; omega

theorem tile_eq : View.ld x3 (Rect.unit (s := Tabs) (off3 L k) Tab.size h3) = tile x3 k L := by
  funext x
  obtain ⟨p, a, j, rfl⟩ : ∃ (p : Fin 1) (a : Fin 128) (j : Fin 256), x = ix3 p a j := ⟨x 0, x 1, x 2, eq_ix3 x⟩
  obtain rfl := Fin.fin_one_eq_zero p
  refine congrArg x3 (funext fun d => Fin.ext ?_)
  match d with
  | ⟨0, _⟩ =>
    show (if k = 0 then 0 else if k = L / 128 - 1 then 2 else 1) + 1 * 0 = (if k = 0 then (0 : Fin 3) else if k = L / 128 - 1 then 2 else 1).val
    split_ifs <;> rfl
  | ⟨1, _⟩ => show 0 + 1 * a.val = a.val; omega
  | ⟨2, _⟩ => show 0 + 1 * j.val = j.val; omega

/-- Where a trip's piece lies in the results' block. -/
theorem piece_emb (a l : Fin 128) :
    (Rect.unit (s := Blk L N) (off1 r k) Tile.size h1).emb (ix4 0 0 a l) = ix4 0 0 (row k hk a) (col r hr l) := by
  funext d
  apply Fin.ext
  match d with
  | ⟨0, _⟩ => rfl
  | ⟨1, _⟩ => rfl
  | ⟨2, _⟩ => show 128 * k + 1 * a.val = 128 * k + a.val; omega
  | ⟨3, _⟩ => show 128 * r + 1 * l.val = 128 * r + l.val; omega

end

variable (b : Fin 8) (p : Fin 6) (pos : Fin N → Fin L → Fin 8192) (hpos : ∀ n n' : Fin N, n.val / 128 = n'.val / 128 → pos n = pos n')
  (A B C : Heads.Idx → ℝ)
  (h0 : ∀ s n, (x0 (ix4 0 0 s n) : EReal) = ((A (ix4 b (pos n s) (head p n) (chan n)) * (1 / 8) : ℝ) : EReal))
  (h1 : ∀ s n, (x1 (ix4 0 0 s n) : EReal) = ((B (ix4 b (pos n s) (head p n) (chan n)) : ℝ) : EReal))
  (h2 : ∀ s n, (x2 (ix4 0 0 s n) : EReal) = ((C (ix4 b (pos n s) (head p n) (chan n)) : ℝ) : EReal))
  (h3 : ∀ (u : Fin 3) (a : Fin 128) (j : Fin 256),
    (x3 (ix3 u a j) : EReal) = if j.val ≤ a.val + 64 + 64 * u.val ∧ a.val + 64 * u.val ≤ j.val + 64 then (0 : EReal) else ⊥)

include hpos in
theorem pos_col (l l' : Fin 128) : pos (col r hr l) = pos (col r hr l') :=
  hpos _ _ (by show (128 * r + l.val) / 128 = (128 * r + l'.val) / 128; omega)

include hk hL hL' h3 in
/-- The bias trip `k` loads is zero exactly at the places near the query's. -/
theorem bias_near (a : Fin 128) (j : Fin 256) :
    (tile x3 k L (ix3 0 a j) : EReal) = if near (row k hk a) (key k hL j) then (0 : EReal) else ⊥ := by
  refine (h3 _ a j).trans (if_congr ?_ rfl rfl)
  show _ ↔ min (L - 256) (128 * k - 64) + j.val ≤ 128 * k + a.val + 64 ∧ 128 * k + a.val ≤ min (L - 256) (128 * k - 64) + j.val + 64
  split_ifs with h h'
  · simp only [Fin.val_zero]; omega
  · rw [show (2 : Fin 3).val = 2 from rfl]; omega
  · rw [show (1 : Fin 3).val = 1 from rfl]; omega

include hL hL' hpos h0 h1 h3 in
/-- The scores trip `k` computes for one head of the pair. -/
theorem score_head (o : Fin 128) (d : ℕ) (hd : d < 2) (mask : IVec Cert.Kernel6Ideal.S1x128 1)
    (hm : ∀ l : Fin 128, mask (ix2 0 l) = BitVec.ofBool (decide (l.val / 64 = d))) (a : Fin 128) (j : Fin 256) :
    score mask (queries x0 r k hr hk) (window x1 r k hr hL) (tile x3 k L) a j
      = scores A B b ⟨p.val * 2 + d, by omega⟩ (pos (col r hr o)) (row k hk a) (key k hL j) := by
  have hq (l : Fin 128) : (queries x0 r k hr hk (ix4 0 0 a l) : EReal)
      = ((A (ix4 b (pos (col r hr o) (row k hk a)) ⟨p.val * 2 + l.val / 64, by omega⟩ ⟨l.val % 64, by omega⟩) * (1 / 8) : ℝ) : EReal) := by
    refine (h0 (row k hk a) (col r hr l)).trans ?_
    rw [head_col, chan_col, pos_col r hr pos hpos l o]
  have hw (l : Fin 128) : (window x1 r k hr hL (ix4 0 0 j l) : EReal)
      = ((B (ix4 b (pos (col r hr o) (key k hL j)) ⟨p.val * 2 + l.val / 64, by omega⟩ ⟨l.val % 64, by omega⟩) : ℝ) : EReal) := by
    refine (h1 (key k hL j) (col r hr l)).trans ?_
    rw [head_col, chan_col, pos_col r hr pos hpos l o]
  refine (congrArg₂ (fun u v : EReal => u + v) (logit_lanes A B b p d hd _ _ mask hm _ _ hq hw) (bias_near x3 k hk hL hL' h3 a j)).trans ?_
  unfold scores masked
  split_ifs with h
  · exact add_zero _
  · exact EReal.add_bot _

include hL in
theorem start_le : start L k + 256 ≤ L := by
  show min (L - 256) (128 * k - 64) + 256 ≤ L; omega

theorem start_low (a : Fin 128) : start L k ≤ (row k hk a).val - 64 := by
  show min (L - 256) (128 * k - 64) ≤ 128 * k + a.val - 64; omega

include hL in
theorem start_high (a : Fin 128) : (row k hk a).val + 64 < start L k + 256 ∨ start L k + 256 = L := by
  show 128 * k + a.val + 64 < min (L - 256) (128 * k - 64) + 256 ∨ min (L - 256) (128 * k - 64) + 256 = L
  omega

include hL hL' hpos h0 h1 h2 h3 in
/-- One head's mean, from the window. -/
theorem mixed_head (d : ℕ) (hd : d < 2) (mask : IVec Cert.Kernel6Ideal.S1x128 1)
    (hm : ∀ l : Fin 128, mask (ix2 0 l) = BitVec.ofBool (decide (l.val / 64 = d))) (a l : Fin 128) (hl : l.val / 64 = d) :
    mixed mask (queries x0 r k hr hk) (window x1 r k hr hL) (window x2 r k hr hL) (tile x3 k L) a l
      = Cert.DilReal.mixed A B C b ⟨p.val * 2 + d, by omega⟩ (pos (col r hr l)) (row k hk a) ⟨l.val % 64, by omega⟩ := by
  subst hl
  have hv (j : Fin 256) : (window x2 r k hr hL (ix4 0 0 j l) : EReal)
      = ((C (ix4 b (pos (col r hr l) (key k hL j)) ⟨p.val * 2 + l.val / 64, by omega⟩ ⟨l.val % 64, by omega⟩) : ℝ) : EReal) := by
    refine (h2 (key k hL j) (col r hr l)).trans ?_
    rw [head_col, chan_col]
  unfold mixed
  simp only [score_head x0 x1 x3 r k hr hk hL hL' b p pos hpos A B h0 h1 h3 l _ hd mask hm a, hv]
  exact mean_masked _ (row k hk a) (start L k) (start_le k hL) (start_low k hk a) (start_high k hk hL a)
    fun j => C (ix4 b (pos (col r hr l) j) ⟨p.val * 2 + l.val / 64, by omega⟩ ⟨l.val % 64, by omega⟩)

include hL hL' hpos h0 h1 h3 in
/-- One head's level, from the window. -/
theorem level_head (d : ℕ) (hd : d < 2) (mask : IVec Cert.Kernel6Ideal.S1x128 1)
    (hm : ∀ l : Fin 128, mask (ix2 0 l) = BitVec.ofBool (decide (l.val / 64 = d))) (a l : Fin 128) :
    level mask (queries x0 r k hr hk) (window x1 r k hr hL) (tile x3 k L) a
      = Cert.AttnReal.level (scores A B b ⟨p.val * 2 + d, by omega⟩ (pos (col r hr l)) (row k hk a)) := by
  unfold level
  simp only [score_head x0 x1 x3 r k hr hk hL hL' b p pos hpos A B h0 h1 h3 l _ hd mask hm a]
  exact level_masked _ (row k hk a) (start L k) (start_le k hL) (start_low k hk a) (start_high k hk hL a)

include hL' hpos h0 h1 h2 h3 in
/-- What trip `k` of loop `r` stores of the first result. -/
theorem stored4_real (a l : Fin 128) :
    (stored4 (queries x0 r k hr hk) (window x1 r k hr hL) (window x2 r k hr hL) (tile x3 k L) (ix4 0 0 a l) : EReal)
      = Cert.DilReal.mixed A B C b (head p (col r hr l)) (pos (col r hr l)) (row k hk a) (chan (col r hr l)) := by
  refine (mixed_apply _ _ _ _ a l).trans ?_
  rw [first_lane, head_col, chan_col]
  by_cases h : l.val < 64
  · rw [decide_eq_true h, select_one]
    refine (mixed_head x0 x1 x2 x3 r k hr hk hL hL' b p pos hpos A B C h0 h1 h2 h3 0 (by norm_num) _ first_mask a l (by omega)).trans ?_
    exact congrArg (fun h => Cert.DilReal.mixed A B C b h (pos (col r hr l)) (row k hk a) ⟨l.val % 64, by omega⟩)
      (Fin.ext (show p.val * 2 + 0 = p.val * 2 + l.val / 64 by omega))
  · rw [decide_eq_false h, select_zero]
    refine (mixed_head x0 x1 x2 x3 r k hr hk hL hL' b p pos hpos A B C h0 h1 h2 h3 1 (by norm_num) _ second_mask a l (by omega)).trans ?_
    exact congrArg (fun h => Cert.DilReal.mixed A B C b h (pos (col r hr l)) (row k hk a) ⟨l.val % 64, by omega⟩)
      (Fin.ext (show p.val * 2 + 1 = p.val * 2 + l.val / 64 by omega))

include hL' hpos h0 h1 h3 in
/-- What trip `k` of loop `r` stores of the second result. -/
theorem stored5_real (a l : Fin 128) :
    (stored5 (queries x0 r k hr hk) (window x1 r k hr hL) (tile x3 k L) (ix4 0 0 a l) : EReal)
      = Cert.AttnReal.level (scores A B b (head p (col r hr l)) (pos (col r hr l)) (row k hk a)) := by
  refine (level_apply _ _ _ a l).trans ?_
  rw [first_lane, head_col]
  by_cases h : l.val < 64
  · rw [decide_eq_true h, select_one]
    refine (level_head x0 x1 x3 r k hr hk hL hL' b p pos hpos A B h0 h1 h3 0 (by norm_num) _ first_mask a l).trans ?_
    exact congrArg (fun h => Cert.AttnReal.level (scores A B b h (pos (col r hr l)) (row k hk a)))
      (Fin.ext (show p.val * 2 + 0 = p.val * 2 + l.val / 64 by omega))
  · rw [decide_eq_false h, select_zero]
    refine (level_head x0 x1 x3 r k hr hk hL hL' b p pos hpos A B h0 h1 h3 1 (by norm_num) _ second_mask a l).trans ?_
    exact congrArg (fun h => Cert.AttnReal.level (scores A B b h (pos (col r hr l)) (row k hk a)))
      (Fin.ext (show p.val * 2 + 1 = p.val * 2 + l.val / 64 by omega))

include hL hL' hpos h0 h1 h2 h3 in
/-- Pieces of trips that cover an index hold there the mean of the index's head, stride and place. -/
theorem canon4 (ps : List (View.Piece (Elt Ideal) (Blk L N) .f32)) (hp : ∀ q ∈ ps, Is4 x0 x1 x2 x3 q) (G : (Blk L N).Idx → EReal)
    (hG : ∀ (s : Fin L) (n : Fin N), G (ix4 0 0 s n) = Cert.DilReal.mixed A B C b (head p n) (pos n) s (chan n)) (y : (Blk L N).Idx)
    (hy : ∃ q ∈ ps, y ∈ q.1.set) : (View.canon ps y : EReal) = G y := by
  refine View.canon_apply_of_pieces (Val := Elt Ideal) (e := .f32) G _ (fun q hq => ?_) y hy
  obtain ⟨r, k, hr, hk, i1, i2, i3, rfl⟩ := hp q hq
  unfold piece4
  rw [queries_eq x0 r k hr hk i1, window_eq x1 r k hr hL i2, window_eq x2 r k hr hL i2, tile_eq x3 k i3]
  intro x
  obtain ⟨u, v, a, l, rfl⟩ : ∃ (u v : Fin 1) (a l : Fin 128), x = ix4 u v a l := ⟨x 0, x 1, x 2, x 3, eq_ix4 x⟩
  obtain rfl := Fin.fin_one_eq_zero u
  obtain rfl := Fin.fin_one_eq_zero v
  exact (stored4_real x0 x1 x2 x3 r k hr hk hL hL' b p pos hpos A B C h0 h1 h2 h3 a l).trans
    ((hG _ _).symm.trans (congrArg G (piece_emb r k hr hk i1 a l).symm))

include hL hL' hpos h0 h1 h3 in
/-- The second result's pieces likewise hold the level. -/
theorem canon5 (ps : List (View.Piece (Elt Ideal) (Blk L N) .f32)) (hp : ∀ q ∈ ps, Is5 x0 x1 x3 q) (G : (Blk L N).Idx → EReal)
    (hG : ∀ (s : Fin L) (n : Fin N), G (ix4 0 0 s n) = Cert.AttnReal.level (scores A B b (head p n) (pos n) s)) (y : (Blk L N).Idx)
    (hy : ∃ q ∈ ps, y ∈ q.1.set) : (View.canon ps y : EReal) = G y := by
  refine View.canon_apply_of_pieces (Val := Elt Ideal) (e := .f32) G _ (fun q hq => ?_) y hy
  obtain ⟨r, k, hr, hk, i1, i2, i3, rfl⟩ := hp q hq
  unfold piece5
  rw [queries_eq x0 r k hr hk i1, window_eq x1 r k hr hL i2, tile_eq x3 k i3]
  intro x
  obtain ⟨u, v, a, l, rfl⟩ : ∃ (u v : Fin 1) (a l : Fin 128), x = ix4 u v a l := ⟨x 0, x 1, x 2, x 3, eq_ix4 x⟩
  obtain rfl := Fin.fin_one_eq_zero u
  obtain rfl := Fin.fin_one_eq_zero v
  exact (stored5_real x0 x1 x3 r k hr hk hL hL' b p pos hpos A B h0 h1 h3 a l).trans
    ((hG _ _).symm.trans (congrArg G (piece_emb r k hr hk i1 a l).symm))

end Cert.Strip

end
-- ==== Proof.DilRun.lean ====
/-
  The pieces the window attention at dilation 4 stores: four loops over the blocks of queries, one for each position of a stride.
-/
module

public import proofs.«01_k».proof.Proof.Strip
public import proofs.«01_k».proof.Proof.Gen.Kernel8Ideal.Value

@[expose] public section

set_option maxRecDepth 16384

noncomputable section

open Idealize.ShloMosaic Idealize.ShloMosaic.TcCoe Idealize.SL.Sem

namespace Cert.Kernel8Ideal.Dil

open Cert.Kernel8Ideal Cert.Kernel8Ideal.Gen
open Cert.Strip (Trips trip off1 off2 off3)

/-- The printed offsets of the four loops. -/
theorem offsets1 (k : Fin k0_t1_loop.trips) : k0_off1 k = off1 0 k.val ∧ k0_off2 k = off2 2048 0 k.val ∧ k0_off3 k = off3 2048 k.val := by
  revert k; decide +kernel
theorem offsets2 (k : Fin k0_t2_loop.trips) : k0_off4 k = off1 1 k.val ∧ k0_off5 k = off2 2048 1 k.val ∧ k0_off6 k = off3 2048 k.val := by
  revert k; decide +kernel
theorem offsets3 (k : Fin k0_t3_loop.trips) : k0_off7 k = off1 2 k.val ∧ k0_off8 k = off2 2048 2 k.val ∧ k0_off9 k = off3 2048 k.val := by
  revert k; decide +kernel
theorem offsets4 (k : Fin k0_t4_loop.trips) : k0_off10 k = off1 3 k.val ∧ k0_off11 k = off2 2048 3 k.val ∧ k0_off12 k = off3 2048 k.val := by
  revert k; decide +kernel

variable {F : FTy → Type} [FloatOps F] (c : Dev nD) (i : grid0.Coords)
  (arg2 : Memref sig .tc .vmem S1x1x2048x512 .bf16) (harg2 : arg2.IsWhole) (arg3 : Memref sig .tc .vmem S1x1x2048x512 .bf16) (harg3 : arg3.IsWhole)
  (arg4 : Memref sig .tc .vmem S1x1x2048x512 .bf16) (harg4 : arg4.IsWhole) (arg5 : Memref sig .tc .vmem S3x128x256 .f32) (harg5 : arg5.IsWhole)
  (arg6 : Memref sig .tc .vmem S1x1x2048x512 .f32) (harg6 : arg6.IsWhole) (arg7 : Memref sig .tc .vmem S1x1x2048x512 .f32) (harg7 : arg7.IsWhole)
  (x0 x1 x2 : Vec F S1x1x2048x512 .bf16) (x3 : Vec F S3x128x256 .f32)

section

variable (X2 : BufTy.Contents (Elt F) arg2.view.ty) (X3 : BufTy.Contents (Elt F) arg3.view.ty) (X4 : BufTy.Contents (Elt F) arg4.view.ty)
    (X5 : BufTy.Contents (Elt F) arg5.view.ty) (h2 : arg2.view.read (Elt F) X2 = x0) (h3 : arg3.view.read (Elt F) X3 = x1)
    (h4 : arg4.view.read (Elt F) X4 = x2) (h5 : arg5.view.read (Elt F) X5 = x3)

include h2 h3 h4 h5

/-- The pieces of each loop's trips. -/
theorem mem1 : Trips x0 x1 x2 x3 (pb_k0_t1 Variants.none c none i arg2 harg2 arg3 harg3 arg4 harg4 arg5 harg5 arg6 harg6 arg7 harg7 X2 X3 X4 X5 k0_t1_loop.trips) := by
  subst h2 h3 h4 h5
  exact Trips.steps _ _ rfl (pb_k0_t1_succ Variants.none c none i arg2 harg2 arg3 harg3 arg4 harg4 arg5 harg5 arg6 harg6 arg7 harg7 X2 X3 X4 X5)
    (fun k => by
      unfold tripL_k0_t1 trip_k0_t1
      exact trip 0 k.val (by norm_num) (by have : k.val < 16 := k.isLt.trans_eq (by decide); omega) _ _ _ (k0_off1_inb k) (k0_off2_inb k) (k0_off3_inb k) (offsets1 k))
    _ le_rfl
theorem mem2 : Trips x0 x1 x2 x3 (pb_k0_t2 Variants.none c none i arg2 harg2 arg3 harg3 arg4 harg4 arg5 harg5 arg6 harg6 arg7 harg7 X2 X3 X4 X5 k0_t2_loop.trips) := by
  subst h2 h3 h4 h5
  exact Trips.steps _ _ rfl (pb_k0_t2_succ Variants.none c none i arg2 harg2 arg3 harg3 arg4 harg4 arg5 harg5 arg6 harg6 arg7 harg7 X2 X3 X4 X5)
    (fun k => by
      unfold tripL_k0_t2 trip_k0_t2
      exact trip 1 k.val (by norm_num) (by have : k.val < 16 := k.isLt.trans_eq (by decide); omega) _ _ _ (k0_off4_inb k) (k0_off5_inb k) (k0_off6_inb k) (offsets2 k))
    _ le_rfl
theorem mem3 : Trips x0 x1 x2 x3 (pb_k0_t3 Variants.none c none i arg2 harg2 arg3 harg3 arg4 harg4 arg5 harg5 arg6 harg6 arg7 harg7 X2 X3 X4 X5 k0_t3_loop.trips) := by
  subst h2 h3 h4 h5
  exact Trips.steps _ _ rfl (pb_k0_t3_succ Variants.none c none i arg2 harg2 arg3 harg3 arg4 harg4 arg5 harg5 arg6 harg6 arg7 harg7 X2 X3 X4 X5)
    (fun k => by
      unfold tripL_k0_t3 trip_k0_t3
      exact trip 2 k.val (by norm_num) (by have : k.val < 16 := k.isLt.trans_eq (by decide); omega) _ _ _ (k0_off7_inb k) (k0_off8_inb k) (k0_off9_inb k) (offsets3 k))
    _ le_rfl
theorem mem4 : Trips x0 x1 x2 x3 (pb_k0_t4 Variants.none c none i arg2 harg2 arg3 harg3 arg4 harg4 arg5 harg5 arg6 harg6 arg7 harg7 X2 X3 X4 X5 k0_t4_loop.trips) := by
  subst h2 h3 h4 h5
  exact Trips.steps _ _ rfl (pb_k0_t4_succ Variants.none c none i arg2 harg2 arg3 harg3 arg4 harg4 arg5 harg5 arg6 harg6 arg7 harg7 X2 X3 X4 X5)
    (fun k => by
      unfold tripL_k0_t4 trip_k0_t4
      exact trip 3 k.val (by norm_num) (by have : k.val < 16 := k.isLt.trans_eq (by decide); omega) _ _ _ (k0_off10_inb k) (k0_off11_inb k) (k0_off12_inb k) (offsets4 k))
    _ le_rfl

end

/-- The pieces of a point are those of the four loops' trips over its windows. -/
theorem run_pieces :
    Trips x0 x1 x2 x3 ((kernelRun0_A c i arg2 harg2 arg3 harg3 arg4 harg4 arg5 harg5 arg6 harg6 arg7 harg7 x0 x1 x2 x3).1, (kernelRun0_A c i arg2 harg2 arg3 harg3 arg4 harg4 arg5 harg5 arg6 harg6 arg7 harg7 x0 x1 x2 x3).2.1) := by
  have h2 := harg2.read_unread x0
  have h3 := harg3.read_unread x1
  have h4 := harg4.read_unread x2
  have h5 := harg5.read_unread x3
  unfold kernelRun0_A
  exact (mem4 c i arg2 harg2 arg3 harg3 arg4 harg4 arg5 harg5 arg6 harg6 arg7 harg7 x0 x1 x2 x3 _ _ _ _ h2 h3 h4 h5).append <|
    (mem3 c i arg2 harg2 arg3 harg3 arg4 harg4 arg5 harg5 arg6 harg6 arg7 harg7 x0 x1 x2 x3 _ _ _ _ h2 h3 h4 h5).append <|
    (mem2 c i arg2 harg2 arg3 harg3 arg4 harg4 arg5 harg5 arg6 harg6 arg7 harg7 x0 x1 x2 x3 _ _ _ _ h2 h3 h4 h5).append <|
    (mem1 c i arg2 harg2 arg3 harg3 arg4 harg4 arg5 harg5 arg6 harg6 arg7 harg7 x0 x1 x2 x3 _ _ _ _ h2 h3 h4 h5)

end Cert.Kernel8Ideal.Dil

end
-- ==== Proof.DilValue.lean ====
/-
  The window attention's two result arrays at dilation 4 after the run, from real queries, keys and values: each head's softmax over the
  positions of the query's stride at most 64 away along it, and its logarithm of the softmax's denominator.
-/
module

public import proofs.«01_k».proof.Proof.DilHost
public import proofs.«01_k».proof.Proof.DilRun
public import Idealize.ShloMosaic.Lib.Pipeline.ValueKit

@[expose] public section

set_option maxRecDepth 16384

noncomputable section

open Idealize.ShloMosaic Idealize.ShloMosaic.TcCoe Idealize.SL.Sem

namespace Cert.Kernel8Ideal.Dil

open Cert.Kernel8Ideal Cert.Kernel8Ideal.Gen
open Cert.AttnReal (Heads)
open Cert.DilReal (scores head chan result4 result5)
open Cert.Strip (canon4 canon5)

variable (m : (ℓ : Loc nD τ sig) → Buf (Elt Ideal) ℓ) (c : Dev nD) (t : Fin cfg0.N)

/-- Grid point `t` is batch element `t / 6` and head pair `t % 6`. -/
theorem idx : ∀ t : Fin grid0.N, win0_0.index t = ![t.val / 6, t.val % 6, 0, 0] ∧ win0_1.index t = ![t.val / 6, t.val % 6, 0, 0]
    ∧ win0_2.index t = ![t.val / 6, t.val % 6, 0, 0] ∧ win0_3.index t = ![0, 0, 0] ∧ win0_4.index t = ![t.val / 6, t.val % 6, 0, 0]
    ∧ win0_5.index t = ![t.val / 6, t.val % 6, 0, 0] := by decide +kernel

theorem point_lt (t : Fin cfg0.N) : t.val < 48 := t.isLt.trans_eq (by decide +kernel)

/-- The batch element and the head pair of a grid point. -/
abbrev bat : Fin 8 := ⟨t.val / 6, by have := point_lt t; omega⟩
abbrev pair : Fin 6 := ⟨t.val % 6, by omega⟩

/-- The blocks the point's windows hold. -/
theorem queries_read (A : Heads.Idx → ℝ) (hA : ∀ i, (m ((c : Thread nD τ).loc main_arg0) i : EReal) = ((A i : ℝ) : EReal)) (s : Fin 2048) (n : Fin 512) :
    (iblk m c 0 t (ix4 0 0 s n) : EReal) = ((A (ix4 (bat t) (pos n s) (head (pair t) n) (chan n)) * (1 / 8) : ℝ) : EReal) := by
  refine Eq.trans ?_ (queries_array m c A hA (bat t) (pair t) s n)
  blk_ext! [iblk, idx t]

theorem keys_read (B : Heads.Idx → ℝ) (hB : ∀ i, (m ((c : Thread nD τ).loc main_arg1) i : EReal) = ((B i : ℝ) : EReal)) (s : Fin 2048) (n : Fin 512) :
    (iblk m c 1 t (ix4 0 0 s n) : EReal) = ((B (ix4 (bat t) (pos n s) (head (pair t) n) (chan n)) : ℝ) : EReal) := by
  refine Eq.trans ?_ (keys_array m c B hB (bat t) (pair t) s n)
  blk_ext! [iblk, idx t]

theorem values_read (C : Heads.Idx → ℝ) (hC : ∀ i, (m ((c : Thread nD τ).loc main_arg2) i : EReal) = ((C i : ℝ) : EReal)) (s : Fin 2048) (n : Fin 512) :
    (iblk m c 2 t (ix4 0 0 s n) : EReal) = ((C (ix4 (bat t) (pos n s) (head (pair t) n) (chan n)) : ℝ) : EReal) := by
  refine Eq.trans ?_ (values_array m c C hC (bat t) (pair t) s n)
  blk_ext! [iblk, idx t]

theorem bias_read (u : Fin 3) (a : Fin 128) (j : Fin 256) :
    (iblk m c 3 t (ix3 u a j) : EReal) = if j.val ≤ a.val + 64 + 64 * u.val ∧ a.val + 64 * u.val ≤ j.val + 64 then (0 : EReal) else ⊥ := by
  refine Eq.trans ?_ (bias_array m c u a j)
  blk_ext! [iblk, idx t]

/-- Columns of one position have one stride. -/
theorem pos_eq (n n' : Fin 512) (h : n.val / 128 = n'.val / 128) : pos n = pos n' := congrArg place (Fin.ext h)

section

variable (i : grid0.Coords) (arg2 : Memref sig .tc .vmem S1x1x2048x512 .bf16) (harg2 : arg2.IsWhole) (arg3 : Memref sig .tc .vmem S1x1x2048x512 .bf16)
  (harg3 : arg3.IsWhole) (arg4 : Memref sig .tc .vmem S1x1x2048x512 .bf16) (harg4 : arg4.IsWhole) (arg5 : Memref sig .tc .vmem S3x128x256 .f32)
  (harg5 : arg5.IsWhole) (arg6 : Memref sig .tc .vmem S1x1x2048x512 .f32) (harg6 : arg6.IsWhole) (arg7 : Memref sig .tc .vmem S1x1x2048x512 .f32)
  (harg7 : arg7.IsWhole) (x0 x1 x2 : Vec Ideal S1x1x2048x512 .bf16) (x3 : Vec Ideal S3x128x256 .f32) (b : Fin 8) (p : Fin 6) (A B C : Heads.Idx → ℝ)
  (h0 : ∀ s n, (x0 (ix4 0 0 s n) : EReal) = ((A (ix4 b (pos n s) (head p n) (chan n)) * (1 / 8) : ℝ) : EReal))
  (h1 : ∀ s n, (x1 (ix4 0 0 s n) : EReal) = ((B (ix4 b (pos n s) (head p n) (chan n)) : ℝ) : EReal))
  (h2 : ∀ s n, (x2 (ix4 0 0 s n) : EReal) = ((C (ix4 b (pos n s) (head p n) (chan n)) : ℝ) : EReal))
  (h3 : ∀ (u : Fin 3) (a : Fin 128) (j : Fin 256),
    (x3 (ix3 u a j) : EReal) = if j.val ≤ a.val + 64 + 64 * u.val ∧ a.val + 64 * u.val ≤ j.val + 64 then (0 : EReal) else ⊥)

include h0 h1 h2 h3 in
/-- The first result's block after a point. -/
theorem out4_real (y : S1x1x2048x512.Idx) : (out0_A_4 c i arg2 harg2 arg3 harg3 arg4 harg4 arg5 harg5 arg6 harg6 arg7 harg7 x0 x1 x2 x3 y : EReal) = Cert.DilReal.mixed A B C b (head p (y 3)) (pos (y 3)) (y 2) (chan (y 3)) := by
  have hc := cover0_A_4 c i arg2 harg2 arg3 harg3 arg4 harg4 arg5 harg5 arg6 harg6 arg7 harg7 x0 x1 x2 x3
  refine (congrFun (View.read_writes_eq_canon VO0_4 _ _ hc) y).trans ?_
  exact canon4 x0 x1 x2 x3 (by norm_num) (by norm_num) b p pos pos_eq A B C h0 h1 h2 h3 _ (run_pieces c i arg2 harg2 arg3 harg3 arg4 harg4 arg5 harg5 arg6 harg6 arg7 harg7 x0 x1 x2 x3).1
    (fun y : S1x1x2048x512.Idx => Cert.DilReal.mixed A B C b (head p (y 3)) (pos (y 3)) (y 2) (chan (y 3))) (fun _ _ => rfl) y (hc y)

include h0 h1 h3 in
/-- The second result's block after a point. -/
theorem out5_real (y : S1x1x2048x512.Idx) : (out0_A_5 c i arg2 harg2 arg3 harg3 arg4 harg4 arg5 harg5 arg6 harg6 arg7 harg7 x0 x1 x2 x3 y : EReal) = Cert.AttnReal.level (scores A B b (head p (y 3)) (pos (y 3)) (y 2)) := by
  have hc := cover0_A_5 c i arg2 harg2 arg3 harg3 arg4 harg4 arg5 harg5 arg6 harg6 arg7 harg7 x0 x1 x2 x3
  refine (congrFun (View.read_writes_eq_canon VO0_5 _ _ hc) y).trans ?_
  exact canon5 x0 x1 x3 (by norm_num) (by norm_num) b p pos pos_eq A B h0 h1 h3 _ (run_pieces c i arg2 harg2 arg3 harg3 arg4 harg4 arg5 harg5 arg6 harg6 arg7 harg7 x0 x1 x2 x3).2
    (fun y : S1x1x2048x512.Idx => Cert.AttnReal.level (scores A B b (head p (y 3)) (pos (y 3)) (y 2))) (fun _ _ => rfl) y (hc y)

end

variable (A B C : Heads.Idx → ℝ) (hA : ∀ i, (m ((c : Thread nD τ).loc main_arg0) i : EReal) = ((A i : ℝ) : EReal))
  (hB : ∀ i, (m ((c : Thread nD τ).loc main_arg1) i : EReal) = ((B i : ℝ) : EReal))
  (hC : ∀ i, (m ((c : Thread nD τ).loc main_arg2) i : EReal) = ((C i : ℝ) : EReal))

include hA hB hC in
/-- What the first result array holds after the run. -/
theorem final4 : (dats m 0 c).arrAt 4 cfg0.N = result4 pos A B C := by
  refine (dats m 0 c).arrAt_eq_of_covers 4 _ (by decide +kernel) fun t hf y => ?_
  refine (congrFun (Value.flushed4_A m c t) y).trans ?_
  obtain ⟨p, q, s, l, rfl⟩ : ∃ (p q : Fin 1) (s : Fin 2048) (l : Fin 512), y = ix4 p q s l := ⟨y 0, y 1, y 2, y 3, eq_ix4 y⟩
  obtain rfl := Fin.fin_one_eq_zero p
  obtain rfl := Fin.fin_one_eq_zero q
  have e : (win0_4.blk t).view.emb (ix4 0 0 s l) = ix4 (bat t) (pair t) s l := by
    have h4 := (idx t).2.2.2.2.1
    funext a
    apply Fin.ext
    match a with
    | ⟨0, _⟩ => show win0_4.index t 0 * 1 + 1 * 0 = t.val / 6; rw [h4]; show t.val / 6 * 1 + 1 * 0 = _; omega
    | ⟨1, _⟩ => show win0_4.index t 1 * 1 + 1 * 0 = t.val % 6; rw [h4]; show t.val % 6 * 1 + 1 * 0 = _; omega
    | ⟨2, _⟩ => show win0_4.index t 2 * 2048 + 1 * s.val = s.val; rw [h4]; show 0 * 2048 + 1 * s.val = s.val; omega
    | ⟨3, _⟩ => show win0_4.index t 3 * 512 + 1 * l.val = l.val; rw [h4]; show 0 * 512 + 1 * l.val = l.val; omega
  refine Eq.trans ?_ (congrArg (result4 pos A B C) e).symm
  exact out4_real c _ _ _ _ _ _ _ _ _ _ _ _ _ _ _ _ _ (bat t) (pair t) A B C (queries_read m c t A hA) (keys_read m c t B hB) (values_read m c t C hC)
    (bias_read m c t) (ix4 0 0 s l)

include hA hB in
/-- What the second result array holds after the run. -/
theorem final5 : (dats m 0 c).arrAt 5 cfg0.N = result5 pos A B := by
  refine (dats m 0 c).arrAt_eq_of_covers 5 _ (by decide +kernel) fun t hf y => ?_
  refine (congrFun (Value.flushed5_A m c t) y).trans ?_
  obtain ⟨p, q, s, l, rfl⟩ : ∃ (p q : Fin 1) (s : Fin 2048) (l : Fin 512), y = ix4 p q s l := ⟨y 0, y 1, y 2, y 3, eq_ix4 y⟩
  obtain rfl := Fin.fin_one_eq_zero p
  obtain rfl := Fin.fin_one_eq_zero q
  have e : (win0_5.blk t).view.emb (ix4 0 0 s l) = ix4 (bat t) (pair t) s l := by
    have h5 := (idx t).2.2.2.2.2
    funext a
    apply Fin.ext
    match a with
    | ⟨0, _⟩ => show win0_5.index t 0 * 1 + 1 * 0 = t.val / 6; rw [h5]; show t.val / 6 * 1 + 1 * 0 = _; omega
    | ⟨1, _⟩ => show win0_5.index t 1 * 1 + 1 * 0 = t.val % 6; rw [h5]; show t.val % 6 * 1 + 1 * 0 = _; omega
    | ⟨2, _⟩ => show win0_5.index t 2 * 2048 + 1 * s.val = s.val; rw [h5]; show 0 * 2048 + 1 * s.val = s.val; omega
    | ⟨3, _⟩ => show win0_5.index t 3 * 512 + 1 * l.val = l.val; rw [h5]; show 0 * 512 + 1 * l.val = l.val; omega
  refine Eq.trans ?_ (congrArg (result5 pos A B) e).symm
  exact out5_real c _ _ _ _ _ _ _ _ _ _ _ _ _ _ _ _ _ (bat t) (pair t) A B (queries_read m c t A hA) (keys_read m c t B hB)
    (bias_read m c t) (ix4 0 0 s l)

end Cert.Kernel8Ideal.Dil

end
-- ==== Proof.Dil.lean ====
/-
  The window attention at dilation 4: at the extended reals, from finite queries, keys and values, the kernel's two arrays are the
  reference's. The kernel takes the softmax of each block of queries of a stride over a window of 256 keys and divides after the products;
  the reference masks all the scores of a stride, and takes the exponentials less the softmax's logarithm.
-/
module

public import proofs.«01_k».proof.Defs
public import proofs.«01_k».proof.Proof.Attn
public import proofs.«01_k».proof.Proof.DilValue
public import proofs.«01_k».proof.Proof.Gen.Kernel8.Frame
public import proofs.«01_k».proof.Proof.Gen.Reference8Ideal.Run
public import proofs.«01_k».proof.Proof.Gen.Reference8Ideal.Read
public import proofs.«01_k».proof.Proof.Gen.Pre_finite_heads

@[expose] public section

set_option maxRecDepth 16384

noncomputable section

open Idealize.ShloMosaic Idealize.ShloMosaic.TcCoe Idealize.SL.Sem

namespace Cert.Reference8Ideal.Dil

open Cert.Reference8Ideal Cert.Reference8Ideal.Gen Cert.Reference8Ideal.Read
open Cert.AttnReal (Heads logit near_word toInt_diff eighth top total level)
open Cert.DilReal (near masked scores head chan result4 result5)
open Cert.Kernel8Ideal.Dil (place stride pos)
open Cert.DftReal (coe_sum)

variable (x0 x1 x2 : FVec Ideal S8x8192x12x64 .f32)

/-- The reference's mask: the places at most 64 apart. -/
theorem mask_apply (i j : Fin 2048) : val_main_v11 (F := Ideal) (ix2 i j) = BitVec.ofBool (decide (near i j)) := by
  pointwise [val_main_v11, val_main_v10, val_main_v9, val_main_v8, val_main_v7, val_main_v6, val_main_v5, val_main_v4, val_main_v3, val_main_c]
  rw [near_word _ ((i.val : ℤ) - j.val) ?_ (by omega) (by omega)]
  · exact congrArg BitVec.ofBool (decide_eq_decide.2 (by omega))
  · refine toInt_diff _ _ _ _ (WordCmp.toInt_ofNat_of_lt (w := 32) (by omega)) (WordCmp.toInt_ofNat_of_lt (w := 32) (by omega)) ?_ ?_ ?_ ?_
    all_goals omega

variable (A B C : Heads.Idx → ℝ) (hA : ∀ i, (x0 i : EReal) = ((A i : ℝ) : EReal)) (hB : ∀ i, (x1 i : EReal) = ((B i : ℝ) : EReal))
  (hC : ∀ i, (x2 i : EReal) = ((C i : ℝ) : EReal))

/-- The arrays by place and stride. -/
theorem strided0 (b : Fin 8) (s : Fin 2048) (r : Fin 4) (h : Fin 12) (e : Fin 64) :
    val_main_v0 (F := Ideal) x0 (ix5 b s r h e) = x0 (ix4 b (place r s) h e) := by pointwise [val_main_v0]
theorem strided1 (b : Fin 8) (s : Fin 2048) (r : Fin 4) (h : Fin 12) (e : Fin 64) :
    val_main_v1 (F := Ideal) x1 (ix5 b s r h e) = x1 (ix4 b (place r s) h e) := by pointwise [val_main_v1]
theorem strided2 (b : Fin 8) (s : Fin 2048) (r : Fin 4) (h : Fin 12) (e : Fin 64) :
    val_main_v2 (F := Ideal) x2 (ix5 b s r h e) = x2 (ix4 b (place r s) h e) := by pointwise [val_main_v2]

include hA hB in
/-- The reference's masked scores. -/
theorem scores_apply (b : Fin 8) (r : Fin 4) (h : Fin 12) (i j : Fin 2048) :
    (val_main_v16 (F := Ideal) x0 x1 (ix5 b r h i j) : EReal) = scores A B b h (place r) i j := by
  have hm := mask_apply i j
  have h0 := strided0 x0 b i r h
  have h1 := strided1 x1 b j r h
  unfold val_main_v16 val_main_call0_v1 val_main_v15 val_main_v14 val_main_v12
  generalize val_main_v11 (F := Ideal) = w at hm
  generalize val_main_v0 (F := Ideal) x0 = y0 at h0
  generalize val_main_v1 (F := Ideal) x1 = y1 at h1
  pointwise [val_main_call0_v2, val_main_call0_v0, val_main_cst_0, val_main_v13, val_main_cst]
  rw [hm, show (id (constant (F := Ideal) S_ .f32 0xFF800000#32) ix0 : EReal) = ⊥ from Cert.Kernel6Ideal.Attn.bottom]
  simp only [h0, h1, hA, hB, eighth, ← EReal.coe_mul, ← coe_sum]
  unfold scores masked
  by_cases hn : near i j
  · rw [if_pos hn, decide_eq_true hn]; rfl
  · rw [if_neg hn, decide_eq_false hn]; rfl

/-- The reference's greatest score of a query, from its masked scores. -/
theorem top_apply (b : Fin 8) (r : Fin 4) (h : Fin 12) (i : Fin 2048) (f : Fin 2048 → EReal)
    (hf : ∀ j, (val_main_v16 (F := Ideal) x0 x1 (ix5 b r h i j) : EReal) = f j) : (val_main_v17 (F := Ideal) x0 x1 (ix4 b r h i) : EReal) = top f := by
  unfold val_main_v17
  generalize val_main_v16 (F := Ideal) x0 x1 = y at hf
  have hr : S8x4x12x2048x2048.Reduces [4] S8x4x12x2048 := by decide
  refine (Host.reduce_eq_fold_single (α := EReal) (FloatOps.maximumf (F := Ideal) (φ := .f32)) y _ reducesTo_S8x4x12x2048x2048_S8x4x12x2048_d4 hr h_S_ (ix4 b r h i)).trans ?_
  have e (j : Fin 2048) : (y (hr.lift (ix4 b r h i) j) : EReal) = f j := by
    rw [← hf]
    exact congrArg y (funext fun a => Fin.ext (by match a with | ⟨0, _⟩ => rfl | ⟨1, _⟩ => rfl | ⟨2, _⟩ => rfl | ⟨3, _⟩ => rfl | ⟨4, _⟩ => rfl))
  exact congrArg₂ (fun (v : EReal) (g : Fin 2048 → EReal) => Finset.univ.fold max v g) Cert.Kernel6Ideal.Attn.bottom (funext e)

/-- The reference's sum of a query's weights, from its masked scores and the greatest. -/
theorem total_apply (b : Fin 8) (r : Fin 4) (h : Fin 12) (i : Fin 2048) :
    (val_main_v22 (F := Ideal) x0 x1 (ix4 b r h i) : EReal)
      = ∑ j, Ideal.exp ((val_main_v16 (F := Ideal) x0 x1 (ix5 b r h i j) : EReal) - val_main_v17 (F := Ideal) x0 x1 (ix4 b r h i)) := by
  unfold val_main_v22 val_main_v21 val_main_v20 val_main_v19 val_main_v18
  generalize val_main_v16 (F := Ideal) x0 x1 = y
  generalize val_main_v17 (F := Ideal) x0 x1 = z
  pointwise [val_main_cst_2]

/-- The reference's level of a query, from its masked scores. -/
theorem level_apply (b : Fin 8) (r : Fin 4) (h : Fin 12) (i : Fin 2048) (f : Fin 2048 → EReal)
    (hf : ∀ j, (val_main_v16 (F := Ideal) x0 x1 (ix5 b r h i j) : EReal) = f j) : (val_main_v24 (F := Ideal) x0 x1 (ix4 b r h i) : EReal) = level f := by
  have ht := top_apply x0 x1 b r h i f hf
  have hs : (val_main_v22 (F := Ideal) x0 x1 (ix4 b r h i) : EReal) = total f := by
    rw [total_apply, ht, total]
    exact Finset.sum_congr rfl fun j _ => by rw [hf]
  rw [val_main_v24_apply, val_main_v23_apply, ht, hs]
  unfold level
  generalize top f = a
  generalize total f = z
  rfl

/-- The reference's means, from its scores and its levels. -/
theorem mean_apply (b : Fin 8) (s : Fin 2048) (r : Fin 4) (h : Fin 12) (e : Fin 64) :
    (val_main_v30 (F := Ideal) x0 x1 x2 (ix5 b s r h e) : EReal) = ∑ j : Fin 2048, x2 (ix4 b (place r j) h e)
      * Ideal.exp ((val_main_v16 (F := Ideal) x0 x1 (ix5 b r h s j) : EReal) - val_main_v24 (F := Ideal) x0 x1 (ix4 b r h s)) := by
  have h2 (j : Fin 2048) := strided2 x2 b j r h e
  unfold val_main_v30 val_main_v29 val_main_v28 val_main_v27 val_main_v26 val_main_v25
  generalize val_main_v16 (F := Ideal) x0 x1 = y
  generalize val_main_v24 (F := Ideal) x0 x1 = z
  generalize val_main_v2 (F := Ideal) x2 = w at h2
  pointwise
  simp only [h2]

/-- The reference's first result at an index, from its means: two heads in 128 lanes, the four positions of a stride in one row. -/
theorem packed_apply (b : Fin 8) (p : Fin 6) (s : Fin 2048) (n : Fin 512) :
    (val_main_v36 (F := Ideal) x0 x1 x2 (ix4 b p s n) : EReal) = val_main_v30 (F := Ideal) x0 x1 x2 (ix5 b s (stride n) (head p n) (chan n)) := by
  unfold val_main_v36 val_main_v35 val_main_v34
  generalize val_main_v30 (F := Ideal) x0 x1 x2 = y
  pointwise

/-- The reference's second result at an index. -/
theorem spread_apply (b : Fin 8) (p : Fin 6) (s : Fin 2048) (n : Fin 512) :
    (val_main_v39 (F := Ideal) x0 x1 (ix4 b p s n) : EReal) = val_main_v24 (F := Ideal) x0 x1 (ix4 b (stride n) (head p n) s) := by
  unfold val_main_v39 val_main_v38 val_main_v37 val_main_v33 val_main_v32 val_main_v31
  generalize val_main_v24 (F := Ideal) x0 x1 = z
  pointwise

include hA hB hC in
/-- The reference's first result, from real arguments. -/
theorem result4_eq : val_main_v36 (F := Ideal) x0 x1 x2 = result4 pos A B C := by
  funext y
  obtain ⟨b, p, s, n, rfl⟩ : ∃ (b : Fin 8) (p : Fin 6) (s : Fin 2048) (n : Fin 512), y = ix4 b p s n := ⟨y 0, y 1, y 2, y 3, eq_ix4 y⟩
  rw [packed_apply, mean_apply, level_apply x0 x1 b _ _ s _ fun j => scores_apply x0 x1 A B hA hB b _ _ s j]
  simp only [scores_apply x0 x1 A B hA hB, hC]
  exact Finset.sum_congr rfl fun j _ => mul_comm _ _

include hA hB in
/-- The reference's second result, from real arguments. -/
theorem result5_eq : val_main_v39 (F := Ideal) x0 x1 = result5 pos A B := by
  funext y
  obtain ⟨b, p, s, n, rfl⟩ : ∃ (b : Fin 8) (p : Fin 6) (s : Fin 2048) (n : Fin 512), y = ix4 b p s n := ⟨y 0, y 1, y 2, y 3, eq_ix4 y⟩
  rw [spread_apply, level_apply x0 x1 b _ _ s _ fun j => scores_apply x0 x1 A B hA hB b _ _ s j]
  rfl

end Cert.Reference8Ideal.Dil

namespace Cert.Proof.Dil

open Cert.Proof.Attn (finite_apply)

/-- Each of the programs runs and ends with its arguments unchanged. -/
theorem frame : Cert.quiescent_Kernel8 := fun m ρ _ => Cert.Kernel8.Gen.frame m ρ

theorem frame_ideal : Cert.quiescent_Kernel8Ideal := fun m ρ _ => Cert.Kernel8Ideal.Gen.frame m ρ

theorem frame_ideal_finite : Cert.quiescent_Kernel8Ideal_pre_finite_heads := fun m ρ _ => Cert.Kernel8Ideal.Gen.frame m ρ

theorem frame_reference : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

theorem frame_reference_finite : Cert.quiescent_Reference8Ideal_pre_finite_heads := fun m ρ _ => frame_reference m ρ trivial

/-- From equal finite arguments the kernel's two arrays and the reference's are equal. -/
theorem algebraic : Cert.algebraic_Kernel8Ideal_Reference8Ideal_pre_finite_heads := by
  intro m ρ m' ρ' hpre hagree
  refine ⟨_, _, Cert.Kernel8Ideal.Value.run_blocks (F := Ideal) m ρ, ?_⟩
  refine (θ_run Cert.Reference8Ideal.defs _ _).mono (fun _ h c => ⟨(h c).1.trans ?_, (h c).2.1.trans ?_, (h c).2.2⟩)
    (Cert.Reference8Ideal.Value.run (F := Ideal) m' ρ')
  · obtain ⟨h0, h1, h2⟩ := hagree c
    have hf := finite_apply _ _ _ (hpre c)
    rw [Cert.Kernel8Ideal.Dil.final4 m c _ _ _ (fun i => Cert.DftReal.exists_coe (hf.1 i)) (fun i => Cert.DftReal.exists_coe (hf.2.1 i))
      (fun i => Cert.DftReal.exists_coe (hf.2.2 i)), Cert.Reference8Ideal.Read.val_main_v36_eq, h0, h1, h2]
    exact Cert.Reference8Ideal.Dil.result4_eq _ _ _ _ _ _ (fun i => Cert.DftReal.exists_coe (hf.1 i)) (fun i => Cert.DftReal.exists_coe (hf.2.1 i))
      (fun i => Cert.DftReal.exists_coe (hf.2.2 i))
  · obtain ⟨h0, h1, h2⟩ := hagree c
    have hf := finite_apply _ _ _ (hpre c)
    rw [Cert.Kernel8Ideal.Dil.final5 m c _ _ (fun i => Cert.DftReal.exists_coe (hf.1 i)) (fun i => Cert.DftReal.exists_coe (hf.2.1 i)), Cert.Reference8Ideal.Read.val_main_v39_eq, h0, h1]
    exact (Cert.Reference8Ideal.Dil.result5_eq _ _ _ _ (fun i => Cert.DftReal.exists_coe (hf.1 i)) (fun i => Cert.DftReal.exists_coe (hf.2.1 i)))

end Cert.Proof.Dil

end
-- ==== Proof.Dil16Host.lean ====
/-
  The arrays the host code of the window attention at dilation 16 prepares: two heads packed into 128 lanes, the sixteen positions of a stride
  in one row, the queries scaled, and the bias tables.
-/
module

public import proofs.«01_k».proof.Proof.AttnHost
public import proofs.«01_k».proof.Proof.DilReal
public import proofs.«01_k».proof.Proof.Gen.Kernel9Ideal.Value

@[expose] public section

set_option maxRecDepth 16384

noncomputable section

open Idealize.ShloMosaic Idealize.ShloMosaic.TcCoe Idealize.SL.Sem

namespace Cert.Kernel9Ideal.Dil

open Cert.AttnReal (Heads eighth)
open Cert.DilReal (head chan)
open Cert.Kernel9Ideal Cert.Kernel9Ideal.Gen
open Cert.Kernel6Ideal.Attn (tile_word)

/-- The positions of stride `r` by their places, and those of a column's stride. -/
abbrev place (r : Fin 16) (i : Fin 512) : Fin 8192 := ⟨i.val * 16 + r.val, by omega⟩
abbrev stride (n : Fin 2048) : Fin 16 := ⟨n.val / 128, by omega⟩
abbrev pos (n : Fin 2048) : Fin 512 → Fin 8192 := place (stride n)

variable (m : (ℓ : Loc nD τ sig) → Buf (Elt Ideal) ℓ) (c : Dev nD)

/-- The queries by head pair and stride, scaled. -/
theorem queries_array (A : Heads.Idx → ℝ) (hA : ∀ i, (m ((c : Thread nD τ).loc main_arg0) i : EReal) = ((A i : ℝ) : EReal))
    (b : Fin 8) (p : Fin 6) (s : Fin 512) (n : Fin 2048) :
    (V m c main_v11 (ix4 b p s n) : EReal) = ((A (ix4 b (pos n s) (head p n) (chan n)) * (1 / 8) : ℝ) : EReal) := by
  rw [EReal.coe_mul, ← hA, ← eighth]
  after_reads_at

/-- The keys by head pair and stride. -/
theorem keys_array (B : Heads.Idx → ℝ) (hB : ∀ i, (m ((c : Thread nD τ).loc main_arg1) i : EReal) = ((B i : ℝ) : EReal))
    (b : Fin 8) (p : Fin 6) (s : Fin 512) (n : Fin 2048) :
    (V m c main_v12 (ix4 b p s n) : EReal) = ((B (ix4 b (pos n s) (head p n) (chan n)) : ℝ) : EReal) := by
  rw [← hB]
  after_reads_at

/-- The values by head pair and stride. -/
theorem values_array (C : Heads.Idx → ℝ) (hC : ∀ i, (m ((c : Thread nD τ).loc main_arg2) i : EReal) = ((C i : ℝ) : EReal))
    (b : Fin 8) (p : Fin 6) (s : Fin 512) (n : Fin 2048) :
    (V m c main_v13 (ix4 b p s n) : EReal) = ((C (ix4 b (pos n s) (head p n) (chan n)) : ℝ) : EReal) := by
  rw [← hC]
  after_reads_at

/-- The bias tables: zero at the keys at most 64 from the query, where tile `t`'s keys start `64 t` before its queries, and minus infinity
    at the others. -/
theorem bias_array (t : Fin 3) (a : Fin 128) (j : Fin 256) :
    (V m c main_v49 (ix3 t a j) : EReal) = if j.val ≤ a.val + 64 + 64 * t.val ∧ a.val + 64 * t.val ≤ j.val + 64 then (0 : EReal) else ⊥ := by
  after_reads_simp
  try simp -implicitDefEqProofs only [StableHlo.TRef.toBuf, StableHlo.TRef.ofBuf, cast_cast, cast_eq]
  clean_types
  rw [id_eq]
  fin_cases t
  · pointwise
    after_reads_at
    exact tile_word a j 0 0#32 rfl (by norm_num)
  · pointwise
    after_reads_at
    exact (tile_word a j 1 4294967232#32 (by decide) (by norm_num)).trans (if_congr (by omega) rfl rfl)
  · pointwise
    after_reads_at
    exact (tile_word a j 2 4294967168#32 (by decide) (by norm_num)).trans (if_congr (by omega) rfl rfl)

end Cert.Kernel9Ideal.Dil

end
-- ==== Proof.Dil16Run.lean ====
/-
  The pieces the window attention at dilation 16 stores: sixteen loops over the blocks of queries, one for each position of a stride.
-/
module

public import proofs.«01_k».proof.Proof.Strip
public import proofs.«01_k».proof.Proof.Gen.Kernel9Ideal.Value

@[expose] public section

set_option maxRecDepth 16384

noncomputable section

open Idealize.ShloMosaic Idealize.ShloMosaic.TcCoe Idealize.SL.Sem

namespace Cert.Kernel9Ideal.Dil

open Cert.Kernel9Ideal Cert.Kernel9Ideal.Gen
open Cert.Strip (Trips trip off1 off2 off3)

/-- The printed offsets of the sixteen loops. -/
theorem offsets1 (k : Fin k0_t1_loop.trips) : k0_off1 k = off1 0 k.val ∧ k0_off2 k = off2 512 0 k.val ∧ k0_off3 k = off3 512 k.val := by
  revert k; decide +kernel
theorem offsets2 (k : Fin k0_t2_loop.trips) : k0_off4 k = off1 1 k.val ∧ k0_off5 k = off2 512 1 k.val ∧ k0_off6 k = off3 512 k.val := by
  revert k; decide +kernel
theorem offsets3 (k : Fin k0_t3_loop.trips) : k0_off7 k = off1 2 k.val ∧ k0_off8 k = off2 512 2 k.val ∧ k0_off9 k = off3 512 k.val := by
  revert k; decide +kernel
theorem offsets4 (k : Fin k0_t4_loop.trips) : k0_off10 k = off1 3 k.val ∧ k0_off11 k = off2 512 3 k.val ∧ k0_off12 k = off3 512 k.val := by
  revert k; decide +kernel
theorem offsets5 (k : Fin k0_t5_loop.trips) : k0_off13 k = off1 4 k.val ∧ k0_off14 k = off2 512 4 k.val ∧ k0_off15 k = off3 512 k.val := by
  revert k; decide +kernel
theorem offsets6 (k : Fin k0_t6_loop.trips) : k0_off16 k = off1 5 k.val ∧ k0_off17 k = off2 512 5 k.val ∧ k0_off18 k = off3 512 k.val := by
  revert k; decide +kernel
theorem offsets7 (k : Fin k0_t7_loop.trips) : k0_off19 k = off1 6 k.val ∧ k0_off20 k = off2 512 6 k.val ∧ k0_off21 k = off3 512 k.val := by
  revert k; decide +kernel
theorem offsets8 (k : Fin k0_t8_loop.trips) : k0_off22 k = off1 7 k.val ∧ k0_off23 k = off2 512 7 k.val ∧ k0_off24 k = off3 512 k.val := by
  revert k; decide +kernel
theorem offsets9 (k : Fin k0_t9_loop.trips) : k0_off25 k = off1 8 k.val ∧ k0_off26 k = off2 512 8 k.val ∧ k0_off27 k = off3 512 k.val := by
  revert k; decide +kernel
theorem offsets10 (k : Fin k0_t10_loop.trips) : k0_off28 k = off1 9 k.val ∧ k0_off29 k = off2 512 9 k.val ∧ k0_off30 k = off3 512 k.val := by
  revert k; decide +kernel
theorem offsets11 (k : Fin k0_t11_loop.trips) : k0_off31 k = off1 10 k.val ∧ k0_off32 k = off2 512 10 k.val ∧ k0_off33 k = off3 512 k.val := by
  revert k; decide +kernel
theorem offsets12 (k : Fin k0_t12_loop.trips) : k0_off34 k = off1 11 k.val ∧ k0_off35 k = off2 512 11 k.val ∧ k0_off36 k = off3 512 k.val := by
  revert k; decide +kernel
theorem offsets13 (k : Fin k0_t13_loop.trips) : k0_off37 k = off1 12 k.val ∧ k0_off38 k = off2 512 12 k.val ∧ k0_off39 k = off3 512 k.val := by
  revert k; decide +kernel
theorem offsets14 (k : Fin k0_t14_loop.trips) : k0_off40 k = off1 13 k.val ∧ k0_off41 k = off2 512 13 k.val ∧ k0_off42 k = off3 512 k.val := by
  revert k; decide +kernel
theorem offsets15 (k : Fin k0_t15_loop.trips) : k0_off43 k = off1 14 k.val ∧ k0_off44 k = off2 512 14 k.val ∧ k0_off45 k = off3 512 k.val := by
  revert k; decide +kernel
theorem offsets16 (k : Fin k0_t16_loop.trips) : k0_off46 k = off1 15 k.val ∧ k0_off47 k = off2 512 15 k.val ∧ k0_off48 k = off3 512 k.val := by
  revert k; decide +kernel

variable {F : FTy → Type} [FloatOps F] (c : Dev nD) (i : grid0.Coords)
  (arg2 : Memref sig .tc .vmem S1x1x512x2048 .bf16) (harg2 : arg2.IsWhole) (arg3 : Memref sig .tc .vmem S1x1x512x2048 .bf16) (harg3 : arg3.IsWhole)
  (arg4 : Memref sig .tc .vmem S1x1x512x2048 .bf16) (harg4 : arg4.IsWhole) (arg5 : Memref sig .tc .vmem S3x128x256 .f32) (harg5 : arg5.IsWhole)
  (arg6 : Memref sig .tc .vmem S1x1x512x2048 .f32) (harg6 : arg6.IsWhole) (arg7 : Memref sig .tc .vmem S1x1x512x2048 .f32) (harg7 : arg7.IsWhole)
  (x0 x1 x2 : Vec F S1x1x512x2048 .bf16) (x3 : Vec F S3x128x256 .f32)

section

variable (X2 : BufTy.Contents (Elt F) arg2.view.ty) (X3 : BufTy.Contents (Elt F) arg3.view.ty) (X4 : BufTy.Contents (Elt F) arg4.view.ty)
    (X5 : BufTy.Contents (Elt F) arg5.view.ty) (h2 : arg2.view.read (Elt F) X2 = x0) (h3 : arg3.view.read (Elt F) X3 = x1)
    (h4 : arg4.view.read (Elt F) X4 = x2) (h5 : arg5.view.read (Elt F) X5 = x3)

include h2 h3 h4 h5

/-- The pieces of each loop's trips. -/
theorem mem1 : Trips x0 x1 x2 x3 (pb_k0_t1 Variants.none c none i arg2 harg2 arg3 harg3 arg4 harg4 arg5 harg5 arg6 harg6 arg7 harg7 X2 X3 X4 X5 k0_t1_loop.trips) := by
  subst h2 h3 h4 h5
  exact Trips.steps _ _ rfl (pb_k0_t1_succ Variants.none c none i arg2 harg2 arg3 harg3 arg4 harg4 arg5 harg5 arg6 harg6 arg7 harg7 X2 X3 X4 X5)
    (fun k => by
      unfold tripL_k0_t1 trip_k0_t1
      exact trip 0 k.val (by norm_num) (by have : k.val < 4 := k.isLt.trans_eq (by decide); omega) _ _ _ (k0_off1_inb k) (k0_off2_inb k) (k0_off3_inb k) (offsets1 k))
    _ le_rfl
theorem mem2 : Trips x0 x1 x2 x3 (pb_k0_t2 Variants.none c none i arg2 harg2 arg3 harg3 arg4 harg4 arg5 harg5 arg6 harg6 arg7 harg7 X2 X3 X4 X5 k0_t2_loop.trips) := by
  subst h2 h3 h4 h5
  exact Trips.steps _ _ rfl (pb_k0_t2_succ Variants.none c none i arg2 harg2 arg3 harg3 arg4 harg4 arg5 harg5 arg6 harg6 arg7 harg7 X2 X3 X4 X5)
    (fun k => by
      unfold tripL_k0_t2 trip_k0_t2
      exact trip 1 k.val (by norm_num) (by have : k.val < 4 := k.isLt.trans_eq (by decide); omega) _ _ _ (k0_off4_inb k) (k0_off5_inb k) (k0_off6_inb k) (offsets2 k))
    _ le_rfl
theorem mem3 : Trips x0 x1 x2 x3 (pb_k0_t3 Variants.none c none i arg2 harg2 arg3 harg3 arg4 harg4 arg5 harg5 arg6 harg6 arg7 harg7 X2 X3 X4 X5 k0_t3_loop.trips) := by
  subst h2 h3 h4 h5
  exact Trips.steps _ _ rfl (pb_k0_t3_succ Variants.none c none i arg2 harg2 arg3 harg3 arg4 harg4 arg5 harg5 arg6 harg6 arg7 harg7 X2 X3 X4 X5)
    (fun k => by
      unfold tripL_k0_t3 trip_k0_t3
      exact trip 2 k.val (by norm_num) (by have : k.val < 4 := k.isLt.trans_eq (by decide); omega) _ _ _ (k0_off7_inb k) (k0_off8_inb k) (k0_off9_inb k) (offsets3 k))
    _ le_rfl
theorem mem4 : Trips x0 x1 x2 x3 (pb_k0_t4 Variants.none c none i arg2 harg2 arg3 harg3 arg4 harg4 arg5 harg5 arg6 harg6 arg7 harg7 X2 X3 X4 X5 k0_t4_loop.trips) := by
  subst h2 h3 h4 h5
  exact Trips.steps _ _ rfl (pb_k0_t4_succ Variants.none c none i arg2 harg2 arg3 harg3 arg4 harg4 arg5 harg5 arg6 harg6 arg7 harg7 X2 X3 X4 X5)
    (fun k => by
      unfold tripL_k0_t4 trip_k0_t4
      exact trip 3 k.val (by norm_num) (by have : k.val < 4 := k.isLt.trans_eq (by decide); omega) _ _ _ (k0_off10_inb k) (k0_off11_inb k) (k0_off12_inb k) (offsets4 k))
    _ le_rfl
theorem mem5 : Trips x0 x1 x2 x3 (pb_k0_t5 Variants.none c none i arg2 harg2 arg3 harg3 arg4 harg4 arg5 harg5 arg6 harg6 arg7 harg7 X2 X3 X4 X5 k0_t5_loop.trips) := by
  subst h2 h3 h4 h5
  exact Trips.steps _ _ rfl (pb_k0_t5_succ Variants.none c none i arg2 harg2 arg3 harg3 arg4 harg4 arg5 harg5 arg6 harg6 arg7 harg7 X2 X3 X4 X5)
    (fun k => by
      unfold tripL_k0_t5 trip_k0_t5
      exact trip 4 k.val (by norm_num) (by have : k.val < 4 := k.isLt.trans_eq (by decide); omega) _ _ _ (k0_off13_inb k) (k0_off14_inb k) (k0_off15_inb k) (offsets5 k))
    _ le_rfl
theorem mem6 : Trips x0 x1 x2 x3 (pb_k0_t6 Variants.none c none i arg2 harg2 arg3 harg3 arg4 harg4 arg5 harg5 arg6 harg6 arg7 harg7 X2 X3 X4 X5 k0_t6_loop.trips) := by
  subst h2 h3 h4 h5
  exact Trips.steps _ _ rfl (pb_k0_t6_succ Variants.none c none i arg2 harg2 arg3 harg3 arg4 harg4 arg5 harg5 arg6 harg6 arg7 harg7 X2 X3 X4 X5)
    (fun k => by
      unfold tripL_k0_t6 trip_k0_t6
      exact trip 5 k.val (by norm_num) (by have : k.val < 4 := k.isLt.trans_eq (by decide); omega) _ _ _ (k0_off16_inb k) (k0_off17_inb k) (k0_off18_inb k) (offsets6 k))
    _ le_rfl
theorem mem7 : Trips x0 x1 x2 x3 (pb_k0_t7 Variants.none c none i arg2 harg2 arg3 harg3 arg4 harg4 arg5 harg5 arg6 harg6 arg7 harg7 X2 X3 X4 X5 k0_t7_loop.trips) := by
  subst h2 h3 h4 h5
  exact Trips.steps _ _ rfl (pb_k0_t7_succ Variants.none c none i arg2 harg2 arg3 harg3 arg4 harg4 arg5 harg5 arg6 harg6 arg7 harg7 X2 X3 X4 X5)
    (fun k => by
      unfold tripL_k0_t7 trip_k0_t7
      exact trip 6 k.val (by norm_num) (by have : k.val < 4 := k.isLt.trans_eq (by decide); omega) _ _ _ (k0_off19_inb k) (k0_off20_inb k) (k0_off21_inb k) (offsets7 k))
    _ le_rfl
theorem mem8 : Trips x0 x1 x2 x3 (pb_k0_t8 Variants.none c none i arg2 harg2 arg3 harg3 arg4 harg4 arg5 harg5 arg6 harg6 arg7 harg7 X2 X3 X4 X5 k0_t8_loop.trips) := by
  subst h2 h3 h4 h5
  exact Trips.steps _ _ rfl (pb_k0_t8_succ Variants.none c none i arg2 harg2 arg3 harg3 arg4 harg4 arg5 harg5 arg6 harg6 arg7 harg7 X2 X3 X4 X5)
    (fun k => by
      unfold tripL_k0_t8 trip_k0_t8
      exact trip 7 k.val (by norm_num) (by have : k.val < 4 := k.isLt.trans_eq (by decide); omega) _ _ _ (k0_off22_inb k) (k0_off23_inb k) (k0_off24_inb k) (offsets8 k))
    _ le_rfl
theorem mem9 : Trips x0 x1 x2 x3 (pb_k0_t9 Variants.none c none i arg2 harg2 arg3 harg3 arg4 harg4 arg5 harg5 arg6 harg6 arg7 harg7 X2 X3 X4 X5 k0_t9_loop.trips) := by
  subst h2 h3 h4 h5
  exact Trips.steps _ _ rfl (pb_k0_t9_succ Variants.none c none i arg2 harg2 arg3 harg3 arg4 harg4 arg5 harg5 arg6 harg6 arg7 harg7 X2 X3 X4 X5)
    (fun k => by
      unfold tripL_k0_t9 trip_k0_t9
      exact trip 8 k.val (by norm_num) (by have : k.val < 4 := k.isLt.trans_eq (by decide); omega) _ _ _ (k0_off25_inb k) (k0_off26_inb k) (k0_off27_inb k) (offsets9 k))
    _ le_rfl
theorem mem10 : Trips x0 x1 x2 x3 (pb_k0_t10 Variants.none c none i arg2 harg2 arg3 harg3 arg4 harg4 arg5 harg5 arg6 harg6 arg7 harg7 k0_pay241 X2 X3 X4 X5 k0_t10_loop.trips) := by
  subst h2 h3 h4 h5
  exact Trips.steps _ _ rfl (pb_k0_t10_succ Variants.none c none i arg2 harg2 arg3 harg3 arg4 harg4 arg5 harg5 arg6 harg6 arg7 harg7 k0_pay241 X2 X3 X4 X5)
    (fun k => by
      unfold tripL_k0_t10 trip_k0_t10
      exact trip 9 k.val (by norm_num) (by have : k.val < 4 := k.isLt.trans_eq (by decide); omega) _ _ _ (k0_off28_inb k) (k0_off29_inb k) (k0_off30_inb k) (offsets10 k))
    _ le_rfl
theorem mem11 : Trips x0 x1 x2 x3 (pb_k0_t11 Variants.none c none i arg2 harg2 arg3 harg3 arg4 harg4 arg5 harg5 arg6 harg6 arg7 harg7 k0_pay241 X2 X3 X4 X5 k0_t11_loop.trips) := by
  subst h2 h3 h4 h5
  exact Trips.steps _ _ rfl (pb_k0_t11_succ Variants.none c none i arg2 harg2 arg3 harg3 arg4 harg4 arg5 harg5 arg6 harg6 arg7 harg7 k0_pay241 X2 X3 X4 X5)
    (fun k => by
      unfold tripL_k0_t11 trip_k0_t11
      exact trip 10 k.val (by norm_num) (by have : k.val < 4 := k.isLt.trans_eq (by decide); omega) _ _ _ (k0_off31_inb k) (k0_off32_inb k) (k0_off33_inb k) (offsets11 k))
    _ le_rfl
theorem mem12 : Trips x0 x1 x2 x3 (pb_k0_t12 Variants.none c none i arg2 harg2 arg3 harg3 arg4 harg4 arg5 harg5 arg6 harg6 arg7 harg7 k0_pay241 X2 X3 X4 X5 k0_t12_loop.trips) := by
  subst h2 h3 h4 h5
  exact Trips.steps _ _ rfl (pb_k0_t12_succ Variants.none c none i arg2 harg2 arg3 harg3 arg4 harg4 arg5 harg5 arg6 harg6 arg7 harg7 k0_pay241 X2 X3 X4 X5)
    (fun k => by
      unfold tripL_k0_t12 trip_k0_t12
      exact trip 11 k.val (by norm_num) (by have : k.val < 4 := k.isLt.trans_eq (by decide); omega) _ _ _ (k0_off34_inb k) (k0_off35_inb k) (k0_off36_inb k) (offsets12 k))
    _ le_rfl
theorem mem13 : Trips x0 x1 x2 x3 (pb_k0_t13 Variants.none c none i arg2 harg2 arg3 harg3 arg4 harg4 arg5 harg5 arg6 harg6 arg7 harg7 k0_pay241 X2 X3 X4 X5 k0_t13_loop.trips) := by
  subst h2 h3 h4 h5
  exact Trips.steps _ _ rfl (pb_k0_t13_succ Variants.none c none i arg2 harg2 arg3 harg3 arg4 harg4 arg5 harg5 arg6 harg6 arg7 harg7 k0_pay241 X2 X3 X4 X5)
    (fun k => by
      unfold tripL_k0_t13 trip_k0_t13
      exact trip 12 k.val (by norm_num) (by have : k.val < 4 := k.isLt.trans_eq (by decide); omega) _ _ _ (k0_off37_inb k) (k0_off38_inb k) (k0_off39_inb k) (offsets13 k))
    _ le_rfl
theorem mem14 : Trips x0 x1 x2 x3 (pb_k0_t14 Variants.none c none i arg2 harg2 arg3 harg3 arg4 harg4 arg5 harg5 arg6 harg6 arg7 harg7 k0_pay241 X2 X3 X4 X5 k0_t14_loop.trips) := by
  subst h2 h3 h4 h5
  exact Trips.steps _ _ rfl (pb_k0_t14_succ Variants.none c none i arg2 harg2 arg3 harg3 arg4 harg4 arg5 harg5 arg6 harg6 arg7 harg7 k0_pay241 X2 X3 X4 X5)
    (fun k => by
      unfold tripL_k0_t14 trip_k0_t14
      exact trip 13 k.val (by norm_num) (by have : k.val < 4 := k.isLt.trans_eq (by decide); omega) _ _ _ (k0_off40_inb k) (k0_off41_inb k) (k0_off42_inb k) (offsets14 k))
    _ le_rfl
theorem mem15 : Trips x0 x1 x2 x3 (pb_k0_t15 Variants.none c none i arg2 harg2 arg3 harg3 arg4 harg4 arg5 harg5 arg6 harg6 arg7 harg7 k0_pay241 X2 X3 X4 X5 k0_t15_loop.trips) := by
  subst h2 h3 h4 h5
  exact Trips.steps _ _ rfl (pb_k0_t15_succ Variants.none c none i arg2 harg2 arg3 harg3 arg4 harg4 arg5 harg5 arg6 harg6 arg7 harg7 k0_pay241 X2 X3 X4 X5)
    (fun k => by
      unfold tripL_k0_t15 trip_k0_t15
      exact trip 14 k.val (by norm_num) (by have : k.val < 4 := k.isLt.trans_eq (by decide); omega) _ _ _ (k0_off43_inb k) (k0_off44_inb k) (k0_off45_inb k) (offsets15 k))
    _ le_rfl
theorem mem16 : Trips x0 x1 x2 x3 (pb_k0_t16 Variants.none c none i arg2 harg2 arg3 harg3 arg4 harg4 arg5 harg5 arg6 harg6 arg7 harg7 k0_pay241 X2 X3 X4 X5 k0_t16_loop.trips) := by
  subst h2 h3 h4 h5
  exact Trips.steps _ _ rfl (pb_k0_t16_succ Variants.none c none i arg2 harg2 arg3 harg3 arg4 harg4 arg5 harg5 arg6 harg6 arg7 harg7 k0_pay241 X2 X3 X4 X5)
    (fun k => by
      unfold tripL_k0_t16 trip_k0_t16
      exact trip 15 k.val (by norm_num) (by have : k.val < 4 := k.isLt.trans_eq (by decide); omega) _ _ _ (k0_off46_inb k) (k0_off47_inb k) (k0_off48_inb k) (offsets16 k))
    _ le_rfl

end

/-- The pieces of a point are those of the sixteen loops' trips over its windows. -/
theorem run_pieces :
    Trips x0 x1 x2 x3 ((kernelRun0_A c i arg2 harg2 arg3 harg3 arg4 harg4 arg5 harg5 arg6 harg6 arg7 harg7 x0 x1 x2 x3).1, (kernelRun0_A c i arg2 harg2 arg3 harg3 arg4 harg4 arg5 harg5 arg6 harg6 arg7 harg7 x0 x1 x2 x3).2.1) := by
  have h2 := harg2.read_unread x0
  have h3 := harg3.read_unread x1
  have h4 := harg4.read_unread x2
  have h5 := harg5.read_unread x3
  unfold kernelRun0_A
  exact (mem16 c i arg2 harg2 arg3 harg3 arg4 harg4 arg5 harg5 arg6 harg6 arg7 harg7 x0 x1 x2 x3 _ _ _ _ h2 h3 h4 h5).append <|
    (mem15 c i arg2 harg2 arg3 harg3 arg4 harg4 arg5 harg5 arg6 harg6 arg7 harg7 x0 x1 x2 x3 _ _ _ _ h2 h3 h4 h5).append <|
    (mem14 c i arg2 harg2 arg3 harg3 arg4 harg4 arg5 harg5 arg6 harg6 arg7 harg7 x0 x1 x2 x3 _ _ _ _ h2 h3 h4 h5).append <|
    (mem13 c i arg2 harg2 arg3 harg3 arg4 harg4 arg5 harg5 arg6 harg6 arg7 harg7 x0 x1 x2 x3 _ _ _ _ h2 h3 h4 h5).append <|
    (mem12 c i arg2 harg2 arg3 harg3 arg4 harg4 arg5 harg5 arg6 harg6 arg7 harg7 x0 x1 x2 x3 _ _ _ _ h2 h3 h4 h5).append <|
    (mem11 c i arg2 harg2 arg3 harg3 arg4 harg4 arg5 harg5 arg6 harg6 arg7 harg7 x0 x1 x2 x3 _ _ _ _ h2 h3 h4 h5).append <|
    (mem10 c i arg2 harg2 arg3 harg3 arg4 harg4 arg5 harg5 arg6 harg6 arg7 harg7 x0 x1 x2 x3 _ _ _ _ h2 h3 h4 h5).append <|
    (mem9 c i arg2 harg2 arg3 harg3 arg4 harg4 arg5 harg5 arg6 harg6 arg7 harg7 x0 x1 x2 x3 _ _ _ _ h2 h3 h4 h5).append <|
    (mem8 c i arg2 harg2 arg3 harg3 arg4 harg4 arg5 harg5 arg6 harg6 arg7 harg7 x0 x1 x2 x3 _ _ _ _ h2 h3 h4 h5).append <|
    (mem7 c i arg2 harg2 arg3 harg3 arg4 harg4 arg5 harg5 arg6 harg6 arg7 harg7 x0 x1 x2 x3 _ _ _ _ h2 h3 h4 h5).append <|
    (mem6 c i arg2 harg2 arg3 harg3 arg4 harg4 arg5 harg5 arg6 harg6 arg7 harg7 x0 x1 x2 x3 _ _ _ _ h2 h3 h4 h5).append <|
    (mem5 c i arg2 harg2 arg3 harg3 arg4 harg4 arg5 harg5 arg6 harg6 arg7 harg7 x0 x1 x2 x3 _ _ _ _ h2 h3 h4 h5).append <|
    (mem4 c i arg2 harg2 arg3 harg3 arg4 harg4 arg5 harg5 arg6 harg6 arg7 harg7 x0 x1 x2 x3 _ _ _ _ h2 h3 h4 h5).append <|
    (mem3 c i arg2 harg2 arg3 harg3 arg4 harg4 arg5 harg5 arg6 harg6 arg7 harg7 x0 x1 x2 x3 _ _ _ _ h2 h3 h4 h5).append <|
    (mem2 c i arg2 harg2 arg3 harg3 arg4 harg4 arg5 harg5 arg6 harg6 arg7 harg7 x0 x1 x2 x3 _ _ _ _ h2 h3 h4 h5).append <|
    (mem1 c i arg2 harg2 arg3 harg3 arg4 harg4 arg5 harg5 arg6 harg6 arg7 harg7 x0 x1 x2 x3 _ _ _ _ h2 h3 h4 h5)

end Cert.Kernel9Ideal.Dil

end
-- ==== Proof.Dil16Value.lean ====
/-
  The window attention's two result arrays at dilation 16 after the run, from real queries, keys and values: each head's softmax over the
  positions of the query's stride at most 64 away along it, and its logarithm of the softmax's denominator.
-/
module

public import proofs.«01_k».proof.Proof.Dil16Host
public import proofs.«01_k».proof.Proof.Dil16Run
public import Idealize.ShloMosaic.Lib.Pipeline.ValueKit

@[expose] public section

set_option maxRecDepth 16384

noncomputable section

open Idealize.ShloMosaic Idealize.ShloMosaic.TcCoe Idealize.SL.Sem

namespace Cert.Kernel9Ideal.Dil

open Cert.Kernel9Ideal Cert.Kernel9Ideal.Gen
open Cert.AttnReal (Heads)
open Cert.DilReal (scores head chan result4 result5)
open Cert.Strip (canon4 canon5)

variable (m : (ℓ : Loc nD τ sig) → Buf (Elt Ideal) ℓ) (c : Dev nD) (t : Fin cfg0.N)

/-- Grid point `t` is batch element `t / 6` and head pair `t % 6`. -/
theorem idx : ∀ t : Fin grid0.N, win0_0.index t = ![t.val / 6, t.val % 6, 0, 0] ∧ win0_1.index t = ![t.val / 6, t.val % 6, 0, 0]
    ∧ win0_2.index t = ![t.val / 6, t.val % 6, 0, 0] ∧ win0_3.index t = ![0, 0, 0] ∧ win0_4.index t = ![t.val / 6, t.val % 6, 0, 0]
    ∧ win0_5.index t = ![t.val / 6, t.val % 6, 0, 0] := by decide +kernel

theorem point_lt (t : Fin cfg0.N) : t.val < 48 := t.isLt.trans_eq (by decide +kernel)

/-- The batch element and the head pair of a grid point. -/
abbrev bat : Fin 8 := ⟨t.val / 6, by have := point_lt t; omega⟩
abbrev pair : Fin 6 := ⟨t.val % 6, by omega⟩

/-- The blocks the point's windows hold. -/
theorem queries_read (A : Heads.Idx → ℝ) (hA : ∀ i, (m ((c : Thread nD τ).loc main_arg0) i : EReal) = ((A i : ℝ) : EReal)) (s : Fin 512) (n : Fin 2048) :
    (iblk m c 0 t (ix4 0 0 s n) : EReal) = ((A (ix4 (bat t) (pos n s) (head (pair t) n) (chan n)) * (1 / 8) : ℝ) : EReal) := by
  refine Eq.trans ?_ (queries_array m c A hA (bat t) (pair t) s n)
  blk_ext! [iblk, idx t]

theorem keys_read (B : Heads.Idx → ℝ) (hB : ∀ i, (m ((c : Thread nD τ).loc main_arg1) i : EReal) = ((B i : ℝ) : EReal)) (s : Fin 512) (n : Fin 2048) :
    (iblk m c 1 t (ix4 0 0 s n) : EReal) = ((B (ix4 (bat t) (pos n s) (head (pair t) n) (chan n)) : ℝ) : EReal) := by
  refine Eq.trans ?_ (keys_array m c B hB (bat t) (pair t) s n)
  blk_ext! [iblk, idx t]

theorem values_read (C : Heads.Idx → ℝ) (hC : ∀ i, (m ((c : Thread nD τ).loc main_arg2) i : EReal) = ((C i : ℝ) : EReal)) (s : Fin 512) (n : Fin 2048) :
    (iblk m c 2 t (ix4 0 0 s n) : EReal) = ((C (ix4 (bat t) (pos n s) (head (pair t) n) (chan n)) : ℝ) : EReal) := by
  refine Eq.trans ?_ (values_array m c C hC (bat t) (pair t) s n)
  blk_ext! [iblk, idx t]

theorem bias_read (u : Fin 3) (a : Fin 128) (j : Fin 256) :
    (iblk m c 3 t (ix3 u a j) : EReal) = if j.val ≤ a.val + 64 + 64 * u.val ∧ a.val + 64 * u.val ≤ j.val + 64 then (0 : EReal) else ⊥ := by
  refine Eq.trans ?_ (bias_array m c u a j)
  blk_ext! [iblk, idx t]

/-- Columns of one position have one stride. -/
theorem pos_eq (n n' : Fin 2048) (h : n.val / 128 = n'.val / 128) : pos n = pos n' := congrArg place (Fin.ext h)

section

variable (i : grid0.Coords) (arg2 : Memref sig .tc .vmem S1x1x512x2048 .bf16) (harg2 : arg2.IsWhole) (arg3 : Memref sig .tc .vmem S1x1x512x2048 .bf16)
  (harg3 : arg3.IsWhole) (arg4 : Memref sig .tc .vmem S1x1x512x2048 .bf16) (harg4 : arg4.IsWhole) (arg5 : Memref sig .tc .vmem S3x128x256 .f32)
  (harg5 : arg5.IsWhole) (arg6 : Memref sig .tc .vmem S1x1x512x2048 .f32) (harg6 : arg6.IsWhole) (arg7 : Memref sig .tc .vmem S1x1x512x2048 .f32)
  (harg7 : arg7.IsWhole) (x0 x1 x2 : Vec Ideal S1x1x512x2048 .bf16) (x3 : Vec Ideal S3x128x256 .f32) (b : Fin 8) (p : Fin 6) (A B C : Heads.Idx → ℝ)
  (h0 : ∀ s n, (x0 (ix4 0 0 s n) : EReal) = ((A (ix4 b (pos n s) (head p n) (chan n)) * (1 / 8) : ℝ) : EReal))
  (h1 : ∀ s n, (x1 (ix4 0 0 s n) : EReal) = ((B (ix4 b (pos n s) (head p n) (chan n)) : ℝ) : EReal))
  (h2 : ∀ s n, (x2 (ix4 0 0 s n) : EReal) = ((C (ix4 b (pos n s) (head p n) (chan n)) : ℝ) : EReal))
  (h3 : ∀ (u : Fin 3) (a : Fin 128) (j : Fin 256),
    (x3 (ix3 u a j) : EReal) = if j.val ≤ a.val + 64 + 64 * u.val ∧ a.val + 64 * u.val ≤ j.val + 64 then (0 : EReal) else ⊥)

include h0 h1 h2 h3 in
/-- The first result's block after a point. -/
theorem out4_real (y : S1x1x512x2048.Idx) : (out0_A_4 c i arg2 harg2 arg3 harg3 arg4 harg4 arg5 harg5 arg6 harg6 arg7 harg7 x0 x1 x2 x3 y : EReal) = Cert.DilReal.mixed A B C b (head p (y 3)) (pos (y 3)) (y 2) (chan (y 3)) := by
  have hc := cover0_A_4 c i arg2 harg2 arg3 harg3 arg4 harg4 arg5 harg5 arg6 harg6 arg7 harg7 x0 x1 x2 x3
  refine (congrFun (View.read_writes_eq_canon VO0_4 _ _ hc) y).trans ?_
  exact canon4 x0 x1 x2 x3 (by norm_num) (by norm_num) b p pos pos_eq A B C h0 h1 h2 h3 _ (run_pieces c i arg2 harg2 arg3 harg3 arg4 harg4 arg5 harg5 arg6 harg6 arg7 harg7 x0 x1 x2 x3).1
    (fun y : S1x1x512x2048.Idx => Cert.DilReal.mixed A B C b (head p (y 3)) (pos (y 3)) (y 2) (chan (y 3))) (fun _ _ => rfl) y (hc y)

include h0 h1 h3 in
/-- The second result's block after a point. -/
theorem out5_real (y : S1x1x512x2048.Idx) : (out0_A_5 c i arg2 harg2 arg3 harg3 arg4 harg4 arg5 harg5 arg6 harg6 arg7 harg7 x0 x1 x2 x3 y : EReal) = Cert.AttnReal.level (scores A B b (head p (y 3)) (pos (y 3)) (y 2)) := by
  have hc := cover0_A_5 c i arg2 harg2 arg3 harg3 arg4 harg4 arg5 harg5 arg6 harg6 arg7 harg7 x0 x1 x2 x3
  refine (congrFun (View.read_writes_eq_canon VO0_5 _ _ hc) y).trans ?_
  exact canon5 x0 x1 x3 (by norm_num) (by norm_num) b p pos pos_eq A B h0 h1 h3 _ (run_pieces c i arg2 harg2 arg3 harg3 arg4 harg4 arg5 harg5 arg6 harg6 arg7 harg7 x0 x1 x2 x3).2
    (fun y : S1x1x512x2048.Idx => Cert.AttnReal.level (scores A B b (head p (y 3)) (pos (y 3)) (y 2))) (fun _ _ => rfl) y (hc y)

end

variable (A B C : Heads.Idx → ℝ) (hA : ∀ i, (m ((c : Thread nD τ).loc main_arg0) i : EReal) = ((A i : ℝ) : EReal))
  (hB : ∀ i, (m ((c : Thread nD τ).loc main_arg1) i : EReal) = ((B i : ℝ) : EReal))
  (hC : ∀ i, (m ((c : Thread nD τ).loc main_arg2) i : EReal) = ((C i : ℝ) : EReal))

include hA hB hC in
/-- What the first result array holds after the run. -/
theorem final4 : (dats m 0 c).arrAt 4 cfg0.N = result4 pos A B C := by
  refine (dats m 0 c).arrAt_eq_of_covers 4 _ (by decide +kernel) fun t hf y => ?_
  refine (congrFun (Value.flushed4_A m c t) y).trans ?_
  obtain ⟨p, q, s, l, rfl⟩ : ∃ (p q : Fin 1) (s : Fin 512) (l : Fin 2048), y = ix4 p q s l := ⟨y 0, y 1, y 2, y 3, eq_ix4 y⟩
  obtain rfl := Fin.fin_one_eq_zero p
  obtain rfl := Fin.fin_one_eq_zero q
  have e : (win0_4.blk t).view.emb (ix4 0 0 s l) = ix4 (bat t) (pair t) s l := by
    have h4 := (idx t).2.2.2.2.1
    funext a
    apply Fin.ext
    match a with
    | ⟨0, _⟩ => show win0_4.index t 0 * 1 + 1 * 0 = t.val / 6; rw [h4]; show t.val / 6 * 1 + 1 * 0 = _; omega
    | ⟨1, _⟩ => show win0_4.index t 1 * 1 + 1 * 0 = t.val % 6; rw [h4]; show t.val % 6 * 1 + 1 * 0 = _; omega
    | ⟨2, _⟩ => show win0_4.index t 2 * 512 + 1 * s.val = s.val; rw [h4]; show 0 * 512 + 1 * s.val = s.val; omega
    | ⟨3, _⟩ => show win0_4.index t 3 * 2048 + 1 * l.val = l.val; rw [h4]; show 0 * 2048 + 1 * l.val = l.val; omega
  refine Eq.trans ?_ (congrArg (result4 pos A B C) e).symm
  exact out4_real c _ _ _ _ _ _ _ _ _ _ _ _ _ _ _ _ _ (bat t) (pair t) A B C (queries_read m c t A hA) (keys_read m c t B hB) (values_read m c t C hC)
    (bias_read m c t) (ix4 0 0 s l)

include hA hB in
/-- What the second result array holds after the run. -/
theorem final5 : (dats m 0 c).arrAt 5 cfg0.N = result5 pos A B := by
  refine (dats m 0 c).arrAt_eq_of_covers 5 _ (by decide +kernel) fun t hf y => ?_
  refine (congrFun (Value.flushed5_A m c t) y).trans ?_
  obtain ⟨p, q, s, l, rfl⟩ : ∃ (p q : Fin 1) (s : Fin 512) (l : Fin 2048), y = ix4 p q s l := ⟨y 0, y 1, y 2, y 3, eq_ix4 y⟩
  obtain rfl := Fin.fin_one_eq_zero p
  obtain rfl := Fin.fin_one_eq_zero q
  have e : (win0_5.blk t).view.emb (ix4 0 0 s l) = ix4 (bat t) (pair t) s l := by
    have h5 := (idx t).2.2.2.2.2
    funext a
    apply Fin.ext
    match a with
    | ⟨0, _⟩ => show win0_5.index t 0 * 1 + 1 * 0 = t.val / 6; rw [h5]; show t.val / 6 * 1 + 1 * 0 = _; omega
    | ⟨1, _⟩ => show win0_5.index t 1 * 1 + 1 * 0 = t.val % 6; rw [h5]; show t.val % 6 * 1 + 1 * 0 = _; omega
    | ⟨2, _⟩ => show win0_5.index t 2 * 512 + 1 * s.val = s.val; rw [h5]; show 0 * 512 + 1 * s.val = s.val; omega
    | ⟨3, _⟩ => show win0_5.index t 3 * 2048 + 1 * l.val = l.val; rw [h5]; show 0 * 2048 + 1 * l.val = l.val; omega
  refine Eq.trans ?_ (congrArg (result5 pos A B) e).symm
  exact out5_real c _ _ _ _ _ _ _ _ _ _ _ _ _ _ _ _ _ (bat t) (pair t) A B (queries_read m c t A hA) (keys_read m c t B hB)
    (bias_read m c t) (ix4 0 0 s l)

end Cert.Kernel9Ideal.Dil

end
-- ==== Proof.Dil16.lean ====
/-
  The window attention at dilation 16: at the extended reals, from finite queries, keys and values, the kernel's two arrays are the
  reference's. The kernel takes the softmax of each block of queries of a stride over a window of 256 keys and divides after the products;
  the reference masks all the scores of a stride, and takes the exponentials less the softmax's logarithm.
-/
module

public import proofs.«01_k».proof.Defs
public import proofs.«01_k».proof.Proof.Attn
public import proofs.«01_k».proof.Proof.Dil16Value
public import proofs.«01_k».proof.Proof.Gen.Kernel9.Frame
public import proofs.«01_k».proof.Proof.Gen.Reference9Ideal.Run
public import proofs.«01_k».proof.Proof.Gen.Reference9Ideal.Read
public import proofs.«01_k».proof.Proof.Gen.Pre_finite_heads

@[expose] public section

set_option maxRecDepth 16384

noncomputable section

open Idealize.ShloMosaic Idealize.ShloMosaic.TcCoe Idealize.SL.Sem

namespace Cert.Reference9Ideal.Dil

open Cert.Reference9Ideal Cert.Reference9Ideal.Gen Cert.Reference9Ideal.Read
open Cert.AttnReal (Heads logit near_word toInt_diff eighth top total level)
open Cert.DilReal (near masked scores head chan result4 result5)
open Cert.Kernel9Ideal.Dil (place stride pos)
open Cert.DftReal (coe_sum)

variable (x0 x1 x2 : FVec Ideal S8x8192x12x64 .f32)

/-- The reference's mask: the places at most 64 apart. -/
theorem mask_apply (i j : Fin 512) : val_main_v11 (F := Ideal) (ix2 i j) = BitVec.ofBool (decide (near i j)) := by
  pointwise [val_main_v11, val_main_v10, val_main_v9, val_main_v8, val_main_v7, val_main_v6, val_main_v5, val_main_v4, val_main_v3, val_main_c]
  rw [near_word _ ((i.val : ℤ) - j.val) ?_ (by omega) (by omega)]
  · exact congrArg BitVec.ofBool (decide_eq_decide.2 (by omega))
  · refine toInt_diff _ _ _ _ (WordCmp.toInt_ofNat_of_lt (w := 32) (by omega)) (WordCmp.toInt_ofNat_of_lt (w := 32) (by omega)) ?_ ?_ ?_ ?_
    all_goals omega

variable (A B C : Heads.Idx → ℝ) (hA : ∀ i, (x0 i : EReal) = ((A i : ℝ) : EReal)) (hB : ∀ i, (x1 i : EReal) = ((B i : ℝ) : EReal))
  (hC : ∀ i, (x2 i : EReal) = ((C i : ℝ) : EReal))

/-- The arrays by place and stride. -/
theorem strided0 (b : Fin 8) (s : Fin 512) (r : Fin 16) (h : Fin 12) (e : Fin 64) :
    val_main_v0 (F := Ideal) x0 (ix5 b s r h e) = x0 (ix4 b (place r s) h e) := by pointwise [val_main_v0]
theorem strided1 (b : Fin 8) (s : Fin 512) (r : Fin 16) (h : Fin 12) (e : Fin 64) :
    val_main_v1 (F := Ideal) x1 (ix5 b s r h e) = x1 (ix4 b (place r s) h e) := by pointwise [val_main_v1]
theorem strided2 (b : Fin 8) (s : Fin 512) (r : Fin 16) (h : Fin 12) (e : Fin 64) :
    val_main_v2 (F := Ideal) x2 (ix5 b s r h e) = x2 (ix4 b (place r s) h e) := by pointwise [val_main_v2]

include hA hB in
/-- The reference's masked scores. -/
theorem scores_apply (b : Fin 8) (r : Fin 16) (h : Fin 12) (i j : Fin 512) :
    (val_main_v16 (F := Ideal) x0 x1 (ix5 b r h i j) : EReal) = scores A B b h (place r) i j := by
  have hm := mask_apply i j
  have h0 := strided0 x0 b i r h
  have h1 := strided1 x1 b j r h
  unfold val_main_v16 val_main_call0_v1 val_main_v15 val_main_v14 val_main_v12
  generalize val_main_v11 (F := Ideal) = w at hm
  generalize val_main_v0 (F := Ideal) x0 = y0 at h0
  generalize val_main_v1 (F := Ideal) x1 = y1 at h1
  pointwise [val_main_call0_v2, val_main_call0_v0, val_main_cst_0, val_main_v13, val_main_cst]
  rw [hm, show (id (constant (F := Ideal) S_ .f32 0xFF800000#32) ix0 : EReal) = ⊥ from Cert.Kernel6Ideal.Attn.bottom]
  simp only [h0, h1, hA, hB, eighth, ← EReal.coe_mul, ← coe_sum]
  unfold scores masked
  by_cases hn : near i j
  · rw [if_pos hn, decide_eq_true hn]; rfl
  · rw [if_neg hn, decide_eq_false hn]; rfl

/-- The reference's greatest score of a query, from its masked scores. -/
theorem top_apply (b : Fin 8) (r : Fin 16) (h : Fin 12) (i : Fin 512) (f : Fin 512 → EReal)
    (hf : ∀ j, (val_main_v16 (F := Ideal) x0 x1 (ix5 b r h i j) : EReal) = f j) : (val_main_v17 (F := Ideal) x0 x1 (ix4 b r h i) : EReal) = top f := by
  unfold val_main_v17
  generalize val_main_v16 (F := Ideal) x0 x1 = y at hf
  have hr : S8x16x12x512x512.Reduces [4] S8x16x12x512 := by decide
  refine (Host.reduce_eq_fold_single (α := EReal) (FloatOps.maximumf (F := Ideal) (φ := .f32)) y _ reducesTo_S8x16x12x512x512_S8x16x12x512_d4 hr h_S_ (ix4 b r h i)).trans ?_
  have e (j : Fin 512) : (y (hr.lift (ix4 b r h i) j) : EReal) = f j := by
    rw [← hf]
    exact congrArg y (funext fun a => Fin.ext (by match a with | ⟨0, _⟩ => rfl | ⟨1, _⟩ => rfl | ⟨2, _⟩ => rfl | ⟨3, _⟩ => rfl | ⟨4, _⟩ => rfl))
  exact congrArg₂ (fun (v : EReal) (g : Fin 512 → EReal) => Finset.univ.fold max v g) Cert.Kernel6Ideal.Attn.bottom (funext e)

/-- The reference's sum of a query's weights, from its masked scores and the greatest. -/
theorem total_apply (b : Fin 8) (r : Fin 16) (h : Fin 12) (i : Fin 512) :
    (val_main_v22 (F := Ideal) x0 x1 (ix4 b r h i) : EReal)
      = ∑ j, Ideal.exp ((val_main_v16 (F := Ideal) x0 x1 (ix5 b r h i j) : EReal) - val_main_v17 (F := Ideal) x0 x1 (ix4 b r h i)) := by
  unfold val_main_v22 val_main_v21 val_main_v20 val_main_v19 val_main_v18
  generalize val_main_v16 (F := Ideal) x0 x1 = y
  generalize val_main_v17 (F := Ideal) x0 x1 = z
  pointwise [val_main_cst_2]

/-- The reference's level of a query, from its masked scores. -/
theorem level_apply (b : Fin 8) (r : Fin 16) (h : Fin 12) (i : Fin 512) (f : Fin 512 → EReal)
    (hf : ∀ j, (val_main_v16 (F := Ideal) x0 x1 (ix5 b r h i j) : EReal) = f j) : (val_main_v24 (F := Ideal) x0 x1 (ix4 b r h i) : EReal) = level f := by
  have ht := top_apply x0 x1 b r h i f hf
  have hs : (val_main_v22 (F := Ideal) x0 x1 (ix4 b r h i) : EReal) = total f := by
    rw [total_apply, ht, total]
    exact Finset.sum_congr rfl fun j _ => by rw [hf]
  rw [val_main_v24_apply, val_main_v23_apply, ht, hs]
  unfold level
  generalize top f = a
  generalize total f = z
  rfl

/-- The reference's means, from its scores and its levels. -/
theorem mean_apply (b : Fin 8) (s : Fin 512) (r : Fin 16) (h : Fin 12) (e : Fin 64) :
    (val_main_v30 (F := Ideal) x0 x1 x2 (ix5 b s r h e) : EReal) = ∑ j : Fin 512, x2 (ix4 b (place r j) h e)
      * Ideal.exp ((val_main_v16 (F := Ideal) x0 x1 (ix5 b r h s j) : EReal) - val_main_v24 (F := Ideal) x0 x1 (ix4 b r h s)) := by
  have h2 (j : Fin 512) := strided2 x2 b j r h e
  unfold val_main_v30 val_main_v29 val_main_v28 val_main_v27 val_main_v26 val_main_v25
  generalize val_main_v16 (F := Ideal) x0 x1 = y
  generalize val_main_v24 (F := Ideal) x0 x1 = z
  generalize val_main_v2 (F := Ideal) x2 = w at h2
  pointwise
  simp only [h2]

/-- The reference's first result at an index, from its means: two heads in 128 lanes, the sixteen positions of a stride in one row. -/
theorem packed_apply (b : Fin 8) (p : Fin 6) (s : Fin 512) (n : Fin 2048) :
    (val_main_v36 (F := Ideal) x0 x1 x2 (ix4 b p s n) : EReal) = val_main_v30 (F := Ideal) x0 x1 x2 (ix5 b s (stride n) (head p n) (chan n)) := by
  unfold val_main_v36 val_main_v35 val_main_v34
  generalize val_main_v30 (F := Ideal) x0 x1 x2 = y
  pointwise

/-- The reference's second result at an index. -/
theorem spread_apply (b : Fin 8) (p : Fin 6) (s : Fin 512) (n : Fin 2048) :
    (val_main_v39 (F := Ideal) x0 x1 (ix4 b p s n) : EReal) = val_main_v24 (F := Ideal) x0 x1 (ix4 b (stride n) (head p n) s) := by
  unfold val_main_v39 val_main_v38 val_main_v37 val_main_v33 val_main_v32 val_main_v31
  generalize val_main_v24 (F := Ideal) x0 x1 = z
  pointwise

include hA hB hC in
/-- The reference's first result, from real arguments. -/
theorem result4_eq : val_main_v36 (F := Ideal) x0 x1 x2 = result4 pos A B C := by
  funext y
  obtain ⟨b, p, s, n, rfl⟩ : ∃ (b : Fin 8) (p : Fin 6) (s : Fin 512) (n : Fin 2048), y = ix4 b p s n := ⟨y 0, y 1, y 2, y 3, eq_ix4 y⟩
  rw [packed_apply, mean_apply, level_apply x0 x1 b _ _ s _ fun j => scores_apply x0 x1 A B hA hB b _ _ s j]
  simp only [scores_apply x0 x1 A B hA hB, hC]
  exact Finset.sum_congr rfl fun j _ => mul_comm _ _

include hA hB in
/-- The reference's second result, from real arguments. -/
theorem result5_eq : val_main_v39 (F := Ideal) x0 x1 = result5 pos A B := by
  funext y
  obtain ⟨b, p, s, n, rfl⟩ : ∃ (b : Fin 8) (p : Fin 6) (s : Fin 512) (n : Fin 2048), y = ix4 b p s n := ⟨y 0, y 1, y 2, y 3, eq_ix4 y⟩
  rw [spread_apply, level_apply x0 x1 b _ _ s _ fun j => scores_apply x0 x1 A B hA hB b _ _ s j]
  rfl

end Cert.Reference9Ideal.Dil

namespace Cert.Proof.Dil16

open Cert.Proof.Attn (finite_apply)

/-- Each of the programs runs and ends with its arguments unchanged. -/
theorem frame : Cert.quiescent_Kernel9 := fun m ρ _ => Cert.Kernel9.Gen.frame m ρ

theorem frame_ideal : Cert.quiescent_Kernel9Ideal := fun m ρ _ => Cert.Kernel9Ideal.Gen.frame m ρ

theorem frame_ideal_finite : Cert.quiescent_Kernel9Ideal_pre_finite_heads := fun m ρ _ => Cert.Kernel9Ideal.Gen.frame m ρ

theorem frame_reference : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

theorem frame_reference_finite : Cert.quiescent_Reference9Ideal_pre_finite_heads := fun m ρ _ => frame_reference m ρ trivial

/-- From equal finite arguments the kernel's two arrays and the reference's are equal. -/
theorem algebraic : Cert.algebraic_Kernel9Ideal_Reference9Ideal_pre_finite_heads := by
  intro m ρ m' ρ' hpre hagree
  refine ⟨_, _, Cert.Kernel9Ideal.Value.run_blocks (F := Ideal) m ρ, ?_⟩
  refine (θ_run Cert.Reference9Ideal.defs _ _).mono (fun _ h c => ⟨(h c).1.trans ?_, (h c).2.1.trans ?_, (h c).2.2⟩)
    (Cert.Reference9Ideal.Value.run (F := Ideal) m' ρ')
  · obtain ⟨h0, h1, h2⟩ := hagree c
    have hf := finite_apply _ _ _ (hpre c)
    rw [Cert.Kernel9Ideal.Dil.final4 m c _ _ _ (fun i => Cert.DftReal.exists_coe (hf.1 i)) (fun i => Cert.DftReal.exists_coe (hf.2.1 i))
      (fun i => Cert.DftReal.exists_coe (hf.2.2 i)), Cert.Reference9Ideal.Read.val_main_v36_eq, h0, h1, h2]
    exact Cert.Reference9Ideal.Dil.result4_eq _ _ _ _ _ _ (fun i => Cert.DftReal.exists_coe (hf.1 i)) (fun i => Cert.DftReal.exists_coe (hf.2.1 i))
      (fun i => Cert.DftReal.exists_coe (hf.2.2 i))
  · obtain ⟨h0, h1, h2⟩ := hagree c
    have hf := finite_apply _ _ _ (hpre c)
    rw [Cert.Kernel9Ideal.Dil.final5 m c _ _ (fun i => Cert.DftReal.exists_coe (hf.1 i)) (fun i => Cert.DftReal.exists_coe (hf.2.1 i)), Cert.Reference9Ideal.Read.val_main_v39_eq, h0, h1]
    exact (Cert.Reference9Ideal.Dil.result5_eq _ _ _ _ (fun i => Cert.DftReal.exists_coe (hf.1 i)) (fun i => Cert.DftReal.exists_coe (hf.2.1 i)))

end Cert.Proof.Dil16

end
-- ==== Proof.ProjBody.lean ====
/-
  What the body of the projection's call computes from its blocks: the residual stream after the first SwiGLU half, its
  normed rows, their products with the columns of the input projection, and the rotary embedding of the queries and keys,
  whose two shifted copies are lane rotations and whose signs lie in the tables.
-/
module

public import proofs.«01_k».proof.Proof.Rows
public import proofs.«01_k».proof.Proof.Gen.Kernel7Ideal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.Proj

open Cert.Rows

/-- The row length 1024, the bias 1e-6 under the norms' roots, the half of the residual and the scale 1/8 of the queries, as
    the programs' constants denote them. -/
abbrev len : EReal := Ideal.ofBits .f32 0x44800000#32
abbrev eps : EReal := Ideal.ofBits .f32 0x358637BD#32
abbrev half : EReal := Ideal.ofBits .f32 0x3F000000#32
abbrev eighth : EReal := Ideal.ofBits .f32 0x3E000000#32

/-- The residual stream after the first half, on one row. -/
def stream (x g : Fin 1024 → EReal) (wg wu : Fin 1024 → Fin 2816 → EReal) (wd : Fin 2816 → Fin 1024 → EReal) (c : Fin 1024) : EReal :=
  x c + half * swi (rms len eps x g) wg wu wd c

/-- Column `j` of the projection of the normed row. -/
def lin (h : Fin 1024 → EReal) (w : Fin 1024 → Fin 2816 → EReal) (j : Fin 2816) : EReal := ∑ k, h k * w k j

/-- The kernel's rotary embedding of a pair of heads in 128 lanes: the lanes 32 further on times `lo`, the lanes 32 back
    times `hi`. -/
def spin (t c lo hi : Fin 128 → EReal) (l : Fin 128) : EReal :=
  t l * c l + t ⟨(l.val + 32) % 128, by omega⟩ * lo l + t ⟨(l.val + 96) % 128, by omega⟩ * hi l

/-- The rotary embedding of a pair of heads: the first 32 lanes of a head turn with its last 32. -/
def rope (t : Fin 128 → EReal) (c s : Fin 32 → EReal) (l : Fin 128) : EReal :=
  if l.val % 64 < 32 then t l * c ⟨l.val % 32, by omega⟩ + -t ⟨(l.val + 32) % 128, by omega⟩ * s ⟨l.val % 32, by omega⟩
  else t l * c ⟨l.val % 32, by omega⟩ + t ⟨(l.val + 96) % 128, by omega⟩ * s ⟨l.val % 32, by omega⟩

/-- With the signs in the tables the two are equal. -/
theorem spin_eq_rope (t c lo hi : Fin 128 → EReal) (cs sn : Fin 32 → EReal) (hc : ∀ l : Fin 128, c l = cs ⟨l.val % 32, by omega⟩)
    (hlo : ∀ l : Fin 128, lo l = if l.val % 64 < 32 then -sn ⟨l.val % 32, by omega⟩ else 0)
    (hhi : ∀ l : Fin 128, hi l = if l.val % 64 < 32 then 0 else sn ⟨l.val % 32, by omega⟩) (l : Fin 128) :
    spin t c lo hi l = rope t cs sn l := by
  unfold spin rope
  rw [hc, hlo, hhi]
  split
  · rw [mul_zero, add_zero, mul_neg, neg_mul]
  · rw [mul_zero, add_zero]

end Cert.Proj

namespace Cert.Kernel7Ideal.Proj

open Cert.Kernel7Ideal Cert.Kernel7Ideal.Gen Cert.Rows Cert.Proj

/-- One tile of 256 hidden units, as the body computes it from the normed rows and the tile's weights. -/
def tile (h : FVec Ideal S512x1024 .bf16) (wg wu : FVec Ideal S1024x256 .bf16) (wd : FVec Ideal S256x1024 .bf16) :
    FVec Ideal S512x1024 .f32 :=
  have g := matmul dot_S512x1024_S1024x256_S512x256_1_0_0_1_n_n none h (shapeCast S1024x256 wg shapeCasts_S1024x256_S1024x256)
    (constant S512x256 .f32 0x00000000#32)
  have u := matmul dot_S512x1024_S1024x256_S512x256_1_0_0_1_n_n none h (shapeCast S1024x256 wu shapeCasts_S1024x256_S1024x256)
    (constant S512x256 .f32 0x00000000#32)
  matmul dot_S512x256_S256x1024_S512x1024_1_0_0_1_n_n none (truncf .bf16 (mulf (mulf g (logistic g)) u) bitsLt_bf16_f32)
    (shapeCast S256x1024 wd shapeCasts_S256x1024_S256x1024) (constant S512x1024 .f32 0x00000000#32)

theorem tile_apply (h : FVec Ideal S512x1024 .bf16) (wg wu : FVec Ideal S1024x256 .bf16) (wd : FVec Ideal S256x1024 .bf16)
    (r : Fin 512) (c : Fin 1024) :
    tile h wg wu wd (ix2 r c) = ∑ j : Fin 256, hid (fun k => h (ix2 r k)) (fun k j => wg (ix2 k j)) (fun k j => wu (ix2 k j)) j
      * wd (ix2 j c) := by
  pointwise [tile, hid]

/-- The normed rows of a block, as the body computes them. -/
theorem normed_apply (x : FVec Ideal S512x1024 .f32) (g : FVec Ideal S1x1024 .f32) (r : Fin 512) (c : Fin 1024) :
    (k0_pay5 (F := Ideal) x g (ix2 r c) : EReal) = rms len eps (fun k => x (ix2 r k)) (fun k => g (ix2 0 k)) c := by
  pointwise [k0_pay5, k0_pay4, rms]

variable (x0 : Vec Ideal S512x1024 .f32) (x1 : Vec Ideal S1x1024 .f32) (x2 x3 : Vec Ideal S1024x2816 .bf16)
  (x4 : Vec Ideal S2816x1024 .bf16) (x5 : Vec Ideal S1x1024 .f32) (x6 : Vec Ideal S1024x2816 .bf16)
  (x7 x8 x9 : Vec Ideal S512x128 .f32)

/-- The residual stream at an index of the block. -/
theorem stream_apply (r : Fin 512) (c : Fin 1024) :
    (k0_pay60 (F := Ideal) x0 x1 x2 x3 x4 x5 x6 x7 x8 x9 (ix2 r c) : EReal)
      = stream (fun k => x0 (ix2 r k)) (fun k => x1 (ix2 0 k)) (fun k j => x2 (ix2 k j)) (fun k j => x3 (ix2 k j))
          (fun j c => x4 (ix2 j c)) c := by
  have e : k0_pay60 (F := Ideal) x0 x1 x2 x3 x4 x5 x6 x7 x8 x9 = addf (k0_pay4 (View.ld x0 r0_0)) (mulf (broadcast S512x1024 (Scalar.ofBits .f32 0x3F000000#32))
      (addf (addf (addf (addf (addf (addf (addf (addf (addf (addf
        (tile (k0_pay5 (View.ld x0 r0_0) (View.ld x1 r0_1)) (View.ld x2 r0_2) (View.ld x3 r0_2) (View.ld x4 r0_3))
        (tile (k0_pay5 (View.ld x0 r0_0) (View.ld x1 r0_1)) (View.ld x2 r0_4) (View.ld x3 r0_4) (View.ld x4 r0_5)))
        (tile (k0_pay5 (View.ld x0 r0_0) (View.ld x1 r0_1)) (View.ld x2 r0_6) (View.ld x3 r0_6) (View.ld x4 r0_7)))
        (tile (k0_pay5 (View.ld x0 r0_0) (View.ld x1 r0_1)) (View.ld x2 r0_8) (View.ld x3 r0_8) (View.ld x4 r0_9)))
        (tile (k0_pay5 (View.ld x0 r0_0) (View.ld x1 r0_1)) (View.ld x2 r0_10) (View.ld x3 r0_10) (View.ld x4 r0_11)))
        (tile (k0_pay5 (View.ld x0 r0_0) (View.ld x1 r0_1)) (View.ld x2 r0_12) (View.ld x3 r0_12) (View.ld x4 r0_13)))
        (tile (k0_pay5 (View.ld x0 r0_0) (View.ld x1 r0_1)) (View.ld x2 r0_14) (View.ld x3 r0_14) (View.ld x4 r0_15)))
        (tile (k0_pay5 (View.ld x0 r0_0) (View.ld x1 r0_1)) (View.ld x2 r0_16) (View.ld x3 r0_16) (View.ld x4 r0_17)))
        (tile (k0_pay5 (View.ld x0 r0_0) (View.ld x1 r0_1)) (View.ld x2 r0_18) (View.ld x3 r0_18) (View.ld x4 r0_19)))
        (tile (k0_pay5 (View.ld x0 r0_0) (View.ld x1 r0_1)) (View.ld x2 r0_20) (View.ld x3 r0_20) (View.ld x4 r0_21)))
        (tile (k0_pay5 (View.ld x0 r0_0) (View.ld x1 r0_1)) (View.ld x2 r0_22) (View.ld x3 r0_22) (View.ld x4 r0_23)))) := rfl
  have hz : (![0, 0] : Fin 2 → Nat) = fun _ => 0 := funext fun a => by fin_cases a <;> rfl
  rw [e, View.ld_unit_zero hz, View.ld_unit_zero hz, stream, swi, sum_tiles]
  clear e
  have hn : (fun k => (k0_pay5 (F := Ideal) x0 x1 (ix2 r k) : EReal)) = rms len eps (fun k => x0 (ix2 r k)) (fun k => x1 (ix2 0 k)) :=
    funext fun k => normed_apply x0 x1 r k
  generalize k0_pay5 x0 x1 = h at hn ⊢
  rw [← hn]
  simp only [addf_apply, mulf_apply, tile_apply]
  pointwise [k0_pay4, hid]

/-- The normed rows of the stream: the same expression as for the argument's rows. -/
theorem hidden_eq : k0_pay63 (F := Ideal) x0 x1 x2 x3 x4 x5 x6 x7 x8 x9
    = k0_pay5 (k0_pay60 x0 x1 x2 x3 x4 x5 x6 x7 x8 x9) (View.ld x5 r0_1) := by
  have e : k0_pay63 (F := Ideal) x0 x1 x2 x3 x4 x5 x6 x7 x8 x9 = k0_pay19 (k0_pay60 x0 x1 x2 x3 x4 x5 x6 x7 x8 x9) (k0_pay17 (View.ld x5 r0_1))
      (rsqrt (addf (divf (shapeCast S512x1 (multiReduction .add [1] S512
          (mulf (k0_pay60 x0 x1 x2 x3 x4 x5 x6 x7 x8 x9) (k0_pay60 x0 x1 x2 x3 x4 x5 x6 x7 x8 x9)) 0x00000000#32 reduces_S512x1024_S512 (.inl rfl) rfl)
          shapeCasts_S512_S512x1) (broadcast S512x1 (Scalar.ofBits .f32 0x44800000#32))) (broadcast S512x1 (Scalar.ofBits .f32 0x358637BD#32)))) := rfl
  rw [e]
  generalize k0_pay60 x0 x1 x2 x3 x4 x5 x6 x7 x8 x9 = X
  unfold k0_pay19 k0_pay17 k0_pay5 k0_pay4
  rw [show shapeCast S512x1024 X shapeCasts_S512x1024_S512x1024 = X from shapeCast_self ..]

/-- The normed row of the stream at an index. -/
theorem hidden_apply (r : Fin 512) (k : Fin 1024) :
    (k0_pay63 (F := Ideal) x0 x1 x2 x3 x4 x5 x6 x7 x8 x9 (ix2 r k) : EReal)
      = rms len eps (stream (fun k => x0 (ix2 r k)) (fun k => x1 (ix2 0 k)) (fun k j => x2 (ix2 k j)) (fun k j => x3 (ix2 k j))
          (fun j c => x4 (ix2 j c))) (fun k => x5 (ix2 0 k)) k := by
  have hz : (![0, 0] : Fin 2 → Nat) = fun _ => 0 := funext fun a => by fin_cases a <;> rfl
  rw [hidden_eq, View.ld_unit_zero hz, normed_apply]
  simp only [stream_apply]

/-- The block of the stream that the call writes. -/
theorem out10_apply (r : Fin 512) (c : Fin 1024) :
    out0_10 (F := Ideal) x0 x1 x2 x3 x4 x5 x6 x7 x8 x9 (ix2 r c)
      = stream (fun k => x0 (ix2 r k)) (fun k => x1 (ix2 0 k)) (fun k j => x2 (ix2 k j)) (fun k j => x3 (ix2 k j))
          (fun j c => x4 (ix2 j c)) c := by
  have e : out0_10 (F := Ideal) x0 x1 x2 x3 x4 x5 x6 x7 x8 x9 = View.canon [⟨r0_0, k0_pay60 x0 x1 x2 x3 x4 x5 x6 x7 x8 x9⟩] := rfl
  have hz : (![0, 0] : Fin 2 → Nat) = fun _ => 0 := funext fun a => by fin_cases a <;> rfl
  rw [e, View.canon_unit_zero hz]
  exact stream_apply ..

/-! ## The heads -/

/-- The product of the normed rows with 256 columns of the projection. -/
def slab (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256)
    (constant S512x256 .f32 0x00000000#32)

/-- Its first and its last 128 columns: two pairs of heads. -/
def fst (t : FVec Ideal S512x256 .f32) : FVec Ideal S512x128 .f32 := extractStridedSlice S512x128 ![0, 0] t slices_S512x256_o0_0_S512x128
def snd (t : FVec Ideal S512x256 .f32) : FVec Ideal S512x128 .f32 := extractStridedSlice S512x128 ![0, 128] t slices_S512x256_o0_128_S512x128

theorem fst_apply (h : FVec Ideal S512x1024 .bf16) (w : FVec Ideal S1024x256 .bf16) (r : Fin 512) (l : Fin 128) :
    (fst (slab h w) (ix2 r l) : EReal) = ∑ k : Fin 1024, h (ix2 r k) * w (ix2 k ⟨l.val, by omega⟩) := by
  pointwise [fst, slab]

theorem snd_apply (h : FVec Ideal S512x1024 .bf16) (w : FVec Ideal S1024x256 .bf16) (r : Fin 512) (l : Fin 128) :
    (snd (slab h w) (ix2 r l) : EReal) = ∑ k : Fin 1024, h (ix2 r k) * w (ix2 k ⟨128 + l.val, by omega⟩) := by
  pointwise [snd, slab]

/-- The body's rotary embedding of a pair of heads. -/
def turn (t c lo hi : FVec Ideal S512x128 .f32) : FVec Ideal S512x128 .f32 :=
  addf (addf (mulf t c) (mulf (dynamicRotate 1 96#32 none t rotates_S512x128_d1) lo))
    (mulf (dynamicRotate 1 32#32 none t rotates_S512x128_d1) hi)

theorem turn_apply (t c lo hi : FVec Ideal S512x128 .f32) (r : Fin 512) (l : Fin 128) :
    (turn t c lo hi (ix2 r l) : EReal)
      = spin (fun l => t (ix2 r l)) (fun l => c (ix2 r l)) (fun l => lo (ix2 r l)) (fun l => hi (ix2 r l)) l := by
  have a : dynamicRotate 1 96#32 none t rotates_S512x128_d1 (ix2 r l) = t (ix2 r ⟨(l.val + 32) % 128, by omega⟩) :=
    dynamicRotate_apply 1 96#32 t rotates_S512x128_d1 _ _ fun b => by
      match b with
      | ⟨0, _⟩ => rfl
      | ⟨1, _⟩ => show (l.val + 32) % 128 = (l.val + 128 - 96) % 128; omega
  have b : dynamicRotate 1 32#32 none t rotates_S512x128_d1 (ix2 r l) = t (ix2 r ⟨(l.val + 96) % 128, by omega⟩) :=
    dynamicRotate_apply 1 32#32 t rotates_S512x128_d1 _ _ fun b => by
      match b with
      | ⟨0, _⟩ => rfl
      | ⟨1, _⟩ => show (l.val + 96) % 128 = (l.val + 128 - 32) % 128; omega
  simp only [turn, addf_apply, mulf_apply, a, b]
  rfl

/-- The stored pairs: queries scaled, keys, values. -/
def qpay (t : FVec Ideal S512x128 .f32) : FVec Ideal S1x1x512x128 .bf16 :=
  shapeCast S1x1x512x128 (truncf .bf16 (mulf t (broadcast S512x128 (Scalar.ofBits .f32 0x3E000000#32))) bitsLt_bf16_f32) shapeCasts_S512x128_S1x1x512x128
def kpay (t : FVec Ideal S512x128 .f32) : FVec Ideal S1x1x512x128 .bf16 :=
  shapeCast S1x1x512x128 (truncf .bf16 t bitsLt_bf16_f32) shapeCasts_S512x128_S1x1x512x128

theorem qpay_apply (t : FVec Ideal S512x128 .f32) (r : Fin 512) (l : Fin 128) :
    (qpay t (ix4 0 0 r l) : EReal) = t (ix2 r l) * eighth := by
  pointwise [qpay]

theorem kpay_apply (t : FVec Ideal S512x128 .f32) (r : Fin 512) (l : Fin 128) :
    (kpay t (ix4 0 0 r l) : EReal) = t (ix2 r l) := by
  pointwise [kpay]

/-- The block of six stored pairs. -/
def pairs (P : Fin 6 → FVec Ideal S1x1x512x128 .bf16) : Vec Ideal S1x6x512x128 .bf16 :=
  View.canon [⟨r0_33, P 5⟩, ⟨r0_32, P 4⟩, ⟨r0_31, P 3⟩, ⟨r0_30, P 2⟩, ⟨r0_29, P 1⟩, ⟨r0_28, P 0⟩]

/-- It is read back pair by pair. -/
theorem pairs_apply (P : Fin 6 → FVec Ideal S1x1x512x128 .bf16) (p : Fin 6) (r : Fin 512) (l : Fin 128) :
    (pairs P (ix4 0 p r l) : EReal) = P p (ix4 0 0 r l) := by
  refine (View.canon_apply_of_pieces (fun y : S1x6x512x128.Idx => (P (y 1) (ix4 0 0 (y 2) (y 3)) : EReal)) _ ?_ _ (cover0_11 ..)).trans rfl
  intro q hq
  simp only [List.mem_cons, List.not_mem_nil, or_false] at hq
  have key (a : Fin 6) (e : S1x1x512x128.Idx → S1x6x512x128.Idx) (he : ∀ x, (e x 1).val = a.val + 1 * (x 1).val ∧ (e x 2).val = 0 + 1 * (x 2).val ∧ (e x 3).val = 0 + 1 * (x 3).val)
      (x : S1x1x512x128.Idx) : (P a x : EReal) = P (e x 1) (ix4 0 0 (e x 2) (e x 3)) := by
    obtain ⟨u, v, i, j, rfl⟩ : ∃ (u v : Fin 1) (i : Fin 512) (j : Fin 128), x = ix4 u v i j := ⟨x 0, x 1, x 2, x 3, eq_ix4 x⟩
    obtain ⟨h1, h2, h3⟩ := he (ix4 u v i j)
    have e1 : e (ix4 u v i j) 1 = a := Fin.ext (h1.trans (by show a.val + 1 * v.val = a.val; omega))
    have e2 : e (ix4 u v i j) 2 = i := Fin.ext (h2.trans (by show 0 + 1 * i.val = i.val; omega))
    have e3 : e (ix4 u v i j) 3 = j := Fin.ext (h3.trans (by show 0 + 1 * j.val = j.val; omega))
    rw [e1, e2, e3, Subsingleton.elim u 0, Subsingleton.elim v 0]
  rcases hq with rfl | rfl | rfl | rfl | rfl | rfl
  · exact fun x => key 5 r0_33.emb (fun _ => ⟨rfl, rfl, rfl⟩) x
  · exact fun x => key 4 r0_32.emb (fun _ => ⟨rfl, rfl, rfl⟩) x
  · exact fun x => key 3 r0_31.emb (fun _ => ⟨rfl, rfl, rfl⟩) x
  · exact fun x => key 2 r0_30.emb (fun _ => ⟨rfl, rfl, rfl⟩) x
  · exact fun x => key 1 r0_29.emb (fun _ => ⟨rfl, rfl, rfl⟩) x
  · exact fun x => key 0 r0_28.emb (fun _ => ⟨rfl, rfl, rfl⟩) x

/-- The six pairs of a row whose columns start at `o`, from the three slabs of 256 columns. -/
theorem cols_apply (h : FVec Ideal S512x1024 .bf16) (w : FVec Ideal S1024x2816 .bf16) (w0 w1 w2 : FVec Ideal S1024x256 .bf16)
    (o : ℕ) (ho : o ≤ 2048)
    (h0 : ∀ k j, (w0 (ix2 k j) : EReal) = w (ix2 k ⟨o + j.val, by omega⟩)) (h1 : ∀ k j, (w1 (ix2 k j) : EReal) = w (ix2 k ⟨o + 256 + j.val, by omega⟩))
    (h2 : ∀ k j, (w2 (ix2 k j) : EReal) = w (ix2 k ⟨o + 512 + j.val, by omega⟩)) (p : Fin 6) (r : Fin 512) (l : Fin 128) :
    ((![fst (slab h w0), snd (slab h w0), fst (slab h w1), snd (slab h w1), fst (slab h w2), snd (slab h w2)] :
        Fin 6 → FVec Ideal S512x128 .f32) p (ix2 r l) : EReal)
      = lin (fun k => h (ix2 r k)) (fun k j => w (ix2 k j)) ⟨o + p.val * 128 + l.val, by omega⟩ := by
  unfold lin
  have key (w' : FVec Ideal S1024x256 .bf16) (d : ℕ) (hd : d ≤ 512) (hw : ∀ k j, (w' (ix2 k j) : EReal) = w (ix2 k ⟨o + d + j.val, by omega⟩)) (j : Fin 256) (n : Fin 2816)
      (e : n.val = o + d + j.val) : ∑ k : Fin 1024, (h (ix2 r k) * w' (ix2 k j) : EReal) = ∑ k : Fin 1024, h (ix2 r k) * w (ix2 k n) :=
    Finset.sum_congr rfl fun k _ => by rw [hw, show (⟨o + d + j.val, by omega⟩ : Fin 2816) = n from Fin.ext e.symm]
  match p with
  | 0 => exact (fst_apply h w0 r l).trans (key w0 0 (by omega) h0 _ _ (by show o + 0 * 128 + l.val = o + 0 + l.val; omega))
  | 1 => exact (snd_apply h w0 r l).trans (key w0 0 (by omega) h0 _ _ (by show o + 1 * 128 + l.val = o + 0 + (128 + l.val); omega))
  | 2 => exact (fst_apply h w1 r l).trans (key w1 256 (by omega) h1 _ _ (by show o + 2 * 128 + l.val = o + 256 + l.val; omega))
  | 3 => exact (snd_apply h w1 r l).trans (key w1 256 (by omega) h1 _ _ (by show o + 3 * 128 + l.val = o + 256 + (128 + l.val); omega))
  | 4 => exact (fst_apply h w2 r l).trans (key w2 512 (by omega) h2 _ _ (by show o + 4 * 128 + l.val = o + 512 + l.val; omega))
  | 5 => exact (snd_apply h w2 r l).trans (key w2 512 (by omega) h2 _ _ (by show o + 5 * 128 + l.val = o + 512 + (128 + l.val); omega))

/-- The normed row that the projection multiplies, from the blocks. -/
abbrev hrow (r : Fin 512) : Fin 1024 → EReal :=
  rms len eps (stream (fun k => x0 (ix2 r k)) (fun k => x1 (ix2 0 k)) (fun k j => x2 (ix2 k j)) (fun k j => x3 (ix2 k j))
    (fun j c => x4 (ix2 j c))) (fun k => x5 (ix2 0 k))

/-- The six pairs of heads from column `o`, before the embedding. -/
abbrev heads (h : FVec Ideal S512x1024 .bf16) (w0 w1 w2 : FVec Ideal S1024x256 .bf16) : Fin 6 → FVec Ideal S512x128 .f32 :=
  ![fst (slab h w0), snd (slab h w0), fst (slab h w1), snd (slab h w1), fst (slab h w2), snd (slab h w2)]

/-- The block of queries. -/
theorem out11_apply (p : Fin 6) (r : Fin 512) (l : Fin 128) :
    out0_11 (F := Ideal) x0 x1 x2 x3 x4 x5 x6 x7 x8 x9 (ix4 0 p r l)
      = spin (fun l => lin (hrow x0 x1 x2 x3 x4 x5 r) (fun k j => x6 (ix2 k j)) ⟨512 + p.val * 128 + l.val, by omega⟩)
          (fun l => x7 (ix2 r l)) (fun l => x8 (ix2 r l)) (fun l => x9 (ix2 r l)) l * eighth := by
  have e : out0_11 (F := Ideal) x0 x1 x2 x3 x4 x5 x6 x7 x8 x9 = pairs fun p =>
      qpay (turn (heads (k0_pay63 (F := Ideal) x0 x1 x2 x3 x4 x5 x6 x7 x8 x9) (View.ld x6 r0_6) (View.ld x6 r0_8) (View.ld x6 r0_10) p) (k0_pay23 (View.ld x7 r0_27)) (k0_pay24 (View.ld x8 r0_27)) (k0_pay25 (View.ld x9 r0_27))) := rfl
  rw [e, pairs_apply, qpay_apply, turn_apply]
  clear e
  simp only [cols_apply (k0_pay63 (F := Ideal) x0 x1 x2 x3 x4 x5 x6 x7 x8 x9) x6 (View.ld x6 r0_6) (View.ld x6 r0_8) (View.ld x6 r0_10) 512 (by omega)
    (fun k j => by pointwise) (fun k j => by pointwise) (fun k j => by pointwise), hidden_apply]
  have hz : (![0, 0] : Fin 2 → Nat) = fun _ => 0 := funext fun a => by fin_cases a <;> rfl
  have c7 (l : Fin 128) : (k0_pay23 (View.ld x7 r0_27) (ix2 r l) : EReal) = x7 (ix2 r l) := by pointwise [k0_pay23]
  have c8 (l : Fin 128) : (k0_pay24 (View.ld x8 r0_27) (ix2 r l) : EReal) = x8 (ix2 r l) := by pointwise [k0_pay24]
  have c9 (l : Fin 128) : (k0_pay25 (View.ld x9 r0_27) (ix2 r l) : EReal) = x9 (ix2 r l) := by pointwise [k0_pay25]
  simp only [c7, c8, c9]

/-- The block of keys. -/
theorem out12_apply (p : Fin 6) (r : Fin 512) (l : Fin 128) :
    out0_12 (F := Ideal) x0 x1 x2 x3 x4 x5 x6 x7 x8 x9 (ix4 0 p r l)
      = spin (fun l => lin (hrow x0 x1 x2 x3 x4 x5 r) (fun k j => x6 (ix2 k j)) ⟨1280 + p.val * 128 + l.val, by omega⟩)
          (fun l => x7 (ix2 r l)) (fun l => x8 (ix2 r l)) (fun l => x9 (ix2 r l)) l := by
  have e : out0_12 (F := Ideal) x0 x1 x2 x3 x4 x5 x6 x7 x8 x9 = pairs fun p =>
      kpay (turn (heads (k0_pay63 (F := Ideal) x0 x1 x2 x3 x4 x5 x6 x7 x8 x9) (View.ld x6 r0_12) (View.ld x6 r0_14) (View.ld x6 r0_16) p) (k0_pay23 (View.ld x7 r0_27)) (k0_pay24 (View.ld x8 r0_27)) (k0_pay25 (View.ld x9 r0_27))) := rfl
  rw [e, pairs_apply, kpay_apply, turn_apply]
  clear e
  simp only [cols_apply (k0_pay63 (F := Ideal) x0 x1 x2 x3 x4 x5 x6 x7 x8 x9) x6 (View.ld x6 r0_12) (View.ld x6 r0_14) (View.ld x6 r0_16) 1280 (by omega)
    (fun k j => by pointwise) (fun k j => by pointwise) (fun k j => by pointwise), hidden_apply]
  have c7 (l : Fin 128) : (k0_pay23 (View.ld x7 r0_27) (ix2 r l) : EReal) = x7 (ix2 r l) := by pointwise [k0_pay23]
  have c8 (l : Fin 128) : (k0_pay24 (View.ld x8 r0_27) (ix2 r l) : EReal) = x8 (ix2 r l) := by pointwise [k0_pay24]
  have c9 (l : Fin 128) : (k0_pay25 (View.ld x9 r0_27) (ix2 r l) : EReal) = x9 (ix2 r l) := by pointwise [k0_pay25]
  simp only [c7, c8, c9]

/-- The block of values. -/
theorem out13_apply (p : Fin 6) (r : Fin 512) (l : Fin 128) :
    out0_13 (F := Ideal) x0 x1 x2 x3 x4 x5 x6 x7 x8 x9 (ix4 0 p r l)
      = lin (hrow x0 x1 x2 x3 x4 x5 r) (fun k j => x6 (ix2 k j)) ⟨2048 + p.val * 128 + l.val, by omega⟩ := by
  have e : out0_13 (F := Ideal) x0 x1 x2 x3 x4 x5 x6 x7 x8 x9 = pairs fun p =>
      kpay (heads (k0_pay63 (F := Ideal) x0 x1 x2 x3 x4 x5 x6 x7 x8 x9) (View.ld x6 r0_18) (View.ld x6 r0_20) (View.ld x6 r0_22) p) := rfl
  rw [e, pairs_apply, kpay_apply]
  clear e
  simp only [cols_apply (k0_pay63 (F := Ideal) x0 x1 x2 x3 x4 x5 x6 x7 x8 x9) x6 (View.ld x6 r0_18) (View.ld x6 r0_20) (View.ld x6 r0_22) 2048 (by omega)
    (fun k j => by pointwise) (fun k j => by pointwise) (fun k j => by pointwise), hidden_apply]

/-! ## The spectral half's slabs -/

/-- The block handed to the spectral half: two slabs of 256 columns. -/
theorem out14_apply (b : Fin 2) (r : Fin 512) (j : Fin 256) :
    out0_14 (F := Ideal) x0 x1 x2 x3 x4 x5 x6 x7 x8 x9 (ix3 b r j)
      = lin (hrow x0 x1 x2 x3 x4 x5 r) (fun k j => x6 (ix2 k j)) ⟨b.val * 256 + j.val, by omega⟩ := by
  have hh (r : Fin 512) : hrow x0 x1 x2 x3 x4 x5 r = fun k => (k0_pay63 (F := Ideal) x0 x1 x2 x3 x4 x5 x6 x7 x8 x9 (ix2 r k) : EReal) :=
    funext fun k => (hidden_apply x0 x1 x2 x3 x4 x5 x6 x7 x8 x9 r k).symm
  have e : out0_14 (F := Ideal) x0 x1 x2 x3 x4 x5 x6 x7 x8 x9 = View.canon
      [⟨r0_26, shapeCast S1x512x256 (truncf .bf16 (extractStridedSlice S512x256 ![0, 256]
          (matmul dot_S512x1024_S1024x512_S512x512_1_0_0_1_n_n none (k0_pay63 (F := Ideal) x0 x1 x2 x3 x4 x5 x6 x7 x8 x9)
            (shapeCast S1024x512 (View.ld x6 r0_24) shapeCasts_S1024x512_S1024x512) (constant S512x512 .f32 0x00000000#32))
          slices_S512x512_o0_256_S512x256) bitsLt_bf16_f32) shapeCasts_S512x256_S1x512x256⟩,
       ⟨r0_25, shapeCast S1x512x256 (truncf .bf16 (extractStridedSlice S512x256 ![0, 0]
          (matmul dot_S512x1024_S1024x512_S512x512_1_0_0_1_n_n none (k0_pay63 (F := Ideal) x0 x1 x2 x3 x4 x5 x6 x7 x8 x9)
            (shapeCast S1024x512 (View.ld x6 r0_24) shapeCasts_S1024x512_S1024x512) (constant S512x512 .f32 0x00000000#32))
          slices_S512x512_o0_0_S512x256) bitsLt_bf16_f32) shapeCasts_S512x256_S1x512x256⟩] := rfl
  rw [e, hh]
  clear e hh
  generalize k0_pay63 (F := Ideal) x0 x1 x2 x3 x4 x5 x6 x7 x8 x9 = h
  refine (View.canon_apply_of_pieces (fun y : S2x512x256.Idx => (lin (fun k => h (ix2 (y 1) k)) (fun k j => x6 (ix2 k j))
    ⟨(y 0).val * 256 + (y 2).val, by have h0 : (y 0).val < 2 := (y 0).isLt; have h2 : (y 2).val < 256 := (y 2).isLt; omega⟩ : EReal)) _ ?_ _ (cover0_14 ..)).trans rfl
  intro q hq
  simp only [List.mem_cons, List.not_mem_nil, or_false] at hq
  rcases hq with rfl | rfl
  · intro x
    obtain ⟨u, i, j, rfl⟩ : ∃ (u : Fin 1) (i : Fin 512) (j : Fin 256), x = ix3 u i j := ⟨x 0, x 1, x 2, eq_ix3 x⟩
    have e : r0_26.emb (ix3 u i j) = ix3 1 i j := by
      funext a
      apply Fin.ext
      match a with
      | ⟨0, _⟩ => show 1 + 1 * u.val = 1; omega
      | ⟨1, _⟩ => show 0 + 1 * i.val = i.val; omega
      | ⟨2, _⟩ => show 0 + 1 * j.val = j.val; omega
    rw [e]
    pointwise [lin]
  · intro x
    obtain ⟨u, i, j, rfl⟩ : ∃ (u : Fin 1) (i : Fin 512) (j : Fin 256), x = ix3 u i j := ⟨x 0, x 1, x 2, eq_ix3 x⟩
    have e : r0_25.emb (ix3 u i j) = ix3 0 i j := by
      funext a
      apply Fin.ext
      match a with
      | ⟨0, _⟩ => show 0 + 1 * u.val = 0; omega
      | ⟨1, _⟩ => show 0 + 1 * i.val = i.val; omega
      | ⟨2, _⟩ => show 0 + 1 * j.val = j.val; omega
    rw [e]
    pointwise [lin]

end Cert.Kernel7Ideal.Proj

end
-- ==== Proof.ProjHost.lean ====
/-
  The arrays the projection's host code prepares: the folded projection beside the attention's columns, and the tables of
  the rotary embedding.
-/
module

public import proofs.«01_k».proof.Proof.ProjBody
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Proj

/-- The rotary embedding's angle at position `s` and frequency `f`: `s * 10000 ^ (-2 f / 64)`, as the host's operations
    give it. -/
def angle (s f : ℕ) : EReal :=
  FloatOps.sitofp (F := Ideal) FTy.f32 (BitVec.ofNat 32 s) * Ideal.pow (Ideal.ofBits .f32 0x461C4000#32)
    (Ideal.div (-(Ideal.ofBits .f32 0x40000000#32 * FloatOps.sitofp (F := Ideal) FTy.f32 (BitVec.ofNat 32 f))) (Ideal.ofBits .f32 0x42800000#32))

end Cert.Proj

namespace Cert.Kernel7Ideal.Proj

open Cert.Kernel7Ideal Cert.Kernel7Ideal.Gen Cert.Proj

variable (m : (ℓ : Loc nD τ sig) → Buf (Elt Ideal) ℓ) (c : Dev nD)

/-- The cosines: every 32 lanes the same. -/
theorem cos_array (s : Fin 8192) (l : Fin 128) :
    (V m c main_v31 (ix2 s l) : EReal) = Ideal.cos (angle s.val (l.val % 32)) := by
  after_reads_at
  rfl

/-- The table of the lanes further on: minus the sines in the first half of each head, zeros in the second. -/
theorem lo_array (s : Fin 8192) (l : Fin 128) :
    (V m c main_v36 (ix2 s l) : EReal) = if l.val % 64 < 32 then -Ideal.sin (angle s.val (l.val % 32)) else 0 := by
  after_reads_at
  split
  · rename_i h
    rw [show l.val % 32 = l.val % 64 by omega]
    after_reads_at
    rfl
  · rename_i h
    after_reads_at

/-- The table of the lanes further back: zeros in the first half of each head, the sines in the second. -/
theorem hi_array (s : Fin 8192) (l : Fin 128) :
    (V m c main_v40 (ix2 s l) : EReal) = if l.val % 64 < 32 then 0 else Ideal.sin (angle s.val (l.val % 32)) := by
  after_reads_at
  split
  · rename_i h
    after_reads_at
  · rename_i h
    rw [show l.val % 32 = l.val % 64 - 32 by omega]
    after_reads_at
    rfl

/-- The first 512 columns of the projection are the folded ones. -/
theorem folded_array (k : Fin 1024) (j : Fin 2816) (n : Fin 512) (h : j.val = n.val) :
    (V m c main_v3 (ix2 k j) : EReal) = m ((c : Thread nD τ).loc main_arg6) (ix2 k n) := by
  after_reads_at
  rw [dif_pos (by omega)]
  exact congrArg (fun x => m (c, Proc.tc.devRef main_arg6) (ix2 k x)) (Fin.ext h)

/-- Its other columns are the input projection's from column 256 on. -/
theorem rest_array (k : Fin 1024) (j : Fin 2816) (n : Fin 2560) (h : j.val = n.val + 256) (hn : 256 ≤ n.val) :
    (V m c main_v3 (ix2 k j) : EReal) = m ((c : Thread nD τ).loc main_arg7) (ix2 k n) := by
  after_reads_at
  rw [dif_neg (by omega)]
  exact congrArg (fun x => m (c, Proc.tc.devRef main_arg7) (ix2 k x)) (Fin.ext (by show 256 + (j.val - 512) = n.val; omega))

end Cert.Kernel7Ideal.Proj

end
-- ==== Proof.ProjRun.lean ====
/-
  The five result arrays of the projection's call as functions of its arguments: each block the body computes, read from
  the arguments, and the blocks put together.
-/
module

public import proofs.«01_k».proof.Proof.ProjHost
public import proofs.«01_k».proof.Proof.Gen.Kernel7Ideal.Value

@[expose] public section

set_option maxRecDepth 16384

noncomputable section

open Idealize.ShloMosaic Idealize.ShloMosaic.TcCoe Idealize.SL.Sem

namespace Cert.Kernel7Ideal.Proj

open Cert.Kernel7Ideal Cert.Kernel7Ideal.Gen Cert.Rows Cert.Proj

/-! ## The results as functions of the arguments -/

section Results

variable (x : FVec Ideal S8x8192x1024 .f32) (g : FVec Ideal S1024 .f32) (wg wu : FVec Ideal S1024x2816 .f32)
  (wd : FVec Ideal S2816x1024 .f32) (gm : FVec Ideal S1024 .f32) (folded : FVec Ideal S1024x512 .f32) (w : FVec Ideal S1024x2560 .f32)

/-- The row of the stream after the first half, at position `s` of batch `b`. -/
def srow (b : Fin 8) (s : Fin 8192) : Fin 1024 → EReal :=
  stream (fun k => x (ix3 b s k)) (fun k => g (ix1 k)) (fun k j => wg (ix2 k j)) (fun k j => wu (ix2 k j)) (fun j c => wd (ix2 j c))

/-- The normed row that the projection multiplies. -/
def nrow (b : Fin 8) (s : Fin 8192) : Fin 1024 → EReal := rms len eps (srow x g wg wu wd b s) (fun k => gm (ix1 k))

/-- The pair of heads `p` whose columns start at `o`, before the embedding. -/
def pair (o : ℕ) (ho : o ≤ 1792) (b : Fin 8) (p : Fin 6) (s : Fin 8192) (l : Fin 128) : EReal :=
  ∑ k, nrow x g wg wu wd gm b s k * w (ix2 k ⟨o + p.val * 128 + l.val, by omega⟩)

/-- The embedding at position `s`. -/
def turned (s : Fin 8192) (t : Fin 128 → EReal) (l : Fin 128) : EReal :=
  rope t (fun f => Ideal.cos (angle s.val f.val)) (fun f => Ideal.sin (angle s.val f.val)) l

/-- The residual stream, the queries, the keys, the values and the slabs for the spectral half. -/
def streamed : FVec Ideal S65536x1024 .f32 := fun i =>
  have h : (i 0).val < 65536 := (i 0).isLt
  srow x g wg wu wd ⟨(i 0).val / 8192, by omega⟩ ⟨(i 0).val % 8192, by omega⟩ (i 1)

def queried : FVec Ideal S8x6x8192x128 .bf16 := fun i =>
  turned (i 2) (pair x g wg wu wd gm w 256 (by omega) (i 0) (i 1) (i 2)) (i 3) * eighth

def keyed : FVec Ideal S8x6x8192x128 .bf16 := fun i =>
  turned (i 2) (pair x g wg wu wd gm w 1024 (by omega) (i 0) (i 1) (i 2)) (i 3)

def valued : FVec Ideal S8x6x8192x128 .bf16 := fun i => pair x g wg wu wd gm w 1792 (by omega) (i 0) (i 1) (i 2) (i 3)

def slabbed : FVec Ideal S2x8192x2048 .bf16 := fun i =>
  have h0 : (i 0).val < 2 := (i 0).isLt
  have h2 : (i 2).val < 2048 := (i 2).isLt
  ∑ k, nrow x g wg wu wd gm ⟨(i 2).val / 256, by omega⟩ (i 1) k * folded (ix2 k ⟨(i 0).val * 256 + (i 2).val % 256, by omega⟩)

end Results

/-! ## The blocks, read from the arguments -/

variable (m : (ℓ : Loc nD τ sig) → Buf (Elt Ideal) ℓ)

/-- The windows' block indices at a point of the grid. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val % 16, 0] ∧ win0_8.index t = ![t.val % 16, 0] ∧ win0_9.index t = ![t.val % 16, 0]
    ∧ win0_10.index t = ![t.val, 0] ∧ win0_11.index t = ![t.val / 16, 0, t.val % 16, 0] ∧ win0_12.index t = ![t.val / 16, 0, t.val % 16, 0]
    ∧ win0_13.index t = ![t.val / 16, 0, t.val % 16, 0] ∧ win0_14.index t = ![0, t.val % 16, t.val / 16] := by decide +kernel

variable (c : Dev nD) (t : Fin cfg0.N)

theorem rows_read (r : Fin 512) (k : Fin 1024) (b : Fin 8) (s : Fin 8192) (hbs : t.val * 512 + r.val = b.val * 8192 + s.val) :
    (iblk m c 0 t (ix2 r k) : EReal) = m ((c : Thread nD τ).loc main_arg0) (ix3 b s k) := by
  blk_ext! [iblk, V, idx t]

theorem gain_read (k : Fin 1024) : (iblk m c 1 t (ix2 0 k) : EReal) = m ((c : Thread nD τ).loc main_arg1) (ix1 k) := by
  blk_ext! [iblk, V, idx t]

theorem gate_read (k : Fin 1024) (j : Fin 2816) : (iblk m c 2 t (ix2 k j) : EReal) = m ((c : Thread nD τ).loc main_arg2) (ix2 k j) := by
  blk_ext! [iblk, V, idx t]

theorem up_read (k : Fin 1024) (j : Fin 2816) : (iblk m c 3 t (ix2 k j) : EReal) = m ((c : Thread nD τ).loc main_arg3) (ix2 k j) := by
  blk_ext! [iblk, V, idx t]

theorem down_read (j : Fin 2816) (k : Fin 1024) : (iblk m c 4 t (ix2 j k) : EReal) = m ((c : Thread nD τ).loc main_arg4) (ix2 j k) := by
  blk_ext! [iblk, V, idx t]

theorem mixgain_read (k : Fin 1024) : (iblk m c 5 t (ix2 0 k) : EReal) = m ((c : Thread nD τ).loc main_arg5) (ix1 k) := by
  blk_ext! [iblk, V, idx t]

theorem win_read (k : Fin 1024) (j : Fin 2816) : (iblk m c 6 t (ix2 k j) : EReal) = V m c main_v3 (ix2 k j) := by
  blk_ext! [iblk, idx t]

theorem cos_read (r : Fin 512) (l : Fin 128) (s : Fin 8192) (hs : s.val = t.val % 16 * 512 + r.val) :
    (iblk m c 7 t (ix2 r l) : EReal) = Ideal.cos (angle s.val (l.val % 32)) := by
  rw [← cos_array m c]
  blk_ext! [iblk, idx t]

theorem lo_read (r : Fin 512) (l : Fin 128) (s : Fin 8192) (hs : s.val = t.val % 16 * 512 + r.val) :
    (iblk m c 8 t (ix2 r l) : EReal) = if l.val % 64 < 32 then -Ideal.sin (angle s.val (l.val % 32)) else 0 := by
  rw [← lo_array m c]
  blk_ext! [iblk, idx t]

theorem hi_read (r : Fin 512) (l : Fin 128) (s : Fin 8192) (hs : s.val = t.val % 16 * 512 + r.val) :
    (iblk m c 9 t (ix2 r l) : EReal) = if l.val % 64 < 32 then 0 else Ideal.sin (angle s.val (l.val % 32)) := by
  rw [← hi_array m c]
  blk_ext! [iblk, idx t]

/-- The arguments as the results' functions take them. -/
abbrev A0 : FVec Ideal S8x8192x1024 .f32 := m ((c : Thread nD τ).loc main_arg0)
abbrev A1 : FVec Ideal S1024 .f32 := m ((c : Thread nD τ).loc main_arg1)
abbrev A2 : FVec Ideal S1024x2816 .f32 := m ((c : Thread nD τ).loc main_arg2)
abbrev A3 : FVec Ideal S1024x2816 .f32 := m ((c : Thread nD τ).loc main_arg3)
abbrev A4 : FVec Ideal S2816x1024 .f32 := m ((c : Thread nD τ).loc main_arg4)
abbrev A5 : FVec Ideal S1024 .f32 := m ((c : Thread nD τ).loc main_arg5)
abbrev A6 : FVec Ideal S1024x512 .f32 := m ((c : Thread nD τ).loc main_arg6)
abbrev A7 : FVec Ideal S1024x2560 .f32 := m ((c : Thread nD τ).loc main_arg7)

/-- Row `r` of the block of the stream is the argument's row. -/
theorem srow_read (r : Fin 512) (b : Fin 8) (s : Fin 8192) (hbs : t.val * 512 + r.val = b.val * 8192 + s.val) :
    stream (fun k => iblk m c 0 t (ix2 r k)) (fun k => iblk m c 1 t (ix2 0 k)) (fun k j => iblk m c 2 t (ix2 k j))
        (fun k j => iblk m c 3 t (ix2 k j)) (fun j k => iblk m c 4 t (ix2 j k))
      = srow (A0 m c) (A1 m c) (A2 m c) (A3 m c) (A4 m c) b s := by
  have hr (k : Fin 1024) := rows_read m c t r k b s hbs
  simp only [hr, gain_read, gate_read, up_read, down_read]
  rfl

/-- So is the normed row. -/
theorem nrow_read (r : Fin 512) (b : Fin 8) (s : Fin 8192) (hbs : t.val * 512 + r.val = b.val * 8192 + s.val) :
    hrow (iblk m c 0 t) (iblk m c 1 t) (iblk m c 2 t) (iblk m c 3 t) (iblk m c 4 t) (iblk m c 5 t) r
      = nrow (A0 m c) (A1 m c) (A2 m c) (A3 m c) (A4 m c) (A5 m c) b s := by
  show rms len eps (stream _ _ _ _ _) _ = _
  rw [srow_read m c t r b s hbs]
  simp only [mixgain_read]
  rfl

/-- A pair of heads of the block: column `256 + o` of the body's weights is column `o` of the input projection. -/
theorem pair_read (r : Fin 512) (b : Fin 8) (s : Fin 8192) (hbs : t.val * 512 + r.val = b.val * 8192 + s.val) (o : ℕ) (ho : o ≤ 1792)
    (ho' : 256 ≤ o) (p : Fin 6) (l : Fin 128) (j : Fin 2816) (hj : j.val = o + 256 + p.val * 128 + l.val) :
    lin (hrow (iblk m c 0 t) (iblk m c 1 t) (iblk m c 2 t) (iblk m c 3 t) (iblk m c 4 t) (iblk m c 5 t) r)
        (fun k j => iblk m c 6 t (ix2 k j)) j
      = pair (A0 m c) (A1 m c) (A2 m c) (A3 m c) (A4 m c) (A5 m c) (A7 m c) o ho b p s l := by
  rw [nrow_read m c t r b s hbs]
  exact Finset.sum_congr rfl fun k _ => congrArg₂ (· * ·) rfl ((win_read m c t k j).trans
    (rest_array m c k j ⟨o + p.val * 128 + l.val, by omega⟩ (by simp only; omega) (by simp only; omega)))

/-- The body's embedding with the block's tables is the embedding at the row's position. -/
theorem turned_read (r : Fin 512) (s : Fin 8192) (hs : s.val = t.val % 16 * 512 + r.val) (u : Fin 128 → EReal) (l : Fin 128) :
    spin u (fun l => iblk m c 7 t (ix2 r l)) (fun l => iblk m c 8 t (ix2 r l)) (fun l => iblk m c 9 t (ix2 r l)) l = turned s u l :=
  spin_eq_rope u _ _ _ _ _ (fun l => cos_read m c t r l s hs) (fun l => lo_read m c t r l s hs) (fun l => hi_read m c t r l s hs) l

/-! ## The arrays after the run -/

/-- The stream's array. -/
theorem final10 : (dats m 0 c).arrAt 10 cfg0.N = streamed (A0 m c) (A1 m c) (A2 m c) (A3 m c) (A4 m c) := by
  refine (dats m 0 c).arrAt_eq_of_covers 10 _ (by decide +kernel) fun t hf y => ?_
  blk_simp
  rw [after0_10]
  have ht : t.val < 128 := lt_of_lt_of_eq t.isLt N_0
  obtain ⟨r, l, rfl⟩ : ∃ (r : Fin 512) (l : Fin 1024), y = ix2 r l := ⟨y 0, y 1, eq_ix2 y⟩
  refine (out10_apply _ _ _ _ _ _ _ _ _ _ r l).trans ?_
  rw [srow_read m c t r ⟨(t.val * 512 + r.val) / 8192, by omega⟩ ⟨(t.val * 512 + r.val) % 8192, by omega⟩ (by simp only; omega)]
  have e : (win0_10.blk t).view.emb (ix2 r l) = ix2 ⟨t.val * 512 + r.val, by omega⟩ l := by
    have h := (idx t).2.2.2.2.2.2.2.2.2.2.1
    funext a
    apply Fin.ext
    match a with
    | ⟨0, _⟩ => show win0_10.index t 0 * 512 + 1 * r.val = _; rw [h]; show t.val * 512 + 1 * r.val = t.val * 512 + r.val; omega
    | ⟨1, _⟩ => show win0_10.index t 1 * 1024 + 1 * l.val = _; rw [h]; show 0 * 1024 + 1 * l.val = l.val; omega
  rw [e]
  rfl

/-- The queries' array. -/
theorem final11 : (dats m 0 c).arrAt 11 cfg0.N = queried (A0 m c) (A1 m c) (A2 m c) (A3 m c) (A4 m c) (A5 m c) (A7 m c) := by
  refine (dats m 0 c).arrAt_eq_of_covers 11 _ (by decide +kernel) fun t hf y => ?_
  blk_simp
  rw [after0_11]
  have ht : t.val < 128 := lt_of_lt_of_eq t.isLt N_0
  obtain ⟨u, p, r, l, rfl⟩ : ∃ (u : Fin 1) (p : Fin 6) (r : Fin 512) (l : Fin 128), y = ix4 u p r l := ⟨y 0, y 1, y 2, y 3, eq_ix4 y⟩
  obtain rfl : u = 0 := Subsingleton.elim u 0
  refine (out11_apply _ _ _ _ _ _ _ _ _ _ p r l).trans ?_
  have hp (l : Fin 128) := pair_read m c t r ⟨t.val / 16, by omega⟩ ⟨t.val % 16 * 512 + r.val, by omega⟩ (by simp only; omega) 256 (by omega)
    (by omega) p l ⟨512 + p.val * 128 + l.val, by omega⟩ rfl
  simp only [hp]
  rw [turned_read m c t r ⟨t.val % 16 * 512 + r.val, by omega⟩ rfl]
  have e : (win0_11.blk t).view.emb (ix4 0 p r l) = ix4 ⟨t.val / 16, by omega⟩ p ⟨t.val % 16 * 512 + r.val, by omega⟩ l := by
    have h := (idx t).2.2.2.2.2.2.2.2.2.2.2.1
    funext a
    apply Fin.ext
    match a with
    | ⟨0, _⟩ => show win0_11.index t 0 * 1 + 1 * 0 = _; rw [h]; show t.val / 16 * 1 + 1 * 0 = t.val / 16; omega
    | ⟨1, _⟩ => show win0_11.index t 1 * 6 + 1 * p.val = _; rw [h]; show 0 * 6 + 1 * p.val = p.val; omega
    | ⟨2, _⟩ => show win0_11.index t 2 * 512 + 1 * r.val = _; rw [h]; show t.val % 16 * 512 + 1 * r.val = t.val % 16 * 512 + r.val; omega
    | ⟨3, _⟩ => show win0_11.index t 3 * 128 + 1 * l.val = _; rw [h]; show 0 * 128 + 1 * l.val = l.val; omega
  rw [e]
  rfl

/-- The keys' array. -/
theorem final12 : (dats m 0 c).arrAt 12 cfg0.N = keyed (A0 m c) (A1 m c) (A2 m c) (A3 m c) (A4 m c) (A5 m c) (A7 m c) := by
  refine (dats m 0 c).arrAt_eq_of_covers 12 _ (by decide +kernel) fun t hf y => ?_
  blk_simp
  rw [after0_12]
  have ht : t.val < 128 := lt_of_lt_of_eq t.isLt N_0
  obtain ⟨u, p, r, l, rfl⟩ : ∃ (u : Fin 1) (p : Fin 6) (r : Fin 512) (l : Fin 128), y = ix4 u p r l := ⟨y 0, y 1, y 2, y 3, eq_ix4 y⟩
  obtain rfl : u = 0 := Subsingleton.elim u 0
  refine (out12_apply _ _ _ _ _ _ _ _ _ _ p r l).trans ?_
  have hp (l : Fin 128) := pair_read m c t r ⟨t.val / 16, by omega⟩ ⟨t.val % 16 * 512 + r.val, by omega⟩ (by simp only; omega) 1024 (by omega)
    (by omega) p l ⟨1280 + p.val * 128 + l.val, by omega⟩ rfl
  simp only [hp]
  rw [turned_read m c t r ⟨t.val % 16 * 512 + r.val, by omega⟩ rfl]
  have e : (win0_12.blk t).view.emb (ix4 0 p r l) = ix4 ⟨t.val / 16, by omega⟩ p ⟨t.val % 16 * 512 + r.val, by omega⟩ l := by
    have h := (idx t).2.2.2.2.2.2.2.2.2.2.2.2.1
    funext a
    apply Fin.ext
    match a with
    | ⟨0, _⟩ => show win0_12.index t 0 * 1 + 1 * 0 = _; rw [h]; show t.val / 16 * 1 + 1 * 0 = t.val / 16; omega
    | ⟨1, _⟩ => show win0_12.index t 1 * 6 + 1 * p.val = _; rw [h]; show 0 * 6 + 1 * p.val = p.val; omega
    | ⟨2, _⟩ => show win0_12.index t 2 * 512 + 1 * r.val = _; rw [h]; show t.val % 16 * 512 + 1 * r.val = t.val % 16 * 512 + r.val; omega
    | ⟨3, _⟩ => show win0_12.index t 3 * 128 + 1 * l.val = _; rw [h]; show 0 * 128 + 1 * l.val = l.val; omega
  rw [e]
  rfl

/-- The values' array. -/
theorem final13 : (dats m 0 c).arrAt 13 cfg0.N = valued (A0 m c) (A1 m c) (A2 m c) (A3 m c) (A4 m c) (A5 m c) (A7 m c) := by
  refine (dats m 0 c).arrAt_eq_of_covers 13 _ (by decide +kernel) fun t hf y => ?_
  blk_simp
  rw [after0_13]
  have ht : t.val < 128 := lt_of_lt_of_eq t.isLt N_0
  obtain ⟨u, p, r, l, rfl⟩ : ∃ (u : Fin 1) (p : Fin 6) (r : Fin 512) (l : Fin 128), y = ix4 u p r l := ⟨y 0, y 1, y 2, y 3, eq_ix4 y⟩
  obtain rfl : u = 0 := Subsingleton.elim u 0
  refine (out13_apply _ _ _ _ _ _ _ _ _ _ p r l).trans ?_
  rw [pair_read m c t r ⟨t.val / 16, by omega⟩ ⟨t.val % 16 * 512 + r.val, by omega⟩ (by simp only; omega) 1792 (by omega)
    (by omega) p l ⟨2048 + p.val * 128 + l.val, by omega⟩ rfl]
  have e : (win0_13.blk t).view.emb (ix4 0 p r l) = ix4 ⟨t.val / 16, by omega⟩ p ⟨t.val % 16 * 512 + r.val, by omega⟩ l := by
    have h := (idx t).2.2.2.2.2.2.2.2.2.2.2.2.2.1
    funext a
    apply Fin.ext
    match a with
    | ⟨0, _⟩ => show win0_13.index t 0 * 1 + 1 * 0 = _; rw [h]; show t.val / 16 * 1 + 1 * 0 = t.val / 16; omega
    | ⟨1, _⟩ => show win0_13.index t 1 * 6 + 1 * p.val = _; rw [h]; show 0 * 6 + 1 * p.val = p.val; omega
    | ⟨2, _⟩ => show win0_13.index t 2 * 512 + 1 * r.val = _; rw [h]; show t.val % 16 * 512 + 1 * r.val = t.val % 16 * 512 + r.val; omega
    | ⟨3, _⟩ => show win0_13.index t 3 * 128 + 1 * l.val = _; rw [h]; show 0 * 128 + 1 * l.val = l.val; omega
  rw [e]
  rfl

/-- The array for the spectral half. -/
theorem final14 : (dats m 0 c).arrAt 14 cfg0.N = slabbed (A0 m c) (A1 m c) (A2 m c) (A3 m c) (A4 m c) (A5 m c) (A6 m c) := by
  refine (dats m 0 c).arrAt_eq_of_covers 14 _ (by decide +kernel) fun t hf y => ?_
  blk_simp
  rw [after0_14]
  have ht : t.val < 128 := lt_of_lt_of_eq t.isLt N_0
  obtain ⟨d, r, j, rfl⟩ : ∃ (d : Fin 2) (r : Fin 512) (j : Fin 256), y = ix3 d r j := ⟨y 0, y 1, y 2, eq_ix3 y⟩
  refine (out14_apply _ _ _ _ _ _ _ _ _ _ d r j).trans ?_
  rw [nrow_read m c t r ⟨t.val / 16, by omega⟩ ⟨t.val % 16 * 512 + r.val, by omega⟩ (by simp only; omega)]
  have e : (win0_14.blk t).view.emb (ix3 d r j) = ix3 d ⟨t.val % 16 * 512 + r.val, by omega⟩ ⟨t.val / 16 * 256 + j.val, by omega⟩ := by
    have h := (idx t).2.2.2.2.2.2.2.2.2.2.2.2.2.2
    funext a
    apply Fin.ext
    match a with
    | ⟨0, _⟩ => show win0_14.index t 0 * 2 + 1 * d.val = _; rw [h]; show 0 * 2 + 1 * d.val = d.val; omega
    | ⟨1, _⟩ => show win0_14.index t 1 * 512 + 1 * r.val = _; rw [h]; show t.val % 16 * 512 + 1 * r.val = t.val % 16 * 512 + r.val; omega
    | ⟨2, _⟩ => show win0_14.index t 2 * 256 + 1 * j.val = _; rw [h]; show t.val / 16 * 256 + 1 * j.val = t.val / 16 * 256 + j.val; omega
  rw [e]
  refine Finset.sum_congr rfl fun k _ => ?_
  refine congrArg₂ (· * ·) (congrFun (congrArg (nrow (A0 m c) (A1 m c) (A2 m c) (A3 m c) (A4 m c) (A5 m c) · _) (Fin.ext ?_)) k)
    (((win_read m c t k _).trans (folded_array m c k _ ⟨d.val * 256 + j.val, by omega⟩ rfl)).trans
      (congrArg (A6 m c) (congrArg (ix2 k) (Fin.ext ?_))))
  · show t.val / 16 = (t.val / 16 * 256 + j.val) / 256; omega
  · show d.val * 256 + j.val = d.val * 256 + (t.val / 16 * 256 + j.val) % 256; omega

end Cert.Kernel7Ideal.Proj

end
-- ==== Proof.Proj.lean ====
/-
  The projection's call with its rotary embedding: at the extended reals its five result arrays are the reference's, entry
  by entry, for all arguments.
-/
module

public import proofs.«01_k».proof.Defs
public import proofs.«01_k».proof.Proof.ProjRun
public import proofs.«01_k».proof.Proof.Gen.Kernel7.Frame
public import proofs.«01_k».proof.Proof.Gen.Reference7Ideal.Run
public import proofs.«01_k».proof.Proof.Gen.Reference7Ideal.Read
public import Idealize.ShloMosaic.Lib.Quiescent

@[expose] public section

set_option maxRecDepth 16384

noncomputable section

open Idealize.ShloMosaic Idealize.ShloMosaic.TcCoe Idealize.SL.Sem

namespace Cert.Reference7Ideal.Proj

open Cert.Reference7Ideal Cert.Reference7Ideal.Read Cert.Rows Cert.Proj Cert.Kernel7Ideal.Proj

variable (x0 : FVec Ideal S8x8192x1024 .f32) (x1 : FVec Ideal S1024 .f32) (x2 x3 : FVec Ideal S1024x2816 .f32)
  (x4 : FVec Ideal S2816x1024 .f32) (x5 : FVec Ideal S1024 .f32) (x6 : FVec Ideal S1024x512 .f32) (x7 : FVec Ideal S1024x2560 .f32)

/-- The reference's first normed row. -/
theorem normed_apply (b : Fin 8) (s : Fin 8192) (k : Fin 1024) :
    (val_main_v12 (F := Ideal) x0 x1 (ix3 b s k) : EReal) = rms len eps (fun k => x0 (ix3 b s k)) (fun k => x1 (ix1 k)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

/-- The reference's stream. -/
theorem srow_apply (b : Fin 8) (s : Fin 8192) (l : Fin 1024) :
    (val_main_v20 (F := Ideal) x0 x1 x2 x3 x4 (ix3 b s l) : EReal) = srow x0 x1 x2 x3 x4 b s l := by
  have hn : (fun k => (val_main_v12 (F := Ideal) x0 x1 (ix3 b s k) : EReal))
      = rms len eps (fun k => x0 (ix3 b s k)) (fun k => x1 (ix1 k)) := funext fun k => normed_apply x0 x1 b s k
  unfold srow stream swi
  rw [← hn]
  unfold val_main_v20 val_main_v19 val_main_v17 val_main_v16 val_main_v15 val_main_v14 val_main_call0_v5 val_main_call0_v3
    val_main_call0_v1 val_main_call0_v0 val_main_v13
  generalize val_main_v12 (F := Ideal) x0 x1 = h
  pointwise [val_main_v18, val_main_cst_2, val_main_call0_v2, val_main_call0_v4, val_main_call0_cst, val_main_call0_cst_0]
  rfl

/-- The reference's second normed row. -/
theorem nrow_apply (b : Fin 8) (s : Fin 8192) (k : Fin 1024) :
    (val_main_v33 (F := Ideal) x0 x1 x2 x3 x4 x5 (ix3 b s k) : EReal) = nrow x0 x1 x2 x3 x4 x5 b s k := by
  have hs : (fun k => (val_main_v20 (F := Ideal) x0 x1 x2 x3 x4 (ix3 b s k) : EReal)) = srow x0 x1 x2 x3 x4 b s :=
    funext fun k => srow_apply x0 x1 x2 x3 x4 b s k
  unfold nrow
  rw [← hs]
  unfold val_main_v33 val_main_v30 val_main_v29 val_main_v28 val_main_v27 val_main_v25 val_main_v23 val_main_v22 val_main_v21
  generalize val_main_v20 (F := Ideal) x0 x1 x2 x3 x4 = y
  pointwise [val_main_v32, val_main_v31, val_main_v26, val_main_v24, val_main_cst_3, val_main_cst_4, val_main_cst_5, rms]

/-- The reference's projected row. -/
theorem lin_apply (b : Fin 8) (s : Fin 8192) (n : Fin 2560) :
    (val_main_v34 (F := Ideal) x0 x1 x2 x3 x4 x5 x7 (ix3 b s n) : EReal) = ∑ k, nrow x0 x1 x2 x3 x4 x5 b s k * x7 (ix2 k n) := by
  simp only [← nrow_apply]
  unfold val_main_v34
  generalize val_main_v33 (F := Ideal) x0 x1 x2 x3 x4 x5 = y
  pointwise

/-- Its queries by head, before the embedding. -/
theorem queries_apply (b : Fin 8) (s : Fin 8192) (h : Fin 12) (d : Fin 64) :
    (val_main_v36 (F := Ideal) x0 x1 x2 x3 x4 x5 x7 (ix4 b s h d) : EReal)
      = ∑ k, nrow x0 x1 x2 x3 x4 x5 b s k * x7 (ix2 k ⟨256 + (h.val * 64 + d.val), by omega⟩) := by
  rw [← lin_apply]
  unfold val_main_v36 val_main_v35
  generalize val_main_v34 (F := Ideal) x0 x1 x2 x3 x4 x5 x7 = y
  pointwise

/-- Its keys by head, before the embedding. -/
theorem keys_apply (b : Fin 8) (s : Fin 8192) (h : Fin 12) (d : Fin 64) :
    (val_main_v38 (F := Ideal) x0 x1 x2 x3 x4 x5 x7 (ix4 b s h d) : EReal)
      = ∑ k, nrow x0 x1 x2 x3 x4 x5 b s k * x7 (ix2 k ⟨1024 + (h.val * 64 + d.val), by omega⟩) := by
  rw [← lin_apply]
  unfold val_main_v38 val_main_v37
  generalize val_main_v34 (F := Ideal) x0 x1 x2 x3 x4 x5 x7 = y
  pointwise

/-- The reference's embedding of one head. -/
def turn (s : Fin 8192) (u : Fin 64 → EReal) (d : Fin 64) : EReal :=
  u d * Ideal.cos (angle s.val (d.val % 32))
    + (if h : d.val < 32 then -u ⟨32 + d.val, by omega⟩ else u ⟨d.val - 32, by omega⟩) * Ideal.sin (angle s.val (d.val % 32))

/-- The queries' embedding is it, head by head. -/
theorem turned_queries (b : Fin 8) (s : Fin 8192) (h : Fin 12) (d : Fin 64) :
    (val_main_v70 (F := Ideal) x0 x1 x2 x3 x4 x5 x7 (ix4 b s h d) : EReal)
      = turn s (fun d => val_main_v36 (F := Ideal) x0 x1 x2 x3 x4 x5 x7 (ix4 b s h d)) d := by
  unfold val_main_v70 val_main_v69 val_main_v66 val_main_v63 val_main_v62 val_main_v61 val_main_v60
  generalize val_main_v36 (F := Ideal) x0 x1 x2 x3 x4 x5 x7 = y
  pointwise [turn, val_main_v65, val_main_v64, val_main_v68, val_main_v67, val_main_v59, val_main_v58, val_main_v57, val_main_v56, val_main_v55, val_main_v54,
    val_main_v53, val_main_v52, val_main_v51, val_main_v50, val_main_v49, val_main_v48, val_main_v47, val_main_v46, val_main_v45, val_main_v44, val_main_v43,
    val_main_v42, val_main_v41, val_main_v40, val_main_cst_6, val_main_cst_7, val_main_cst_8, val_main_cst_9, angle]
  by_cases hd : d.val < 32
  · simp only [dif_pos hd, Nat.mod_eq_of_lt hd]
  · simp only [dif_neg hd, show d.val % 32 = d.val - 32 by omega]

/-- And the keys'. -/
theorem turned_keys (b : Fin 8) (s : Fin 8192) (h : Fin 12) (d : Fin 64) :
    (val_main_v103 (F := Ideal) x0 x1 x2 x3 x4 x5 x7 (ix4 b s h d) : EReal)
      = turn s (fun d => val_main_v38 (F := Ideal) x0 x1 x2 x3 x4 x5 x7 (ix4 b s h d)) d := by
  unfold val_main_v103 val_main_v102 val_main_v99 val_main_v96 val_main_v95 val_main_v94 val_main_v93
  generalize val_main_v38 (F := Ideal) x0 x1 x2 x3 x4 x5 x7 = y
  pointwise [turn, val_main_v98, val_main_v97, val_main_v101, val_main_v100, val_main_v92, val_main_v91, val_main_v90, val_main_v89, val_main_v88, val_main_v87,
    val_main_v86, val_main_v85, val_main_v84, val_main_v83, val_main_v82, val_main_v81, val_main_v80, val_main_v79, val_main_v78, val_main_v77, val_main_v76,
    val_main_v75, val_main_v74, val_main_v73, val_main_cst_11, val_main_cst_12, val_main_cst_13, val_main_cst_14, angle]
  by_cases hd : d.val < 32
  · simp only [dif_pos hd, Nat.mod_eq_of_lt hd]
  · simp only [dif_neg hd, show d.val % 32 = d.val - 32 by omega]

/-- Two heads beside each other, embedded head by head or in 128 lanes. -/
theorem turn_eq (s : Fin 8192) (u : Fin 64 → EReal) (t : Fin 128 → EReal) (l : Fin 128)
    (hu : ∀ d : Fin 64, u d = t ⟨l.val / 64 * 64 + d.val, by omega⟩) :
    turn s u ⟨l.val % 64, by omega⟩ = turned s t l := by
  unfold turn turned rope
  simp only [hu]
  have e0 : (⟨l.val / 64 * 64 + l.val % 64, by omega⟩ : Fin 128) = l := Fin.ext (by simp only; omega)
  have em : l.val % 64 % 32 = l.val % 32 := by omega
  simp only [e0, em]
  by_cases hd : l.val % 64 < 32
  · rw [dif_pos hd, if_pos hd]
    simp only [show l.val / 64 * 64 + (32 + l.val % 64) = (l.val + 32) % 128 by omega]
  · rw [dif_neg hd, if_neg hd]
    simp only [show l.val / 64 * 64 + (l.val % 64 - 32) = (l.val + 96) % 128 by omega]

/-! ## The reference's results -/

theorem streamed_eq : val_main_v108 (F := Ideal) x0 x1 x2 x3 x4 = streamed x0 x1 x2 x3 x4 := by
  funext i
  obtain ⟨r, l, rfl⟩ : ∃ (r : Fin 65536) (l : Fin 1024), i = ix2 r l := ⟨i 0, i 1, eq_ix2 i⟩
  refine Eq.trans ?_ (srow_apply x0 x1 x2 x3 x4 ⟨r.val / 8192, by omega⟩ ⟨r.val % 8192, by omega⟩ l)
  unfold val_main_v108
  generalize val_main_v20 (F := Ideal) x0 x1 x2 x3 x4 = y
  pointwise

theorem queried_eq : val_main_v111 (F := Ideal) x0 x1 x2 x3 x4 x5 x7 = queried x0 x1 x2 x3 x4 x5 x7 := by
  funext i
  obtain ⟨b, p, s, l, rfl⟩ : ∃ (b : Fin 8) (p : Fin 6) (s : Fin 8192) (l : Fin 128), i = ix4 b p s l := ⟨i 0, i 1, i 2, i 3, eq_ix4 i⟩
  have e : (val_main_v111 (F := Ideal) x0 x1 x2 x3 x4 x5 x7 (ix4 b p s l) : EReal)
      = val_main_v70 (F := Ideal) x0 x1 x2 x3 x4 x5 x7 (ix4 b s ⟨p.val * 2 + l.val / 64, by omega⟩ ⟨l.val % 64, by omega⟩) * eighth := by
    unfold val_main_v111 val_main_v110 val_main_v109 val_main_v72
    generalize val_main_v70 (F := Ideal) x0 x1 x2 x3 x4 x5 x7 = y
    pointwise [val_main_v71, val_main_cst_10]
  refine e.trans (congrArg (· * eighth) ?_)
  rw [turned_queries]
  refine turn_eq s _ (pair x0 x1 x2 x3 x4 x5 x7 256 (by omega) b p s) l fun d => ?_
  rw [queries_apply]
  exact Finset.sum_congr rfl fun k _ => congrArg (fun n => nrow x0 x1 x2 x3 x4 x5 b s k * x7 (ix2 k n)) (Fin.ext (by simp only; omega))

theorem keyed_eq : val_main_v114 (F := Ideal) x0 x1 x2 x3 x4 x5 x7 = keyed x0 x1 x2 x3 x4 x5 x7 := by
  funext i
  obtain ⟨b, p, s, l, rfl⟩ : ∃ (b : Fin 8) (p : Fin 6) (s : Fin 8192) (l : Fin 128), i = ix4 b p s l := ⟨i 0, i 1, i 2, i 3, eq_ix4 i⟩
  have e : (val_main_v114 (F := Ideal) x0 x1 x2 x3 x4 x5 x7 (ix4 b p s l) : EReal)
      = val_main_v103 (F := Ideal) x0 x1 x2 x3 x4 x5 x7 (ix4 b s ⟨p.val * 2 + l.val / 64, by omega⟩ ⟨l.val % 64, by omega⟩) := by
    unfold val_main_v114 val_main_v113 val_main_v112
    generalize val_main_v103 (F := Ideal) x0 x1 x2 x3 x4 x5 x7 = y
    pointwise
  refine e.trans ?_
  rw [turned_keys]
  refine turn_eq s _ (pair x0 x1 x2 x3 x4 x5 x7 1024 (by omega) b p s) l fun d => ?_
  rw [keys_apply]
  exact Finset.sum_congr rfl fun k _ => congrArg (fun n => nrow x0 x1 x2 x3 x4 x5 b s k * x7 (ix2 k n)) (Fin.ext (by simp only; omega))

theorem valued_eq : val_main_v117 (F := Ideal) x0 x1 x2 x3 x4 x5 x7 = valued x0 x1 x2 x3 x4 x5 x7 := by
  funext i
  obtain ⟨b, p, s, l, rfl⟩ : ∃ (b : Fin 8) (p : Fin 6) (s : Fin 8192) (l : Fin 128), i = ix4 b p s l := ⟨i 0, i 1, i 2, i 3, eq_ix4 i⟩
  have e : (val_main_v117 (F := Ideal) x0 x1 x2 x3 x4 x5 x7 (ix4 b p s l) : EReal)
      = val_main_v34 (F := Ideal) x0 x1 x2 x3 x4 x5 x7 (ix3 b s ⟨1792 + (p.val * 128 + l.val), by omega⟩) := by
    unfold val_main_v117 val_main_v116 val_main_v115 val_main_v39
    generalize val_main_v34 (F := Ideal) x0 x1 x2 x3 x4 x5 x7 = y
    pointwise
  refine e.trans ((lin_apply x0 x1 x2 x3 x4 x5 x7 b s _).trans ?_)
  show _ = pair x0 x1 x2 x3 x4 x5 x7 1792 (by omega) b p s l
  exact Finset.sum_congr rfl fun k _ => congrArg (fun n => nrow x0 x1 x2 x3 x4 x5 b s k * x7 (ix2 k n)) (Fin.ext (by simp only [Nat.add_assoc]))

theorem slabbed_eq : val_main_v118 (F := Ideal) x0 x1 x2 x3 x4 x5 x6 = slabbed x0 x1 x2 x3 x4 x5 x6 := by
  funext i
  obtain ⟨d, s, n, rfl⟩ : ∃ (d : Fin 2) (s : Fin 8192) (n : Fin 2048), i = ix3 d s n := ⟨i 0, i 1, i 2, eq_ix3 i⟩
  have e : (val_main_v118 (F := Ideal) x0 x1 x2 x3 x4 x5 x6 (ix3 d s n) : EReal)
      = ∑ k : Fin 1024, val_main_v33 (F := Ideal) x0 x1 x2 x3 x4 x5 (ix3 ⟨n.val / 256, by omega⟩ s k)
          * x6 (ix2 k ⟨d.val * 256 + n.val % 256, by omega⟩) := by
    unfold val_main_v118 val_main_v107 val_main_v106 val_main_v105 val_main_v104
    generalize val_main_v33 (F := Ideal) x0 x1 x2 x3 x4 x5 = y
    pointwise
  refine e.trans ?_
  simp only [nrow_apply]
  rfl

end Cert.Reference7Ideal.Proj

namespace Cert.Proof.Proj

/-- The kernel's calls run to their end without a fault, at every arithmetic. -/
theorem frame : Cert.quiescent_Kernel7 := fun m ρ _ => Cert.Kernel7.Gen.frame m ρ

/-- So does the idealised kernel. -/
theorem frame_ideal : Cert.quiescent_Kernel7Ideal := fun m ρ _ => Cert.Kernel7Ideal.Gen.frame m ρ

/-- So does the reference. -/
theorem frame_reference : Cert.quiescent_Reference7Ideal := fun m ρ _ =>
  (θ_run Cert.Reference7Ideal.defs _ _).mono (fun r h => ⟨fun c => (h c).2.2.2.2.2, Idealize.ShloMosaic.sem_eq_zero_of_no_sems (by decide) r.2⟩)
    (Cert.Reference7Ideal.Value.run (F := Ideal) m ρ)

/-- From equal arguments the kernel's five arrays and the reference's are equal, entry by entry. -/
theorem algebraic : Cert.algebraic_Kernel7Ideal_Reference7Ideal := by
  intro m ρ m' ρ' _ hagree
  refine ⟨_, _, _, _, _, Cert.Kernel7Ideal.Value.run_blocks (F := Ideal) m ρ, ?_⟩
  refine (θ_run Cert.Reference7Ideal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.Reference7Ideal.Value.run (F := Ideal) m' ρ')
  all_goals obtain ⟨h0, h1, h2, h3, h4, h5, h6, h7⟩ := hagree c
  · rw [Cert.Kernel7Ideal.Proj.final10 m c, h0, h1, h2, h3, h4]
    exact (Cert.Reference7Ideal.Read.val_main_v108_eq _ _ _ _ _).trans (Cert.Reference7Ideal.Proj.streamed_eq _ _ _ _ _)
  · rw [Cert.Kernel7Ideal.Proj.final11 m c, Cert.Reference7Ideal.Read.val_main_v111_eq, h0, h1, h2, h3, h4, h5, h7]
    exact Cert.Reference7Ideal.Proj.queried_eq _ _ _ _ _ _ _
  · rw [Cert.Kernel7Ideal.Proj.final12 m c, Cert.Reference7Ideal.Read.val_main_v114_eq, h0, h1, h2, h3, h4, h5, h7]
    exact Cert.Reference7Ideal.Proj.keyed_eq _ _ _ _ _ _ _
  · rw [Cert.Kernel7Ideal.Proj.final13 m c, Cert.Reference7Ideal.Read.val_main_v117_eq, h0, h1, h2, h3, h4, h5, h7]
    exact Cert.Reference7Ideal.Proj.valued_eq _ _ _ _ _ _ _
  · rw [Cert.Kernel7Ideal.Proj.final14 m c, Cert.Reference7Ideal.Read.val_main_v118_eq, h0, h1, h2, h3, h4, h5, h6]
    exact Cert.Reference7Ideal.Proj.slabbed_eq _ _ _ _ _ _ _

end Cert.Proof.Proj

end
-- ==== Proof.lean ====
/- The claim about nine calls of the layer, each proved in a module of its own: the Fourier mixer's position transform in `Proof.DftValue`, the
   mixers' join with the second SwiGLU half in `Proof.Out` for the prompts and in `Proof.OutSample` for the samples, the first SwiGLU half in
   `Proof.Ffn1`, the Fourier mixer's folded input weights in `Proof.Fold`, the window attention in `Proof.Attn`, at dilation
   4 in `Proof.Dil` and at dilation 16 in `Proof.Dil16`, and the first SwiGLU half with the input projection and its rotary embedding in `Proof.Proj`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Value
public import proofs.«01_k».proof.Proof.Gen.Kernel8.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Value
public import proofs.«01_k».proof.Proof.Gen.Kernel9.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite_heads
public import proofs.«01_k».proof.Proof.Gen.Pre_finite
public import proofs.«01_k».proof.Proof.Gen.Pre_finite_weights
public import proofs.«01_k».proof.Proof.Dft
public import proofs.«01_k».proof.Proof.DftValue
public import proofs.«01_k».proof.Proof.Out
public import proofs.«01_k».proof.Proof.OutSample
public import proofs.«01_k».proof.Proof.Fold
public import proofs.«01_k».proof.Proof.Ffn1
public import proofs.«01_k».proof.Proof.Attn
public import proofs.«01_k».proof.Proof.Dil
public import proofs.«01_k».proof.Proof.Dil16
public import proofs.«01_k».proof.Proof.Proj
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite_weights.Gen.facts, Cert.Pre_finite_heads.Gen.facts,
   Dft.frame, Dft.frame_ideal, Dft.frame_ideal_finite, Dft.frame_reference, Dft.frame_reference_finite, Out.frame, Out.frame_ideal, Out.frame_reference, Ffn1.frame, Ffn1.frame_ideal, Ffn1.frame_reference, OutSample.frame, OutSample.frame_ideal, OutSample.frame_reference, Fold.frame, Fold.frame_ideal, Fold.frame_ideal_finite, Fold.frame_reference, Fold.frame_reference_finite, Attn.frame, Attn.frame_ideal, Attn.frame_ideal_finite, Attn.frame_reference, Attn.frame_reference_finite, Proj.frame, Proj.frame_ideal, Proj.frame_reference, Dil.frame, Dil.frame_ideal, Dil.frame_ideal_finite, Dil.frame_reference, Dil.frame_reference_finite, Dil16.frame, Dil16.frame_ideal, Dil16.frame_ideal_finite, Dil16.frame_reference, Dil16.frame_reference_finite, trivial, Dft.algebraic, trivial, Out.algebraic, trivial, Ffn1.algebraic, trivial, OutSample.algebraic, trivial, Fold.algebraic, trivial, Attn.algebraic, trivial, Proj.algebraic, trivial, Dil.algebraic, trivial, Dil16.algebraic⟩

end Cert.Proof

end
